-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_decays [hPre_decays : Cert.Pre_decays.Facts] (m : (ℓ : Loc Cert.KernelIdeal.nD Cert.KernelIdeal.τ Cert.KernelIdeal.sig) → Buf (Elt Ideal) ℓ) : Prop :=
  ∀ c : Dev Cert.KernelIdeal.nD,
    (Cert.Pre_decays.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_decays [hPre_decays : Cert.Pre_decays.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_decays.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_decays [hKernelIdeal : Cert.KernelIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_decays m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_decays [hReferenceIdeal : Cert.ReferenceIdeal.Facts] [hPre_decays : Cert.Pre_decays.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_decays m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3)
      ∧ r.2.mem ((c.tc : Thread Cert.Kernel23.nD Cert.Kernel23.τ).loc Cert.Kernel23.main_arg4) = m ((c.tc : Thread Cert.Kernel23.nD Cert.Kernel23.τ).loc Cert.Kernel23.main_arg4)
      ∧ r.2.mem ((c.tc : Thread Cert.Kernel23.nD Cert.Kernel23.τ).loc Cert.Kernel23.main_arg5) = m ((c.tc : Thread Cert.Kernel23.nD Cert.Kernel23.τ).loc Cert.Kernel23.main_arg5))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
      ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
      ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3)
      ∧ r.2.mem ((c.tc : Thread Cert.Reference23Ideal.nD Cert.Reference23Ideal.τ).loc Cert.Reference23Ideal.main_arg4) = m ((c.tc : Thread Cert.Reference23Ideal.nD Cert.Reference23Ideal.τ).loc Cert.Reference23Ideal.main_arg4)
      ∧ r.2.mem ((c.tc : Thread Cert.Reference23Ideal.nD Cert.Reference23Ideal.τ).loc Cert.Reference23Ideal.main_arg5) = m ((c.tc : Thread Cert.Reference23Ideal.nD Cert.Reference23Ideal.τ).loc Cert.Reference23Ideal.main_arg5))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def preserves_Kernel_KernelIdeal : Prop :=
  True

def algebraic_KernelIdeal_ReferenceIdeal_pre_decays [hKernelIdeal : Cert.KernelIdeal.Facts] [hReferenceIdeal : Cert.ReferenceIdeal.Facts] [hPre_decays : Cert.Pre_decays.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_decays m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1_0)) (v2 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1_0) = v1 c
          ∧ r.2.mem ((c.tc : Thread Cert.KernelIdeal.nD Cert.KernelIdeal.τ).loc Cert.KernelIdeal.main_v1_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_v20) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v9) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v7) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)) →
    ∃ (v0 : (c : Dev Cert.Kernel10Ideal.nD) → Buf (Elt Ideal) ((c.tc : Thread Cert.Kernel10Ideal.nD Cert.Kernel10Ideal.τ).loc Cert.Kernel10Ideal.main_v15)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v15) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v17) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v8) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v3) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v3) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v6) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v3) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v7) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v3) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v4)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v4) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v8) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v8) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v4)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v4) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v9) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v4) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v9) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v5)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v5) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v9) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)
      ∧ m' ((c.tc : Thread Cert.Reference23Ideal.nD Cert.Reference23Ideal.τ).loc Cert.Reference23Ideal.main_arg4) = m ((c.tc : Thread Cert.Kernel23Ideal.nD Cert.Kernel23Ideal.τ).loc Cert.Kernel23Ideal.main_arg4)
      ∧ m' ((c.tc : Thread Cert.Reference23Ideal.nD Cert.Reference23Ideal.τ).loc Cert.Reference23Ideal.main_arg5) = m ((c.tc : Thread Cert.Kernel23Ideal.nD Cert.Kernel23Ideal.τ).loc Cert.Kernel23Ideal.main_arg5)) →
    ∃ (v0 : (c : Dev Cert.Kernel23Ideal.nD) → Buf (Elt Ideal) ((c.tc : Thread Cert.Kernel23Ideal.nD Cert.Kernel23Ideal.τ).loc Cert.Kernel23Ideal.main_v55_0)) (v1 : (c : Dev Cert.Kernel23Ideal.nD) → Buf (Elt Ideal) ((c.tc : Thread Cert.Kernel23Ideal.nD Cert.Kernel23Ideal.τ).loc Cert.Kernel23Ideal.main_v55_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v55_0) = v0 c
          ∧ r.2.mem ((c.tc : Thread Cert.Kernel23Ideal.nD Cert.Kernel23Ideal.τ).loc Cert.Kernel23Ideal.main_v55_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3)
          ∧ r.2.mem ((c.tc : Thread Cert.Kernel23Ideal.nD Cert.Kernel23Ideal.τ).loc Cert.Kernel23Ideal.main_arg4) = m ((c.tc : Thread Cert.Kernel23Ideal.nD Cert.Kernel23Ideal.τ).loc Cert.Kernel23Ideal.main_arg4)
          ∧ r.2.mem ((c.tc : Thread Cert.Kernel23Ideal.nD Cert.Kernel23Ideal.τ).loc Cert.Kernel23Ideal.main_arg5) = m ((c.tc : Thread Cert.Kernel23Ideal.nD Cert.Kernel23Ideal.τ).loc Cert.Kernel23Ideal.main_arg5))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v33) = v0 c
          ∧ r.2.mem ((c.tc : Thread Cert.Reference23Ideal.nD Cert.Reference23Ideal.τ).loc Cert.Reference23Ideal.main_v40) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3)
          ∧ r.2.mem ((c.tc : Thread Cert.Reference23Ideal.nD Cert.Reference23Ideal.τ).loc Cert.Reference23Ideal.main_arg4) = m' ((c.tc : Thread Cert.Reference23Ideal.nD Cert.Reference23Ideal.τ).loc Cert.Reference23Ideal.main_arg4)
          ∧ r.2.mem ((c.tc : Thread Cert.Reference23Ideal.nD Cert.Reference23Ideal.τ).loc Cert.Reference23Ideal.main_arg5) = m' ((c.tc : Thread Cert.Reference23Ideal.nD Cert.Reference23Ideal.τ).loc Cert.Reference23Ideal.main_arg5))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v2) = v0 c
          ∧ r.2.mem ((c.tc : Thread Cert.Reference24Ideal.nD Cert.Reference24Ideal.τ).loc Cert.Reference24Ideal.main_v26) = v1 c
          ∧ r.2.mem ((c.tc : Thread Cert.Reference24Ideal.nD Cert.Reference24Ideal.τ).loc Cert.Reference24Ideal.main_v7) = v2 c
          ∧ r.2.mem ((c.tc : Thread Cert.Reference24Ideal.nD Cert.Reference24Ideal.τ).loc Cert.Reference24Ideal.main_v13) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_v26) = v1 c
          ∧ r.2.mem ((c.tc : Thread Cert.Reference25Ideal.nD Cert.Reference25Ideal.τ).loc Cert.Reference25Ideal.main_v7) = v2 c
          ∧ r.2.mem ((c.tc : Thread Cert.Reference25Ideal.nD Cert.Reference25Ideal.τ).loc Cert.Reference25Ideal.main_v13) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v2) = v0 c
          ∧ r.2.mem ((c.tc : Thread Cert.Reference26Ideal.nD Cert.Reference26Ideal.τ).loc Cert.Reference26Ideal.main_v26) = v1 c
          ∧ r.2.mem ((c.tc : Thread Cert.Reference26Ideal.nD Cert.Reference26Ideal.τ).loc Cert.Reference26Ideal.main_v7) = v2 c
          ∧ r.2.mem ((c.tc : Thread Cert.Reference26Ideal.nD Cert.Reference26Ideal.τ).loc Cert.Reference26Ideal.main_v13) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v1_0)) (v1 : (c : Dev Cert.Kernel27Ideal.nD) → Buf (Elt Ideal) ((c.tc : Thread Cert.Kernel27Ideal.nD Cert.Kernel27Ideal.τ).loc Cert.Kernel27Ideal.main_v1_1)) (v2 : (c : Dev Cert.Kernel27Ideal.nD) → Buf (Elt Ideal) ((c.tc : Thread Cert.Kernel27Ideal.nD Cert.Kernel27Ideal.τ).loc Cert.Kernel27Ideal.main_v1_2)) (v3 : (c : Dev Cert.Kernel27Ideal.nD) → Buf (Elt Ideal) ((c.tc : Thread Cert.Kernel27Ideal.nD Cert.Kernel27Ideal.τ).loc Cert.Kernel27Ideal.main_v1_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v1_0) = v0 c
          ∧ r.2.mem ((c.tc : Thread Cert.Kernel27Ideal.nD Cert.Kernel27Ideal.τ).loc Cert.Kernel27Ideal.main_v1_1) = v1 c
          ∧ r.2.mem ((c.tc : Thread Cert.Kernel27Ideal.nD Cert.Kernel27Ideal.τ).loc Cert.Kernel27Ideal.main_v1_2) = v2 c
          ∧ r.2.mem ((c.tc : Thread Cert.Kernel27Ideal.nD Cert.Kernel27Ideal.τ).loc Cert.Kernel27Ideal.main_v1_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_v27) = v1 c
          ∧ r.2.mem ((c.tc : Thread Cert.Reference27Ideal.nD Cert.Reference27Ideal.τ).loc Cert.Reference27Ideal.main_v8) = v2 c
          ∧ r.2.mem ((c.tc : Thread Cert.Reference27Ideal.nD Cert.Reference27Ideal.τ).loc Cert.Reference27Ideal.main_v14) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v1) = v0 c
          ∧ r.2.mem ((c.tc : Thread Cert.Reference28Ideal.nD Cert.Reference28Ideal.τ).loc Cert.Reference28Ideal.main_v25) = v1 c
          ∧ r.2.mem ((c.tc : Thread Cert.Reference28Ideal.nD Cert.Reference28Ideal.τ).loc Cert.Reference28Ideal.main_v6) = v2 c
          ∧ r.2.mem ((c.tc : Thread Cert.Reference28Ideal.nD Cert.Reference28Ideal.τ).loc Cert.Reference28Ideal.main_v12) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_decays : Cert.Pre_decays.Facts),
    quiescent_Kernel (hKernel := hKernel)
    ∧ quiescent_KernelIdeal (hKernelIdeal := hKernelIdeal)
    ∧ quiescent_KernelIdeal_pre_decays (hKernelIdeal := hKernelIdeal) (hPre_decays := hPre_decays)
    ∧ quiescent_ReferenceIdeal (hReferenceIdeal := hReferenceIdeal)
    ∧ quiescent_ReferenceIdeal_pre_decays (hReferenceIdeal := hReferenceIdeal) (hPre_decays := hPre_decays)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_decays (hKernelIdeal := hKernelIdeal) (hReferenceIdeal := hReferenceIdeal) (hPre_decays := hPre_decays)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_decays.lean ====
abbrev S2x2x2304x1024 : Shape := ⟨4, ![2, 2, 2304, 1024]⟩
abbrev S2x2304x1024 : Shape := ⟨3, ![2, 2304, 1024]⟩
abbrev S1x2x2304x1024 : Shape := ⟨4, ![1, 2, 2304, 1024]⟩
abbrev S_ : Shape := ⟨0, ![]⟩

class Facts : Prop where
  slices_S2x2x2304x1024_S1x2x2304x1024_0_0_0_0 : S2x2x2304x1024.Slices ![0, 0, 0, 0] S1x2x2304x1024
  shapeCasts_S1x2x2304x1024_S2x2304x1024 : S1x2x2304x1024.ShapeCasts S2x2304x1024
  bcast_S_S2x2304x1024 : S_.BroadcastsInDim S2x2304x1024 (![] : Fin 0 → Fin S2x2304x1024.rank)

variable [Facts]

def fn {F : FTy → Type} [FloatOps F] (main_arg0 : FVec F S2x2x2304x1024 .f32) (main_arg1 : FVec F S2x2x2304x1024 .f32) (main_arg2 : FVec F S2x2304x1024 .f32) : IVec S2x2304x1024 1 :=
  let main_v0 : FVec F S1x2x2304x1024 .f32 := (extractStridedSlice S1x2x2304x1024 ![0, 0, 0, 0] · slices_S2x2x2304x1024_S1x2x2304x1024_0_0_0_0) main_arg0
  let main_v1 : FVec F S2x2304x1024 .f32 := shapeCast S2x2304x1024 main_v0 shapeCasts_S1x2x2304x1024_S2x2304x1024
  let main_cst : FVec F S_ .f32 := constant S_ .f32 0x00000000#32
  let main_v2 : FVec F S2x2304x1024 .f32 := broadcastInDim S2x2304x1024 ![] bcast_S_S2x2304x1024 main_cst
  let main_v3 : IVec S2x2304x1024 1 := cmpf .oge main_v1 main_v2
  let main_v4 : FVec F S1x2x2304x1024 .f32 := (extractStridedSlice S1x2x2304x1024 ![0, 0, 0, 0] · slices_S2x2x2304x1024_S1x2x2304x1024_0_0_0_0) main_arg0
  let main_v5 : FVec F S2x2304x1024 .f32 := shapeCast S2x2304x1024 main_v4 shapeCasts_S1x2x2304x1024_S2x2304x1024
  let main_cst_0 : FVec F S_ .f32 := constant S_ .f32 0x7F800000#32
  let main_v6 : FVec F S2x2304x1024 .f32 := broadcastInDim S2x2304x1024 ![] bcast_S_S2x2304x1024 main_cst_0
  let main_v7 : IVec S2x2304x1024 1 := cmpf .olt main_v5 main_v6
  let main_v8 : IVec S2x2304x1024 1 := andi main_v3 main_v7
  main_v8
-- ==== Kernel.lean ====
abbrev S2x2x2304x1024 : Shape := ⟨4, ![2, 2, 2304, 1024]⟩
abbrev S2x2304x1024 : Shape := ⟨3, ![2, 2304, 1024]⟩
abbrev S1x1x256x1024 : Shape := ⟨4, ![1, 1, 256, 1024]⟩
abbrev S1x256x1024 : Shape := ⟨3, ![1, 256, 1024]⟩
abbrev S8x1024 : Shape := ⟨2, ![8, 1024]⟩
abbrev S256x1024 : Shape := ⟨2, ![256, 1024]⟩
abbrev S1x1024 : Shape := ⟨2, ![1, 1024]⟩
abbrev S1x8x1024 : Shape := ⟨3, ![1, 8, 1024]⟩

abbrev nBuf : Space → Nat
  | .hbm => 6
  | .vmem => 21
  | .smem => 0
  | _ => 0

abbrev bufTy : (tb : Table) → Fin (tcTables nBuf tb) → BufTy
  | .hbm, ⟨0, _⟩ => ⟨S2x2x2304x1024, .f32⟩
  | .hbm, ⟨1, _⟩ => ⟨S2x2x2304x1024, .f32⟩
  | .hbm, ⟨2, _⟩ => ⟨S2x2304x1024, .f32⟩
  | .hbm, ⟨3, _⟩ => ⟨S2x2304x1024, .f32⟩
  | .hbm, ⟨4, _⟩ => ⟨S2x2304x1024, .f32⟩
  | .hbm, ⟨5, _⟩ => ⟨S2x2304x1024, .f32⟩
  | .local _ .vmem, ⟨0, _⟩ => ⟨S1x1x256x1024, .f32⟩
  | .local _ .vmem, ⟨1, _⟩ => ⟨S1x1x256x1024, .f32⟩
  | .local _ .vmem, ⟨2, _⟩ => ⟨S1x1x256x1024, .f32⟩
  | .local _ .vmem, ⟨3, _⟩ => ⟨S1x1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S8x1024, .f32⟩
  | .local _ .vmem, ⟨7, _⟩ => ⟨S1x1x256x1024, .f32⟩
  | .local _ .vmem, ⟨8, _⟩ => ⟨S1x1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x8x1024, .f32⟩
  | .local _ .vmem, ⟨12, _⟩ => ⟨S1x8x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S8x1024, .f32⟩
  | .local _ .vmem, ⟨20, _⟩ => ⟨S8x1024, .f32⟩
  | _, _ => ⟨S2x2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc1_stg5_0 : Ref sig .tc := ⟨.vmem, 17, rfl⟩
abbrev cc1_stg5_1 : Ref sig .tc := ⟨.vmem, 18, rfl⟩
abbrev cc1_scratch0 : Ref sig .tc := ⟨.vmem, 19, rfl⟩
abbrev cc1_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨3, ![2, 1, 9], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev grid1 : Pipeline.Grid := ⟨3, ![2, 1, 9], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  let c0_i32_0 : BitVec 32 := 0#32
  ![c0_i32.toNat, arg0.toNat, v0.toNat, arg1.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  ![arg0.toNat, v0.toNat, arg1.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![arg0.toNat, v3.toNat, arg1.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  ![arg0.toNat, v0.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  ![arg0.toNat, v0.toNat, arg1.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.subi c8_i32 arg2
  let c0_i32 : BitVec 32 := 0#32
  ![arg0.toNat, v0.toNat, arg1.toNat]

abbrev stage1_0 : Fin 2 → Memref sig .tc .vmem S1x1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, true]

abbrev stage1_2 : Fin 2 → Memref sig .tc .vmem S1x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S1x256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true, true]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, true]
-- ==== ReferenceIdeal.lean ====
abbrev S2x2x2304x1024 : Shape := ⟨4, ![2, 2, 2304, 1024]⟩
abbrev S2x2304x1024 : Shape := ⟨3, ![2, 2304, 1024]⟩
abbrev S1x2x2304x1024 : Shape := ⟨4, ![1, 2, 2304, 1024]⟩
abbrev S2x1x1024 : Shape := ⟨3, ![2, 1, 1024]⟩
abbrev S2x1024 : Shape := ⟨2, ![2, 1024]⟩
abbrev S_ : Shape := ⟨0, ![]⟩
abbrev S2304x2x1024 : Shape := ⟨3, ![2304, 2, 1024]⟩
abbrev S1x2x1024 : Shape := ⟨3, ![1, 2, 1024]⟩

abbrev nBuf : Space → Nat
  | .hbm => 97
  | .vmem => 0
  | .smem => 0
  | _ => 0

abbrev bufTy : (tb : Table) → Fin (tcTables nBuf tb) → BufTy
  | .hbm, ⟨0, _⟩ => ⟨S2x2x2304x1024, .f32⟩
  | .hbm, ⟨1, _⟩ => ⟨S2x2x2304x1024, .f32⟩
  | .hbm, ⟨2, _⟩ => ⟨S2x2304x1024, .f32⟩
  | .hbm, ⟨3, _⟩ => ⟨S1x2x2304x1024, .f32⟩
  | .hbm, ⟨4, _⟩ => ⟨S2x2304x1024, .f32⟩
  | .hbm, ⟨5, _⟩ => ⟨S1x2x2304x1024, .f32⟩
  | .hbm, ⟨6, _⟩ => ⟨S2x2304x1024, .f32⟩
  | .hbm, ⟨7, _⟩ => ⟨S2x1x1024, .f32⟩
  | .hbm, ⟨8, _⟩ => ⟨S2x1024, .f32⟩
  | .hbm, ⟨9, _⟩ => ⟨S_, .f32⟩
  | .hbm, ⟨10, _⟩ => ⟨S2x1024, .f32⟩
  | .hbm, ⟨11, _⟩ => ⟨S2304x2x1024, .f32⟩
  | .hbm, ⟨12, _⟩ => ⟨S2304x2x1024, .f32⟩
  | .hbm, ⟨13, _⟩ => ⟨S_, .f32⟩
  | .hbm, ⟨14, _⟩ => ⟨S2304x2x1024, .f32⟩
  | .hbm, ⟨15, _⟩ => ⟨S_, .f32⟩
  | .hbm, ⟨16, _⟩ => ⟨S2304x2x1024, .f32⟩
  | .hbm, ⟨17, _⟩ => ⟨S_, .i32⟩
  | .hbm, ⟨18, _⟩ => ⟨S2304x2x1024, .f32⟩
  | .hbm, ⟨19, _⟩ => ⟨S2304x2x1024, .f32⟩
  | .hbm, ⟨20, _⟩ => ⟨S_, .i32⟩
  | .hbm, ⟨21, _⟩ => ⟨S2x1024, .f32⟩
  | .hbm, ⟨22, _⟩ => ⟨S2304x2x1024, .f32⟩
  | .hbm, ⟨23, _⟩ => ⟨S2304x2x1024, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S1x2x1024, .f32⟩
  | .hbm, ⟨29, _⟩ => ⟨S2x1024, .f32⟩
  | .hbm, ⟨30, _⟩ => ⟨S_, .i32⟩
  | .hbm, ⟨31, _⟩ => ⟨S_, .i32⟩
  | .hbm, ⟨32, _⟩ => ⟨S1x2x1024, .f32⟩
  | .hbm, ⟨33, _⟩ => ⟨S2x1024, .f32⟩
  | .hbm, ⟨34, _⟩ => ⟨S2x1024, .f32⟩
  | .hbm, ⟨35, _⟩ => ⟨S2x1024, .f32⟩
  | .hbm, ⟨36, _⟩ => ⟨S1x2x1024, .f32⟩
  | .hbm, ⟨37, _⟩ => ⟨S_, .i32⟩
  | .hbm, ⟨38, _⟩ => ⟨S_, .i32⟩
  | .hbm, ⟨39, _⟩ => ⟨S2304x2x1024, .f32⟩
  | .hbm, ⟨40, _⟩ => ⟨S1x2x1024, .f32⟩
  | .hbm, ⟨41, _⟩ => ⟨S_, .i32⟩
  | .hbm, ⟨42, _⟩ => ⟨S_, .i32⟩
  | .hbm, ⟨43, _⟩ => ⟨S2304x2x1024, .f32⟩
  | .hbm, ⟨44, _⟩ => ⟨S_, .i32⟩
  | .hbm, ⟨45, _⟩ => ⟨S_, .i32⟩
  | .hbm, ⟨46, _⟩ => ⟨S2x2304x1024, .f32⟩
  | .hbm, ⟨47, _⟩ => ⟨S_, .f32⟩
  | .hbm, ⟨48, _⟩ => ⟨S2x1024, .f32⟩
  | .hbm, ⟨49, _⟩ => ⟨S2304x2x1024, .f32⟩
  | .hbm, ⟨50, _⟩ => ⟨S_, .f32⟩
  | .hbm, ⟨51, _⟩ => ⟨S2x1024, .f32⟩
  | .hbm, ⟨52, _⟩ => ⟨S_, .f32⟩
  | .hbm, ⟨53, _⟩ => ⟨S2304x2x1024, .f32⟩
  | .hbm, ⟨54, _⟩ => ⟨S_, .f32⟩
  | .hbm, ⟨55, _⟩ => ⟨S2304x2x1024, .f32⟩
  | .hbm, ⟨56, _⟩ => ⟨S_, .i32⟩
  | .hbm, ⟨57, _⟩ => ⟨S2304x2x1024, .f32⟩
  | .hbm, ⟨58, _⟩ => ⟨S2304x2x1024, .f32⟩
  | .hbm, ⟨59, _⟩ => ⟨S2304x2x1024, .f32⟩
  | .hbm, ⟨60, _⟩ => ⟨S_, .i32⟩
  | .hbm, ⟨61, _⟩ => ⟨S2x1024, .f32⟩
  | .hbm, ⟨62, _⟩ => ⟨S2304x2x1024, .f32⟩
  | .hbm, ⟨63, _⟩ => ⟨S2304x2x1024, .f32⟩
  | .hbm, ⟨64, _⟩ => ⟨S_, .i32⟩
  | .hbm, ⟨65, _⟩ => ⟨S_, .i1⟩
  | .hbm, ⟨66, _⟩ => ⟨S_, .i32⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x2x1024, .f32⟩
  | .hbm, ⟨73, _⟩ => ⟨S2x1024, .f32⟩
  | .hbm, ⟨74, _⟩ => ⟨S_, .i32⟩
  | .hbm, ⟨75, _⟩ => ⟨S_, .i32⟩
  | .hbm, ⟨76, _⟩ => ⟨S1x2x1024, .f32⟩
  | .hbm, ⟨77, _⟩ => ⟨S2x1024, .f32⟩
  | .hbm, ⟨78, _⟩ => ⟨S_, .i32⟩
  | .hbm, ⟨79, _⟩ => ⟨S_, .i32⟩
  | .hbm, ⟨80, _⟩ => ⟨S1x2x1024, .f32⟩
  | .hbm, ⟨81, _⟩ => ⟨S2x1024, .f32⟩
  | .hbm, ⟨82, _⟩ => ⟨S2x1024, .f32⟩
  | .hbm, ⟨83, _⟩ => ⟨S2x1024, .f32⟩
  | .hbm, ⟨84, _⟩ => ⟨S2x1024, .f32⟩
  | .hbm, ⟨85, _⟩ => ⟨S1x2x1024, .f32⟩
  | .hbm, ⟨86, _⟩ => ⟨S_, .i32⟩
  | .hbm, ⟨87, _⟩ => ⟨S_, .i32⟩
  | .hbm, ⟨88, _⟩ => ⟨S2304x2x1024, .f32⟩
  | .hbm, ⟨89, _⟩ => ⟨S1x2x1024, .f32⟩
  | .hbm, ⟨90, _⟩ => ⟨S_, .i32⟩
  | .hbm, ⟨91, _⟩ => ⟨S_, .i32⟩
  | .hbm, ⟨92, _⟩ => ⟨S2304x2x1024, .f32⟩
  | .hbm, ⟨93, _⟩ => ⟨S_, .i32⟩
  | .hbm, ⟨94, _⟩ => ⟨S_, .i32⟩
  | .hbm, ⟨95, _⟩ => ⟨S2x2304x1024, .f32⟩
  | .hbm, ⟨96, _⟩ => ⟨S2x2304x1024, .f32⟩
  | _, _ => ⟨S2x2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_c : Ref sig .tc := ⟨.hbm, 17, rfl⟩
abbrev main_v11_0 : Ref sig .tc := ⟨.hbm, 18, rfl⟩
abbrev main_v11_1 : Ref sig .tc := ⟨.hbm, 19, rfl⟩
abbrev main_v11_2 : Ref sig .tc := ⟨.hbm, 20, rfl⟩
abbrev main_v11_3 : Ref sig .tc := ⟨.hbm, 21, rfl⟩
abbrev main_v11_4 : Ref sig .tc := ⟨.hbm, 22, rfl⟩
abbrev main_v11_5 : Ref sig .tc := ⟨.hbm, 23, rfl⟩
abbrev main_while0c_c_12 : Ref sig .tc := ⟨.hbm, 24, rfl⟩
abbrev main_while0c_v21 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_v0 : Ref sig .tc := ⟨.hbm, 28, rfl⟩
abbrev main_while0b_v21 : Ref sig .tc := ⟨.hbm, 29, rfl⟩
abbrev main_while0b_call1_c : Ref sig .tc := ⟨.hbm, 30, rfl⟩
abbrev main_while0b_call1_c_0 : Ref sig .tc := ⟨.hbm, 31, rfl⟩
abbrev main_while0b_call1_v0 : Ref sig .tc := ⟨.hbm, 32, rfl⟩
abbrev main_while0b_v22 : Ref sig .tc := ⟨.hbm, 33, rfl⟩
abbrev main_while0b_v23 : Ref sig .tc := ⟨.hbm, 34, rfl⟩
abbrev main_while0b_v24 : Ref sig .tc := ⟨.hbm, 35, rfl⟩
abbrev main_while0b_call2_v0 : Ref sig .tc := ⟨.hbm, 36, rfl⟩
abbrev main_while0b_call2_c : Ref sig .tc := ⟨.hbm, 37, rfl⟩
abbrev main_while0b_call2_c_0 : Ref sig .tc := ⟨.hbm, 38, rfl⟩
abbrev main_while0b_v25 : Ref sig .tc := ⟨.hbm, 39, rfl⟩
abbrev main_while0b_call3_v0 : Ref sig .tc := ⟨.hbm, 40, rfl⟩
abbrev main_while0b_call3_c : Ref sig .tc := ⟨.hbm, 41, rfl⟩
abbrev main_while0b_call3_c_0 : Ref sig .tc := ⟨.hbm, 42, rfl⟩
abbrev main_while0b_v26 : Ref sig .tc := ⟨.hbm, 43, rfl⟩
abbrev main_while0b_c_12 : Ref sig .tc := ⟨.hbm, 44, rfl⟩
abbrev main_while0b_v27 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_cst_3 : Ref sig .tc := ⟨.hbm, 50, rfl⟩
abbrev main_v15 : Ref sig .tc := ⟨.hbm, 51, rfl⟩
abbrev main_cst_4 : Ref sig .tc := ⟨.hbm, 52, rfl⟩
abbrev main_v16 : Ref sig .tc := ⟨.hbm, 53, rfl⟩
abbrev main_cst_5 : Ref sig .tc := ⟨.hbm, 54, rfl⟩
abbrev main_v17 : Ref sig .tc := ⟨.hbm, 55, rfl⟩
abbrev main_c_6 : Ref sig .tc := ⟨.hbm, 56, rfl⟩
abbrev main_v18_0 : Ref sig .tc := ⟨.hbm, 57, rfl⟩
abbrev main_v18_1 : Ref sig .tc := ⟨.hbm, 58, rfl⟩
abbrev main_v18_2 : Ref sig .tc := ⟨.hbm, 59, rfl⟩
abbrev main_v18_3 : Ref sig .tc := ⟨.hbm, 60, rfl⟩
abbrev main_v18_4 : Ref sig .tc := ⟨.hbm, 61, rfl⟩
abbrev main_v18_5 : Ref sig .tc := ⟨.hbm, 62, rfl⟩
abbrev main_v18_6 : Ref sig .tc := ⟨.hbm, 63, rfl⟩
abbrev main_while1c_c_13 : Ref sig .tc := ⟨.hbm, 64, rfl⟩
abbrev main_while1c_v21 : Ref sig .tc := ⟨.hbm, 65, rfl⟩
abbrev main_while1b_c_13 : Ref sig .tc := ⟨.hbm, 66, rfl⟩
abbrev main_while1b_v21 : Ref sig .tc := ⟨.hbm, 67, rfl⟩
abbrev main_while1b_c_14 : Ref sig .tc := ⟨.hbm, 68, rfl⟩
abbrev main_while1b_v22 : Ref sig .tc := ⟨.hbm, 69, rfl⟩
abbrev main_while1b_call4_c : Ref sig .tc := ⟨.hbm, 70, rfl⟩
abbrev main_while1b_call4_c_0 : Ref sig .tc := ⟨.hbm, 71, rfl⟩
abbrev main_while1b_call4_v0 : Ref sig .tc := ⟨.hbm, 72, rfl⟩
abbrev main_while1b_v23 : Ref sig .tc := ⟨.hbm, 73, rfl⟩
abbrev main_while1b_call5_c : Ref sig .tc := ⟨.hbm, 74, rfl⟩
abbrev main_while1b_call5_c_0 : Ref sig .tc := ⟨.hbm, 75, rfl⟩
abbrev main_while1b_call5_v0 : Ref sig .tc := ⟨.hbm, 76, rfl⟩
abbrev main_while1b_v24 : Ref sig .tc := ⟨.hbm, 77, rfl⟩
abbrev main_while1b_call6_c : Ref sig .tc := ⟨.hbm, 78, rfl⟩
abbrev main_while1b_call6_c_0 : Ref sig .tc := ⟨.hbm, 79, rfl⟩
abbrev main_while1b_call6_v0 : Ref sig .tc := ⟨.hbm, 80, rfl⟩
abbrev main_while1b_v25 : Ref sig .tc := ⟨.hbm, 81, rfl⟩
abbrev main_while1b_v26 : Ref sig .tc := ⟨.hbm, 82, rfl⟩
abbrev main_while1b_v27 : Ref sig .tc := ⟨.hbm, 83, rfl⟩
abbrev main_while1b_v28 : Ref sig .tc := ⟨.hbm, 84, rfl⟩
abbrev main_while1b_call7_v0 : Ref sig .tc := ⟨.hbm, 85, rfl⟩
abbrev main_while1b_call7_c : Ref sig .tc := ⟨.hbm, 86, rfl⟩
abbrev main_while1b_call7_c_0 : Ref sig .tc := ⟨.hbm, 87, rfl⟩
abbrev main_while1b_v29 : Ref sig .tc := ⟨.hbm, 88, rfl⟩
abbrev main_while1b_call8_v0 : Ref sig .tc := ⟨.hbm, 89, rfl⟩
abbrev main_while1b_call8_c : Ref sig .tc := ⟨.hbm, 90, rfl⟩
abbrev main_while1b_call8_c_0 : Ref sig .tc := ⟨.hbm, 91, rfl⟩
abbrev main_while1b_v30 : Ref sig .tc := ⟨.hbm, 92, rfl⟩
abbrev main_while1b_c_15 : Ref sig .tc := ⟨.hbm, 93, rfl⟩
abbrev main_while1b_v31 : Ref sig .tc := ⟨.hbm, 94, rfl⟩
abbrev main_v19 : Ref sig .tc := ⟨.hbm, 95, rfl⟩
abbrev main_v20 : Ref sig .tc := ⟨.hbm, 96, rfl⟩

abbrev nD : Nat := 1
abbrev τ : Topo := Topo.v7x

variable {F : FTy → Type} [FloatOps F]

abbrev main_while0_count : Scf.Loop 32 := ⟨0#32, 2304#32, 1#32⟩

abbrev main_while1_count : Scf.Loop 32 := ⟨0#32, 2304#32, 1#32⟩
-- ==== Kernel2.lean ====
abbrev S2x2048x1024 : Shape := ⟨3, ![2, 2048, 1024]⟩
abbrev S8x1024x1024 : Shape := ⟨3, ![8, 1024, 1024]⟩
abbrev S2x2048x8192 : Shape := ⟨3, ![2, 2048, 8192]⟩
abbrev S4096x8192 : Shape := ⟨2, ![4096, 8192]⟩
abbrev S4096x1024 : Shape := ⟨2, ![4096, 1024]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1024, .f32⟩
  | .hbm, ⟨2, _⟩ => ⟨S2x2048x8192, .bf16⟩
  | .hbm, ⟨3, _⟩ => ⟨S8x1024x1024, .bf16⟩
  | .hbm, ⟨4, _⟩ => ⟨S4096x8192, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def k0_cond2 (i : grid0.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x2048x1024 : Shape := ⟨3, ![2, 2048, 1024]⟩
abbrev S8x1024x1024 : Shape := ⟨3, ![8, 1024, 1024]⟩
abbrev S2x2048x8192 : Shape := ⟨3, ![2, 2048, 8192]⟩
abbrev S1024x8x1024 : Shape := ⟨3, ![1024, 8, 1024]⟩
abbrev S1024x8192 : Shape := ⟨2, ![1024, 8192]⟩
abbrev S8192x1024 : Shape := ⟨2, ![8192, 1024]⟩
abbrev S4096x1024 : Shape := ⟨2, ![4096, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1024, .f32⟩
  | .hbm, ⟨2, _⟩ => ⟨S2x2048x8192, .bf16⟩
  | .hbm, ⟨3, _⟩ => ⟨S2x2048x1024, .f32⟩
  | .hbm, ⟨4, _⟩ => ⟨S1024x8x1024, .f32⟩
  | .hbm, ⟨5, _⟩ => ⟨S1024x8192, .f32⟩
  | .hbm, ⟨6, _⟩ => ⟨S2x2048x8192, .f32⟩
  | .hbm, ⟨7, _⟩ => ⟨S2x2048x8192, .f32⟩
  | .hbm, ⟨8, _⟩ => ⟨S8192x1024, .f32⟩
  | .hbm, ⟨9, _⟩ => ⟨S1024x8192, .f32⟩
  | .hbm, ⟨10, _⟩ => ⟨S2x2048x1024, .f32⟩
  | .hbm, ⟨11, _⟩ => ⟨S1024x8x1024, .f32⟩
  | .hbm, ⟨12, _⟩ => ⟨S8x1024x1024, .f32⟩
  | .hbm, ⟨13, _⟩ => ⟨S4096x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S2x2048x1024 : Shape := ⟨3, ![2, 2048, 1024]⟩
abbrev S8x1024x1024 : Shape := ⟨3, ![8, 1024, 1024]⟩
abbrev S2x2048x8192 : Shape := ⟨3, ![2, 2048, 8192]⟩
abbrev S4096x1024 : Shape := ⟨2, ![4096, 1024]⟩
abbrev S4096x8192 : Shape := ⟨2, ![4096, 8192]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1024, .f32⟩
  | .hbm, ⟨2, _⟩ => ⟨S2x2048x8192, .bf16⟩
  | .hbm, ⟨3, _⟩ => ⟨S4096x1024, .bf16⟩
  | .hbm, ⟨4, _⟩ => ⟨S4096x8192, .bf16⟩
  | .hbm, ⟨5, _⟩ => ⟨S8x1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x2048x1024 : Shape := ⟨3, ![2, 2048, 1024]⟩
abbrev S8x1024x1024 : Shape := ⟨3, ![8, 1024, 1024]⟩
abbrev S2x2048x8192 : Shape := ⟨3, ![2, 2048, 8192]⟩
abbrev S1024x8x1024 : Shape := ⟨3, ![1024, 8, 1024]⟩
abbrev S1024x8192 : Shape := ⟨2, ![1024, 8192]⟩
abbrev S8192x1024 : Shape := ⟨2, ![8192, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1024, .f32⟩
  | .hbm, ⟨2, _⟩ => ⟨S2x2048x8192, .bf16⟩
  | .hbm, ⟨3, _⟩ => ⟨S2x2048x1024, .f32⟩
  | .hbm, ⟨4, _⟩ => ⟨S1024x8x1024, .f32⟩
  | .hbm, ⟨5, _⟩ => ⟨S1024x8192, .f32⟩
  | .hbm, ⟨6, _⟩ => ⟨S2x2048x8192, .f32⟩
  | .hbm, ⟨7, _⟩ => ⟨S2x2048x8192, .f32⟩
  | .hbm, ⟨8, _⟩ => ⟨S8192x1024, .f32⟩
  | .hbm, ⟨9, _⟩ => ⟨S1024x8192, .f32⟩
  | .hbm, ⟨10, _⟩ => ⟨S2x2048x1024, .f32⟩
  | .hbm, ⟨11, _⟩ => ⟨S1024x8x1024, .f32⟩
  | .hbm, ⟨12, _⟩ => ⟨S8x1024x1024, .f32⟩
  | .hbm, ⟨13, _⟩ => ⟨S8x1024x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel4.lean ====
abbrev S2x2048x4096 : Shape := ⟨3, ![2, 2048, 4096]⟩
abbrev S8x512x1024 : Shape := ⟨3, ![8, 512, 1024]⟩
abbrev S2x2048x1024 : Shape := ⟨3, ![2, 2048, 1024]⟩
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2048x4096, .bf16⟩
  | .hbm, ⟨1, _⟩ => ⟨S8x512x1024, .f32⟩
  | .hbm, ⟨2, _⟩ => ⟨S2x2048x1024, .bf16⟩
  | .hbm, ⟨3, _⟩ => ⟨S8x512x1024, .bf16⟩
  | .hbm, ⟨4, _⟩ => ⟨S4096x1024, .bf16⟩
  | .hbm, ⟨5, _⟩ => ⟨S4096x1024, .bf16⟩
  | .hbm, ⟨6, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S2x2048x4096 : Shape := ⟨3, ![2, 2048, 4096]⟩
abbrev S8x512x1024 : Shape := ⟨3, ![8, 512, 1024]⟩
abbrev S2x2048x1024 : Shape := ⟨3, ![2, 2048, 1024]⟩
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S8x512x1024, .f32⟩
  | .hbm, ⟨2, _⟩ => ⟨S2x2048x1024, .bf16⟩
  | .hbm, ⟨3, _⟩ => ⟨S2x2048x4096, .f32⟩
  | .hbm, ⟨4, _⟩ => ⟨S4096x1024, .f32⟩
  | .hbm, ⟨5, _⟩ => ⟨S2x2048x1024, .f32⟩
  | .hbm, ⟨6, _⟩ => ⟨S2x2048x1024, .f32⟩
  | .hbm, ⟨7, _⟩ => ⟨S1024x4096, .f32⟩
  | .hbm, ⟨8, _⟩ => ⟨S4096x1024, .f32⟩
  | .hbm, ⟨9, _⟩ => ⟨S2x2048x4096, .f32⟩
  | .hbm, ⟨10, _⟩ => ⟨S8x512x1024, .f32⟩
  | .hbm, ⟨11, _⟩ => ⟨S4096x4096, .f32⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S2x2048x4096 : Shape := ⟨3, ![2, 2048, 4096]⟩
abbrev S8x512x1024 : Shape := ⟨3, ![8, 512, 1024]⟩
abbrev S2x2048x1024 : Shape := ⟨3, ![2, 2048, 1024]⟩
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x4096, .bf16⟩
  | .hbm, ⟨1, _⟩ => ⟨S8x512x1024, .f32⟩
  | .hbm, ⟨2, _⟩ => ⟨S2x2048x1024, .bf16⟩
  | .hbm, ⟨3, _⟩ => ⟨S4096x4096, .bf16⟩
  | .hbm, ⟨4, _⟩ => ⟨S4096x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S2x2048x4096 : Shape := ⟨3, ![2, 2048, 4096]⟩
abbrev S8x512x1024 : Shape := ⟨3, ![8, 512, 1024]⟩
abbrev S2x2048x1024 : Shape := ⟨3, ![2, 2048, 1024]⟩
abbrev S4096x1024 : Shape := ⟨2, ![4096, 1024]⟩
abbrev S1024x4096 : Shape := ⟨2, ![1024, 4096]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S8x512x1024, .f32⟩
  | .hbm, ⟨2, _⟩ => ⟨S2x2048x1024, .bf16⟩
  | .hbm, ⟨3, _⟩ => ⟨S2x2048x4096, .f32⟩
  | .hbm, ⟨4, _⟩ => ⟨S4096x1024, .f32⟩
  | .hbm, ⟨5, _⟩ => ⟨S2x2048x1024, .f32⟩
  | .hbm, ⟨6, _⟩ => ⟨S2x2048x1024, .f32⟩
  | .hbm, ⟨7, _⟩ => ⟨S1024x4096, .f32⟩
  | .hbm, ⟨8, _⟩ => ⟨S4096x1024, .f32⟩
  | .hbm, ⟨9, _⟩ => ⟨S2x2048x4096, .f32⟩
  | .hbm, ⟨10, _⟩ => ⟨S8x512x1024, .f32⟩
  | .hbm, ⟨11, _⟩ => ⟨S4096x1024, .f32⟩
  | .hbm, ⟨12, _⟩ => ⟨S4096x1024, .bf16⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel6.lean ====
abbrev S2x2304x1024 : Shape := ⟨3, ![2, 2304, 1024]⟩
abbrev S1024x3072 : Shape := ⟨2, ![1024, 3072]⟩
abbrev S2x2304x3072 : Shape := ⟨3, ![2, 2304, 3072]⟩
abbrev S4608x3072 : Shape := ⟨2, ![4608, 3072]⟩
abbrev S4608x1024 : Shape := ⟨2, ![4608, 1024]⟩
abbrev S3072x1024 : Shape := ⟨2, ![3072, 1024]⟩
abbrev S768x1024 : Shape := ⟨2, ![768, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2304x1024, .bf16⟩
  | .hbm, ⟨1, _⟩ => ⟨S1024x3072, .f32⟩
  | .hbm, ⟨2, _⟩ => ⟨S2x2304x3072, .bf16⟩
  | .hbm, ⟨3, _⟩ => ⟨S4608x3072, .bf16⟩
  | .hbm, ⟨4, _⟩ => ⟨S4608x1024, .bf16⟩
  | .hbm, ⟨5, _⟩ => ⟨S3072x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S2x2304x1024 : Shape := ⟨3, ![2, 2304, 1024]⟩
abbrev S1024x3072 : Shape := ⟨2, ![1024, 3072]⟩
abbrev S2x2304x3072 : Shape := ⟨3, ![2, 2304, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x3072, .f32⟩
  | .hbm, ⟨2, _⟩ => ⟨S2x2304x3072, .bf16⟩
  | .hbm, ⟨3, _⟩ => ⟨S2x2304x1024, .f32⟩
  | .hbm, ⟨4, _⟩ => ⟨S2x2304x3072, .f32⟩
  | .hbm, ⟨5, _⟩ => ⟨S2x2304x3072, .f32⟩
  | .hbm, ⟨6, _⟩ => ⟨S3072x1024, .f32⟩
  | .hbm, ⟨7, _⟩ => ⟨S1024x3072, .f32⟩
  | .hbm, ⟨8, _⟩ => ⟨S2x2304x1024, .f32⟩
  | .hbm, ⟨9, _⟩ => ⟨S3072x1024, .f32⟩
  | .hbm, ⟨10, _⟩ => ⟨S3072x1024, .bf16⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel7.lean ====
abbrev S2x2304x1024 : Shape := ⟨3, ![2, 2304, 1024]⟩
abbrev S1024x2048 : Shape := ⟨2, ![1024, 2048]⟩
abbrev S2x2304x2048 : Shape := ⟨3, ![2, 2304, 2048]⟩
abbrev S4608x2048 : Shape := ⟨2, ![4608, 2048]⟩
abbrev S4608x1024 : Shape := ⟨2, ![4608, 1024]⟩
abbrev S2048x1024 : Shape := ⟨2, ![2048, 1024]⟩
abbrev S768x1024 : Shape := ⟨2, ![768, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2304x1024, .bf16⟩
  | .hbm, ⟨1, _⟩ => ⟨S1024x2048, .f32⟩
  | .hbm, ⟨2, _⟩ => ⟨S2x2304x2048, .bf16⟩
  | .hbm, ⟨3, _⟩ => ⟨S4608x2048, .bf16⟩
  | .hbm, ⟨4, _⟩ => ⟨S4608x1024, .bf16⟩
  | .hbm, ⟨5, _⟩ => ⟨S2048x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S2x2304x1024 : Shape := ⟨3, ![2, 2304, 1024]⟩
abbrev S1024x2048 : Shape := ⟨2, ![1024, 2048]⟩
abbrev S2x2304x2048 : Shape := ⟨3, ![2, 2304, 2048]⟩
abbrev S2048x1024 : Shape := ⟨2, ![2048, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x2048, .f32⟩
  | .hbm, ⟨2, _⟩ => ⟨S2x2304x2048, .bf16⟩
  | .hbm, ⟨3, _⟩ => ⟨S2x2304x1024, .f32⟩
  | .hbm, ⟨4, _⟩ => ⟨S2x2304x2048, .f32⟩
  | .hbm, ⟨5, _⟩ => ⟨S2x2304x2048, .f32⟩
  | .hbm, ⟨6, _⟩ => ⟨S2048x1024, .f32⟩
  | .hbm, ⟨7, _⟩ => ⟨S1024x2048, .f32⟩
  | .hbm, ⟨8, _⟩ => ⟨S2x2304x1024, .f32⟩
  | .hbm, ⟨9, _⟩ => ⟨S2048x1024, .f32⟩
  | .hbm, ⟨10, _⟩ => ⟨S2048x1024, .bf16⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel8.lean ====
abbrev S2x2304x1024 : Shape := ⟨3, ![2, 2304, 1024]⟩
abbrev S1024x1024 : Shape := ⟨2, ![1024, 1024]⟩
abbrev S4608x1024 : Shape := ⟨2, ![4608, 1024]⟩
abbrev S768x1024 : Shape := ⟨2, ![768, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2304x1024, .bf16⟩
  | .hbm, ⟨1, _⟩ => ⟨S1024x1024, .f32⟩
  | .hbm, ⟨2, _⟩ => ⟨S2x2304x1024, .bf16⟩
  | .hbm, ⟨3, _⟩ => ⟨S4608x1024, .bf16⟩
  | .hbm, ⟨4, _⟩ => ⟨S4608x1024, .bf16⟩
  | .hbm, ⟨5, _⟩ => ⟨S1024x1024, .bf16⟩
  | .local _ .vmem, ⟨0, _⟩ => ⟨S768x1024, .bf16⟩
  | .local _ .vmem, ⟨1, _⟩ => ⟨S768x1024, .bf16⟩
  | .local _ .vmem, ⟨2, _⟩ => ⟨S768x1024, .bf16⟩
  | .local _ .vmem, ⟨3, _⟩ => ⟨S768x1024, .bf16⟩
  | .local _ .vmem, ⟨4, _⟩ => ⟨S1024x1024, .bf16⟩
  | .local _ .vmem, ⟨5, _⟩ => ⟨S1024x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference8Ideal.lean ====
abbrev S2x2304x1024 : Shape := ⟨3, ![2, 2304, 1024]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x1024, .f32⟩
  | .hbm, ⟨2, _⟩ => ⟨S2x2304x1024, .bf16⟩
  | .hbm, ⟨3, _⟩ => ⟨S2x2304x1024, .f32⟩
  | .hbm, ⟨4, _⟩ => ⟨S2x2304x1024, .f32⟩
  | .hbm, ⟨5, _⟩ => ⟨S2x2304x1024, .f32⟩
  | .hbm, ⟨6, _⟩ => ⟨S1024x1024, .f32⟩
  | .hbm, ⟨7, _⟩ => ⟨S1024x1024, .f32⟩
  | .hbm, ⟨8, _⟩ => ⟨S2x2304x1024, .f32⟩
  | .hbm, ⟨9, _⟩ => ⟨S1024x1024, .f32⟩
  | .hbm, ⟨10, _⟩ => ⟨S1024x1024, .bf16⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel9.lean ====
abbrev S2x2304x1024 : Shape := ⟨3, ![2, 2304, 1024]⟩
abbrev S1024x128 : Shape := ⟨2, ![1024, 128]⟩
abbrev S2x2304x128 : Shape := ⟨3, ![2, 2304, 128]⟩
abbrev S4608x128 : Shape := ⟨2, ![4608, 128]⟩
abbrev S4608x1024 : Shape := ⟨2, ![4608, 1024]⟩
abbrev S128x1024 : Shape := ⟨2, ![128, 1024]⟩
abbrev S768x128 : Shape := ⟨2, ![768, 128]⟩
abbrev S768x1024 : Shape := ⟨2, ![768, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2304x1024, .bf16⟩
  | .hbm, ⟨1, _⟩ => ⟨S1024x128, .f32⟩
  | .hbm, ⟨2, _⟩ => ⟨S2x2304x128, .bf16⟩
  | .hbm, ⟨3, _⟩ => ⟨S4608x128, .bf16⟩
  | .hbm, ⟨4, _⟩ => ⟨S4608x1024, .bf16⟩
  | .hbm, ⟨5, _⟩ => ⟨S128x1024, .bf16⟩
  | .local _ .vmem, ⟨0, _⟩ => ⟨S768x128, .bf16⟩
  | .local _ .vmem, ⟨1, _⟩ => ⟨S768x128, .bf16⟩
  | .local _ .vmem, ⟨2, _⟩ => ⟨S768x1024, .bf16⟩
  | .local _ .vmem, ⟨3, _⟩ => ⟨S768x1024, .bf16⟩
  | .local _ .vmem, ⟨4, _⟩ => ⟨S128x1024, .bf16⟩
  | .local _ .vmem, ⟨5, _⟩ => ⟨S128x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 6], ![false, false, false]⟩

def k0_cond2 (i : grid0.Coords) : BitVec 1 :=
  let arg2 : BitVec 32 := BitVec.ofNat 32 (i 2).val
  let c5_i32 : BitVec 32 := 5#32
  let v13 : BitVec 1 := Scalar.cmpi .eq arg2 c5_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S2x2304x1024 : Shape := ⟨3, ![2, 2304, 1024]⟩
abbrev S1024x128 : Shape := ⟨2, ![1024, 128]⟩
abbrev S2x2304x128 : Shape := ⟨3, ![2, 2304, 128]⟩
abbrev S128x1024 : Shape := ⟨2, ![128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x128, .f32⟩
  | .hbm, ⟨2, _⟩ => ⟨S2x2304x128, .bf16⟩
  | .hbm, ⟨3, _⟩ => ⟨S2x2304x1024, .f32⟩
  | .hbm, ⟨4, _⟩ => ⟨S2x2304x128, .f32⟩
  | .hbm, ⟨5, _⟩ => ⟨S2x2304x128, .f32⟩
  | .hbm, ⟨6, _⟩ => ⟨S128x1024, .f32⟩
  | .hbm, ⟨7, _⟩ => ⟨S1024x128, .f32⟩
  | .hbm, ⟨8, _⟩ => ⟨S2x2304x1024, .f32⟩
  | .hbm, ⟨9, _⟩ => ⟨S128x1024, .f32⟩
  | .hbm, ⟨10, _⟩ => ⟨S128x1024, .bf16⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S2x2304x1024 : Shape := ⟨3, ![2, 2304, 1024]⟩
abbrev S1024x8224 : Shape := ⟨2, ![1024, 8224]⟩
abbrev S2x2304x3072 : Shape := ⟨3, ![2, 2304, 3072]⟩
abbrev S2x2304x128 : Shape := ⟨3, ![2, 2304, 128]⟩
abbrev S2x2304x2048 : Shape := ⟨3, ![2, 2304, 2048]⟩
abbrev S8224x1024 : Shape := ⟨2, ![8224, 1024]⟩
abbrev S3072x1024 : Shape := ⟨2, ![3072, 1024]⟩
abbrev S1024x1024 : Shape := ⟨2, ![1024, 1024]⟩
abbrev S32x1024 : Shape := ⟨2, ![32, 1024]⟩
abbrev S_ : Shape := ⟨0, ![]⟩
abbrev S128x1024 : Shape := ⟨2, ![128, 1024]⟩
abbrev S2048x1024 : Shape := ⟨2, ![2048, 1024]⟩
abbrev S4608x3072 : Shape := ⟨2, ![4608, 3072]⟩
abbrev S4608x1024 : Shape := ⟨2, ![4608, 1024]⟩
abbrev S4608x128 : Shape := ⟨2, ![4608, 128]⟩
abbrev S4608x2048 : Shape := ⟨2, ![4608, 2048]⟩
abbrev S768x1024 : Shape := ⟨2, ![768, 1024]⟩
abbrev S768x128 : Shape := ⟨2, ![768, 128]⟩

abbrev nBuf : Space → Nat
  | .hbm => 26
  | .vmem => 27
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S2x2304x3072, .bf16⟩
  | .hbm, ⟨3, _⟩ => ⟨S2x2304x1024, .bf16⟩
  | .hbm, ⟨4, _⟩ => ⟨S2x2304x128, .bf16⟩
  | .hbm, ⟨5, _⟩ => ⟨S2x2304x1024, .bf16⟩
  | .hbm, ⟨6, _⟩ => ⟨S2x2304x1024, .bf16⟩
  | .hbm, ⟨7, _⟩ => ⟨S2x2304x2048, .bf16⟩
  | .hbm, ⟨8, _⟩ => ⟨S1024x8224, .bf16⟩
  | .hbm, ⟨9, _⟩ => ⟨S8224x1024, .bf16⟩
  | .hbm, ⟨10, _⟩ => ⟨S3072x1024, .bf16⟩
  | .hbm, ⟨11, _⟩ => ⟨S1024x1024, .bf16⟩
  | .hbm, ⟨12, _⟩ => ⟨S32x1024, .bf16⟩
  | .hbm, ⟨13, _⟩ => ⟨S_, .i32⟩
  | .hbm, ⟨14, _⟩ => ⟨S_, .bf16⟩
  | .hbm, ⟨15, _⟩ => ⟨S128x1024, .bf16⟩
  | .hbm, ⟨16, _⟩ => ⟨S1024x1024, .bf16⟩
  | .hbm, ⟨17, _⟩ => ⟨S1024x1024, .bf16⟩
  | .hbm, ⟨18, _⟩ => ⟨S2048x1024, .bf16⟩
  | .hbm, ⟨19, _⟩ => ⟨S4608x3072, .bf16⟩
  | .hbm, ⟨20, _⟩ => ⟨S4608x1024, .bf16⟩
  | .hbm, ⟨21, _⟩ => ⟨S4608x128, .bf16⟩
  | .hbm, ⟨22, _⟩ => ⟨S4608x1024, .bf16⟩
  | .hbm, ⟨23, _⟩ => ⟨S4608x1024, .bf16⟩
  | .hbm, ⟨24, _⟩ => ⟨S4608x2048, .bf16⟩
  | .hbm, ⟨25, _⟩ => ⟨S4608x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S1024x1024, .bf16⟩
  | .local _ .vmem, ⟨7, _⟩ => ⟨S1024x1024, .bf16⟩
  | .local _ .vmem, ⟨8, _⟩ => ⟨S768x128, .bf16⟩
  | .local _ .vmem, ⟨9, _⟩ => ⟨S768x128, .bf16⟩
  | .local _ .vmem, ⟨10, _⟩ => ⟨S128x1024, .bf16⟩
  | .local _ .vmem, ⟨11, _⟩ => ⟨S128x1024, .bf16⟩
  | .local _ .vmem, ⟨12, _⟩ => ⟨S768x1024, .bf16⟩
  | .local _ .vmem, ⟨13, _⟩ => ⟨S768x1024, .bf16⟩
  | .local _ .vmem, ⟨14, _⟩ => ⟨S1024x1024, .bf16⟩
  | .local _ .vmem, ⟨15, _⟩ => ⟨S1024x1024, .bf16⟩
  | .local _ .vmem, ⟨16, _⟩ => ⟨S768x1024, .bf16⟩
  | .local _ .vmem, ⟨17, _⟩ => ⟨S768x1024, .bf16⟩
  | .local _ .vmem, ⟨18, _⟩ => ⟨S1024x1024, .bf16⟩
  | .local _ .vmem, ⟨19, _⟩ => ⟨S1024x1024, .bf16⟩
  | .local _ .vmem, ⟨20, _⟩ => ⟨S768x1024, .bf16⟩
  | .local _ .vmem, ⟨21, _⟩ => ⟨S768x1024, .bf16⟩
  | .local _ .vmem, ⟨22, _⟩ => ⟨S1024x1024, .bf16⟩
  | .local _ .vmem, ⟨23, _⟩ => ⟨S1024x1024, .bf16⟩
  | .local _ .vmem, ⟨24, _⟩ => ⟨S768x1024, .f32⟩
  | .local _ .vmem, ⟨25, _⟩ => ⟨S768x1024, .f32⟩
  | .local _ .vmem, ⟨26, _⟩ => ⟨S768x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_c : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![6, 1, 9], ![false, false, false]⟩

def k0_cond8 (i : grid0.Coords) : BitVec 1 :=
  let arg2 : BitVec 32 := BitVec.ofNat 32 (i 2).val
  let c8_i32 : BitVec 32 := 8#32
  let v33 : BitVec 1 := Scalar.cmpi .eq arg2 c8_i32
  let v34 : BitVec 32 := Scalar.extui v33
  let c0_i32_13 : BitVec 32 := 0#32
  let v35 : BitVec 1 := Scalar.cmpi .ne v34 c0_i32_13
  v35

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg2 c0_i32
  let c0_i32_0 : BitVec 32 := 0#32
  let c2_i32 : BitVec 32 := 2#32
  let v1 : BitVec 32 := Scalar.maxsi c0_i32_0 v0
  let v2 : BitVec 32 := Scalar.minsi c2_i32 v1
  let c0_i32_1 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.subi arg2 c3_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg2 c4_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c5_i32 : BitVec 32 := 5#32
  let v0 : BitVec 32 := Scalar.subi arg2 c5_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![arg0.toNat, v2.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.subi arg2 c6_i32
  let c0_i32 : BitVec 32 := 0#32
  let c0_i32_0 : BitVec 32 := 0#32
  let v1 : BitVec 32 := Scalar.maxsi c0_i32 v0
  let v2 : BitVec 32 := Scalar.minsi c0_i32_0 v1
  let c0_i32_1 : BitVec 32 := 0#32
  ![v2.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi arg2 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 32 := Scalar.subi arg2 c7_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![v2.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S768x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S768x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S768x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S768x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false, true]

abbrev stage0_11 : Fin 2 → Memref sig .tc .vmem S1024x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, true]

abbrev stage0_12 : Fin 2 → Memref sig .tc .vmem S768x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]
-- ==== Reference10Ideal.lean ====
abbrev S2x2304x1024 : Shape := ⟨3, ![2, 2304, 1024]⟩
abbrev S1024x8224 : Shape := ⟨2, ![1024, 8224]⟩
abbrev S2x2304x3072 : Shape := ⟨3, ![2, 2304, 3072]⟩
abbrev S2x2304x128 : Shape := ⟨3, ![2, 2304, 128]⟩
abbrev S2x2304x2048 : Shape := ⟨3, ![2, 2304, 2048]⟩
abbrev S2x2304x8224 : Shape := ⟨3, ![2, 2304, 8224]⟩
abbrev S2x2304x32 : Shape := ⟨3, ![2, 2304, 32]⟩
abbrev S4608x1024 : Shape := ⟨2, ![4608, 1024]⟩

abbrev nBuf : Space → Nat
  | .hbm => 26
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S2x2304x3072, .bf16⟩
  | .hbm, ⟨3, _⟩ => ⟨S2x2304x1024, .bf16⟩
  | .hbm, ⟨4, _⟩ => ⟨S2x2304x128, .bf16⟩
  | .hbm, ⟨5, _⟩ => ⟨S2x2304x1024, .bf16⟩
  | .hbm, ⟨6, _⟩ => ⟨S2x2304x1024, .bf16⟩
  | .hbm, ⟨7, _⟩ => ⟨S2x2304x2048, .bf16⟩
  | .hbm, ⟨8, _⟩ => ⟨S2x2304x1024, .f32⟩
  | .hbm, ⟨9, _⟩ => ⟨S2x2304x8224, .f32⟩
  | .hbm, ⟨10, _⟩ => ⟨S2x2304x3072, .f32⟩
  | .hbm, ⟨11, _⟩ => ⟨S2x2304x1024, .f32⟩
  | .hbm, ⟨12, _⟩ => ⟨S2x2304x32, .f32⟩
  | .hbm, ⟨13, _⟩ => ⟨S2x2304x1024, .f32⟩
  | .hbm, ⟨14, _⟩ => ⟨S2x2304x1024, .f32⟩
  | .hbm, ⟨15, _⟩ => ⟨S2x2304x2048, .f32⟩
  | .hbm, ⟨16, _⟩ => ⟨S2x2304x32, .bf16⟩
  | .hbm, ⟨17, _⟩ => ⟨S2x2304x3072, .f32⟩
  | .hbm, ⟨18, _⟩ => ⟨S2x2304x1024, .f32⟩
  | .hbm, ⟨19, _⟩ => ⟨S2x2304x32, .f32⟩
  | .hbm, ⟨20, _⟩ => ⟨S2x2304x1024, .f32⟩
  | .hbm, ⟨21, _⟩ => ⟨S2x2304x1024, .f32⟩
  | .hbm, ⟨22, _⟩ => ⟨S2x2304x2048, .f32⟩
  | .hbm, ⟨23, _⟩ => ⟨S2x2304x8224, .f32⟩
  | .hbm, ⟨24, _⟩ => ⟨S2x2304x1024, .f32⟩
  | .hbm, ⟨25, _⟩ => ⟨S4608x1024, .f32⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Kernel11.lean ====
abbrev S2x2048x1024 : Shape := ⟨3, ![2, 2048, 1024]⟩
abbrev S8x128x1024 : Shape := ⟨3, ![8, 128, 1024]⟩
abbrev S4096x1024 : Shape := ⟨2, ![4096, 1024]⟩
abbrev S1024x1024 : Shape := ⟨2, ![1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S8x128x1024, .f32⟩
  | .hbm, ⟨2, _⟩ => ⟨S2x2048x1024, .bf16⟩
  | .hbm, ⟨3, _⟩ => ⟨S4096x1024, .bf16⟩
  | .hbm, ⟨4, _⟩ => ⟨S8x128x1024, .bf16⟩
  | .hbm, ⟨5, _⟩ => ⟨S1024x1024, .bf16⟩
  | .hbm, ⟨6, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S2x2048x1024 : Shape := ⟨3, ![2, 2048, 1024]⟩
abbrev S8x128x1024 : Shape := ⟨3, ![8, 128, 1024]⟩
abbrev S1024x1024 : Shape := ⟨2, ![1024, 1024]⟩
abbrev S4096x1024 : Shape := ⟨2, ![4096, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x128x1024, .f32⟩
  | .hbm, ⟨2, _⟩ => ⟨S2x2048x1024, .bf16⟩
  | .hbm, ⟨3, _⟩ => ⟨S2x2048x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S1024x1024, .f32⟩
  | .hbm, ⟨8, _⟩ => ⟨S1024x1024, .f32⟩
  | .hbm, ⟨9, _⟩ => ⟨S2x2048x1024, .f32⟩
  | .hbm, ⟨10, _⟩ => ⟨S8x128x1024, .f32⟩
  | .hbm, ⟨11, _⟩ => ⟨S4096x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel12.lean ====
abbrev S2x2048x1024 : Shape := ⟨3, ![2, 2048, 1024]⟩
abbrev S8x128x1024 : Shape := ⟨3, ![8, 128, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S8x128x1024, .f32⟩
  | .hbm, ⟨2, _⟩ => ⟨S2x2048x1024, .bf16⟩
  | .hbm, ⟨3, _⟩ => ⟨S4096x1024, .bf16⟩
  | .hbm, ⟨4, _⟩ => ⟨S4096x1024, .bf16⟩
  | .hbm, ⟨5, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S2x2048x1024 : Shape := ⟨3, ![2, 2048, 1024]⟩
abbrev S8x128x1024 : Shape := ⟨3, ![8, 128, 1024]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x128x1024, .f32⟩
  | .hbm, ⟨2, _⟩ => ⟨S2x2048x1024, .bf16⟩
  | .hbm, ⟨3, _⟩ => ⟨S2x2048x1024, .f32⟩
  | .hbm, ⟨4, _⟩ => ⟨S1024x1024, .f32⟩
  | .hbm, ⟨5, _⟩ => ⟨S2x2048x1024, .f32⟩
  | .hbm, ⟨6, _⟩ => ⟨S2x2048x1024, .f32⟩
  | .hbm, ⟨7, _⟩ => ⟨S1024x1024, .f32⟩
  | .hbm, ⟨8, _⟩ => ⟨S1024x1024, .f32⟩
  | .hbm, ⟨9, _⟩ => ⟨S2x2048x1024, .f32⟩
  | .hbm, ⟨10, _⟩ => ⟨S8x128x1024, .f32⟩
  | .hbm, ⟨11, _⟩ => ⟨S1024x1024, .f32⟩
  | .hbm, ⟨12, _⟩ => ⟨S1024x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel13.lean ====
abbrev S2x2048x1024 : Shape := ⟨3, ![2, 2048, 1024]⟩
abbrev S8x128x1024 : Shape := ⟨3, ![8, 128, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S8x128x1024, .f32⟩
  | .hbm, ⟨2, _⟩ => ⟨S4096x1024, .bf16⟩
  | .hbm, ⟨3, _⟩ => ⟨S8x128x1024, .bf16⟩
  | .hbm, ⟨4, _⟩ => ⟨S1024x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S2x2048x1024 : Shape := ⟨3, ![2, 2048, 1024]⟩
abbrev S8x128x1024 : Shape := ⟨3, ![8, 128, 1024]⟩
abbrev S1024x1024 : Shape := ⟨2, ![1024, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x128x1024, .f32⟩
  | .hbm, ⟨2, _⟩ => ⟨S2x2048x1024, .f32⟩
  | .hbm, ⟨3, _⟩ => ⟨S1024x1024, .f32⟩
  | .hbm, ⟨4, _⟩ => ⟨S2x2048x1024, .f32⟩
  | .hbm, ⟨5, _⟩ => ⟨S4096x1024, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S2x2048x1024 : Shape := ⟨3, ![2, 2048, 1024]⟩
abbrev S8x128x1024 : Shape := ⟨3, ![8, 128, 1024]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S2x2048x1024, .bf16⟩
  | .hbm, ⟨1, _⟩ => ⟨S8x128x1024, .f32⟩
  | .hbm, ⟨2, _⟩ => ⟨S4096x1024, .bf16⟩
  | .hbm, ⟨3, _⟩ => ⟨S8x128x1024, .bf16⟩
  | .hbm, ⟨4, _⟩ => ⟨S1024x1024, .bf16⟩
  | .hbm, ⟨5, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S2x2048x1024 : Shape := ⟨3, ![2, 2048, 1024]⟩
abbrev S8x128x1024 : Shape := ⟨3, ![8, 128, 1024]⟩
abbrev S1024x1024 : Shape := ⟨2, ![1024, 1024]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x128x1024, .f32⟩
  | .hbm, ⟨2, _⟩ => ⟨S2x2048x1024, .f32⟩
  | .hbm, ⟨3, _⟩ => ⟨S1024x1024, .f32⟩
  | .hbm, ⟨4, _⟩ => ⟨S2x2048x1024, .f32⟩
  | .hbm, ⟨5, _⟩ => ⟨S2x2048x1024, .bf16⟩
  | .hbm, ⟨6, _⟩ => ⟨S4096x1024, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel15.lean ====
abbrev S2x2048x1024 : Shape := ⟨3, ![2, 2048, 1024]⟩
abbrev S8x1024x1024 : Shape := ⟨3, ![8, 1024, 1024]⟩
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1024, .f32⟩
  | .hbm, ⟨2, _⟩ => ⟨S4096x1024, .bf16⟩
  | .hbm, ⟨3, _⟩ => ⟨S8x1024x1024, .bf16⟩
  | .hbm, ⟨4, _⟩ => ⟨S4x1024x1024, .bf16⟩
  | .hbm, ⟨5, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S2x2048x1024 : Shape := ⟨3, ![2, 2048, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S2x2048x8192 : Shape := ⟨3, ![2, 2048, 8192]⟩
abbrev S2x2048x4096 : Shape := ⟨3, ![2, 2048, 4096]⟩
abbrev S4096x4096 : Shape := ⟨2, ![4096, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1024, .f32⟩
  | .hbm, ⟨2, _⟩ => ⟨S2x2048x1024, .f32⟩
  | .hbm, ⟨3, _⟩ => ⟨S1024x8x1024, .f32⟩
  | .hbm, ⟨4, _⟩ => ⟨S1024x8192, .f32⟩
  | .hbm, ⟨5, _⟩ => ⟨S2x2048x8192, .f32⟩
  | .hbm, ⟨6, _⟩ => ⟨S2x2048x4096, .f32⟩
  | .hbm, ⟨7, _⟩ => ⟨S2x2048x4096, .f32⟩
  | .hbm, ⟨8, _⟩ => ⟨S4096x4096, .f32⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel16.lean ====
abbrev S2x2048x1024 : Shape := ⟨3, ![2, 2048, 1024]⟩
abbrev S8x1024x1024 : Shape := ⟨3, ![8, 1024, 1024]⟩
abbrev S4096x1024 : Shape := ⟨2, ![4096, 1024]⟩
abbrev S4x1024x1024 : Shape := ⟨3, ![4, 1024, 1024]⟩
abbrev S4096x4096 : Shape := ⟨2, ![4096, 4096]⟩
abbrev S1024x1024 : Shape := ⟨2, ![1024, 1024]⟩
abbrev S1x1024x1024 : Shape := ⟨3, ![1, 1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1024, .f32⟩
  | .hbm, ⟨2, _⟩ => ⟨S4096x1024, .bf16⟩
  | .hbm, ⟨3, _⟩ => ⟨S8x1024x1024, .bf16⟩
  | .hbm, ⟨4, _⟩ => ⟨S4x1024x1024, .bf16⟩
  | .hbm, ⟨5, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S2x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def k0_cond2 (i : grid0.Coords) : BitVec 1 :=
  let arg2 : BitVec 32 := BitVec.ofNat 32 (i 2).val
  let c0_i32_9 : BitVec 32 := 0#32
  let v13 : BitVec 1 := Scalar.cmpi .eq arg2 c0_i32_9
  let v14 : BitVec 32 := Scalar.extui v13
  let c0_i32_10 : BitVec 32 := 0#32
  let v15 : BitVec 1 := Scalar.cmpi .ne v14 c0_i32_10
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S2x2048x1024 : Shape := ⟨3, ![2, 2048, 1024]⟩
abbrev S8x1024x1024 : Shape := ⟨3, ![8, 1024, 1024]⟩
abbrev S1024x8x1024 : Shape := ⟨3, ![1024, 8, 1024]⟩
abbrev S1024x8192 : Shape := ⟨2, ![1024, 8192]⟩
abbrev S2x2048x8192 : Shape := ⟨3, ![2, 2048, 8192]⟩
abbrev S2x2048x4096 : Shape := ⟨3, ![2, 2048, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x1024, .bf16⟩
  | .hbm, ⟨1, _⟩ => ⟨S8x1024x1024, .f32⟩
  | .hbm, ⟨2, _⟩ => ⟨S2x2048x1024, .f32⟩
  | .hbm, ⟨3, _⟩ => ⟨S1024x8x1024, .f32⟩
  | .hbm, ⟨4, _⟩ => ⟨S1024x8192, .f32⟩
  | .hbm, ⟨5, _⟩ => ⟨S2x2048x8192, .f32⟩
  | .hbm, ⟨6, _⟩ => ⟨S2x2048x4096, .f32⟩
  | .hbm, ⟨7, _⟩ => ⟨S2x2048x4096, .f32⟩
  | .hbm, ⟨8, _⟩ => ⟨S2x2048x4096, .bf16⟩
  | .hbm, ⟨9, _⟩ => ⟨S4096x4096, .bf16⟩
  | _, _ => ⟨S2x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel17.lean ====
abbrev S2x2048x4096 : Shape := ⟨3, ![2, 2048, 4096]⟩
abbrev S8x512x1024 : Shape := ⟨3, ![8, 512, 1024]⟩
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 6
  | .vmem => 7
  | .smem => 0
  | _ => 0

abbrev bufTy : (tb : Table) → Fin (tcTables nBuf tb) → BufTy
  | .hbm, ⟨0, _⟩ => ⟨S2x2048x4096, .bf16⟩
  | .hbm, ⟨1, _⟩ => ⟨S8x512x1024, .f32⟩
  | .hbm, ⟨2, _⟩ => ⟨S4096x4096, .bf16⟩
  | .hbm, ⟨3, _⟩ => ⟨S8x512x1024, .bf16⟩
  | .hbm, ⟨4, _⟩ => ⟨S4096x1024, .bf16⟩
  | .hbm, ⟨5, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S2x2048x4096 : Shape := ⟨3, ![2, 2048, 4096]⟩
abbrev S8x512x1024 : Shape := ⟨3, ![8, 512, 1024]⟩
abbrev S4096x1024 : Shape := ⟨2, ![4096, 1024]⟩
abbrev S2x2048x1024 : Shape := ⟨3, ![2, 2048, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2x2048x4096, .bf16⟩
  | .hbm, ⟨1, _⟩ => ⟨S8x512x1024, .f32⟩
  | .hbm, ⟨2, _⟩ => ⟨S2x2048x4096, .f32⟩
  | .hbm, ⟨3, _⟩ => ⟨S4096x1024, .f32⟩
  | .hbm, ⟨4, _⟩ => ⟨S2x2048x1024, .f32⟩
  | .hbm, ⟨5, _⟩ => ⟨S4096x1024, .f32⟩
  | _, _ => ⟨S2x2048x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel18.lean ====
abbrev S2x2304x1024 : Shape := ⟨3, ![2, 2304, 1024]⟩
abbrev S1024x8224 : Shape := ⟨2, ![1024, 8224]⟩
abbrev S8224x1024 : Shape := ⟨2, ![8224, 1024]⟩
abbrev S3072x1024 : Shape := ⟨2, ![3072, 1024]⟩
abbrev S4608x1024 : Shape := ⟨2, ![4608, 1024]⟩
abbrev S4608x3072 : Shape := ⟨2, ![4608, 3072]⟩
abbrev S768x1024 : Shape := ⟨2, ![768, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S1024x8224, .bf16⟩
  | .hbm, ⟨3, _⟩ => ⟨S8224x1024, .bf16⟩
  | .hbm, ⟨4, _⟩ => ⟨S3072x1024, .bf16⟩
  | .hbm, ⟨5, _⟩ => ⟨S4608x1024, .bf16⟩
  | .hbm, ⟨6, _⟩ => ⟨S4608x3072, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 3, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S2x2304x1024 : Shape := ⟨3, ![2, 2304, 1024]⟩
abbrev S1024x8224 : Shape := ⟨2, ![1024, 8224]⟩
abbrev S2x2304x8224 : Shape := ⟨3, ![2, 2304, 8224]⟩
abbrev S2x2304x3072 : Shape := ⟨3, ![2, 2304, 3072]⟩
abbrev S2x2304x32 : Shape := ⟨3, ![2, 2304, 32]⟩
abbrev S2x2304x2048 : Shape := ⟨3, ![2, 2304, 2048]⟩
abbrev S4608x3072 : Shape := ⟨2, ![4608, 3072]⟩

abbrev nBuf : Space → Nat
  | .hbm => 11
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S2x2304x1024, .f32⟩
  | .hbm, ⟨3, _⟩ => ⟨S2x2304x8224, .f32⟩
  | .hbm, ⟨4, _⟩ => ⟨S2x2304x3072, .f32⟩
  | .hbm, ⟨5, _⟩ => ⟨S2x2304x1024, .f32⟩
  | .hbm, ⟨6, _⟩ => ⟨S2x2304x32, .f32⟩
  | .hbm, ⟨7, _⟩ => ⟨S2x2304x1024, .f32⟩
  | .hbm, ⟨8, _⟩ => ⟨S2x2304x1024, .f32⟩
  | .hbm, ⟨9, _⟩ => ⟨S2x2304x2048, .f32⟩
  | .hbm, ⟨10, _⟩ => ⟨S4608x3072, .f32⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel19.lean ====
abbrev S2x2304x1024 : Shape := ⟨3, ![2, 2304, 1024]⟩
abbrev S1024x8224 : Shape := ⟨2, ![1024, 8224]⟩
abbrev S8224x1024 : Shape := ⟨2, ![8224, 1024]⟩
abbrev S1024x1024 : Shape := ⟨2, ![1024, 1024]⟩
abbrev S4608x1024 : Shape := ⟨2, ![4608, 1024]⟩
abbrev S768x1024 : Shape := ⟨2, ![768, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S1024x8224, .bf16⟩
  | .hbm, ⟨3, _⟩ => ⟨S8224x1024, .bf16⟩
  | .hbm, ⟨4, _⟩ => ⟨S1024x1024, .bf16⟩
  | .hbm, ⟨5, _⟩ => ⟨S4608x1024, .bf16⟩
  | .hbm, ⟨6, _⟩ => ⟨S4608x1024, .f32⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .f32⟩
  | .local _ .vmem, ⟨4, _⟩ => ⟨S768x1024, .f32⟩
  | .local _ .vmem, ⟨5, _⟩ => ⟨S768x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S2x2304x1024 : Shape := ⟨3, ![2, 2304, 1024]⟩
abbrev S1024x8224 : Shape := ⟨2, ![1024, 8224]⟩
abbrev S2x2304x8224 : Shape := ⟨3, ![2, 2304, 8224]⟩
abbrev S2x2304x3072 : Shape := ⟨3, ![2, 2304, 3072]⟩
abbrev S2x2304x32 : Shape := ⟨3, ![2, 2304, 32]⟩
abbrev S2x2304x2048 : Shape := ⟨3, ![2, 2304, 2048]⟩
abbrev S4608x1024 : Shape := ⟨2, ![4608, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S2x2304x1024, .f32⟩
  | .hbm, ⟨3, _⟩ => ⟨S2x2304x8224, .f32⟩
  | .hbm, ⟨4, _⟩ => ⟨S2x2304x3072, .f32⟩
  | .hbm, ⟨5, _⟩ => ⟨S2x2304x1024, .f32⟩
  | .hbm, ⟨6, _⟩ => ⟨S2x2304x32, .f32⟩
  | .hbm, ⟨7, _⟩ => ⟨S2x2304x1024, .f32⟩
  | .hbm, ⟨8, _⟩ => ⟨S2x2304x1024, .f32⟩
  | .hbm, ⟨9, _⟩ => ⟨S2x2304x2048, .f32⟩
  | .hbm, ⟨10, _⟩ => ⟨S4608x1024, .f32⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== Kernel20.lean ====
abbrev S2x2304x1024 : Shape := ⟨3, ![2, 2304, 1024]⟩
abbrev S1024x8224 : Shape := ⟨2, ![1024, 8224]⟩
abbrev S8224x1024 : Shape := ⟨2, ![8224, 1024]⟩
abbrev S1024x1024 : Shape := ⟨2, ![1024, 1024]⟩
abbrev S4608x1024 : Shape := ⟨2, ![4608, 1024]⟩
abbrev S768x1024 : Shape := ⟨2, ![768, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S1024x8224, .bf16⟩
  | .hbm, ⟨3, _⟩ => ⟨S8224x1024, .bf16⟩
  | .hbm, ⟨4, _⟩ => ⟨S1024x1024, .bf16⟩
  | .hbm, ⟨5, _⟩ => ⟨S4608x1024, .bf16⟩
  | .hbm, ⟨6, _⟩ => ⟨S4608x1024, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S768x1024, .bf16⟩
  | .local _ .vmem, ⟨4, _⟩ => ⟨S768x1024, .bf16⟩
  | .local _ .vmem, ⟨5, _⟩ => ⟨S768x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference20Ideal.lean ====
abbrev S2x2304x1024 : Shape := ⟨3, ![2, 2304, 1024]⟩
abbrev S1024x8224 : Shape := ⟨2, ![1024, 8224]⟩
abbrev S2x2304x8224 : Shape := ⟨3, ![2, 2304, 8224]⟩
abbrev S2x2304x3072 : Shape := ⟨3, ![2, 2304, 3072]⟩
abbrev S2x2304x32 : Shape := ⟨3, ![2, 2304, 32]⟩
abbrev S2x2304x2048 : Shape := ⟨3, ![2, 2304, 2048]⟩
abbrev S4608x1024 : Shape := ⟨2, ![4608, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S2x2304x1024, .f32⟩
  | .hbm, ⟨3, _⟩ => ⟨S2x2304x8224, .f32⟩
  | .hbm, ⟨4, _⟩ => ⟨S2x2304x3072, .f32⟩
  | .hbm, ⟨5, _⟩ => ⟨S2x2304x1024, .f32⟩
  | .hbm, ⟨6, _⟩ => ⟨S2x2304x32, .f32⟩
  | .hbm, ⟨7, _⟩ => ⟨S2x2304x1024, .f32⟩
  | .hbm, ⟨8, _⟩ => ⟨S2x2304x1024, .f32⟩
  | .hbm, ⟨9, _⟩ => ⟨S2x2304x2048, .f32⟩
  | .hbm, ⟨10, _⟩ => ⟨S2x2304x1024, .bf16⟩
  | .hbm, ⟨11, _⟩ => ⟨S4608x1024, .bf16⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel21.lean ====
abbrev S2x2304x1024 : Shape := ⟨3, ![2, 2304, 1024]⟩
abbrev S1024x8224 : Shape := ⟨2, ![1024, 8224]⟩
abbrev S8224x1024 : Shape := ⟨2, ![8224, 1024]⟩
abbrev S2048x1024 : Shape := ⟨2, ![2048, 1024]⟩
abbrev S4608x1024 : Shape := ⟨2, ![4608, 1024]⟩
abbrev S4608x2048 : Shape := ⟨2, ![4608, 2048]⟩
abbrev S768x1024 : Shape := ⟨2, ![768, 1024]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S1024x8224, .bf16⟩
  | .hbm, ⟨3, _⟩ => ⟨S8224x1024, .bf16⟩
  | .hbm, ⟨4, _⟩ => ⟨S2048x1024, .bf16⟩
  | .hbm, ⟨5, _⟩ => ⟨S4608x1024, .bf16⟩
  | .hbm, ⟨6, _⟩ => ⟨S4608x2048, .bf16⟩
  | .local _ .vmem, ⟨0, _⟩ => ⟨S768x1024, .bf16⟩
  | .local _ .vmem, ⟨1, _⟩ => ⟨S768x1024, .bf16⟩
  | .local _ .vmem, ⟨2, _⟩ => ⟨S1024x1024, .bf16⟩
  | .local _ .vmem, ⟨3, _⟩ => ⟨S1024x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S2x2304x1024 : Shape := ⟨3, ![2, 2304, 1024]⟩
abbrev S1024x8224 : Shape := ⟨2, ![1024, 8224]⟩
abbrev S2x2304x8224 : Shape := ⟨3, ![2, 2304, 8224]⟩
abbrev S2x2304x3072 : Shape := ⟨3, ![2, 2304, 3072]⟩
abbrev S2x2304x32 : Shape := ⟨3, ![2, 2304, 32]⟩
abbrev S2x2304x2048 : Shape := ⟨3, ![2, 2304, 2048]⟩
abbrev S4608x2048 : Shape := ⟨2, ![4608, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S2x2304x1024, .f32⟩
  | .hbm, ⟨3, _⟩ => ⟨S2x2304x8224, .f32⟩
  | .hbm, ⟨4, _⟩ => ⟨S2x2304x3072, .f32⟩
  | .hbm, ⟨5, _⟩ => ⟨S2x2304x1024, .f32⟩
  | .hbm, ⟨6, _⟩ => ⟨S2x2304x32, .f32⟩
  | .hbm, ⟨7, _⟩ => ⟨S2x2304x1024, .f32⟩
  | .hbm, ⟨8, _⟩ => ⟨S2x2304x1024, .f32⟩
  | .hbm, ⟨9, _⟩ => ⟨S2x2304x2048, .f32⟩
  | .hbm, ⟨10, _⟩ => ⟨S2x2304x2048, .bf16⟩
  | .hbm, ⟨11, _⟩ => ⟨S4608x2048, .bf16⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel22.lean ====
abbrev S2x2304x1024 : Shape := ⟨3, ![2, 2304, 1024]⟩
abbrev S1024x8224 : Shape := ⟨2, ![1024, 8224]⟩
abbrev S8224x1024 : Shape := ⟨2, ![8224, 1024]⟩
abbrev S32x1024 : Shape := ⟨2, ![32, 1024]⟩
abbrev S_ : Shape := ⟨0, ![]⟩
abbrev S128x1024 : Shape := ⟨2, ![128, 1024]⟩
abbrev S4608x1024 : Shape := ⟨2, ![4608, 1024]⟩
abbrev S4608x128 : Shape := ⟨2, ![4608, 128]⟩
abbrev S768x1024 : Shape := ⟨2, ![768, 1024]⟩
abbrev S768x128 : Shape := ⟨2, ![768, 128]⟩

abbrev nBuf : Space → Nat
  | .hbm => 10
  | .vmem => 6
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S1024x8224, .bf16⟩
  | .hbm, ⟨3, _⟩ => ⟨S8224x1024, .bf16⟩
  | .hbm, ⟨4, _⟩ => ⟨S32x1024, .bf16⟩
  | .hbm, ⟨5, _⟩ => ⟨S_, .i32⟩
  | .hbm, ⟨6, _⟩ => ⟨S_, .bf16⟩
  | .hbm, ⟨7, _⟩ => ⟨S128x1024, .bf16⟩
  | .hbm, ⟨8, _⟩ => ⟨S4608x1024, .bf16⟩
  | .hbm, ⟨9, _⟩ => ⟨S4608x128, .f32⟩
  | .local _ .vmem, ⟨0, _⟩ => ⟨S768x1024, .bf16⟩
  | .local _ .vmem, ⟨1, _⟩ => ⟨S768x1024, .bf16⟩
  | .local _ .vmem, ⟨2, _⟩ => ⟨S128x1024, .bf16⟩
  | .local _ .vmem, ⟨3, _⟩ => ⟨S768x128, .f32⟩
  | .local _ .vmem, ⟨4, _⟩ => ⟨S768x128, .f32⟩
  | .local _ .vmem, ⟨5, _⟩ => ⟨S768x128, .f32⟩
  | _, _ => ⟨S2x2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![6, 1, 1], ![false, false, false]⟩

def k0_cond2 (i : grid0.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S768x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S2x2304x1024 : Shape := ⟨3, ![2, 2304, 1024]⟩
abbrev S1024x8224 : Shape := ⟨2, ![1024, 8224]⟩
abbrev S2x2304x8224 : Shape := ⟨3, ![2, 2304, 8224]⟩
abbrev S2x2304x3072 : Shape := ⟨3, ![2, 2304, 3072]⟩
abbrev S2x2304x32 : Shape := ⟨3, ![2, 2304, 32]⟩
abbrev S2x2304x2048 : Shape := ⟨3, ![2, 2304, 2048]⟩
abbrev S4608x32 : Shape := ⟨2, ![4608, 32]⟩
abbrev S_ : Shape := ⟨0, ![]⟩
abbrev S4608x128 : Shape := ⟨2, ![4608, 128]⟩

abbrev nBuf : Space → Nat
  | .hbm => 14
  | .vmem => 0
  | .smem => 0
  | _ => 0

abbrev bufTy : (tb : Table) → Fin (tcTables nBuf tb) → BufTy
  | .hbm, ⟨0, _⟩ => ⟨S2x2304x1024, .bf16⟩
  | .hbm, ⟨1, _⟩ => ⟨S1024x8224, .f32⟩
  | .hbm, ⟨2, _⟩ => ⟨S2x2304x1024, .f32⟩
  | .hbm, ⟨3, _⟩ => ⟨S2x2304x8224, .f32⟩
  | .hbm, ⟨4, _⟩ => ⟨S2x2304x3072, .f32⟩
  | .hbm, ⟨5, _⟩ => ⟨S2x2304x1024, .f32⟩
  | .hbm, ⟨6, _⟩ => ⟨S2x2304x32, .f32⟩
  | .hbm, ⟨7, _⟩ => ⟨S2x2304x1024, .f32⟩
  | .hbm, ⟨8, _⟩ => ⟨S2x2304x1024, .f32⟩
  | .hbm, ⟨9, _⟩ => ⟨S2x2304x2048, .f32⟩
  | .hbm, ⟨10, _⟩ => ⟨S4608x32, .f32⟩
  | .hbm, ⟨11, _⟩ => ⟨S_, .i32⟩
  | .hbm, ⟨12, _⟩ => ⟨S_, .f32⟩
  | .hbm, ⟨13, _⟩ => ⟨S4608x128, .f32⟩
  | _, _ => ⟨S2x2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel23.lean ====
abbrev S2x2304x1024 : Shape := ⟨3, ![2, 2304, 1024]⟩
abbrev S2x16x64x64 : Shape := ⟨4, ![2, 16, 64, 64]⟩
abbrev S2x1024 : Shape := ⟨2, ![2, 1024]⟩
abbrev S2x4x4x64x64 : Shape := ⟨5, ![2, 4, 4, 64, 64]⟩
abbrev S4x4 : Shape := ⟨2, ![4, 4]⟩
abbrev S_ : Shape := ⟨0, ![]⟩
abbrev S2x4x4x64x1x64 : Shape := ⟨6, ![2, 4, 4, 64, 1, 64]⟩
abbrev S4x1x4x1 : Shape := ⟨4, ![4, 1, 4, 1]⟩
abbrev S1x1x4x1x4x1 : Shape := ⟨6, ![1, 1, 4, 1, 4, 1]⟩
abbrev S2x4x4x64x4x64 : Shape := ⟨6, ![2, 4, 4, 64, 4, 64]⟩
abbrev S2x4x256x256 : Shape := ⟨4, ![2, 4, 256, 256]⟩
abbrev S1x4x256x256 : Shape := ⟨4, ![1, 4, 256, 256]⟩
abbrev S4x256x256 : Shape := ⟨3, ![4, 256, 256]⟩
abbrev S4x4x256x256 : Shape := ⟨4, ![4, 4, 256, 256]⟩
abbrev S1x1024 : Shape := ⟨2, ![1, 1024]⟩
abbrev S1024 : Shape := ⟨1, ![1024]⟩
abbrev S4x1024 : Shape := ⟨2, ![4, 1024]⟩
abbrev S2x2x2304x1024 : Shape := ⟨4, ![2, 2, 2304, 1024]⟩
abbrev S1x768x256 : Shape := ⟨3, ![1, 768, 256]⟩
abbrev S4x1x256x256 : Shape := ⟨4, ![4, 1, 256, 256]⟩
abbrev S4x256 : Shape := ⟨2, ![4, 256]⟩
abbrev S2x256 : Shape := ⟨2, ![2, 256]⟩
abbrev S2x1x768x256 : Shape := ⟨4, ![2, 1, 768, 256]⟩
abbrev S768x256 : Shape := ⟨2, ![768, 256]⟩
abbrev S1x1x256x256 : Shape := ⟨4, ![1, 1, 256, 256]⟩
abbrev S256x256 : Shape := ⟨2, ![256, 256]⟩
abbrev S1x256 : Shape := ⟨2, ![1, 256]⟩
abbrev S1x1x768x256 : Shape := ⟨4, ![1, 1, 768, 256]⟩

abbrev nBuf : Space → Nat
  | .hbm => 65
  | .vmem => 12
  | .smem => 0
  | _ => 0

abbrev bufTy : (tb : Table) → Fin (tcTables nBuf tb) → BufTy
  | .hbm, ⟨0, _⟩ => ⟨S2x2304x1024, .f32⟩
  | .hbm, ⟨1, _⟩ => ⟨S2x16x64x64, .f32⟩
  | .hbm, ⟨2, _⟩ => ⟨S2x16x64x64, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x4x4x64x64, .f32⟩
  | .hbm, ⟨7, _⟩ => ⟨S4x4, .i32⟩
  | .hbm, ⟨8, _⟩ => ⟨S4x4, .i32⟩
  | .hbm, ⟨9, _⟩ => ⟨S_, .i32⟩
  | .hbm, ⟨10, _⟩ => ⟨S4x4, .i32⟩
  | .hbm, ⟨11, _⟩ => ⟨S4x4, .i32⟩
  | .hbm, ⟨12, _⟩ => ⟨S4x4, .i1⟩
  | .hbm, ⟨13, _⟩ => ⟨S4x4, .f32⟩
  | .hbm, ⟨14, _⟩ => ⟨S2x4x4x64x1x64, .f32⟩
  | .hbm, ⟨15, _⟩ => ⟨S4x1x4x1, .f32⟩
  | .hbm, ⟨16, _⟩ => ⟨S1x1x4x1x4x1, .f32⟩
  | .hbm, ⟨17, _⟩ => ⟨S2x4x4x64x4x64, .f32⟩
  | .hbm, ⟨18, _⟩ => ⟨S2x4x4x64x4x64, .f32⟩
  | .hbm, ⟨19, _⟩ => ⟨S2x4x4x64x4x64, .f32⟩
  | .hbm, ⟨20, _⟩ => ⟨S2x4x256x256, .f32⟩
  | .hbm, ⟨21, _⟩ => ⟨S2x4x4x64x64, .f32⟩
  | .hbm, ⟨22, _⟩ => ⟨S4x4, .i32⟩
  | .hbm, ⟨23, _⟩ => ⟨S4x4, .i32⟩
  | .hbm, ⟨24, _⟩ => ⟨S_, .i32⟩
  | .hbm, ⟨25, _⟩ => ⟨S4x4, .i32⟩
  | .hbm, ⟨26, _⟩ => ⟨S4x4, .i32⟩
  | .hbm, ⟨27, _⟩ => ⟨S4x4, .i1⟩
  | .hbm, ⟨28, _⟩ => ⟨S4x4, .f32⟩
  | .hbm, ⟨29, _⟩ => ⟨S2x4x4x64x1x64, .f32⟩
  | .hbm, ⟨30, _⟩ => ⟨S4x1x4x1, .f32⟩
  | .hbm, ⟨31, _⟩ => ⟨S1x1x4x1x4x1, .f32⟩
  | .hbm, ⟨32, _⟩ => ⟨S2x4x4x64x4x64, .f32⟩
  | .hbm, ⟨33, _⟩ => ⟨S2x4x4x64x4x64, .f32⟩
  | .hbm, ⟨34, _⟩ => ⟨S2x4x4x64x4x64, .f32⟩
  | .hbm, ⟨35, _⟩ => ⟨S2x4x256x256, .f32⟩
  | .hbm, ⟨36, _⟩ => ⟨S1x4x256x256, .f32⟩
  | .hbm, ⟨37, _⟩ => ⟨S4x256x256, .f32⟩
  | .hbm, ⟨38, _⟩ => ⟨S1x4x256x256, .f32⟩
  | .hbm, ⟨39, _⟩ => ⟨S4x256x256, .f32⟩
  | .hbm, ⟨40, _⟩ => ⟨S1x4x256x256, .f32⟩
  | .hbm, ⟨41, _⟩ => ⟨S4x256x256, .f32⟩
  | .hbm, ⟨42, _⟩ => ⟨S1x4x256x256, .f32⟩
  | .hbm, ⟨43, _⟩ => ⟨S4x256x256, .f32⟩
  | .hbm, ⟨44, _⟩ => ⟨S1x4x256x256, .f32⟩
  | .hbm, ⟨45, _⟩ => ⟨S1x4x256x256, .f32⟩
  | .hbm, ⟨46, _⟩ => ⟨S1x4x256x256, .f32⟩
  | .hbm, ⟨47, _⟩ => ⟨S1x4x256x256, .f32⟩
  | .hbm, ⟨48, _⟩ => ⟨S4x4x256x256, .f32⟩
  | .hbm, ⟨49, _⟩ => ⟨S4x4x256x256, .bf16⟩
  | .hbm, ⟨50, _⟩ => ⟨S1x1024, .f32⟩
  | .hbm, ⟨51, _⟩ => ⟨S1024, .f32⟩
  | .hbm, ⟨52, _⟩ => ⟨S1x1024, .f32⟩
  | .hbm, ⟨53, _⟩ => ⟨S1024, .f32⟩
  | .hbm, ⟨54, _⟩ => ⟨S1x1024, .f32⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S4x1024, .f32⟩
  | .hbm, ⟨63, _⟩ => ⟨S2x2x2304x1024, .f32⟩
  | .hbm, ⟨64, _⟩ => ⟨S2x2x2304x1024, .f32⟩
  | .local _ .vmem, ⟨0, _⟩ => ⟨S1x768x256, .f32⟩
  | .local _ .vmem, ⟨1, _⟩ => ⟨S1x768x256, .f32⟩
  | .local _ .vmem, ⟨2, _⟩ => ⟨S4x1x256x256, .bf16⟩
  | .local _ .vmem, ⟨3, _⟩ => ⟨S4x1x256x256, .bf16⟩
  | .local _ .vmem, ⟨4, _⟩ => ⟨S4x256, .f32⟩
  | .local _ .vmem, ⟨5, _⟩ => ⟨S4x256, .f32⟩
  | .local _ .vmem, ⟨6, _⟩ => ⟨S2x256, .f32⟩
  | .local _ .vmem, ⟨7, _⟩ => ⟨S2x256, .f32⟩
  | .local _ .vmem, ⟨8, _⟩ => ⟨S2x1x768x256, .f32⟩
  | .local _ .vmem, ⟨9, _⟩ => ⟨S2x1x768x256, .f32⟩
  | .local _ .vmem, ⟨10, _⟩ => ⟨S2x1x768x256, .f32⟩
  | .local _ .vmem, ⟨11, _⟩ => ⟨S2x1x768x256, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_0 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55_0 : Ref sig .tc := ⟨.hbm, 63, rfl⟩
abbrev main_v55_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 3, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg2.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat, arg2.toNat]

abbrev stage0_0 : Fin 2 → Memref sig .tc .vmem S1x768x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4x1x256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S2x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S2x1x768x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2x1x768x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== Reference23Ideal.lean ====
abbrev S2x2304x1024 : Shape := ⟨3, ![2, 2304, 1024]⟩
abbrev S2x16x64x64 : Shape := ⟨4, ![2, 16, 64, 64]⟩
abbrev S2x1024 : Shape := ⟨2, ![2, 1024]⟩
abbrev S2x2x2304x1024 : Shape := ⟨4, ![2, 2, 2304, 1024]⟩
abbrev S2x2x2304x16x64 : Shape := ⟨5, ![2, 2, 2304, 16, 64]⟩
abbrev S2x16x64x2x2304 : Shape := ⟨5, ![2, 16, 64, 2, 2304]⟩
abbrev S2x1x1x1024 : Shape := ⟨4, ![2, 1, 1, 1024]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x16x64x64, .f32⟩
  | .hbm, ⟨2, _⟩ => ⟨S2x16x64x64, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x2x2304x1024, .f32⟩
  | .hbm, ⟨7, _⟩ => ⟨S2x2x2304x16x64, .f32⟩
  | .hbm, ⟨8, _⟩ => ⟨S2x16x64x2x2304, .f32⟩
  | .hbm, ⟨9, _⟩ => ⟨S2x2x2304x16x64, .f32⟩
  | .hbm, ⟨10, _⟩ => ⟨S2x2x2304x1024, .f32⟩
  | .hbm, ⟨11, _⟩ => ⟨S2x1x1x1024, .f32⟩
  | .hbm, ⟨12, _⟩ => ⟨S2x2x2304x1024, .f32⟩
  | .hbm, ⟨13, _⟩ => ⟨S2x2x2304x1024, .f32⟩
  | .hbm, ⟨14, _⟩ => ⟨S2x2x2304x1024, .f32⟩
  | .hbm, ⟨15, _⟩ => ⟨S2x2x2304x1024, .f32⟩
  | .hbm, ⟨16, _⟩ => ⟨S_, .f32⟩
  | .hbm, ⟨17, _⟩ => ⟨S2x2x2304x1024, .f32⟩
  | .hbm, ⟨18, _⟩ => ⟨S2x2x2304x1024, .f32⟩
  | .hbm, ⟨19, _⟩ => ⟨S_, .f32⟩
  | .hbm, ⟨20, _⟩ => ⟨S2x2x2304x1024, .f32⟩
  | .hbm, ⟨21, _⟩ => ⟨S2x2x2304x1024, .f32⟩
  | .hbm, ⟨22, _⟩ => ⟨S2x16x64x2x2304, .f32⟩
  | .hbm, ⟨23, _⟩ => ⟨S2x2x2304x16x64, .f32⟩
  | .hbm, ⟨24, _⟩ => ⟨S2x2x2304x1024, .f32⟩
  | .hbm, ⟨25, _⟩ => ⟨S2x1x1x1024, .f32⟩
  | .hbm, ⟨26, _⟩ => ⟨S2x2x2304x1024, .f32⟩
  | .hbm, ⟨27, _⟩ => ⟨S2x2x2304x1024, .f32⟩
  | .hbm, ⟨28, _⟩ => ⟨S2x2x2304x1024, .f32⟩
  | .hbm, ⟨29, _⟩ => ⟨S2x2x2304x1024, .f32⟩
  | .hbm, ⟨30, _⟩ => ⟨S_, .f32⟩
  | .hbm, ⟨31, _⟩ => ⟨S2x2x2304x1024, .f32⟩
  | .hbm, ⟨32, _⟩ => ⟨S2x2x2304x1024, .f32⟩
  | .hbm, ⟨33, _⟩ => ⟨S_, .f32⟩
  | .hbm, ⟨34, _⟩ => ⟨S2x2x2304x1024, .f32⟩
  | .hbm, ⟨35, _⟩ => ⟨S2x2x2304x1024, .f32⟩
  | .hbm, ⟨36, _⟩ => ⟨S_, .f32⟩
  | .hbm, ⟨37, _⟩ => ⟨S2x2x2304x1024, .f32⟩
  | .hbm, ⟨38, _⟩ => ⟨S2x2x2304x1024, .f32⟩
  | .hbm, ⟨39, _⟩ => ⟨S2x1024, .f32⟩
  | .hbm, ⟨40, _⟩ => ⟨S_, .f32⟩
  | .hbm, ⟨41, _⟩ => ⟨S2x1024, .f32⟩
  | .hbm, ⟨42, _⟩ => ⟨S2x1024, .f32⟩
  | .hbm, ⟨43, _⟩ => ⟨S2x1024, .f32⟩
  | .hbm, ⟨44, _⟩ => ⟨S2x1024, .f32⟩
  | .hbm, ⟨45, _⟩ => ⟨S2x1024, .i1⟩
  | .hbm, ⟨46, _⟩ => ⟨S2x1024, .f32⟩
  | .hbm, ⟨47, _⟩ => ⟨S2x1024, .f32⟩
  | .hbm, ⟨48, _⟩ => ⟨S2x1024, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S2x1024, .f32⟩
  | .hbm, ⟨53, _⟩ => ⟨S2x1024, .f32⟩
  | .hbm, ⟨54, _⟩ => ⟨S2x1x1x1024, .f32⟩
  | .hbm, ⟨55, _⟩ => ⟨S2x2x2304x1024, .f32⟩
  | .hbm, ⟨56, _⟩ => ⟨S2x2x2304x1024, .f32⟩
  | .hbm, ⟨57, _⟩ => ⟨S2x2x2304x1024, .f32⟩
  | .hbm, ⟨58, _⟩ => ⟨S_, .f32⟩
  | .hbm, ⟨59, _⟩ => ⟨S2x2x2304x1024, .f32⟩
  | .hbm, ⟨60, _⟩ => ⟨S2x2x2304x1024, .f32⟩
  | .hbm, ⟨61, _⟩ => ⟨S2x2x2304x1024, .f32⟩
  | .hbm, ⟨62, _⟩ => ⟨S2x2x2304x1024, .f32⟩
  | .hbm, ⟨63, _⟩ => ⟨S2x2x2304x1024, .f32⟩
  | .hbm, ⟨64, _⟩ => ⟨S2x2x2304x1024, .f32⟩
  | .hbm, ⟨65, _⟩ => ⟨S2x2x2304x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_cst : Ref sig .tc := ⟨.hbm, 40, rfl⟩
abbrev main_call0_v0 : Ref sig .tc := ⟨.hbm, 41, rfl⟩
abbrev main_call0_v1 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_v5 : Ref sig .tc := ⟨.hbm, 46, rfl⟩
abbrev main_call0_v6 : Ref sig .tc := ⟨.hbm, 47, rfl⟩
abbrev main_call0_v7 : Ref sig .tc := ⟨.hbm, 48, rfl⟩
abbrev main_call0_v8 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_4 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel24.lean ====
abbrev S1x1024x1024 : Shape := ⟨3, ![1, 1024, 1024]⟩
abbrev S4x1024x1024 : Shape := ⟨3, ![4, 1024, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S4x1024x1024, .bf16⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel24Ideal.lean ====
abbrev S1x1024x1024 : Shape := ⟨3, ![1, 1024, 1024]⟩
abbrev S4x1024x1024 : Shape := ⟨3, ![4, 1024, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S4x1024x1024, .bf16⟩
  | .hbm, ⟨4, _⟩ => ⟨S1x1024x1024, .f32⟩
  | .hbm, ⟨5, _⟩ => ⟨S1x1024x1024, .f32⟩
  | .hbm, ⟨6, _⟩ => ⟨S1x1024x1024, .f32⟩
  | .hbm, ⟨7, _⟩ => ⟨S1x1024x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S1x1024x1024 : Shape := ⟨3, ![1, 1024, 1024]⟩
abbrev S4x1024x1024 : Shape := ⟨3, ![4, 1024, 1024]⟩
abbrev S_ : Shape := ⟨0, ![]⟩
abbrev S1024x1024 : Shape := ⟨2, ![1024, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x1024x1024, .f32⟩
  | .hbm, ⟨1, _⟩ => ⟨S1x1024x1024, .f32⟩
  | .hbm, ⟨2, _⟩ => ⟨S1x1024x1024, .f32⟩
  | .hbm, ⟨3, _⟩ => ⟨S4x1024x1024, .bf16⟩
  | .hbm, ⟨4, _⟩ => ⟨S4x1024x1024, .f32⟩
  | .hbm, ⟨5, _⟩ => ⟨S_, .f32⟩
  | .hbm, ⟨6, _⟩ => ⟨S1024x1024, .f32⟩
  | .hbm, ⟨7, _⟩ => ⟨S1x1024x1024, .f32⟩
  | .hbm, ⟨8, _⟩ => ⟨S_, .f32⟩
  | .hbm, ⟨9, _⟩ => ⟨S1x1024x1024, .f32⟩
  | .hbm, ⟨10, _⟩ => ⟨S1x1024x1024, .f32⟩
  | .hbm, ⟨11, _⟩ => ⟨S_, .f32⟩
  | .hbm, ⟨12, _⟩ => ⟨S1x1024x1024, .f32⟩
  | .hbm, ⟨13, _⟩ => ⟨S1x1024x1024, .f32⟩
  | .hbm, ⟨14, _⟩ => ⟨S1x1024x1024, .f32⟩
  | .hbm, ⟨15, _⟩ => ⟨S_, .f32⟩
  | .hbm, ⟨16, _⟩ => ⟨S1x1024x1024, .f32⟩
  | .hbm, ⟨17, _⟩ => ⟨S1x1024x1024, .f32⟩
  | .hbm, ⟨18, _⟩ => ⟨S1x1024x1024, .f32⟩
  | .hbm, ⟨19, _⟩ => ⟨S_, .f32⟩
  | .hbm, ⟨20, _⟩ => ⟨S1x1024x1024, .f32⟩
  | .hbm, ⟨21, _⟩ => ⟨S1x1024x1024, .f32⟩
  | .hbm, ⟨22, _⟩ => ⟨S1x1024x1024, .f32⟩
  | .hbm, ⟨23, _⟩ => ⟨S_, .f32⟩
  | .hbm, ⟨24, _⟩ => ⟨S1x1024x1024, .f32⟩
  | .hbm, ⟨25, _⟩ => ⟨S1x1024x1024, .f32⟩
  | .hbm, ⟨26, _⟩ => ⟨S_, .f32⟩
  | .hbm, ⟨27, _⟩ => ⟨S1x1024x1024, .f32⟩
  | .hbm, ⟨28, _⟩ => ⟨S1x1024x1024, .f32⟩
  | .hbm, ⟨29, _⟩ => ⟨S1x1024x1024, .f32⟩
  | .hbm, ⟨30, _⟩ => ⟨S_, .f32⟩
  | .hbm, ⟨31, _⟩ => ⟨S1x1024x1024, .f32⟩
  | .hbm, ⟨32, _⟩ => ⟨S1x1024x1024, .f32⟩
  | .hbm, ⟨33, _⟩ => ⟨S1x1024x1024, .f32⟩
  | .hbm, ⟨34, _⟩ => ⟨S_, .f32⟩
  | .hbm, ⟨35, _⟩ => ⟨S1x1024x1024, .f32⟩
  | .hbm, ⟨36, _⟩ => ⟨S1x1024x1024, .f32⟩
  | .hbm, ⟨37, _⟩ => ⟨S1x1024x1024, .f32⟩
  | .hbm, ⟨38, _⟩ => ⟨S_, .f32⟩
  | .hbm, ⟨39, _⟩ => ⟨S1x1024x1024, .f32⟩
  | .hbm, ⟨40, _⟩ => ⟨S1x1024x1024, .f32⟩
  | _, _ => ⟨S1x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel25.lean ====
abbrev S1x512x1024 : Shape := ⟨3, ![1, 512, 1024]⟩
abbrev S4x512x1024 : Shape := ⟨3, ![4, 512, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S4x512x1024, .bf16⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel25Ideal.lean ====
abbrev S1x512x1024 : Shape := ⟨3, ![1, 512, 1024]⟩
abbrev S4x512x1024 : Shape := ⟨3, ![4, 512, 1024]⟩
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 8
  | .vmem => 16
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S4x512x1024, .bf16⟩
  | .hbm, ⟨4, _⟩ => ⟨S1x512x1024, .f32⟩
  | .hbm, ⟨5, _⟩ => ⟨S1x512x1024, .f32⟩
  | .hbm, ⟨6, _⟩ => ⟨S1x512x1024, .f32⟩
  | .hbm, ⟨7, _⟩ => ⟨S1x512x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S4x128x1024, .bf16⟩
  | .local _ .vmem, ⟨7, _⟩ => ⟨S4x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1x512x1024 : Shape := ⟨3, ![1, 512, 1024]⟩
abbrev S4x512x1024 : Shape := ⟨3, ![4, 512, 1024]⟩
abbrev S_ : Shape := ⟨0, ![]⟩
abbrev S512x1024 : Shape := ⟨2, ![512, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x512x1024, .f32⟩
  | .hbm, ⟨1, _⟩ => ⟨S1x512x1024, .f32⟩
  | .hbm, ⟨2, _⟩ => ⟨S1x512x1024, .f32⟩
  | .hbm, ⟨3, _⟩ => ⟨S4x512x1024, .bf16⟩
  | .hbm, ⟨4, _⟩ => ⟨S4x512x1024, .f32⟩
  | .hbm, ⟨5, _⟩ => ⟨S_, .f32⟩
  | .hbm, ⟨6, _⟩ => ⟨S512x1024, .f32⟩
  | .hbm, ⟨7, _⟩ => ⟨S1x512x1024, .f32⟩
  | .hbm, ⟨8, _⟩ => ⟨S_, .f32⟩
  | .hbm, ⟨9, _⟩ => ⟨S1x512x1024, .f32⟩
  | .hbm, ⟨10, _⟩ => ⟨S1x512x1024, .f32⟩
  | .hbm, ⟨11, _⟩ => ⟨S_, .f32⟩
  | .hbm, ⟨12, _⟩ => ⟨S1x512x1024, .f32⟩
  | .hbm, ⟨13, _⟩ => ⟨S1x512x1024, .f32⟩
  | .hbm, ⟨14, _⟩ => ⟨S1x512x1024, .f32⟩
  | .hbm, ⟨15, _⟩ => ⟨S_, .f32⟩
  | .hbm, ⟨16, _⟩ => ⟨S1x512x1024, .f32⟩
  | .hbm, ⟨17, _⟩ => ⟨S1x512x1024, .f32⟩
  | .hbm, ⟨18, _⟩ => ⟨S1x512x1024, .f32⟩
  | .hbm, ⟨19, _⟩ => ⟨S_, .f32⟩
  | .hbm, ⟨20, _⟩ => ⟨S1x512x1024, .f32⟩
  | .hbm, ⟨21, _⟩ => ⟨S1x512x1024, .f32⟩
  | .hbm, ⟨22, _⟩ => ⟨S1x512x1024, .f32⟩
  | .hbm, ⟨23, _⟩ => ⟨S_, .f32⟩
  | .hbm, ⟨24, _⟩ => ⟨S1x512x1024, .f32⟩
  | .hbm, ⟨25, _⟩ => ⟨S1x512x1024, .f32⟩
  | .hbm, ⟨26, _⟩ => ⟨S_, .f32⟩
  | .hbm, ⟨27, _⟩ => ⟨S1x512x1024, .f32⟩
  | .hbm, ⟨28, _⟩ => ⟨S1x512x1024, .f32⟩
  | .hbm, ⟨29, _⟩ => ⟨S1x512x1024, .f32⟩
  | .hbm, ⟨30, _⟩ => ⟨S_, .f32⟩
  | .hbm, ⟨31, _⟩ => ⟨S1x512x1024, .f32⟩
  | .hbm, ⟨32, _⟩ => ⟨S1x512x1024, .f32⟩
  | .hbm, ⟨33, _⟩ => ⟨S1x512x1024, .f32⟩
  | .hbm, ⟨34, _⟩ => ⟨S_, .f32⟩
  | .hbm, ⟨35, _⟩ => ⟨S1x512x1024, .f32⟩
  | .hbm, ⟨36, _⟩ => ⟨S1x512x1024, .f32⟩
  | .hbm, ⟨37, _⟩ => ⟨S1x512x1024, .f32⟩
  | .hbm, ⟨38, _⟩ => ⟨S_, .f32⟩
  | .hbm, ⟨39, _⟩ => ⟨S1x512x1024, .f32⟩
  | .hbm, ⟨40, _⟩ => ⟨S1x512x1024, .f32⟩
  | _, _ => ⟨S1x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel26.lean ====
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x128x1024, .bf16⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Kernel26Ideal.lean ====
abbrev S1x128x1024 : Shape := ⟨3, ![1, 128, 1024]⟩
abbrev S4x128x1024 : Shape := ⟨3, ![4, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x128x1024, .bf16⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S4x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S1x128x1024 : Shape := ⟨3, ![1, 128, 1024]⟩
abbrev S4x128x1024 : Shape := ⟨3, ![4, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1x128x1024, .f32⟩
  | .hbm, ⟨2, _⟩ => ⟨S1x128x1024, .f32⟩
  | .hbm, ⟨3, _⟩ => ⟨S4x128x1024, .bf16⟩
  | .hbm, ⟨4, _⟩ => ⟨S4x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel27.lean ====
abbrev S1x1024x1028 : Shape := ⟨3, ![1, 1024, 1028]⟩
abbrev S4x1028x1024 : Shape := ⟨3, ![4, 1028, 1024]⟩
abbrev S4x1024x1028 : Shape := ⟨3, ![4, 1024, 1028]⟩
abbrev S1x64x1028 : Shape := ⟨3, ![1, 64, 1028]⟩
abbrev S4x64x1028 : Shape := ⟨3, ![4, 64, 1028]⟩
abbrev S64x1028 : Shape := ⟨2, ![64, 1028]⟩

abbrev nBuf : Space → Nat
  | .hbm => 9
  | .vmem => 16
  | .smem => 0
  | _ => 0

abbrev bufTy : (tb : Table) → Fin (tcTables nBuf tb) → BufTy
  | .hbm, ⟨0, _⟩ => ⟨S1x1024x1028, .f32⟩
  | .hbm, ⟨1, _⟩ => ⟨S1x1024x1028, .f32⟩
  | .hbm, ⟨2, _⟩ => ⟨S1x1024x1028, .f32⟩
  | .hbm, ⟨3, _⟩ => ⟨S4x1028x1024, .bf16⟩
  | .hbm, ⟨4, _⟩ => ⟨S4x1024x1028, .bf16⟩
  | .hbm, ⟨5, _⟩ => ⟨S1x1024x1028, .f32⟩
  | .hbm, ⟨6, _⟩ => ⟨S1x1024x1028, .f32⟩
  | .hbm, ⟨7, _⟩ => ⟨S1x1024x1028, .f32⟩
  | .hbm, ⟨8, _⟩ => ⟨S1x1024x1028, .f32⟩
  | .local _ .vmem, ⟨0, _⟩ => ⟨S1x64x1028, .f32⟩
  | .local _ .vmem, ⟨1, _⟩ => ⟨S1x64x1028, .f32⟩
  | .local _ .vmem, ⟨2, _⟩ => ⟨S1x64x1028, .f32⟩
  | .local _ .vmem, ⟨3, _⟩ => ⟨S1x64x1028, .f32⟩
  | .local _ .vmem, ⟨4, _⟩ => ⟨S1x64x1028, .f32⟩
  | .local _ .vmem, ⟨5, _⟩ => ⟨S1x64x1028, .f32⟩
  | .local _ .vmem, ⟨6, _⟩ => ⟨S4x64x1028, .bf16⟩
  | .local _ .vmem, ⟨7, _⟩ => ⟨S4x64x1028, .bf16⟩
  | .local _ .vmem, ⟨8, _⟩ => ⟨S1x64x1028, .f32⟩
  | .local _ .vmem, ⟨9, _⟩ => ⟨S1x64x1028, .f32⟩
  | .local _ .vmem, ⟨10, _⟩ => ⟨S1x64x1028, .f32⟩
  | .local _ .vmem, ⟨11, _⟩ => ⟨S1x64x1028, .f32⟩
  | .local _ .vmem, ⟨12, _⟩ => ⟨S1x64x1028, .f32⟩
  | .local _ .vmem, ⟨13, _⟩ => ⟨S1x64x1028, .f32⟩
  | .local _ .vmem, ⟨14, _⟩ => ⟨S1x64x1028, .f32⟩
  | .local _ .vmem, ⟨15, _⟩ => ⟨S1x64x1028, .f32⟩
  | _, _ => ⟨S1x1024x1028, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x1028 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x1028 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1028 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x64x1028 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1028 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1028 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1028 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1028 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference27Ideal.lean ====
abbrev S1x1024x1028 : Shape := ⟨3, ![1, 1024, 1028]⟩
abbrev S4x1028x1024 : Shape := ⟨3, ![4, 1028, 1024]⟩
abbrev S4x1024x1028 : Shape := ⟨3, ![4, 1024, 1028]⟩
abbrev S_ : Shape := ⟨0, ![]⟩
abbrev S1024x1028 : Shape := ⟨2, ![1024, 1028]⟩

abbrev nBuf : Space → Nat
  | .hbm => 42
  | .vmem => 0
  | .smem => 0
  | _ => 0

abbrev bufTy : (tb : Table) → Fin (tcTables nBuf tb) → BufTy
  | .hbm, ⟨0, _⟩ => ⟨S1x1024x1028, .f32⟩
  | .hbm, ⟨1, _⟩ => ⟨S1x1024x1028, .f32⟩
  | .hbm, ⟨2, _⟩ => ⟨S1x1024x1028, .f32⟩
  | .hbm, ⟨3, _⟩ => ⟨S4x1028x1024, .bf16⟩
  | .hbm, ⟨4, _⟩ => ⟨S4x1024x1028, .bf16⟩
  | .hbm, ⟨5, _⟩ => ⟨S4x1024x1028, .f32⟩
  | .hbm, ⟨6, _⟩ => ⟨S_, .f32⟩
  | .hbm, ⟨7, _⟩ => ⟨S1024x1028, .f32⟩
  | .hbm, ⟨8, _⟩ => ⟨S1x1024x1028, .f32⟩
  | .hbm, ⟨9, _⟩ => ⟨S_, .f32⟩
  | .hbm, ⟨10, _⟩ => ⟨S1x1024x1028, .f32⟩
  | .hbm, ⟨11, _⟩ => ⟨S1x1024x1028, .f32⟩
  | .hbm, ⟨12, _⟩ => ⟨S_, .f32⟩
  | .hbm, ⟨13, _⟩ => ⟨S1x1024x1028, .f32⟩
  | .hbm, ⟨14, _⟩ => ⟨S1x1024x1028, .f32⟩
  | .hbm, ⟨15, _⟩ => ⟨S1x1024x1028, .f32⟩
  | .hbm, ⟨16, _⟩ => ⟨S_, .f32⟩
  | .hbm, ⟨17, _⟩ => ⟨S1x1024x1028, .f32⟩
  | .hbm, ⟨18, _⟩ => ⟨S1x1024x1028, .f32⟩
  | .hbm, ⟨19, _⟩ => ⟨S1x1024x1028, .f32⟩
  | .hbm, ⟨20, _⟩ => ⟨S_, .f32⟩
  | .hbm, ⟨21, _⟩ => ⟨S1x1024x1028, .f32⟩
  | .hbm, ⟨22, _⟩ => ⟨S1x1024x1028, .f32⟩
  | .hbm, ⟨23, _⟩ => ⟨S1x1024x1028, .f32⟩
  | .hbm, ⟨24, _⟩ => ⟨S_, .f32⟩
  | .hbm, ⟨25, _⟩ => ⟨S1x1024x1028, .f32⟩
  | .hbm, ⟨26, _⟩ => ⟨S1x1024x1028, .f32⟩
  | .hbm, ⟨27, _⟩ => ⟨S_, .f32⟩
  | .hbm, ⟨28, _⟩ => ⟨S1x1024x1028, .f32⟩
  | .hbm, ⟨29, _⟩ => ⟨S1x1024x1028, .f32⟩
  | .hbm, ⟨30, _⟩ => ⟨S1x1024x1028, .f32⟩
  | .hbm, ⟨31, _⟩ => ⟨S_, .f32⟩
  | .hbm, ⟨32, _⟩ => ⟨S1x1024x1028, .f32⟩
  | .hbm, ⟨33, _⟩ => ⟨S1x1024x1028, .f32⟩
  | .hbm, ⟨34, _⟩ => ⟨S1x1024x1028, .f32⟩
  | .hbm, ⟨35, _⟩ => ⟨S_, .f32⟩
  | .hbm, ⟨36, _⟩ => ⟨S1x1024x1028, .f32⟩
  | .hbm, ⟨37, _⟩ => ⟨S1x1024x1028, .f32⟩
  | .hbm, ⟨38, _⟩ => ⟨S1x1024x1028, .f32⟩
  | .hbm, ⟨39, _⟩ => ⟨S_, .f32⟩
  | .hbm, ⟨40, _⟩ => ⟨S1x1024x1028, .f32⟩
  | .hbm, ⟨41, _⟩ => ⟨S1x1024x1028, .f32⟩
  | _, _ => ⟨S1x1024x1028, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_8 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]
-- ==== Kernel28.lean ====
abbrev S1x1024x768 : Shape := ⟨3, ![1, 1024, 768]⟩
abbrev S1x128x768 : Shape := ⟨3, ![1, 128, 768]⟩
abbrev S128x768 : Shape := ⟨2, ![128, 768]⟩

abbrev nBuf : Space → Nat
  | .hbm => 8
  | .vmem => 16
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S1x1024x768, .f32⟩
  | .hbm, ⟨5, _⟩ => ⟨S1x1024x768, .f32⟩
  | .hbm, ⟨6, _⟩ => ⟨S1x1024x768, .f32⟩
  | .hbm, ⟨7, _⟩ => ⟨S1x1024x768, .f32⟩
  | .local _ .vmem, ⟨0, _⟩ => ⟨S1x128x768, .f32⟩
  | .local _ .vmem, ⟨1, _⟩ => ⟨S1x128x768, .f32⟩
  | .local _ .vmem, ⟨2, _⟩ => ⟨S1x128x768, .f32⟩
  | .local _ .vmem, ⟨3, _⟩ => ⟨S1x128x768, .f32⟩
  | .local _ .vmem, ⟨4, _⟩ => ⟨S1x128x768, .f32⟩
  | .local _ .vmem, ⟨5, _⟩ => ⟨S1x128x768, .f32⟩
  | .local _ .vmem, ⟨6, _⟩ => ⟨S1x128x768, .f32⟩
  | .local _ .vmem, ⟨7, _⟩ => ⟨S1x128x768, .f32⟩
  | .local _ .vmem, ⟨8, _⟩ => ⟨S1x128x768, .f32⟩
  | .local _ .vmem, ⟨9, _⟩ => ⟨S1x128x768, .f32⟩
  | .local _ .vmem, ⟨10, _⟩ => ⟨S1x128x768, .f32⟩
  | .local _ .vmem, ⟨11, _⟩ => ⟨S1x128x768, .f32⟩
  | .local _ .vmem, ⟨12, _⟩ => ⟨S1x128x768, .f32⟩
  | .local _ .vmem, ⟨13, _⟩ => ⟨S1x128x768, .f32⟩
  | .local _ .vmem, ⟨14, _⟩ => ⟨S1x128x768, .f32⟩
  | .local _ .vmem, ⟨15, _⟩ => ⟨S1x128x768, .f32⟩
  | _, _ => ⟨S1x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference28Ideal.lean ====
abbrev S1x1024x768 : Shape := ⟨3, ![1, 1024, 768]⟩
abbrev S_ : Shape := ⟨0, ![]⟩
abbrev S1024x768 : Shape := ⟨2, ![1024, 768]⟩

abbrev nBuf : Space → Nat
  | .hbm => 40
  | .vmem => 0
  | .smem => 0
  | _ => 0

abbrev bufTy : (tb : Table) → Fin (tcTables nBuf tb) → BufTy
  | .hbm, ⟨0, _⟩ => ⟨S1x1024x768, .f32⟩
  | .hbm, ⟨1, _⟩ => ⟨S1x1024x768, .f32⟩
  | .hbm, ⟨2, _⟩ => ⟨S1x1024x768, .f32⟩
  | .hbm, ⟨3, _⟩ => ⟨S1x1024x768, .f32⟩
  | .hbm, ⟨4, _⟩ => ⟨S_, .f32⟩
  | .hbm, ⟨5, _⟩ => ⟨S1024x768, .f32⟩
  | .hbm, ⟨6, _⟩ => ⟨S1x1024x768, .f32⟩
  | .hbm, ⟨7, _⟩ => ⟨S_, .f32⟩
  | .hbm, ⟨8, _⟩ => ⟨S1x1024x768, .f32⟩
  | .hbm, ⟨9, _⟩ => ⟨S1x1024x768, .f32⟩
  | .hbm, ⟨10, _⟩ => ⟨S_, .f32⟩
  | .hbm, ⟨11, _⟩ => ⟨S1x1024x768, .f32⟩
  | .hbm, ⟨12, _⟩ => ⟨S1x1024x768, .f32⟩
  | .hbm, ⟨13, _⟩ => ⟨S1x1024x768, .f32⟩
  | .hbm, ⟨14, _⟩ => ⟨S_, .f32⟩
  | .hbm, ⟨15, _⟩ => ⟨S1x1024x768, .f32⟩
  | .hbm, ⟨16, _⟩ => ⟨S1x1024x768, .f32⟩
  | .hbm, ⟨17, _⟩ => ⟨S1x1024x768, .f32⟩
  | .hbm, ⟨18, _⟩ => ⟨S_, .f32⟩
  | .hbm, ⟨19, _⟩ => ⟨S1x1024x768, .f32⟩
  | .hbm, ⟨20, _⟩ => ⟨S1x1024x768, .f32⟩
  | .hbm, ⟨21, _⟩ => ⟨S1x1024x768, .f32⟩
  | .hbm, ⟨22, _⟩ => ⟨S_, .f32⟩
  | .hbm, ⟨23, _⟩ => ⟨S1x1024x768, .f32⟩
  | .hbm, ⟨24, _⟩ => ⟨S1x1024x768, .f32⟩
  | .hbm, ⟨25, _⟩ => ⟨S_, .f32⟩
  | .hbm, ⟨26, _⟩ => ⟨S1x1024x768, .f32⟩
  | .hbm, ⟨27, _⟩ => ⟨S1x1024x768, .f32⟩
  | .hbm, ⟨28, _⟩ => ⟨S1x1024x768, .f32⟩
  | .hbm, ⟨29, _⟩ => ⟨S_, .f32⟩
  | .hbm, ⟨30, _⟩ => ⟨S1x1024x768, .f32⟩
  | .hbm, ⟨31, _⟩ => ⟨S1x1024x768, .f32⟩
  | .hbm, ⟨32, _⟩ => ⟨S1x1024x768, .f32⟩
  | .hbm, ⟨33, _⟩ => ⟨S_, .f32⟩
  | .hbm, ⟨34, _⟩ => ⟨S1x1024x768, .f32⟩
  | .hbm, ⟨35, _⟩ => ⟨S1x1024x768, .f32⟩
  | .hbm, ⟨36, _⟩ => ⟨S1x1024x768, .f32⟩
  | .hbm, ⟨37, _⟩ => ⟨S_, .f32⟩
  | .hbm, ⟨38, _⟩ => ⟨S1x1024x768, .f32⟩
  | .hbm, ⟨39, _⟩ => ⟨S1x1024x768, .f32⟩
  | _, _ => ⟨S1x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Proof.Split.lean ====
module

public import Idealize.ShloMosaic.PureOps.Ideal

/-! The two digits of a position on an axis of `a * b` positions. -/

@[expose] public section

namespace Cert.Products

/-- Which of the `a` groups of `b` positions `i` lies in. -/
abbrev hi {n : ℕ} (a b : ℕ) (h : n = a * b) (i : Fin n) : Fin a :=
  ⟨i.val / b, Nat.div_lt_of_lt_mul (by have := i.isLt; rw [Nat.mul_comm]; omega)⟩

/-- Where in its group of `b` positions `i` lies. -/
abbrev lo {n : ℕ} (a b : ℕ) (h : n = a * b) (i : Fin n) : Fin b :=
  ⟨i.val % b, Nat.mod_lt _ (Nat.pos_of_ne_zero fun hb => by have := i.isLt; subst hb; omega)⟩

/-- The position with the given two digits. -/
abbrev pair {n : ℕ} (a b : ℕ) (h : n = a * b) (i : Fin a) (j : Fin b) : Fin n :=
  ⟨i.val * b + j.val, by
    have h1 : (i.val + 1) * b ≤ a * b := Nat.mul_le_mul_right b i.isLt
    have := j.isLt
    rw [Nat.add_mul, Nat.one_mul] at h1
    omega⟩

end Cert.Products
-- ==== Proof.InDwQkv.lean ====
module

public import proofs.«01_k».proof.Defs
public import proofs.«01_k».proof.Proof.Split
public import proofs.«01_k».proof.Proof.Gen.Kernel6Ideal.Value
public import proofs.«01_k».proof.Proof.Gen.Reference6Ideal.Run
public import Idealize.ShloMosaic.Lib.Pipeline.ValueKit
public import Idealize.ShloMosaic.Lib.Pipeline.ReadBack

/-! The gradient of a part of the input projection in its weights, 3072 columns: a sum over the rows, six blocks of them added one after another. -/

@[expose] public section

set_option maxRecDepth 16384

noncomputable section

namespace Cert.Products.InDwQkv

open Cert.Kernel6Ideal Cert.Kernel6Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S768x1024 .bf16) (y : Vec Ideal S768x1024 .bf16) (j : S1024x1024.Idx) :
    k0_pay2 acc x y j = acc j + ∑ k : Fin 768, x (ix2 k (j 0)) * y (ix2 k (j 1)) := by
  unfold k0_pay2
  pointwise

theorem zero (j : S1024x1024.Idx) : k0_pay1 (F := Ideal) j = 0 := by
  unfold k0_pay1
  pointwise

theorem idx : ∀ t : Fin cfg0.N, win0_0.index t 0 = t.val % 6 ∧ win0_0.index t 1 = t.val / 6 ∧ win0_1.index t 0 = t.val % 6
    ∧ win0_1.index t 1 = 0 ∧ win0_2.index t 0 = t.val / 6 ∧ win0_2.index t 1 = 0 :=
  (by decide +kernel : ∀ t : Fin grid0.N, _)

theorem blkA (c : Dev nD) (t : Fin cfg0.N) (i : S768x1024.Idx) (j : S4608x3072.Idx) (h0 : (j 0).val = t.val % 6 * 768 + (i 0).val)
    (h1 : (j 1).val = t.val / 6 * 1024 + (i 1).val) : iblk m c 0 t i = V m c main_v0 j := by
  blk_ext [iblk, idx t]

theorem blkB (c : Dev nD) (t : Fin cfg0.N) (i : S768x1024.Idx) (j : S4608x1024.Idx) (h0 : (j 0).val = t.val % 6 * 768 + (i 0).val)
    (h1 : (j 1).val = (i 1).val) : iblk m c 1 t i = V m c main_v1 j := by
  blk_ext [iblk, idx t]

/-- The product of the two arrays the region reads. -/
def G (X : S4608x3072.Idx → EReal) (Y : S4608x1024.Idx → EReal) (i : S3072x1024.Idx) : EReal :=
  ∑ l : Fin 4608, X (ix2 l (i 0)) * Y (ix2 l (i 1))

theorem arr (c : Dev nD) : (dats m 0 c).arrAt 2 cfg0.N = G (V m c main_v0) (V m c main_v1) := by
  refine (dats m 0 c).arrAt_eq_of_covers 2 _ (by decide +kernel) fun t hf y => ?_
  blk_simp
  have ht := (flush0_2 t).mp hf
  rw [after0_2, show (outsAt0 m c t.val t.isLt).1 = k0_pay3 (outsAt0 m c t.val t.isLt).2 from by
      rw [outsAt0_C m c t (by omega) ht]; frame_out]
  rw [show k0_pay3 (outsAt0 m c t.val t.isLt).2 y = (outsAt0 m c t.val t.isLt).2 y from by unfold k0_pay3; pointwise]
  rw [Pipeline.eq_sum_fin_of_reset_step_apply_of_flush (fun n h => (outsAt0 m c n h).2) 6 (fun _ => 0) _
    (fun t h j => by rw [outsAt0_A m c t h (by omega)]; frame_out; rw [pay, zero])
    (fun t h j => by
      by_cases h1 : t.val % 6 = 5
      · rw [outsAt0_C m c t h h1]; frame_out; simp only [read_unread_whole]; rw [pay]
      · rw [outsAt0_B m c t h h1]; frame_out; simp only [read_unread_whole]; rw [pay]) t ht y, zero_add]
  have e := idx t
  have e0 : ((win0_2.blk t).view.emb y 0).val = t.val / 6 * 1024 + (y 0).val := by blk_simp [e]
  have e1 : ((win0_2.blk t).view.emb y 1).val = (y 1).val := by blk_simp [e]
  refine Fin.sum_mul_add_congr fun s k hl => congrArg₂ (· * ·) (blkA m c _ _ _ ?_ (e0.trans ?_)) (blkB m c _ _ _ ?_ e1)
  · show s.val * 768 + k.val = (6 * (t.val / 6) + s.val) % 6 * 768 + k.val
    omega
  · show _ = (6 * (t.val / 6) + s.val) / 6 * 1024 + (y 0).val
    omega
  · show s.val * 768 + k.val = (6 * (t.val / 6) + s.val) % 6 * 768 + k.val
    omega

/-- The gradient of `u @ w` in `w`, transposed. -/
def grad (U : S2x2304x1024.Idx → EReal) (D : S2x2304x3072.Idx → EReal) (i : S3072x1024.Idx) : EReal :=
  ∑ b : Fin 2, ∑ n : Fin 2304, D (ix3 b n (i 0)) * U (ix3 b n (i 1))

theorem entry (c : Dev nD) : G (V m c main_v0) (V m c main_v1) = grad (m ((c : Thread nD τ).loc main_arg0)) (m ((c : Thread nD τ).loc main_arg2)) := by
  funext i
  refine (Fin.sum_mul_add_congr fun b n hl => congrArg₂ (· * ·) ?_ ?_).symm
  · entry_read
    pointwise
  · entry_read
    pointwise

theorem values : algebraic_Kernel6Ideal_Reference6Ideal := by
  intro m g m' g' _ hagree
  refine ⟨fun c => grad (m ((c : Thread nD τ).loc main_arg0)) (m ((c : Thread nD τ).loc main_arg2)),
    (θ_run _ _ _).mono (fun r h c => ⟨(h c).1.trans ((arr m c).trans (entry m c)), (h c).2⟩) (Kernel6Ideal.Value.run_blocks m g),
    (θ_run _ _ _).mono (fun r h c => ⟨(h c).1.trans (funext fun i => ?_), (h c).2⟩) (Reference6Ideal.Value.run m' g')⟩
  refine Eq.trans ?_ (congrFun (congrArg₂ grad (hagree c).1 (hagree c).2.2) i)
  unfold grad
  pointwise

end Cert.Products.InDwQkv

end
-- ==== Proof.InDwMg.lean ====
module

public import proofs.«01_k».proof.Defs
public import proofs.«01_k».proof.Proof.Split
public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack

/-! The gradient of a part of the input projection in its weights, 2048 columns: a sum over the rows, six blocks of them added one after another. -/

@[expose] public section

set_option maxRecDepth 16384

noncomputable section

namespace Cert.Products.InDwMg

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S768x1024 .bf16) (y : Vec Ideal S768x1024 .bf16) (j : S1024x1024.Idx) :
    k0_pay2 acc x y j = acc j + ∑ k : Fin 768, x (ix2 k (j 0)) * y (ix2 k (j 1)) := by
  unfold k0_pay2
  pointwise

theorem zero (j : S1024x1024.Idx) : k0_pay1 (F := Ideal) j = 0 := by
  unfold k0_pay1
  pointwise

theorem idx : ∀ t : Fin cfg0.N, win0_0.index t 0 = t.val % 6 ∧ win0_0.index t 1 = t.val / 6 ∧ win0_1.index t 0 = t.val % 6
    ∧ win0_1.index t 1 = 0 ∧ win0_2.index t 0 = t.val / 6 ∧ win0_2.index t 1 = 0 :=
  (by decide +kernel : ∀ t : Fin grid0.N, _)

theorem blkA (c : Dev nD) (t : Fin cfg0.N) (i : S768x1024.Idx) (j : S4608x2048.Idx) (h0 : (j 0).val = t.val % 6 * 768 + (i 0).val)
    (h1 : (j 1).val = t.val / 6 * 1024 + (i 1).val) : iblk m c 0 t i = V m c main_v0 j := by
  blk_ext [iblk, idx t]

theorem blkB (c : Dev nD) (t : Fin cfg0.N) (i : S768x1024.Idx) (j : S4608x1024.Idx) (h0 : (j 0).val = t.val % 6 * 768 + (i 0).val)
    (h1 : (j 1).val = (i 1).val) : iblk m c 1 t i = V m c main_v1 j := by
  blk_ext [iblk, idx t]

/-- The product of the two arrays the region reads. -/
def G (X : S4608x2048.Idx → EReal) (Y : S4608x1024.Idx → EReal) (i : S2048x1024.Idx) : EReal :=
  ∑ l : Fin 4608, X (ix2 l (i 0)) * Y (ix2 l (i 1))

theorem arr (c : Dev nD) : (dats m 0 c).arrAt 2 cfg0.N = G (V m c main_v0) (V m c main_v1) := by
  refine (dats m 0 c).arrAt_eq_of_covers 2 _ (by decide +kernel) fun t hf y => ?_
  blk_simp
  have ht := (flush0_2 t).mp hf
  rw [after0_2, show (outsAt0 m c t.val t.isLt).1 = k0_pay3 (outsAt0 m c t.val t.isLt).2 from by
      rw [outsAt0_C m c t (by omega) ht]; frame_out]
  rw [show k0_pay3 (outsAt0 m c t.val t.isLt).2 y = (outsAt0 m c t.val t.isLt).2 y from by unfold k0_pay3; pointwise]
  rw [Pipeline.eq_sum_fin_of_reset_step_apply_of_flush (fun n h => (outsAt0 m c n h).2) 6 (fun _ => 0) _
    (fun t h j => by rw [outsAt0_A m c t h (by omega)]; frame_out; rw [pay, zero])
    (fun t h j => by
      by_cases h1 : t.val % 6 = 5
      · rw [outsAt0_C m c t h h1]; frame_out; simp only [read_unread_whole]; rw [pay]
      · rw [outsAt0_B m c t h h1]; frame_out; simp only [read_unread_whole]; rw [pay]) t ht y, zero_add]
  have e := idx t
  have e0 : ((win0_2.blk t).view.emb y 0).val = t.val / 6 * 1024 + (y 0).val := by blk_simp [e]
  have e1 : ((win0_2.blk t).view.emb y 1).val = (y 1).val := by blk_simp [e]
  refine Fin.sum_mul_add_congr fun s k hl => congrArg₂ (· * ·) (blkA m c _ _ _ ?_ (e0.trans ?_)) (blkB m c _ _ _ ?_ e1)
  · show s.val * 768 + k.val = (6 * (t.val / 6) + s.val) % 6 * 768 + k.val
    omega
  · show _ = (6 * (t.val / 6) + s.val) / 6 * 1024 + (y 0).val
    omega
  · show s.val * 768 + k.val = (6 * (t.val / 6) + s.val) % 6 * 768 + k.val
    omega

/-- The gradient of `u @ w` in `w`, transposed. -/
def grad (U : S2x2304x1024.Idx → EReal) (D : S2x2304x2048.Idx → EReal) (i : S2048x1024.Idx) : EReal :=
  ∑ b : Fin 2, ∑ n : Fin 2304, D (ix3 b n (i 0)) * U (ix3 b n (i 1))

theorem entry (c : Dev nD) : G (V m c main_v0) (V m c main_v1) = grad (m ((c : Thread nD τ).loc main_arg0)) (m ((c : Thread nD τ).loc main_arg2)) := by
  funext i
  refine (Fin.sum_mul_add_congr fun b n hl => congrArg₂ (· * ·) ?_ ?_).symm
  · entry_read
    pointwise
  · entry_read
    pointwise

theorem values : algebraic_Kernel7Ideal_Reference7Ideal := by
  intro m g m' g' _ hagree
  refine ⟨fun c => grad (m ((c : Thread nD τ).loc main_arg0)) (m ((c : Thread nD τ).loc main_arg2)),
    (θ_run _ _ _).mono (fun r h c => ⟨(h c).1.trans ((arr m c).trans (entry m c)), (h c).2⟩) (Kernel7Ideal.Value.run_blocks m g),
    (θ_run _ _ _).mono (fun r h c => ⟨(h c).1.trans (funext fun i => ?_), (h c).2⟩) (Reference7Ideal.Value.run m' g')⟩
  refine Eq.trans ?_ (congrFun (congrArg₂ grad (hagree c).1 (hagree c).2.2) i)
  unfold grad
  pointwise

end Cert.Products.InDwMg

end
-- ==== Proof.InDwZ.lean ====
module

public import proofs.«01_k».proof.Defs
public import proofs.«01_k».proof.Proof.Split
public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack

/-! The gradient of a part of the input projection in its weights, 1024 columns: a sum over the rows, six blocks of them added one after another. -/

@[expose] public section

set_option maxRecDepth 16384

noncomputable section

namespace Cert.Products.InDwZ

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S768x1024 .bf16) (y : Vec Ideal S768x1024 .bf16) (j : S1024x1024.Idx) :
    k0_pay2 acc x y j = acc j + ∑ k : Fin 768, x (ix2 k (j 0)) * y (ix2 k (j 1)) := by
  unfold k0_pay2
  pointwise

theorem zero (j : S1024x1024.Idx) : k0_pay1 (F := Ideal) j = 0 := by
  unfold k0_pay1
  pointwise

theorem idx : ∀ t : Fin cfg0.N, win0_0.index t 0 = t.val % 6 ∧ win0_0.index t 1 = 0 ∧ win0_1.index t 0 = t.val % 6
    ∧ win0_1.index t 1 = 0 ∧ win0_2.index t 0 = 0 ∧ win0_2.index t 1 = 0 :=
  (by decide +kernel : ∀ t : Fin grid0.N, _)

theorem blkA (c : Dev nD) (t : Fin cfg0.N) (i : S768x1024.Idx) (j : S4608x1024.Idx) (h0 : (j 0).val = t.val % 6 * 768 + (i 0).val)
    (h1 : (j 1).val = (i 1).val) : iblk m c 0 t i = V m c main_v0 j := by
  blk_ext [iblk, idx t]

theorem blkB (c : Dev nD) (t : Fin cfg0.N) (i : S768x1024.Idx) (j : S4608x1024.Idx) (h0 : (j 0).val = t.val % 6 * 768 + (i 0).val)
    (h1 : (j 1).val = (i 1).val) : iblk m c 1 t i = V m c main_v1 j := by
  blk_ext [iblk, idx t]

/-- The product of the two arrays the region reads. -/
def G (X : S4608x1024.Idx → EReal) (Y : S4608x1024.Idx → EReal) (i : S1024x1024.Idx) : EReal :=
  ∑ l : Fin 4608, X (ix2 l (i 0)) * Y (ix2 l (i 1))

theorem arr (c : Dev nD) : (dats m 0 c).arrAt 2 cfg0.N = G (V m c main_v0) (V m c main_v1) := by
  refine (dats m 0 c).arrAt_eq_of_covers 2 _ (by decide +kernel) fun t hf y => ?_
  blk_simp
  have ht := (flush0_2 t).mp hf
  rw [after0_2, show (outsAt0 m c t.val t.isLt).1 = k0_pay3 (outsAt0 m c t.val t.isLt).2 from by
      rw [outsAt0_C m c t (by omega) ht]; frame_out]
  rw [show k0_pay3 (outsAt0 m c t.val t.isLt).2 y = (outsAt0 m c t.val t.isLt).2 y from by unfold k0_pay3; pointwise]
  rw [Pipeline.eq_sum_fin_of_reset_step_apply_of_flush (fun n h => (outsAt0 m c n h).2) 6 (fun _ => 0) _
    (fun t h j => by rw [outsAt0_A m c t h (by omega)]; frame_out; rw [pay, zero])
    (fun t h j => by
      by_cases h1 : t.val % 6 = 5
      · rw [outsAt0_C m c t h h1]; frame_out; simp only [read_unread_whole]; rw [pay]
      · rw [outsAt0_B m c t h h1]; frame_out; simp only [read_unread_whole]; rw [pay]) t ht y, zero_add]
  have e := idx t
  have e0 : ((win0_2.blk t).view.emb y 0).val = (y 0).val := by blk_simp [e]
  have e1 : ((win0_2.blk t).view.emb y 1).val = (y 1).val := by blk_simp [e]
  refine Fin.sum_mul_add_congr fun s k hl => congrArg₂ (· * ·) (blkA m c _ _ _ ?_ e0) (blkB m c _ _ _ ?_ e1)
  · show s.val * 768 + k.val = (6 * (t.val / 6) + s.val) % 6 * 768 + k.val
    omega
  · show s.val * 768 + k.val = (6 * (t.val / 6) + s.val) % 6 * 768 + k.val
    omega

/-- The gradient of `u @ w` in `w`, transposed. -/
def grad (U : S2x2304x1024.Idx → EReal) (D : S2x2304x1024.Idx → EReal) (i : S1024x1024.Idx) : EReal :=
  ∑ b : Fin 2, ∑ n : Fin 2304, D (ix3 b n (i 0)) * U (ix3 b n (i 1))

theorem entry (c : Dev nD) : G (V m c main_v0) (V m c main_v1) = grad (m ((c : Thread nD τ).loc main_arg0)) (m ((c : Thread nD τ).loc main_arg2)) := by
  funext i
  refine (Fin.sum_mul_add_congr fun b n hl => congrArg₂ (· * ·) ?_ ?_).symm
  · entry_read
    pointwise
  · entry_read
    pointwise

theorem values : algebraic_Kernel8Ideal_Reference8Ideal := by
  intro m g m' g' _ hagree
  refine ⟨fun c => grad (m ((c : Thread nD τ).loc main_arg0)) (m ((c : Thread nD τ).loc main_arg2)),
    (θ_run _ _ _).mono (fun r h c => ⟨(h c).1.trans ((arr m c).trans (entry m c)), (h c).2⟩) (Kernel8Ideal.Value.run_blocks m g),
    (θ_run _ _ _).mono (fun r h c => ⟨(h c).1.trans (funext fun i => ?_), (h c).2⟩) (Reference8Ideal.Value.run m' g')⟩
  refine Eq.trans ?_ (congrFun (congrArg₂ grad (hagree c).1 (hagree c).2.2) i)
  unfold grad
  pointwise

end Cert.Products.InDwZ

end
-- ==== Proof.InDwAb.lean ====
module

public import proofs.«01_k».proof.Defs
public import proofs.«01_k».proof.Proof.Split
public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack

/-! The gradient of a part of the input projection in its weights, 128 columns: a sum over the rows, six blocks of them added one after another. -/

@[expose] public section

set_option maxRecDepth 16384

noncomputable section

namespace Cert.Products.InDwAb

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S128x1024 .f32) (x : Vec Ideal S768x128 .bf16) (y : Vec Ideal S768x1024 .bf16) (j : S128x1024.Idx) :
    k0_pay2 acc x y j = acc j + ∑ k : Fin 768, x (ix2 k (j 0)) * y (ix2 k (j 1)) := by
  unfold k0_pay2
  pointwise

theorem zero (j : S128x1024.Idx) : k0_pay1 (F := Ideal) j = 0 := by
  unfold k0_pay1
  pointwise

theorem idx : ∀ t : Fin cfg0.N, win0_0.index t 0 = t.val % 6 ∧ win0_0.index t 1 = 0 ∧ win0_1.index t 0 = t.val % 6
    ∧ win0_1.index t 1 = 0 ∧ win0_2.index t 0 = 0 ∧ win0_2.index t 1 = 0 :=
  (by decide +kernel : ∀ t : Fin grid0.N, _)

theorem blkA (c : Dev nD) (t : Fin cfg0.N) (i : S768x128.Idx) (j : S4608x128.Idx) (h0 : (j 0).val = t.val % 6 * 768 + (i 0).val)
    (h1 : (j 1).val = (i 1).val) : iblk m c 0 t i = V m c main_v0 j := by
  blk_ext [iblk, idx t]

theorem blkB (c : Dev nD) (t : Fin cfg0.N) (i : S768x1024.Idx) (j : S4608x1024.Idx) (h0 : (j 0).val = t.val % 6 * 768 + (i 0).val)
    (h1 : (j 1).val = (i 1).val) : iblk m c 1 t i = V m c main_v1 j := by
  blk_ext [iblk, idx t]

/-- The product of the two arrays the region reads. -/
def G (X : S4608x128.Idx → EReal) (Y : S4608x1024.Idx → EReal) (i : S128x1024.Idx) : EReal :=
  ∑ l : Fin 4608, X (ix2 l (i 0)) * Y (ix2 l (i 1))

theorem arr (c : Dev nD) : (dats m 0 c).arrAt 2 cfg0.N = G (V m c main_v0) (V m c main_v1) := by
  refine (dats m 0 c).arrAt_eq_of_covers 2 _ (by decide +kernel) fun t hf y => ?_
  blk_simp
  have ht := (flush0_2 t).mp hf
  rw [after0_2, show (outsAt0 m c t.val t.isLt).1 = k0_pay3 (outsAt0 m c t.val t.isLt).2 from by
      rw [outsAt0_C m c t (by omega) ht]; frame_out]
  rw [show k0_pay3 (outsAt0 m c t.val t.isLt).2 y = (outsAt0 m c t.val t.isLt).2 y from by unfold k0_pay3; pointwise]
  rw [Pipeline.eq_sum_fin_of_reset_step_apply_of_flush (fun n h => (outsAt0 m c n h).2) 6 (fun _ => 0) _
    (fun t h j => by rw [outsAt0_A m c t h (by omega)]; frame_out; rw [pay, zero])
    (fun t h j => by
      by_cases h1 : t.val % 6 = 5
      · rw [outsAt0_C m c t h h1]; frame_out; simp only [read_unread_whole]; rw [pay]
      · rw [outsAt0_B m c t h h1]; frame_out; simp only [read_unread_whole]; rw [pay]) t ht y, zero_add]
  have e := idx t
  have e0 : ((win0_2.blk t).view.emb y 0).val = (y 0).val := by blk_simp [e]
  have e1 : ((win0_2.blk t).view.emb y 1).val = (y 1).val := by blk_simp [e]
  refine Fin.sum_mul_add_congr fun s k hl => congrArg₂ (· * ·) (blkA m c _ _ _ ?_ e0) (blkB m c _ _ _ ?_ e1)
  · show s.val * 768 + k.val = (6 * (t.val / 6) + s.val) % 6 * 768 + k.val
    omega
  · show s.val * 768 + k.val = (6 * (t.val / 6) + s.val) % 6 * 768 + k.val
    omega

/-- The gradient of `u @ w` in `w`, transposed. -/
def grad (U : S2x2304x1024.Idx → EReal) (D : S2x2304x128.Idx → EReal) (i : S128x1024.Idx) : EReal :=
  ∑ b : Fin 2, ∑ n : Fin 2304, D (ix3 b n (i 0)) * U (ix3 b n (i 1))

theorem entry (c : Dev nD) : G (V m c main_v0) (V m c main_v1) = grad (m ((c : Thread nD τ).loc main_arg0)) (m ((c : Thread nD τ).loc main_arg2)) := by
  funext i
  refine (Fin.sum_mul_add_congr fun b n hl => congrArg₂ (· * ·) ?_ ?_).symm
  · entry_read
    pointwise
  · entry_read
    pointwise

theorem values : algebraic_Kernel9Ideal_Reference9Ideal := by
  intro m g m' g' _ hagree
  refine ⟨fun c => grad (m ((c : Thread nD τ).loc main_arg0)) (m ((c : Thread nD τ).loc main_arg2)),
    (θ_run _ _ _).mono (fun r h c => ⟨(h c).1.trans ((arr m c).trans (entry m c)), (h c).2⟩) (Kernel9Ideal.Value.run_blocks m g),
    (θ_run _ _ _).mono (fun r h c => ⟨(h c).1.trans (funext fun i => ?_), (h c).2⟩) (Reference9Ideal.Value.run m' g')⟩
  refine Eq.trans ?_ (congrFun (congrArg₂ grad (hagree c).1 (hagree c).2.2) i)
  unfold grad
  pointwise

end Cert.Products.InDwAb

end
-- ==== Proof.InDx.lean ====
module

public import proofs.«01_k».proof.Defs
public import proofs.«01_k».proof.Proof.Split
public import proofs.«01_k».proof.Proof.Gen.Kernel10Ideal.Frame
public import proofs.«01_k».proof.Proof.Gen.Reference10Ideal.Run
public import Idealize.ShloMosaic.Lib.Pipeline.Value
public import Idealize.ShloMosaic.Lib.Pipeline.ValueKit
public import Idealize.ShloMosaic.Lib.Pipeline.ReadBack

/-! The gradient of the input projection in its input: six products of different widths, added up in nine steps. -/

@[expose] public section

set_option maxRecDepth 16384

noncomputable section

namespace Cert.Products.InDx

/-- One piece of a sum over consecutive positions. -/
theorem tail {n : ℕ} (f : Fin n → EReal) (k a b s k' : ℕ) (hs : s = a + b) (hk : k' = k + a) (h : k + s ≤ n) :
    ∑ l : Fin s, f ⟨k + l.val, by have := l.isLt; omega⟩
      = ∑ l : Fin a, f ⟨k + l.val, by have := l.isLt; omega⟩ + ∑ l : Fin b, f ⟨k' + l.val, by have := l.isLt; omega⟩ := by
  subst hs hk
  rw [Fin.sum_univ_add]
  exact congrArg₂ (· + ·) rfl (Finset.sum_congr rfl fun l _ => congrArg f (Fin.ext (Nat.add_assoc _ _ _).symm))

/-- The sum over the columns of the input projection, cut at its six parts. -/
theorem cut (f : Fin 8224 → EReal) :
    ∑ l, f l = ∑ l : Fin 3072, f ⟨0 + l.val, by have := l.isLt; omega⟩ + (∑ l : Fin 1024, f ⟨3072 + l.val, by have := l.isLt; omega⟩
      + (∑ l : Fin 32, f ⟨4096 + l.val, by have := l.isLt; omega⟩ + (∑ l : Fin 1024, f ⟨4128 + l.val, by have := l.isLt; omega⟩
      + (∑ l : Fin 1024, f ⟨5152 + l.val, by have := l.isLt; omega⟩ + ∑ l : Fin 2048, f ⟨6176 + l.val, by have := l.isLt; omega⟩)))) := by
  rw [← tail f 5152 1024 2048 3072 6176 rfl rfl (by decide), ← tail f 4128 1024 3072 4096 5152 rfl rfl (by decide),
    ← tail f 4096 32 4096 4128 4128 rfl rfl (by decide), ← tail f 3072 1024 4128 5152 4096 rfl rfl (by decide),
    ← tail f 0 3072 5152 8224 3072 rfl rfl (by decide)]
  exact Finset.sum_congr rfl fun l _ => congrArg f (Fin.ext (Nat.zero_add _).symm)

/-- The nine steps of a run, by parts. -/
theorem nine (F : Fin 9 → EReal) :
    ∑ s, F s = ∑ s : Fin 3, F ⟨s.val, by have := s.isLt; omega⟩ + (F 3 + (F 4 + (F 5 + (F 6 + ∑ s : Fin 2, F ⟨7 + s.val, by have := s.isLt; omega⟩)))) := by
  rw [Fin.sum_univ_castSucc, Fin.sum_univ_eight, Fin.sum_univ_three, Fin.sum_univ_two]
  simp only [add_assoc]
  rfl

section
open Cert.Reference10Ideal Cert.Reference10Ideal.Gen Idealize.ShloMosaic

/-- One part's product: `n` columns of gradients with columns `k` and on of `w_in`. -/
def part (n k : ℕ) (h : k + n ≤ 8224) (D : Fin n → EReal) (W : S1024x8224.Idx → EReal) (o : Fin 1024) : EReal :=
  ∑ l : Fin n, D l * W (ix2 o ⟨k + l.val, by have := l.isLt; omega⟩)

theorem rows (W : FVec Ideal S2x2304x1024 .f32) (i : S4608x1024.Idx) :
    shapeCast S4608x1024 W shapeCasts_S2x2304x1024_S4608x1024 i = W (ix3 (hi 2 2304 rfl (i 0)) (lo 2 2304 rfl (i 0)) (i 1)) := by
  pointwise

theorem product (D : FVec Ideal S2x2304x8224 .f32) (W : FVec Ideal S1024x8224 .f32) (i : S2x2304x1024.Idx) :
    Host.dotGeneral (F := Ideal) dot_S2x2304x8224_S1024x8224_S2x2304x1024_2_1_01_0_n_n none D W i
      = ∑ l : Fin 8224, D (ix3 (i 0) (i 1) l) * W (ix2 (i 2) l) := by
  pointwise

/-- The six incoming gradients side by side. -/
abbrev joined (Q : FVec Ideal S2x2304x3072 .f32) (Z : FVec Ideal S2x2304x1024 .f32) (A : FVec Ideal S2x2304x32 .f32)
    (X Y : FVec Ideal S2x2304x1024 .f32) (M : FVec Ideal S2x2304x2048 .f32) : FVec Ideal S2x2304x8224 .f32 :=
  concatenate S2x2304x8224 2 [⟨S2x2304x3072, Q⟩, ⟨S2x2304x1024, Z⟩, ⟨S2x2304x32, A⟩, ⟨S2x2304x1024, X⟩, ⟨S2x2304x1024, Y⟩, ⟨S2x2304x2048, M⟩]
    concatenates_S2x2304x3072_S2x2304x1024_S2x2304x32_S2x2304x1024_S2x2304x1024_S2x2304x2048_S2x2304x8224_d2

variable (Q : FVec Ideal S2x2304x3072 .f32) (Z : FVec Ideal S2x2304x1024 .f32) (A : FVec Ideal S2x2304x32 .f32)
    (X Y : FVec Ideal S2x2304x1024 .f32) (M : FVec Ideal S2x2304x2048 .f32)
  (b : Fin 2) (n : Fin 2304)

theorem joinedQ (l : Fin 3072) : joined Q Z A X Y M (ix3 b n ⟨0 + l.val, by have := l.isLt; omega⟩) = Q (ix3 b n l) := by
  have := l.isLt
  unfold joined
  pointwise

theorem joinedZ (l : Fin 1024) : joined Q Z A X Y M (ix3 b n ⟨3072 + l.val, by have := l.isLt; omega⟩) = Z (ix3 b n l) := by
  have := l.isLt
  unfold joined
  pointwise

theorem joinedA (l : Fin 32) : joined Q Z A X Y M (ix3 b n ⟨4096 + l.val, by have := l.isLt; omega⟩) = A (ix3 b n l) := by
  have := l.isLt
  unfold joined
  pointwise
  rw [dif_neg (by omega), dif_neg (by omega), dif_pos (by omega)]
  exact congrArg (fun x => A (ix3 b n x)) (Fin.ext (by dsimp only; omega))

theorem joinedX (l : Fin 1024) : joined Q Z A X Y M (ix3 b n ⟨4128 + l.val, by have := l.isLt; omega⟩) = X (ix3 b n l) := by
  have := l.isLt
  unfold joined
  pointwise
  rw [dif_neg (by omega), dif_neg (by omega), dif_neg (by omega), dif_pos (by omega)]
  exact congrArg (fun x => X (ix3 b n x)) (Fin.ext (by dsimp only; omega))

theorem joinedY (l : Fin 1024) : joined Q Z A X Y M (ix3 b n ⟨5152 + l.val, by have := l.isLt; omega⟩) = Y (ix3 b n l) := by
  have := l.isLt
  unfold joined
  pointwise
  rw [dif_neg (by omega), dif_neg (by omega), dif_neg (by omega), dif_neg (by omega), dif_pos (by omega)]
  exact congrArg (fun x => Y (ix3 b n x)) (Fin.ext (by dsimp only; omega))

theorem joinedM (l : Fin 2048) : joined Q Z A X Y M (ix3 b n ⟨6176 + l.val, by have := l.isLt; omega⟩) = M (ix3 b n l) := by
  have := l.isLt
  unfold joined
  pointwise
  rw [dif_neg (by omega), dif_neg (by omega), dif_neg (by omega), dif_neg (by omega), dif_neg (by omega)]
  exact congrArg (fun x => M (ix3 b n x)) (Fin.ext (by dsimp only; omega))

theorem narrow (A : FVec Ideal S2x2304x128 .bf16) (i : S2x2304x32.Idx) :
    extf .f32 (extractStridedSlice S2x2304x32 ![0, 0, 0] A slices_S2x2304x128_S2x2304x32_0_0_0) bitsLt_bf16_f32 i
      = A (ix3 (i 0) (i 1) ⟨(i 2).val, by have : (i 2).val < 32 := (i 2).isLt; omega⟩) := by
  pointwise

/-- The word zero read as a real number. -/
theorem zeroWord : ((((0#32 : BitVec 32).toInt : ℤ) : ℝ) : EReal) = 0 := by
  simp

end

/-- A sum of 128 whose last 96 are zero. -/
theorem short (f : Fin 128 → EReal) (h : ∀ l : Fin 96, f (Fin.natAdd 32 l) = 0) : ∑ l, f l = ∑ l : Fin 32, f (Fin.castAdd 96 l) := by
  have e : ∑ l, f l = ∑ l : Fin 32, f (Fin.castAdd 96 l) + ∑ l : Fin 96, f (Fin.natAdd 32 l) := Fin.sum_univ_add (a := 32) (b := 96) f
  exact (e.trans (congrArg₂ (· + ·) rfl (Finset.sum_eq_zero fun l _ => h l))).trans (add_zero _)

open Cert.Kernel10Ideal Cert.Kernel10Ideal.Gen Idealize.ShloMosaic Idealize.ShloMosaic.TcCoe Idealize.SL.Sem
open Idealize.ShloMosaic.Pipeline (Dat)

variable (m : (ℓ : Loc nD τ sig) → Buf (Elt Ideal) ℓ)

theorem kept (r : PUnit × MemSt nD τ sig (Elt Ideal)) (h : Pipeline.FramePost cfgs (dats m) 0 (V m) r) (c : Dev nD) (b : Ref sig .tc)
    (hb : b ∈ Pipeline.restRefs sig spec0) (hv : V m c b = m ((c : Thread nD τ).loc b)) :
    r.2.mem ((c : Thread nD τ).loc b) = m ((c : Thread nD τ).loc b) :=
  ((h c).2 b hb).trans hv

/-- The run: the result is what the pipeline leaves in the output window's array, and the arguments are as launched. -/
theorem run (ρ : Dev nD → PrngReg) : θ_run defs (onTc (τ := τ) (main (F := Ideal))) ⟨m, fun _ => 0, ρ⟩ fun r => ∀ c : Dev nD,
      r.2.mem ((c : Thread nD τ).loc main_v15) = (dats m 0 c).arrAt 12 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1 12,
      kept m r h c main_arg0 (Pipeline.mem_restRefs_of main_arg0 (by decide) (by decide)) (V_main_arg0 m c),
      kept m r h c main_arg1 (Pipeline.mem_restRefs_of main_arg1 (by decide) (by decide)) (V_main_arg1 m c),
      kept m r h c main_arg2 (Pipeline.mem_restRefs_of main_arg2 (by decide) (by decide)) (V_main_arg2 m c),
      kept m r h c main_arg3 (Pipeline.mem_restRefs_of main_arg3 (by decide) (by decide)) (V_main_arg3 m c),
      kept m r h c main_arg4 (Pipeline.mem_restRefs_of main_arg4 (by decide) (by decide)) (V_main_arg4 m c),
      kept m r h c main_arg5 (Pipeline.mem_restRefs_of main_arg5 (by decide) (by decide)) (V_main_arg5 m c),
      kept m r h c main_arg6 (Pipeline.mem_restRefs_of main_arg6 (by decide) (by decide)) (V_main_arg6 m c),
      kept m r h c main_arg7 (Pipeline.mem_restRefs_of main_arg7 (by decide) (by decide)) (V_main_arg7 m c)⟩) (run_main m ρ)

/-- The product of two blocks of 1024 columns and rows. -/
def dots (x : S768x1024.Idx → EReal) (w : S1024x1024.Idx → EReal) (j : S768x1024.Idx) : EReal :=
  ∑ k : Fin 1024, x (ix2 (j 0) k) * w (ix2 k (j 1))

/-- The product of two blocks of 128 columns and rows. -/
def dotsAb (x : S768x128.Idx → EReal) (w : S128x1024.Idx → EReal) (j : S768x1024.Idx) : EReal :=
  ∑ k : Fin 128, x (ix2 (j 0) k) * w (ix2 k (j 1))

theorem pay1 (acc : Vec Ideal S768x1024 .f32) (x : Vec Ideal S768x1024 .bf16) (w : Vec Ideal S1024x1024 .bf16) (j : S768x1024.Idx) :
    k0_pay1 acc x w j = acc j + dots x w j := by
  unfold k0_pay1 dots
  pointwise

theorem pay3 (acc : Vec Ideal S768x1024 .f32) (x : Vec Ideal S768x1024 .bf16) (w : Vec Ideal S1024x1024 .bf16) (j : S768x1024.Idx) :
    k0_pay3 acc x w j = acc j + dots x w j := pay1 acc x w j

theorem pay4 (acc : Vec Ideal S768x1024 .f32) (x : Vec Ideal S768x1024 .bf16) (w : Vec Ideal S1024x1024 .bf16) (j : S768x1024.Idx) :
    k0_pay4 acc x w j = acc j + dots x w j := pay1 acc x w j

theorem pay5 (acc : Vec Ideal S768x1024 .f32) (x : Vec Ideal S768x128 .bf16) (w : Vec Ideal S128x1024 .bf16) (j : S768x1024.Idx) :
    k0_pay5 acc x w j = acc j + dotsAb x w j := by
  unfold k0_pay5 dotsAb
  pointwise

theorem pay6 (acc : Vec Ideal S768x1024 .f32) (x : Vec Ideal S768x1024 .bf16) (w : Vec Ideal S1024x1024 .bf16) (j : S768x1024.Idx) :
    k0_pay6 acc x w j = acc j + dots x w j := pay1 acc x w j

theorem pay7 (acc : Vec Ideal S768x1024 .f32) (x : Vec Ideal S768x1024 .bf16) (w : Vec Ideal S1024x1024 .bf16) (j : S768x1024.Idx) :
    k0_pay7 acc x w j = acc j + dots x w j := pay1 acc x w j

theorem zero (j : S768x1024.Idx) : k0_pay2 (F := Ideal) j = 0 := by
  unfold k0_pay2
  pointwise

theorem idx : ∀ t : Fin cfg0.N, win0_0.index t 0 = t.val / 9 ∧ win0_0.index t 1 = min (t.val % 9) 2
    ∧ win0_1.index t 0 = min (t.val % 9) 2 ∧ win0_1.index t 1 = 0
    ∧ win0_2.index t 0 = t.val / 9 ∧ win0_2.index t 1 = 0 ∧ win0_3.index t 0 = 0 ∧ win0_3.index t 1 = 0
    ∧ win0_4.index t 0 = t.val / 9 ∧ win0_4.index t 1 = 0 ∧ win0_5.index t 0 = 0 ∧ win0_5.index t 1 = 0
    ∧ win0_6.index t 0 = t.val / 9 ∧ win0_6.index t 1 = 0 ∧ win0_7.index t 0 = 0 ∧ win0_7.index t 1 = 0
    ∧ win0_8.index t 0 = t.val / 9 ∧ win0_8.index t 1 = 0 ∧ win0_9.index t 0 = 0 ∧ win0_9.index t 1 = 0
    ∧ win0_10.index t 0 = t.val / 9 ∧ win0_10.index t 1 = t.val % 9 - 7
    ∧ win0_11.index t 0 = t.val % 9 - 7 ∧ win0_11.index t 1 = 0
    ∧ win0_12.index t 0 = t.val / 9 ∧ win0_12.index t 1 = 0 :=
  (by decide +kernel : ∀ t : Fin grid0.N, _)

theorem blkQ (c : Dev nD) (t : Fin cfg0.N) (i : S768x1024.Idx) (j : S4608x3072.Idx) (h0 : (j 0).val = t.val / 9 * 768 + (i 0).val)
    (h1 : (j 1).val = min (t.val % 9) 2 * 1024 + (i 1).val) : iblk m c 0 t i = V m c main_v9 j := by
  blk_ext [iblk, idx t]

theorem blkWQ (c : Dev nD) (t : Fin cfg0.N) (i : S1024x1024.Idx) (j : S3072x1024.Idx)
    (h0 : (j 0).val = min (t.val % 9) 2 * 1024 + (i 0).val) (h1 : (j 1).val = (i 1).val) : iblk m c 1 t i = V m c main_v2 j := by
  blk_ext [iblk, idx t]

theorem blkZ (c : Dev nD) (t : Fin cfg0.N) (i : S768x1024.Idx) (j : S4608x1024.Idx) (h0 : (j 0).val = t.val / 9 * 768 + (i 0).val)
    (h1 : (j 1).val = (i 1).val) : iblk m c 2 t i = V m c main_v10 j := by
  blk_ext [iblk, idx t]

theorem blkWZ (c : Dev nD) (t : Fin cfg0.N) (i j : S1024x1024.Idx) (h0 : (j 0).val = (i 0).val)
    (h1 : (j 1).val = (i 1).val) : iblk m c 3 t i = V m c main_v3 j := by
  blk_ext [iblk, idx t]

theorem blkA (c : Dev nD) (t : Fin cfg0.N) (i : S768x128.Idx) (j : S4608x128.Idx) (h0 : (j 0).val = t.val / 9 * 768 + (i 0).val)
    (h1 : (j 1).val = (i 1).val) : iblk m c 4 t i = V m c main_v11 j := by
  blk_ext [iblk, idx t]

theorem blkWA (c : Dev nD) (t : Fin cfg0.N) (i j : S128x1024.Idx) (h0 : (j 0).val = (i 0).val)
    (h1 : (j 1).val = (i 1).val) : iblk m c 5 t i = V m c main_v5 j := by
  blk_ext [iblk, idx t]

theorem blkX (c : Dev nD) (t : Fin cfg0.N) (i : S768x1024.Idx) (j : S4608x1024.Idx) (h0 : (j 0).val = t.val / 9 * 768 + (i 0).val)
    (h1 : (j 1).val = (i 1).val) : iblk m c 6 t i = V m c main_v12 j := by
  blk_ext [iblk, idx t]

theorem blkWX (c : Dev nD) (t : Fin cfg0.N) (i j : S1024x1024.Idx) (h0 : (j 0).val = (i 0).val)
    (h1 : (j 1).val = (i 1).val) : iblk m c 7 t i = V m c main_v6 j := by
  blk_ext [iblk, idx t]

theorem blkY (c : Dev nD) (t : Fin cfg0.N) (i : S768x1024.Idx) (j : S4608x1024.Idx) (h0 : (j 0).val = t.val / 9 * 768 + (i 0).val)
    (h1 : (j 1).val = (i 1).val) : iblk m c 8 t i = V m c main_v13 j := by
  blk_ext [iblk, idx t]

theorem blkWY (c : Dev nD) (t : Fin cfg0.N) (i j : S1024x1024.Idx) (h0 : (j 0).val = (i 0).val)
    (h1 : (j 1).val = (i 1).val) : iblk m c 9 t i = V m c main_v7 j := by
  blk_ext [iblk, idx t]

theorem blkM (c : Dev nD) (t : Fin cfg0.N) (i : S768x1024.Idx) (j : S4608x2048.Idx) (h0 : (j 0).val = t.val / 9 * 768 + (i 0).val)
    (h1 : (j 1).val = (t.val % 9 - 7) * 1024 + (i 1).val) : iblk m c 10 t i = V m c main_v14 j := by
  blk_ext [iblk, idx t]

theorem blkWM (c : Dev nD) (t : Fin cfg0.N) (i : S1024x1024.Idx) (j : S2048x1024.Idx)
    (h0 : (j 0).val = (t.val % 9 - 7) * 1024 + (i 0).val) (h1 : (j 1).val = (i 1).val) : iblk m c 11 t i = V m c main_v8 j := by
  blk_ext [iblk, idx t]

/-- What one step adds: the product of the pair of blocks whose turn it is. -/
def term (c : Dev nD) (t : Fin cfg0.N) (j : S768x1024.Idx) : EReal :=
  if t.val % 9 ≤ 2 then dots (iblk m c 0 t) (iblk m c 1 t) j
  else if t.val % 9 = 3 then dots (iblk m c 2 t) (iblk m c 3 t) j
  else if t.val % 9 = 4 then dotsAb (iblk m c 4 t) (iblk m c 5 t) j
  else if t.val % 9 = 5 then dots (iblk m c 6 t) (iblk m c 7 t) j
  else if t.val % 9 = 6 then dots (iblk m c 8 t) (iblk m c 9 t) j
  else dots (iblk m c 10 t) (iblk m c 11 t) j

theorem first (c : Dev nD) (t : Fin cfg0.N) (h : t.val % 9 = 0) (j : S768x1024.Idx) :
    (outsAt0 m c t.val t.isLt).2 j = 0 + term m c t j := by
  rw [outsAt0_A m c t h (by omega) (by omega) (by omega) (by omega) (by omega) (by omega) (by omega)]
  unfold term
  rw [if_pos (by omega)]
  frame_out
  rw [pay3, zero]

theorem step (c : Dev nD) (t : Fin cfg0.N) (h : ¬t.val % 9 = 0) (j : S768x1024.Idx) :
    (outsAt0 m c t.val t.isLt).2 j
      = (outsAt0 m c (t.val - 1) (Nat.lt_of_le_of_lt (Nat.sub_le _ _) t.isLt)).2 j + term m c t j := by
  unfold term
  by_cases h1 : t.val % 9 ≤ 2
  · rw [outsAt0_B m c t h h1 (by omega) (by omega) (by omega) (by omega) (by omega) (by omega), if_pos h1]
    frame_out
    simp only [read_unread_whole]
    rw [pay3]
  rw [if_neg h1]
  by_cases h2 : t.val % 9 = 3
  · rw [outsAt0_C m c t h h1 h2 (by omega) (by omega) (by omega) (by omega) (by omega), if_pos h2]
    frame_out
    simp only [read_unread_whole]
    rw [pay4]
  rw [if_neg h2]
  by_cases h3 : t.val % 9 = 4
  · rw [outsAt0_D m c t h h1 h2 h3 (by omega) (by omega) (by omega) (by omega), if_pos h3]
    frame_out
    simp only [read_unread_whole]
    rw [pay5]
  rw [if_neg h3]
  by_cases h4 : t.val % 9 = 5
  · rw [outsAt0_E m c t h h1 h2 h3 h4 (by omega) (by omega) (by omega), if_pos h4]
    frame_out
    simp only [read_unread_whole]
    rw [pay6]
  rw [if_neg h4]
  by_cases h5 : t.val % 9 = 6
  · rw [outsAt0_F m c t h h1 h2 h3 h4 h5 (by omega) (by omega), if_pos h5]
    frame_out
    simp only [read_unread_whole]
    rw [pay7]
  rw [if_neg h5]
  by_cases h7 : t.val % 9 = 8
  · rw [outsAt0_H m c t h h1 h2 h3 h4 h5 (by omega) h7]
    frame_out
    simp only [read_unread_whole]
    rw [pay1]
  · rw [outsAt0_G m c t h h1 h2 h3 h4 h5 (by omega) h7]
    frame_out
    simp only [read_unread_whole]
    rw [pay1]

/-- The six products of the arrays the region reads, added up. -/
def G (Q : S4608x3072.Idx → EReal) (WQ : S3072x1024.Idx → EReal) (Z : S4608x1024.Idx → EReal) (WZ : S1024x1024.Idx → EReal)
    (A : S4608x128.Idx → EReal) (WA : S128x1024.Idx → EReal) (X : S4608x1024.Idx → EReal) (WX : S1024x1024.Idx → EReal)
    (Y : S4608x1024.Idx → EReal) (WY : S1024x1024.Idx → EReal) (M : S4608x2048.Idx → EReal) (WM : S2048x1024.Idx → EReal)
    (i : S4608x1024.Idx) : EReal :=
  ∑ l : Fin 3072, Q (ix2 (i 0) l) * WQ (ix2 l (i 1)) + (∑ l : Fin 1024, Z (ix2 (i 0) l) * WZ (ix2 l (i 1))
    + (∑ l : Fin 128, A (ix2 (i 0) l) * WA (ix2 l (i 1)) + (∑ l : Fin 1024, X (ix2 (i 0) l) * WX (ix2 l (i 1))
    + (∑ l : Fin 1024, Y (ix2 (i 0) l) * WY (ix2 l (i 1)) + ∑ l : Fin 2048, M (ix2 (i 0) l) * WM (ix2 l (i 1))))))

/-- `G` of the arrays the region reads. -/
def sums (c : Dev nD) : S4608x1024.Idx → EReal :=
  G (V m c main_v9) (V m c main_v2) (V m c main_v10) (V m c main_v3) (V m c main_v11) (V m c main_v5) (V m c main_v12) (V m c main_v6)
    (V m c main_v13) (V m c main_v7) (V m c main_v14) (V m c main_v8)

theorem arr (c : Dev nD) : (dats m 0 c).arrAt 12 cfg0.N = sums m c := by
  refine (dats m 0 c).arrAt_eq_of_covers 12 _ (by decide +kernel) fun t hf y => ?_
  blk_simp
  have ht := (flush0_12 t).mp hf
  rw [after0_12, show (outsAt0 m c t.val t.isLt).1 = (outsAt0 m c t.val t.isLt).2 from by
      rw [outsAt0_H m c t (by omega) (by omega) (by omega) (by omega) (by omega) (by omega) (by omega) ht]; frame_out]
  rw [Pipeline.eq_sum_fin_of_reset_step_apply_of_flush (fun n h => (outsAt0 m c n h).2) 9 (fun _ => 0) (term m c)
    (first m c) (step m c) t ht y, zero_add]
  have e := idx t
  have e0 : ((win0_12.blk t).view.emb y 0).val = t.val / 9 * 768 + (y 0).val := by blk_simp [e]
  have e1 : ((win0_12.blk t).view.emb y 1).val = (y 1).val := by blk_simp [e]
  refine (nine _).trans ?_
  have hm : ∀ s : ℕ, s < 9 → (9 * (t.val / 9) + s) % 9 = s := fun s hs => by omega
  have hd : ∀ s : ℕ, s < 9 → (9 * (t.val / 9) + s) / 9 = t.val / 9 := fun s hs => by omega
  have r0 : ∀ s : ℕ, s < 9 → ((win0_12.blk t).view.emb y 0).val = (9 * (t.val / 9) + s) / 9 * 768 + (y 0).val := fun s hs => by
    rw [hd s hs]; exact e0
  refine congrArg₂ (· + ·) ?_ (congrArg₂ (· + ·) ?_ (congrArg₂ (· + ·) ?_ (congrArg₂ (· + ·) ?_ (congrArg₂ (· + ·) ?_ ?_))))
  · refine (Finset.sum_congr rfl fun s _ => if_pos ?_).trans (Fin.sum_mul_add_congr fun s k hl =>
      congrArg₂ (· * ·) (blkQ m c _ _ _ (r0 _ (by omega)) ?_) (blkWQ m c _ _ _ ?_ e1))
    · show (9 * (t.val / 9) + s.val) % 9 ≤ 2
      omega
    · show s.val * 1024 + k.val = min ((9 * (t.val / 9) + s.val) % 9) 2 * 1024 + k.val
      rw [hm s.val (by omega), min_eq_left (by omega)]
    · show s.val * 1024 + k.val = min ((9 * (t.val / 9) + s.val) % 9) 2 * 1024 + k.val
      rw [hm s.val (by omega), min_eq_left (by omega)]
  · have h := hm 3 (by decide)
    refine ((if_neg (by show ¬(9 * (t.val / 9) + 3) % 9 ≤ 2; omega)).trans (if_pos h)).trans (Finset.sum_congr rfl fun k _ =>
      congrArg₂ (· * ·) (blkZ m c _ _ _ (r0 3 (by decide)) rfl) (blkWZ m c _ _ _ rfl e1))
  · have h := hm 4 (by decide)
    refine ((if_neg (by show ¬(9 * (t.val / 9) + 4) % 9 ≤ 2; omega)).trans ((if_neg (by show ¬(9 * (t.val / 9) + 4) % 9 = 3; omega)).trans
      (if_pos h))).trans (Finset.sum_congr rfl fun k _ =>
      congrArg₂ (· * ·) (blkA m c _ _ _ (r0 4 (by decide)) rfl) (blkWA m c _ _ _ rfl e1))
  · have h := hm 5 (by decide)
    refine ((if_neg (by show ¬(9 * (t.val / 9) + 5) % 9 ≤ 2; omega)).trans ((if_neg (by show ¬(9 * (t.val / 9) + 5) % 9 = 3; omega)).trans
      ((if_neg (by show ¬(9 * (t.val / 9) + 5) % 9 = 4; omega)).trans (if_pos h)))).trans (Finset.sum_congr rfl fun k _ =>
      congrArg₂ (· * ·) (blkX m c _ _ _ (r0 5 (by decide)) rfl) (blkWX m c _ _ _ rfl e1))
  · have h := hm 6 (by decide)
    refine ((if_neg (by show ¬(9 * (t.val / 9) + 6) % 9 ≤ 2; omega)).trans ((if_neg (by show ¬(9 * (t.val / 9) + 6) % 9 = 3; omega)).trans
      ((if_neg (by show ¬(9 * (t.val / 9) + 6) % 9 = 4; omega)).trans ((if_neg (by show ¬(9 * (t.val / 9) + 6) % 9 = 5; omega)).trans
      (if_pos h))))).trans (Finset.sum_congr rfl fun k _ =>
      congrArg₂ (· * ·) (blkY m c _ _ _ (r0 6 (by decide)) rfl) (blkWY m c _ _ _ rfl e1))
  · refine (Finset.sum_congr rfl fun s _ => (if_neg ?_).trans ((if_neg ?_).trans ((if_neg ?_).trans ((if_neg ?_).trans (if_neg ?_))))).trans
      (Fin.sum_mul_add_congr fun s k hl => congrArg₂ (· * ·) (blkM m c _ _ _ (r0 _ (by omega)) ?_) (blkWM m c _ _ _ ?_ e1))
    · show ¬(9 * (t.val / 9) + (7 + s.val)) % 9 ≤ 2
      omega
    · show ¬(9 * (t.val / 9) + (7 + s.val)) % 9 = 3
      omega
    · show ¬(9 * (t.val / 9) + (7 + s.val)) % 9 = 4
      omega
    · show ¬(9 * (t.val / 9) + (7 + s.val)) % 9 = 5
      omega
    · show ¬(9 * (t.val / 9) + (7 + s.val)) % 9 = 6
      omega
    · show s.val * 1024 + k.val = ((9 * (t.val / 9) + (7 + s.val)) % 9 - 7) * 1024 + k.val
      rw [hm (7 + s.val) (by omega), Nat.add_sub_cancel_left]
    · show s.val * 1024 + k.val = ((9 * (t.val / 9) + (7 + s.val)) % 9 - 7) * 1024 + k.val
      rw [hm (7 + s.val) (by omega), Nat.add_sub_cancel_left]

theorem leftQ (c : Dev nD) (j : S4608x3072.Idx) : V m c main_v9 j
    = m ((c : Thread nD τ).loc main_arg2) (ix3 (hi 2 2304 rfl (j 0)) (lo 2 2304 rfl (j 0)) (j 1)) := by
  unfold V
  simp only [List.flatten_cons, List.flatten_nil, List.append_nil, StableHlo.after_append]
  entry_read
  pointwise

theorem leftZ (c : Dev nD) (j : S4608x1024.Idx) : V m c main_v10 j
    = m ((c : Thread nD τ).loc main_arg3) (ix3 (hi 2 2304 rfl (j 0)) (lo 2 2304 rfl (j 0)) (j 1)) := by
  unfold V
  simp only [List.flatten_cons, List.flatten_nil, List.append_nil, StableHlo.after_append]
  entry_read
  pointwise

theorem leftA (c : Dev nD) (j : S4608x128.Idx) : V m c main_v11 j
    = m ((c : Thread nD τ).loc main_arg4) (ix3 (hi 2 2304 rfl (j 0)) (lo 2 2304 rfl (j 0)) (j 1)) := by
  unfold V
  simp only [List.flatten_cons, List.flatten_nil, List.append_nil, StableHlo.after_append]
  entry_read
  pointwise

theorem leftX (c : Dev nD) (j : S4608x1024.Idx) : V m c main_v12 j
    = m ((c : Thread nD τ).loc main_arg5) (ix3 (hi 2 2304 rfl (j 0)) (lo 2 2304 rfl (j 0)) (j 1)) := by
  unfold V
  simp only [List.flatten_cons, List.flatten_nil, List.append_nil, StableHlo.after_append]
  entry_read
  pointwise

theorem leftY (c : Dev nD) (j : S4608x1024.Idx) : V m c main_v13 j
    = m ((c : Thread nD τ).loc main_arg6) (ix3 (hi 2 2304 rfl (j 0)) (lo 2 2304 rfl (j 0)) (j 1)) := by
  unfold V
  simp only [List.flatten_cons, List.flatten_nil, List.append_nil, StableHlo.after_append]
  entry_read
  pointwise

theorem leftM (c : Dev nD) (j : S4608x2048.Idx) : V m c main_v14 j
    = m ((c : Thread nD τ).loc main_arg7) (ix3 (hi 2 2304 rfl (j 0)) (lo 2 2304 rfl (j 0)) (j 1)) := by
  unfold V
  simp only [List.flatten_cons, List.flatten_nil, List.append_nil, StableHlo.after_append]
  entry_read
  pointwise

theorem rightQ (c : Dev nD) (j : S3072x1024.Idx) : V m c main_v2 j
    = m ((c : Thread nD τ).loc main_arg1) (ix2 (j 1) ⟨0 + (j 0).val, by have : (j 0).val < 3072 := (j 0).isLt; omega⟩) := by
  unfold V
  simp only [List.flatten_cons, List.flatten_nil, List.append_nil, StableHlo.after_append]
  entry_read
  pointwise

theorem rightZ (c : Dev nD) (j : S1024x1024.Idx) : V m c main_v3 j
    = m ((c : Thread nD τ).loc main_arg1) (ix2 (j 1) ⟨3072 + (j 0).val, by have : (j 0).val < 1024 := (j 0).isLt; omega⟩) := by
  unfold V
  simp only [List.flatten_cons, List.flatten_nil, List.append_nil, StableHlo.after_append]
  entry_read
  pointwise

theorem rightX (c : Dev nD) (j : S1024x1024.Idx) : V m c main_v6 j
    = m ((c : Thread nD τ).loc main_arg1) (ix2 (j 1) ⟨4128 + (j 0).val, by have : (j 0).val < 1024 := (j 0).isLt; omega⟩) := by
  unfold V
  simp only [List.flatten_cons, List.flatten_nil, List.append_nil, StableHlo.after_append]
  entry_read
  pointwise

theorem rightY (c : Dev nD) (j : S1024x1024.Idx) : V m c main_v7 j
    = m ((c : Thread nD τ).loc main_arg1) (ix2 (j 1) ⟨5152 + (j 0).val, by have : (j 0).val < 1024 := (j 0).isLt; omega⟩) := by
  unfold V
  simp only [List.flatten_cons, List.flatten_nil, List.append_nil, StableHlo.after_append]
  entry_read
  pointwise

theorem rightM (c : Dev nD) (j : S2048x1024.Idx) : V m c main_v8 j
    = m ((c : Thread nD τ).loc main_arg1) (ix2 (j 1) ⟨6176 + (j 0).val, by have : (j 0).val < 2048 := (j 0).isLt; omega⟩) := by
  unfold V
  simp only [List.flatten_cons, List.flatten_nil, List.append_nil, StableHlo.after_append]
  entry_read
  pointwise

theorem strip (W : FVec Ideal S1024x8224 .f32) (j : S32x1024.Idx) :
    extractStridedSlice S32x1024 ![4096, 0] (transpose S8224x1024 [1, 0] (truncf .bf16 W bitsLt_bf16_f32) transposes_S1024x8224_S8224x1024_1_0)
      slices_S8224x1024_S32x1024_4096_0 j = W (ix2 (j 1) ⟨4096 + (j 0).val, by have : (j 0).val < 32 := (j 0).isLt; omega⟩) := by
  pointwise

theorem filled (A : FVec Ideal S32x1024 .bf16) (j : S128x1024.Idx) :
    pad S128x1024 ![0, 0] ![96, 0] ![0, 0] A (sitofp .bf16 (constantI S_ 32 0#32)) pads_S32x1024_S128x1024_0960_000 h_S_ j
      = if h : (j 0).val < 32 then A (ix2 ⟨(j 0).val, h⟩ (j 1)) else 0 := by
  pointwise
  by_cases h : (j 0).val < 32
  · rw [dif_pos h, dif_pos h]
  · rw [dif_neg h, dif_neg h]
    exact zeroWord

/-- The 32 columns of `w_in` as rows, and 96 rows of zeros. -/
def strips (W : S1024x8224.Idx → EReal) (j : S128x1024.Idx) : EReal :=
  if h : (j 0).val < 32 then W (ix2 (j 1) ⟨4096 + (j 0).val, by omega⟩) else 0

theorem rightA (c : Dev nD) (j : S128x1024.Idx) : V m c main_v5 j = strips (m ((c : Thread nD τ).loc main_arg1)) j := by
  unfold V strips
  simp only [List.flatten_cons, List.flatten_nil, List.append_nil, StableHlo.after_append]
  entry_read
  refine (filled _ j).trans ?_
  by_cases h : (j 0).val < 32
  · rw [dif_pos h, dif_pos h]
    exact strip _ _
  · rw [dif_neg h, dif_neg h]

/-- The gradient of the input projection in its input, the rows counted through. -/
def grad (W : S1024x8224.Idx → EReal) (Q : S2x2304x3072.Idx → EReal) (Z : S2x2304x1024.Idx → EReal) (A : S2x2304x128.Idx → EReal)
    (X Y : S2x2304x1024.Idx → EReal) (M : S2x2304x2048.Idx → EReal) (i : S4608x1024.Idx) : EReal :=
  part 3072 0 (by decide) (fun l => Q (ix3 (hi 2 2304 rfl (i 0)) (lo 2 2304 rfl (i 0)) l)) W (i 1)
    + (part 1024 3072 (by decide) (fun l => Z (ix3 (hi 2 2304 rfl (i 0)) (lo 2 2304 rfl (i 0)) l)) W (i 1)
    + (part 32 4096 (by decide) (fun l => A (ix3 (hi 2 2304 rfl (i 0)) (lo 2 2304 rfl (i 0)) (Fin.castAdd 96 l))) W (i 1)
    + (part 1024 4128 (by decide) (fun l => X (ix3 (hi 2 2304 rfl (i 0)) (lo 2 2304 rfl (i 0)) l)) W (i 1)
    + (part 1024 5152 (by decide) (fun l => Y (ix3 (hi 2 2304 rfl (i 0)) (lo 2 2304 rfl (i 0)) l)) W (i 1)
    + part 2048 6176 (by decide) (fun l => M (ix3 (hi 2 2304 rfl (i 0)) (lo 2 2304 rfl (i 0)) l)) W (i 1)))))

theorem entry (c : Dev nD) : sums m c = grad (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) := by
  funext i
  unfold sums G grad
  refine congrArg₂ (· + ·) ?_ (congrArg₂ (· + ·) ?_ (congrArg₂ (· + ·) ?_ (congrArg₂ (· + ·) ?_ (congrArg₂ (· + ·) ?_ ?_))))
  · exact Finset.sum_congr rfl fun l _ => congrArg₂ (· * ·) (leftQ m c _) (rightQ m c _)
  · exact Finset.sum_congr rfl fun l _ => congrArg₂ (· * ·) (leftZ m c _) (rightZ m c _)
  · refine (short _ fun l => ?_).trans (Finset.sum_congr rfl fun l _ => congrArg₂ (· * ·) (leftA m c _) ((rightA m c _).trans (dif_pos l.isLt)))
    rw [show V m c main_v5 (ix2 (Fin.natAdd 32 l) (i 1)) = (0 : EReal) from
      (rightA m c _).trans (dif_neg (by show ¬32 + l.val < 32; omega))]
    exact mul_zero _
  · exact Finset.sum_congr rfl fun l _ => congrArg₂ (· * ·) (leftX m c _) (rightX m c _)
  · exact Finset.sum_congr rfl fun l _ => congrArg₂ (· * ·) (leftY m c _) (rightY m c _)
  · exact Finset.sum_congr rfl fun l _ => congrArg₂ (· * ·) (leftM m c _) (rightM m c _)

theorem values : algebraic_Kernel10Ideal_Reference10Ideal := by
  intro m g m' g' _ hagree
  refine ⟨fun c => grad (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) (m ((c : Thread nD τ).loc main_arg7)),
    (θ_run _ _ _).mono (fun r h c => ⟨(h c).1.trans ((arr m c).trans (entry m c)), (h c).2⟩) (run m g),
    (θ_run _ _ _).mono (fun r h c => ⟨(h c).1.trans (funext fun i => ?_), (h c).2⟩) (Reference10Ideal.Value.run m' g')⟩
  obtain ⟨_, h1, h2, h3, h4, h5, h6, h7⟩ := hagree c
  refine Eq.trans ?_ (congrFun (congr (congr (congr (congr (congr (congrArg₂ grad h1 h2) h3) h4) h5) h6) h7) i)
  unfold grad
  refine (rows _ i).trans ((product _ _ _).trans ((cut _).trans ?_))
  refine congrArg₂ (· + ·) ?_ (congrArg₂ (· + ·) ?_ (congrArg₂ (· + ·) ?_ (congrArg₂ (· + ·) ?_ (congrArg₂ (· + ·) ?_ ?_))))
  · exact Finset.sum_congr rfl fun l _ => congrArg₂ (· * ·) (joinedQ _ _ _ _ _ _ _ _ l) rfl
  · exact Finset.sum_congr rfl fun l _ => congrArg₂ (· * ·) (joinedZ _ _ _ _ _ _ _ _ l) rfl
  · exact Finset.sum_congr rfl fun l _ => congrArg₂ (· * ·) ((joinedA _ _ _ _ _ _ _ _ l).trans (narrow _ _)) rfl
  · exact Finset.sum_congr rfl fun l _ => congrArg₂ (· * ·) (joinedX _ _ _ _ _ _ _ _ l) rfl
  · exact Finset.sum_congr rfl fun l _ => congrArg₂ (· * ·) (joinedY _ _ _ _ _ _ _ _ l) rfl
  · exact Finset.sum_congr rfl fun l _ => congrArg₂ (· * ·) (joinedM _ _ _ _ _ _ _ _ l) rfl

end Cert.Products.InDx

end
-- ==== Proof.OutDx.lean ====
module

public import proofs.«01_k».proof.Defs
public import proofs.«01_k».proof.Proof.Split
public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack

/-! The gradient of a square product `y @ w` in `y`: every block of the kernel's result is one product. -/

@[expose] public section

set_option maxRecDepth 16384

noncomputable section

namespace Cert.Products.OutDx

section
open Cert.Reference11Ideal Cert.Reference11Ideal.Gen Idealize.ShloMosaic

theorem rows (W : FVec Ideal S2x2048x1024 .f32) (i : S4096x1024.Idx) :
    shapeCast S4096x1024 W shapeCasts_S2x2048x1024_S4096x1024 i = W (ix3 (hi 2 2048 rfl (i 0)) (lo 2 2048 rfl (i 0)) (i 1)) := by
  pointwise

theorem shards (W : FVec Ideal S8x128x1024 .f32) (i : S1024x1024.Idx) :
    shapeCast S1024x1024 W shapeCasts_S8x128x1024_S1024x1024 i = W (ix3 (hi 8 128 rfl (i 0)) (lo 8 128 rfl (i 0)) (i 1)) := by
  pointwise

theorem product (D : FVec Ideal S2x2048x1024 .f32) (W : FVec Ideal S1024x1024 .f32) (i : S2x2048x1024.Idx) :
    Host.dotGeneral (F := Ideal) dot_S2x2048x1024_S1024x1024_S2x2048x1024_2_1_01_0_n_n none D W i
      = ∑ l : Fin 1024, D (ix3 (i 0) (i 1) l) * W (ix2 (i 2) l) := by
  pointwise

end

open Cert.Kernel11Ideal Cert.Kernel11Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1024x1024 .bf16) (j : S1024x1024.Idx) :
    k0_pay2 acc x y j = acc j + ∑ k : Fin 1024, x (ix2 (j 0) k) * y (ix2 (j 1) k) := by
  unfold k0_pay2
  pointwise

theorem zero (j : S1024x1024.Idx) : k0_pay1 (F := Ideal) j = 0 := by
  unfold k0_pay1
  pointwise

theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

theorem blkA (c : Dev nD) (t : Fin cfg0.N) (i : S1024x1024.Idx) (j : S4096x1024.Idx) (h0 : (j 0).val = t.val * 1024 + (i 0).val)
    (h1 : (j 1).val = (i 1).val) : iblk m c 0 t i = V m c main_v0 j := by
  blk_ext [iblk, idx t]

theorem blkB (c : Dev nD) (t : Fin cfg0.N) (i : S1024x1024.Idx) (j : S1024x1024.Idx) (h0 : (j 0).val = (i 0).val)
    (h1 : (j 1).val = (i 1).val) : iblk m c 1 t i = V m c main_v2 j := by
  blk_ext [iblk, idx t]

/-- The product of the two arrays the region reads. -/
def G (X : S4096x1024.Idx → EReal) (Y : S1024x1024.Idx → EReal) (i : S4096x1024.Idx) : EReal :=
  ∑ l : Fin 1024, X (ix2 (i 0) l) * Y (ix2 (i 1) l)

theorem arr (c : Dev nD) : (dats m 0 c).arrAt 2 cfg0.N = G (V m c main_v0) (V m c main_v2) := by
  refine (dats m 0 c).arrAt_eq_of_covers 2 _ (by decide +kernel) fun t hf y => ?_
  blk_simp
  have e := idx t
  have e0 : ((win0_2.blk t).view.emb y 0).val = t.val * 1024 + (y 0).val := by blk_simp [e]
  have e1 : ((win0_2.blk t).view.emb y 1).val = (y 1).val := by blk_simp [e]
  rw [after0_2]
  unfold outsAt0
  frame_out
  refine (pay _ _ _ y).trans ?_
  rw [zero]
  refine (zero_add _).trans ?_
  exact Finset.sum_congr rfl fun l _ => congrArg₂ (· * ·) (blkA m c t _ _ e0 rfl) (blkB m c t _ _ e1 rfl)

/-- The gradient of `y @ w` in `y`. -/
def grad (D : S2x2048x1024.Idx → EReal) (W : S8x128x1024.Idx → EReal) (i : S4096x1024.Idx) : EReal :=
  ∑ l : Fin 1024, D (ix3 (hi 2 2048 rfl (i 0)) (lo 2 2048 rfl (i 0)) l) * W (ix3 (hi 8 128 rfl (i 1)) (lo 8 128 rfl (i 1)) l)

theorem entry (c : Dev nD) : G (V m c main_v0) (V m c main_v2) = grad (m ((c : Thread nD τ).loc main_arg2)) (m ((c : Thread nD τ).loc main_arg1)) := by
  funext i
  refine Finset.sum_congr rfl fun l _ => congrArg₂ (· * ·) ?_ ?_
  · entry_read
    pointwise
  · entry_read
    pointwise

theorem values : algebraic_Kernel11Ideal_Reference11Ideal := by
  intro m g m' g' _ hagree
  refine ⟨fun c => grad (m ((c : Thread nD τ).loc main_arg2)) (m ((c : Thread nD τ).loc main_arg1)),
    (θ_run _ _ _).mono (fun r h c => ⟨(h c).1.trans ((arr m c).trans (entry m c)), (h c).2⟩) (Kernel11Ideal.Value.run_blocks m g),
    (θ_run _ _ _).mono (fun r h c => ⟨(h c).1.trans (funext fun i => ?_), (h c).2⟩) (Reference11Ideal.Value.run m' g')⟩
  refine Eq.trans ?_ (congrFun (congrArg₂ grad (hagree c).2.2 (hagree c).2.1) i)
  unfold grad
  exact (rows _ i).trans ((product _ _ _).trans (Finset.sum_congr rfl fun l _ => congrArg₂ (· * ·) rfl (shards _ _)))

end Cert.Products.OutDx

end
-- ==== Proof.OutDw.lean ====
module

public import proofs.«01_k».proof.Defs
public import proofs.«01_k».proof.Proof.Split
public import proofs.«01_k».proof.Proof.Gen.Kernel12Ideal.Value
public import proofs.«01_k».proof.Proof.Gen.Reference12Ideal.Run
public import Idealize.ShloMosaic.Lib.Pipeline.ValueKit
public import Idealize.ShloMosaic.Lib.Pipeline.ReadBack

/-! The gradient of a square product `y @ w` in `w`: a sum over the rows, four blocks of them added one after another. -/

@[expose] public section

set_option maxRecDepth 16384

noncomputable section

namespace Cert.Products.OutDw

open Cert.Kernel12Ideal Cert.Kernel12Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1024x1024 .bf16) (j : S1024x1024.Idx) :
    k0_pay2 acc x y j = acc j + ∑ k : Fin 1024, x (ix2 k (j 0)) * y (ix2 k (j 1)) := by
  unfold k0_pay2
  pointwise

theorem zero (j : S1024x1024.Idx) : k0_pay1 (F := Ideal) j = 0 := by
  unfold k0_pay1
  pointwise

theorem idx : ∀ t : Fin cfg0.N, win0_0.index t 0 = t.val % 4 ∧ win0_0.index t 1 = 0 ∧ win0_1.index t 0 = t.val % 4
    ∧ win0_1.index t 1 = 0 ∧ win0_2.index t 0 = 0 ∧ win0_2.index t 1 = 0 :=
  (by decide +kernel : ∀ t : Fin grid0.N, _)

theorem blkA (c : Dev nD) (t : Fin cfg0.N) (i : S1024x1024.Idx) (j : S4096x1024.Idx) (h0 : (j 0).val = t.val % 4 * 1024 + (i 0).val)
    (h1 : (j 1).val = (i 1).val) : iblk m c 0 t i = V m c main_v0 j := by
  blk_ext [iblk, idx t]

theorem blkB (c : Dev nD) (t : Fin cfg0.N) (i : S1024x1024.Idx) (j : S4096x1024.Idx) (h0 : (j 0).val = t.val % 4 * 1024 + (i 0).val)
    (h1 : (j 1).val = (i 1).val) : iblk m c 1 t i = V m c main_v1 j := by
  blk_ext [iblk, idx t]

/-- The product of the two arrays the region reads. -/
def G (X Y : S4096x1024.Idx → EReal) (i : S1024x1024.Idx) : EReal :=
  ∑ l : Fin 4096, X (ix2 l (i 0)) * Y (ix2 l (i 1))

theorem arr (c : Dev nD) : (dats m 0 c).arrAt 2 cfg0.N = G (V m c main_v0) (V m c main_v1) := by
  refine (dats m 0 c).arrAt_eq_of_covers 2 _ (by decide +kernel) fun t hf y => ?_
  blk_simp
  have ht := (flush0_2 t).mp hf
  rw [after0_2, show (outsAt0 m c t.val t.isLt).1 = k0_pay3 (outsAt0 m c t.val t.isLt).2 from by
      rw [outsAt0_C m c t (by omega) ht]; frame_out]
  rw [show k0_pay3 (outsAt0 m c t.val t.isLt).2 y = (outsAt0 m c t.val t.isLt).2 y from by unfold k0_pay3; pointwise]
  rw [Pipeline.eq_sum_fin_of_reset_step_apply_of_flush (fun n h => (outsAt0 m c n h).2) 4 (fun _ => 0) _
    (fun t h j => by rw [outsAt0_A m c t h (by omega)]; frame_out; rw [pay, zero])
    (fun t h j => by
      by_cases h1 : t.val % 4 = 3
      · rw [outsAt0_C m c t h h1]; frame_out; simp only [read_unread_whole]; rw [pay]
      · rw [outsAt0_B m c t h h1]; frame_out; simp only [read_unread_whole]; rw [pay]) t ht y, zero_add]
  have e := idx t
  have e0 : ((win0_2.blk t).view.emb y 0).val = (y 0).val := by blk_simp [e]
  have e1 : ((win0_2.blk t).view.emb y 1).val = (y 1).val := by blk_simp [e]
  refine Fin.sum_mul_add_congr fun s k hl => congrArg₂ (· * ·) (blkA m c _ _ _ ?_ e0) (blkB m c _ _ _ ?_ e1)
  · show s.val * 1024 + k.val = (4 * (t.val / 4) + s.val) % 4 * 1024 + k.val
    omega
  · show s.val * 1024 + k.val = (4 * (t.val / 4) + s.val) % 4 * 1024 + k.val
    omega

/-- The gradient of `y @ w` in `w`. -/
def grad (Y D : S2x2048x1024.Idx → EReal) (i : S1024x1024.Idx) : EReal :=
  ∑ b : Fin 2, ∑ n : Fin 2048, D (ix3 b n (i 1)) * Y (ix3 b n (i 0))

theorem entry (c : Dev nD) : G (V m c main_v0) (V m c main_v1) = grad (m ((c : Thread nD τ).loc main_arg0)) (m ((c : Thread nD τ).loc main_arg2)) := by
  funext i
  refine (Fin.sum_mul_add_congr fun b n hl => ?_).symm
  refine (mul_comm _ _).trans (congrArg₂ (· * ·) ?_ ?_)
  · entry_read
    pointwise
  · entry_read
    pointwise

theorem values : algebraic_Kernel12Ideal_Reference12Ideal := by
  intro m g m' g' _ hagree
  refine ⟨fun c => grad (m ((c : Thread nD τ).loc main_arg0)) (m ((c : Thread nD τ).loc main_arg2)),
    (θ_run _ _ _).mono (fun r h c => ⟨(h c).1.trans ((arr m c).trans (entry m c)), (h c).2⟩) (Kernel12Ideal.Value.run_blocks m g),
    (θ_run _ _ _).mono (fun r h c => ⟨(h c).1.trans (funext fun i => ?_), (h c).2⟩) (Reference12Ideal.Value.run m' g')⟩
  refine Eq.trans ?_ (congrFun (congrArg₂ grad (hagree c).1 (hagree c).2.2) i)
  unfold grad
  pointwise

end Cert.Products.OutDw

end
-- ==== Proof.Out.lean ====
module

public import proofs.«01_k».proof.Defs
public import proofs.«01_k».proof.Proof.Split
public import proofs.«01_k».proof.Proof.Gen.Kernel13Ideal.Value
public import proofs.«01_k».proof.Proof.Gen.Reference13Ideal.Run
public import Idealize.ShloMosaic.Lib.Pipeline.ValueKit
public import Idealize.ShloMosaic.Lib.Pipeline.ReadBack

/-! A square product `y @ w`: every block of the kernel's result is one product. -/

@[expose] public section

set_option maxRecDepth 16384

noncomputable section

namespace Cert.Products.Out

section
open Cert.Reference13Ideal Cert.Reference13Ideal.Gen Idealize.ShloMosaic

theorem rows (W : FVec Ideal S2x2048x1024 .f32) (i : S4096x1024.Idx) :
    shapeCast S4096x1024 W shapeCasts_S2x2048x1024_S4096x1024 i = W (ix3 (hi 2 2048 rfl (i 0)) (lo 2 2048 rfl (i 0)) (i 1)) := by
  pointwise

theorem shards (W : FVec Ideal S8x128x1024 .f32) (i : S1024x1024.Idx) :
    shapeCast S1024x1024 W shapeCasts_S8x128x1024_S1024x1024 i = W (ix3 (hi 8 128 rfl (i 0)) (lo 8 128 rfl (i 0)) (i 1)) := by
  pointwise

theorem product (Y : FVec Ideal S2x2048x1024 .f32) (W : FVec Ideal S1024x1024 .f32) (i : S2x2048x1024.Idx) :
    Host.dotGeneral (F := Ideal) dot_S2x2048x1024_S1024x1024_S2x2048x1024_2_0_01_1_n_n none Y W i
      = ∑ l : Fin 1024, Y (ix3 (i 0) (i 1) l) * W (ix2 l (i 2)) := by
  pointwise

end

open Cert.Kernel13Ideal Cert.Kernel13Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1024x1024 .bf16) (j : S1024x1024.Idx) :
    k0_pay2 acc x y j = acc j + ∑ k : Fin 1024, x (ix2 (j 0) k) * y (ix2 k (j 1)) := by
  unfold k0_pay2
  pointwise

theorem zero (j : S1024x1024.Idx) : k0_pay1 (F := Ideal) j = 0 := by
  unfold k0_pay1
  pointwise

theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

theorem blkA (c : Dev nD) (t : Fin cfg0.N) (i : S1024x1024.Idx) (j : S4096x1024.Idx) (h0 : (j 0).val = t.val * 1024 + (i 0).val)
    (h1 : (j 1).val = (i 1).val) : iblk m c 0 t i = V m c main_v0 j := by
  blk_ext [iblk, idx t]

theorem blkB (c : Dev nD) (t : Fin cfg0.N) (i : S1024x1024.Idx) (j : S1024x1024.Idx) (h0 : (j 0).val = (i 0).val)
    (h1 : (j 1).val = (i 1).val) : iblk m c 1 t i = V m c main_v2 j := by
  blk_ext [iblk, idx t]

/-- The product of the two arrays the region reads. -/
def G (X : S4096x1024.Idx → EReal) (Y : S1024x1024.Idx → EReal) (i : S4096x1024.Idx) : EReal :=
  ∑ l : Fin 1024, X (ix2 (i 0) l) * Y (ix2 l (i 1))

theorem arr (c : Dev nD) : (dats m 0 c).arrAt 2 cfg0.N = G (V m c main_v0) (V m c main_v2) := by
  refine (dats m 0 c).arrAt_eq_of_covers 2 _ (by decide +kernel) fun t hf y => ?_
  blk_simp
  have e := idx t
  have e0 : ((win0_2.blk t).view.emb y 0).val = t.val * 1024 + (y 0).val := by blk_simp [e]
  have e1 : ((win0_2.blk t).view.emb y 1).val = (y 1).val := by blk_simp [e]
  rw [after0_2]
  unfold outsAt0
  frame_out
  refine (pay _ _ _ y).trans ?_
  rw [zero]
  refine (zero_add _).trans ?_
  exact Finset.sum_congr rfl fun l _ => congrArg₂ (· * ·) (blkA m c t _ _ e0 rfl) (blkB m c t _ _ rfl e1)

/-- The product `y @ w`, its rows counted through. -/
def prod (Y : S2x2048x1024.Idx → EReal) (W : S8x128x1024.Idx → EReal) (i : S4096x1024.Idx) : EReal :=
  ∑ l : Fin 1024, Y (ix3 (hi 2 2048 rfl (i 0)) (lo 2 2048 rfl (i 0)) l) * W (ix3 (hi 8 128 rfl l) (lo 8 128 rfl l) (i 1))

theorem entry (c : Dev nD) : G (V m c main_v0) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel13Ideal_Reference13Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel13Ideal.Value.run_blocks m g),
    (θ_run _ _ _).mono (fun r h c => ⟨(h c).1.trans (funext fun i => ?_), (h c).2⟩) (Reference13Ideal.Value.run m' g')⟩
  refine Eq.trans ?_ (congrFun (congrArg₂ prod (hagree c).1 (hagree c).2) i)
  unfold prod
  exact (rows _ i).trans ((product _ _ _).trans (Finset.sum_congr rfl fun l _ => congrArg₂ (· * ·) rfl (shards _ _)))

end Cert.Products.Out

end
-- ==== Proof.Bdn.lean ====
module

public import proofs.«01_k».proof.Defs
public import proofs.«01_k».proof.Proof.Split
public import proofs.«01_k».proof.Proof.Gen.Kernel14Ideal.Value
public import proofs.«01_k».proof.Proof.Gen.Reference14Ideal.Run
public import proofs.«01_k».proof.Proof.Out
public import Idealize.ShloMosaic.Lib.Pipeline.ValueKit
public import Idealize.ShloMosaic.Lib.Pipeline.ReadBack

/-! A square product `y @ w`: every block of the kernel's result is one product, stored in bf16. -/

@[expose] public section

set_option maxRecDepth 16384

noncomputable section

namespace Cert.Products.Bdn

section
open Cert.Reference14Ideal Cert.Reference14Ideal.Gen Idealize.ShloMosaic

theorem rows (W : FVec Ideal S2x2048x1024 .f32) (i : S4096x1024.Idx) :
    shapeCast S4096x1024 (truncf .bf16 W bitsLt_bf16_f32) shapeCasts_S2x2048x1024_S4096x1024 i = W (ix3 (hi 2 2048 rfl (i 0)) (lo 2 2048 rfl (i 0)) (i 1)) := by
  pointwise

end

open Cert.Kernel14Ideal Cert.Kernel14Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1024x1024 .bf16) (j : S1024x1024.Idx) :
    k0_pay2 acc x y j = acc j + ∑ k : Fin 1024, x (ix2 (j 0) k) * y (ix2 k (j 1)) := by
  unfold k0_pay2
  pointwise

theorem zero (j : S1024x1024.Idx) : k0_pay1 (F := Ideal) j = 0 := by
  unfold k0_pay1
  pointwise

theorem round (v : Vec Ideal S1024x1024 .f32) (j : S1024x1024.Idx) : k0_pay3 v j = v j := by
  unfold k0_pay3
  pointwise

theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

theorem blkA (c : Dev nD) (t : Fin cfg0.N) (i : S1024x1024.Idx) (j : S4096x1024.Idx) (h0 : (j 0).val = t.val * 1024 + (i 0).val)
    (h1 : (j 1).val = (i 1).val) : iblk m c 0 t i = V m c main_v0 j := by
  blk_ext [iblk, idx t]

theorem blkB (c : Dev nD) (t : Fin cfg0.N) (i : S1024x1024.Idx) (j : S1024x1024.Idx) (h0 : (j 0).val = (i 0).val)
    (h1 : (j 1).val = (i 1).val) : iblk m c 1 t i = V m c main_v2 j := by
  blk_ext [iblk, idx t]

/-- The product of the two arrays the region reads. -/
def G (X : S4096x1024.Idx → EReal) (Y : S1024x1024.Idx → EReal) (i : S4096x1024.Idx) : EReal :=
  ∑ l : Fin 1024, X (ix2 (i 0) l) * Y (ix2 l (i 1))

theorem arr (c : Dev nD) : (dats m 0 c).arrAt 2 cfg0.N = G (V m c main_v0) (V m c main_v2) := by
  refine (dats m 0 c).arrAt_eq_of_covers 2 _ (by decide +kernel) fun t hf y => ?_
  blk_simp
  have e := idx t
  have e0 : ((win0_2.blk t).view.emb y 0).val = t.val * 1024 + (y 0).val := by blk_simp [e]
  have e1 : ((win0_2.blk t).view.emb y 1).val = (y 1).val := by blk_simp [e]
  rw [after0_2]
  unfold outsAt0
  frame_out
  refine (round _ y).trans ((pay _ _ _ y).trans ?_)
  rw [zero]
  refine (zero_add _).trans ?_
  exact Finset.sum_congr rfl fun l _ => congrArg₂ (· * ·) (blkA m c t _ _ e0 rfl) (blkB m c t _ _ rfl e1)

/-- The product `y @ w`, its rows counted through. -/
def prod (Y : S2x2048x1024.Idx → EReal) (W : S8x128x1024.Idx → EReal) (i : S4096x1024.Idx) : EReal :=
  ∑ l : Fin 1024, Y (ix3 (hi 2 2048 rfl (i 0)) (lo 2 2048 rfl (i 0)) l) * W (ix3 (hi 8 128 rfl l) (lo 8 128 rfl l) (i 1))

theorem entry (c : Dev nD) : G (V m c main_v0) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel14Ideal_Reference14Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel14Ideal.Value.run_blocks m g),
    (θ_run _ _ _).mono (fun r h c => ⟨(h c).1.trans (funext fun i => ?_), (h c).2⟩) (Reference14Ideal.Value.run m' g')⟩
  refine Eq.trans ?_ (congrFun (congrArg₂ prod (hagree c).1 (hagree c).2) i)
  unfold prod
  exact (rows _ i).trans ((Out.product _ _ _).trans (Finset.sum_congr rfl fun l _ => congrArg₂ (· * ·) rfl (Out.shards _ _)))

end Cert.Products.Bdn

end
-- ==== Proof.UpGate.lean ====
module

public import proofs.«01_k».proof.Defs
public import proofs.«01_k».proof.Proof.Split
public import proofs.«01_k».proof.Proof.Gen.Kernel15Ideal.Value
public import proofs.«01_k».proof.Proof.Gen.Reference15Ideal.Run
public import Idealize.ShloMosaic.Lib.Pipeline.ValueKit
public import Idealize.ShloMosaic.Lib.Pipeline.ReadBack

/-! The first half of the columns of `u @ w_up`: every block of the kernel's result is one product. -/

@[expose] public section

set_option maxRecDepth 16384

noncomputable section

namespace Cert.Products.UpGate

section
open Cert.Reference15Ideal Cert.Reference15Ideal.Gen Idealize.ShloMosaic

theorem rows (W : FVec Ideal S2x2048x8192 .f32) (i : S4096x4096.Idx) :
    shapeCast S4096x4096 (extractStridedSlice S2x2048x4096 ![0, 0, 0] W slices_S2x2048x8192_S2x2048x4096_0_0_0) shapeCasts_S2x2048x4096_S4096x4096 i
      = W (ix3 (hi 2 2048 rfl (i 0)) (lo 2 2048 rfl (i 0)) ⟨(i 1).val, by have : (i 1).val < 4096 := (i 1).isLt; omega⟩) := by
  pointwise

theorem product (U : FVec Ideal S2x2048x1024 .f32) (W : FVec Ideal S1024x8192 .f32) (i : S2x2048x8192.Idx) :
    Host.dotGeneral (F := Ideal) dot_S2x2048x1024_S1024x8192_S2x2048x8192_2_0_01_1_n_n none U W i
      = ∑ l : Fin 1024, U (ix3 (i 0) (i 1) l) * W (ix2 l (i 2)) := by
  pointwise

theorem shards (W : FVec Ideal S8x1024x1024 .f32) (i : S1024x8192.Idx) :
    shapeCast S1024x8192 (transpose S1024x8x1024 [1, 0, 2] W transposes_S8x1024x1024_S1024x8x1024_1_0_2) shapeCasts_S1024x8x1024_S1024x8192 i
      = W (ix3 (hi 8 1024 rfl (i 1)) (i 0) (lo 8 1024 rfl (i 1))) := by
  pointwise

end

open Cert.Kernel15Ideal Cert.Kernel15Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1x1024x1024 .bf16) (j : S1024x1024.Idx) :
    k0_pay2 acc x y j = acc j + ∑ k : Fin 1024, x (ix2 (j 0) k) * y (ix3 0 k (j 1)) := by
  unfold k0_pay2
  pointwise

theorem zero (j : S1024x1024.Idx) : k0_pay1 (F := Ideal) j = 0 := by
  unfold k0_pay1
  pointwise

theorem idx : ∀ t : Fin cfg0.N, win0_0.index t 0 = t.val / 4 ∧ win0_0.index t 1 = 0 ∧ win0_1.index t 0 = t.val % 4
    ∧ win0_1.index t 1 = 0 ∧ win0_1.index t 2 = 0 ∧ win0_2.index t 0 = t.val / 4 ∧ win0_2.index t 1 = t.val % 4 :=
  (by decide +kernel : ∀ t : Fin grid0.N, _)

theorem blkA (c : Dev nD) (t : Fin cfg0.N) (i : S1024x1024.Idx) (j : S4096x1024.Idx) (h0 : (j 0).val = t.val / 4 * 1024 + (i 0).val)
    (h1 : (j 1).val = (i 1).val) : iblk m c 0 t i = V m c main_v0 j := by
  blk_ext [iblk, idx t]

theorem blkB (c : Dev nD) (t : Fin cfg0.N) (i : S1x1024x1024.Idx) (j : S4x1024x1024.Idx) (h0 : (j 0).val = t.val % 4)
    (h1 : (j 1).val = (i 1).val) (h2 : (j 2).val = (i 2).val) : iblk m c 1 t i = V m c main_v2 j := by
  blk_ext [iblk, idx t]

/-- The product of the two arrays the region reads. -/
def G (X : S4096x1024.Idx → EReal) (Y : S4x1024x1024.Idx → EReal) (i : S4096x4096.Idx) : EReal :=
  ∑ l : Fin 1024, X (ix2 (i 0) l) * Y (ix3 (hi 4 1024 rfl (i 1)) l (lo 4 1024 rfl (i 1)))

theorem arr (c : Dev nD) : (dats m 0 c).arrAt 2 cfg0.N = G (V m c main_v0) (V m c main_v2) := by
  refine (dats m 0 c).arrAt_eq_of_covers 2 _ (by decide +kernel) fun t hf y => ?_
  blk_simp
  have e := idx t
  have e0 : ((win0_2.blk t).view.emb y 0).val = t.val / 4 * 1024 + (y 0).val := by blk_simp [e]
  have e1 : ((win0_2.blk t).view.emb y 1).val = t.val % 4 * 1024 + (y 1).val := by blk_simp [e]
  have y1 : (y 1).val < 1024 := (y 1).isLt
  rw [after0_2]
  unfold outsAt0
  frame_out
  refine (pay _ _ _ y).trans ?_
  rw [zero]
  refine (zero_add _).trans ?_
  refine Finset.sum_congr rfl fun l _ => congrArg₂ (· * ·) (blkA m c t _ _ e0 rfl) (blkB m c t _ _ ?_ rfl ?_)
  · show ((win0_2.blk t).view.emb y 1).val / 1024 = t.val % 4
    omega
  · show ((win0_2.blk t).view.emb y 1).val % 1024 = (y 1).val
    omega

/-- The first 4096 columns of `u @ w_up`. -/
def prod (U : S2x2048x1024.Idx → EReal) (W : S8x1024x1024.Idx → EReal) (i : S4096x4096.Idx) : EReal :=
  ∑ l : Fin 1024, U (ix3 (hi 2 2048 rfl (i 0)) (lo 2 2048 rfl (i 0)) l) * W (ix3 ⟨(i 1).val / 1024, by have : (i 1).val < 4096 := (i 1).isLt; omega⟩ l ⟨(i 1).val % 1024, by omega⟩)

theorem entry (c : Dev nD) : G (V m c main_v0) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel15Ideal_Reference15Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel15Ideal.Value.run_blocks m g),
    (θ_run _ _ _).mono (fun r h c => ⟨(h c).1.trans (funext fun i => ?_), (h c).2⟩) (Reference15Ideal.Value.run m' g')⟩
  refine Eq.trans ?_ (congrFun (congrArg₂ prod (hagree c).1 (hagree c).2) i)
  unfold prod
  exact (rows _ i).trans ((product _ _ _).trans (Finset.sum_congr rfl fun l _ => congrArg₂ (· * ·) rfl (shards _ _)))

end Cert.Products.UpGate

end
-- ==== Proof.UpVal.lean ====
module

public import proofs.«01_k».proof.Defs
public import proofs.«01_k».proof.Proof.Split
public import proofs.«01_k».proof.Proof.Gen.Kernel16Ideal.Value
public import proofs.«01_k».proof.Proof.Gen.Reference16Ideal.Run
public import proofs.«01_k».proof.Proof.UpGate
public import Idealize.ShloMosaic.Lib.Pipeline.ValueKit
public import Idealize.ShloMosaic.Lib.Pipeline.ReadBack

/-! The second half of the columns of `u @ w_up`: every block of the kernel's result is one product, stored in bf16. -/

@[expose] public section

set_option maxRecDepth 16384

noncomputable section

namespace Cert.Products.UpVal

section
open Cert.Reference16Ideal Cert.Reference16Ideal.Gen Idealize.ShloMosaic

theorem rows (W : FVec Ideal S2x2048x8192 .f32) (i : S4096x4096.Idx) :
    shapeCast S4096x4096 (truncf .bf16 (extractStridedSlice S2x2048x4096 ![0, 0, 4096] W slices_S2x2048x8192_S2x2048x4096_0_0_4096) bitsLt_bf16_f32) shapeCasts_S2x2048x4096_S4096x4096 i
      = W (ix3 (hi 2 2048 rfl (i 0)) (lo 2 2048 rfl (i 0)) ⟨4096 + (i 1).val, by have : (i 1).val < 4096 := (i 1).isLt; omega⟩) := by
  pointwise

theorem late (W : FVec Ideal S8x1024x1024 .f32) (l : Fin 1024) (k : Fin 4096) :
    W (ix3 (hi 8 1024 rfl (⟨4096 + k.val, by omega⟩ : Fin 8192)) l (lo 8 1024 rfl (⟨4096 + k.val, by omega⟩ : Fin 8192)))
      = W (ix3 ⟨4 + k.val / 1024, by omega⟩ l ⟨k.val % 1024, by omega⟩) :=
  congrArg₂ (fun a b => W (ix3 a l b)) (Fin.ext (by show (4096 + k.val) / 1024 = 4 + k.val / 1024; omega))
    (Fin.ext (by show (4096 + k.val) % 1024 = k.val % 1024; omega))

end

open Cert.Kernel16Ideal Cert.Kernel16Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1x1024x1024 .bf16) (j : S1024x1024.Idx) :
    k0_pay2 acc x y j = acc j + ∑ k : Fin 1024, x (ix2 (j 0) k) * y (ix3 0 k (j 1)) := by
  unfold k0_pay2
  pointwise

theorem zero (j : S1024x1024.Idx) : k0_pay1 (F := Ideal) j = 0 := by
  unfold k0_pay1
  pointwise

theorem round (v : Vec Ideal S1024x1024 .f32) (j : S1024x1024.Idx) : k0_pay3 v j = v j := by
  unfold k0_pay3
  pointwise

theorem idx : ∀ t : Fin cfg0.N, win0_0.index t 0 = t.val / 4 ∧ win0_0.index t 1 = 0 ∧ win0_1.index t 0 = t.val % 4
    ∧ win0_1.index t 1 = 0 ∧ win0_1.index t 2 = 0 ∧ win0_2.index t 0 = t.val / 4 ∧ win0_2.index t 1 = t.val % 4 :=
  (by decide +kernel : ∀ t : Fin grid0.N, _)

theorem blkA (c : Dev nD) (t : Fin cfg0.N) (i : S1024x1024.Idx) (j : S4096x1024.Idx) (h0 : (j 0).val = t.val / 4 * 1024 + (i 0).val)
    (h1 : (j 1).val = (i 1).val) : iblk m c 0 t i = V m c main_v0 j := by
  blk_ext [iblk, idx t]

theorem blkB (c : Dev nD) (t : Fin cfg0.N) (i : S1x1024x1024.Idx) (j : S4x1024x1024.Idx) (h0 : (j 0).val = t.val % 4)
    (h1 : (j 1).val = (i 1).val) (h2 : (j 2).val = (i 2).val) : iblk m c 1 t i = V m c main_v2 j := by
  blk_ext [iblk, idx t]

/-- The product of the two arrays the region reads. -/
def G (X : S4096x1024.Idx → EReal) (Y : S4x1024x1024.Idx → EReal) (i : S4096x4096.Idx) : EReal :=
  ∑ l : Fin 1024, X (ix2 (i 0) l) * Y (ix3 (hi 4 1024 rfl (i 1)) l (lo 4 1024 rfl (i 1)))

theorem arr (c : Dev nD) : (dats m 0 c).arrAt 2 cfg0.N = G (V m c main_v0) (V m c main_v2) := by
  refine (dats m 0 c).arrAt_eq_of_covers 2 _ (by decide +kernel) fun t hf y => ?_
  blk_simp
  have e := idx t
  have e0 : ((win0_2.blk t).view.emb y 0).val = t.val / 4 * 1024 + (y 0).val := by blk_simp [e]
  have e1 : ((win0_2.blk t).view.emb y 1).val = t.val % 4 * 1024 + (y 1).val := by blk_simp [e]
  have y1 : (y 1).val < 1024 := (y 1).isLt
  rw [after0_2]
  unfold outsAt0
  frame_out
  refine (round _ y).trans ((pay _ _ _ y).trans ?_)
  rw [zero]
  refine (zero_add _).trans ?_
  refine Finset.sum_congr rfl fun l _ => congrArg₂ (· * ·) (blkA m c t _ _ e0 rfl) (blkB m c t _ _ ?_ rfl ?_)
  · show ((win0_2.blk t).view.emb y 1).val / 1024 = t.val % 4
    omega
  · show ((win0_2.blk t).view.emb y 1).val % 1024 = (y 1).val
    omega

/-- The last 4096 columns of `u @ w_up`. -/
def prod (U : S2x2048x1024.Idx → EReal) (W : S8x1024x1024.Idx → EReal) (i : S4096x4096.Idx) : EReal :=
  ∑ l : Fin 1024, U (ix3 (hi 2 2048 rfl (i 0)) (lo 2 2048 rfl (i 0)) l) * W (ix3 ⟨4 + (i 1).val / 1024, by have : (i 1).val < 4096 := (i 1).isLt; omega⟩ l ⟨(i 1).val % 1024, by omega⟩)

theorem entry (c : Dev nD) : G (V m c main_v0) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel16Ideal_Reference16Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel16Ideal.Value.run_blocks m g),
    (θ_run _ _ _).mono (fun r h c => ⟨(h c).1.trans (funext fun i => ?_), (h c).2⟩) (Reference16Ideal.Value.run m' g')⟩
  refine Eq.trans ?_ (congrFun (congrArg₂ prod (hagree c).1 (hagree c).2) i)
  unfold prod
  exact (rows _ i).trans ((UpGate.product _ _ _).trans (Finset.sum_congr rfl fun l _ => congrArg₂ (· * ·) rfl ((UpGate.shards _ _).trans (late _ _ _))))

end Cert.Products.UpVal

end
-- ==== Proof.Down.lean ====
module

public import proofs.«01_k».proof.Defs
public import proofs.«01_k».proof.Proof.Split
public import proofs.«01_k».proof.Proof.Gen.Kernel17Ideal.Value
public import proofs.«01_k».proof.Proof.Gen.Reference17Ideal.Run
public import Idealize.ShloMosaic.Lib.Pipeline.ValueKit
public import Idealize.ShloMosaic.Lib.Pipeline.ReadBack

/-! The product `f @ w_down`: a sum over the columns of `f`, four blocks of them added one after another. -/

@[expose] public section

set_option maxRecDepth 16384

noncomputable section

namespace Cert.Products.Down

section
open Cert.Reference17Ideal Cert.Reference17Ideal.Gen Idealize.ShloMosaic

theorem rows (W : FVec Ideal S2x2048x1024 .f32) (i : S4096x1024.Idx) :
    shapeCast S4096x1024 W shapeCasts_S2x2048x1024_S4096x1024 i = W (ix3 (hi 2 2048 rfl (i 0)) (lo 2 2048 rfl (i 0)) (i 1)) := by
  pointwise

theorem shards (W : FVec Ideal S8x512x1024 .f32) (i : S4096x1024.Idx) :
    shapeCast S4096x1024 W shapeCasts_S8x512x1024_S4096x1024 i = W (ix3 (hi 8 512 rfl (i 0)) (lo 8 512 rfl (i 0)) (i 1)) := by
  pointwise

theorem product (X : FVec Ideal S2x2048x4096 .f32) (W : FVec Ideal S4096x1024 .f32) (i : S2x2048x1024.Idx) :
    Host.dotGeneral (F := Ideal) dot_S2x2048x4096_S4096x1024_S2x2048x1024_2_0_01_1_n_n none X W i
      = ∑ l : Fin 4096, X (ix3 (i 0) (i 1) l) * W (ix2 l (i 2)) := by
  pointwise

end

open Cert.Kernel17Ideal Cert.Kernel17Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1024x1024 .bf16) (j : S1024x1024.Idx) :
    k0_pay2 acc x y j = acc j + ∑ k : Fin 1024, x (ix2 (j 0) k) * y (ix2 k (j 1)) := by
  unfold k0_pay2
  pointwise

theorem zero (j : S1024x1024.Idx) : k0_pay1 (F := Ideal) j = 0 := by
  unfold k0_pay1
  pointwise

theorem idx : ∀ t : Fin cfg0.N, win0_0.index t 0 = t.val / 4 ∧ win0_0.index t 1 = t.val % 4 ∧ win0_1.index t 0 = t.val % 4
    ∧ win0_1.index t 1 = 0 ∧ win0_2.index t 0 = t.val / 4 ∧ win0_2.index t 1 = 0 :=
  (by decide +kernel : ∀ t : Fin grid0.N, _)

theorem blkA (c : Dev nD) (t : Fin cfg0.N) (i : S1024x1024.Idx) (j : S4096x4096.Idx) (h0 : (j 0).val = t.val / 4 * 1024 + (i 0).val)
    (h1 : (j 1).val = t.val % 4 * 1024 + (i 1).val) : iblk m c 0 t i = V m c main_v0 j := by
  blk_ext [iblk, idx t]

theorem blkB (c : Dev nD) (t : Fin cfg0.N) (i : S1024x1024.Idx) (j : S4096x1024.Idx) (h0 : (j 0).val = t.val % 4 * 1024 + (i 0).val)
    (h1 : (j 1).val = (i 1).val) : iblk m c 1 t i = V m c main_v2 j := by
  blk_ext [iblk, idx t]

/-- The product of the two arrays the region reads. -/
def G (X : S4096x4096.Idx → EReal) (Y : S4096x1024.Idx → EReal) (i : S4096x1024.Idx) : EReal :=
  ∑ l : Fin 4096, X (ix2 (i 0) l) * Y (ix2 l (i 1))

theorem arr (c : Dev nD) : (dats m 0 c).arrAt 2 cfg0.N = G (V m c main_v0) (V m c main_v2) := by
  refine (dats m 0 c).arrAt_eq_of_covers 2 _ (by decide +kernel) fun t hf y => ?_
  blk_simp
  have ht := (flush0_2 t).mp hf
  rw [after0_2, show (outsAt0 m c t.val t.isLt).1 = (outsAt0 m c t.val t.isLt).2 from by
      rw [outsAt0_C m c t (by omega) ht]; frame_out]
  rw [Pipeline.eq_sum_fin_of_reset_step_apply_of_flush (fun n h => (outsAt0 m c n h).2) 4 (fun _ => 0) _
    (fun t h j => by rw [outsAt0_A m c t h (by omega)]; frame_out; rw [pay, zero])
    (fun t h j => by
      by_cases h1 : t.val % 4 = 3
      · rw [outsAt0_C m c t h h1]; frame_out; simp only [read_unread_whole]; rw [pay]
      · rw [outsAt0_B m c t h h1]; frame_out; simp only [read_unread_whole]; rw [pay]) t ht y, zero_add]
  have e := idx t
  have e0 : ((win0_2.blk t).view.emb y 0).val = t.val / 4 * 1024 + (y 0).val := by blk_simp [e]
  have e1 : ((win0_2.blk t).view.emb y 1).val = (y 1).val := by blk_simp [e]
  refine Fin.sum_mul_add_congr fun s k hl => congrArg₂ (· * ·) (blkA m c _ _ _ (e0.trans ?_) ?_) (blkB m c _ _ _ ?_ e1)
  · show _ = (4 * (t.val / 4) + s.val) / 4 * 1024 + (y 0).val
    omega
  · show s.val * 1024 + k.val = (4 * (t.val / 4) + s.val) % 4 * 1024 + k.val
    omega
  · show s.val * 1024 + k.val = (4 * (t.val / 4) + s.val) % 4 * 1024 + k.val
    omega

/-- The product `f @ w_down`, its rows counted through. -/
def prod (X : S2x2048x4096.Idx → EReal) (W : S8x512x1024.Idx → EReal) (i : S4096x1024.Idx) : EReal :=
  ∑ l : Fin 4096, X (ix3 (hi 2 2048 rfl (i 0)) (lo 2 2048 rfl (i 0)) l) * W (ix3 (hi 8 512 rfl l) (lo 8 512 rfl l) (i 1))

theorem entry (c : Dev nD) : G (V m c main_v0) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel17Ideal_Reference17Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel17Ideal.Value.run_blocks m g),
    (θ_run _ _ _).mono (fun r h c => ⟨(h c).1.trans (funext fun i => ?_), (h c).2⟩) (Reference17Ideal.Value.run m' g')⟩
  refine Eq.trans ?_ (congrFun (congrArg₂ prod (hagree c).1 (hagree c).2) i)
  unfold prod
  exact (rows _ i).trans ((product _ _ _).trans (Finset.sum_congr rfl fun l _ => congrArg₂ (· * ·) rfl (shards _ _)))

end Cert.Products.Down

end
-- ==== Proof.InQkv.lean ====
module

public import proofs.«01_k».proof.Defs
public import proofs.«01_k».proof.Proof.Split
public import proofs.«01_k».proof.Proof.Gen.Kernel18Ideal.Value
public import proofs.«01_k».proof.Proof.Gen.Reference18Ideal.Run
public import Idealize.ShloMosaic.Lib.Pipeline.ValueKit
public import Idealize.ShloMosaic.Lib.Pipeline.ReadBack

/-! The first 3072 columns of the input projection `u @ w_in`: every block of the kernel's result is one product. -/

@[expose] public section

set_option maxRecDepth 16384

noncomputable section

namespace Cert.Products.InQkv

section
open Cert.Reference18Ideal Cert.Reference18Ideal.Gen Idealize.ShloMosaic

theorem rows (W : FVec Ideal S2x2304x8224 .f32) (i : S4608x3072.Idx) :
    shapeCast S4608x3072 (extractStridedSlice S2x2304x3072 ![0, 0, 0] W slices_S2x2304x8224_S2x2304x3072_0_0_0) shapeCasts_S2x2304x3072_S4608x3072 i
      = W (ix3 (hi 2 2304 rfl (i 0)) (lo 2 2304 rfl (i 0)) ⟨(i 1).val, by have : (i 1).val < 3072 := (i 1).isLt; omega⟩) := by
  pointwise

theorem product (U : FVec Ideal S2x2304x1024 .f32) (W : FVec Ideal S1024x8224 .f32) (i : S2x2304x8224.Idx) :
    Host.dotGeneral (F := Ideal) dot_S2x2304x1024_S1024x8224_S2x2304x8224_2_0_01_1_n_n none U W i
      = ∑ l : Fin 1024, U (ix3 (i 0) (i 1) l) * W (ix2 l (i 2)) := by
  pointwise

end

open Cert.Kernel18Ideal Cert.Kernel18Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S768x1024 .f32) (x : Vec Ideal S768x1024 .bf16) (y : Vec Ideal S1024x1024 .bf16) (j : S768x1024.Idx) :
    k0_pay2 acc x y j = acc j + ∑ k : Fin 1024, x (ix2 (j 0) k) * y (ix2 (j 1) k) := by
  unfold k0_pay2
  pointwise

theorem zero (j : S768x1024.Idx) : k0_pay1 (F := Ideal) j = 0 := by
  unfold k0_pay1
  pointwise

theorem idx : ∀ t : Fin cfg0.N, win0_0.index t 0 = t.val / 3 ∧ win0_0.index t 1 = 0 ∧ win0_1.index t 0 = t.val % 3
    ∧ win0_1.index t 1 = 0 ∧ win0_2.index t 0 = t.val / 3 ∧ win0_2.index t 1 = t.val % 3 :=
  (by decide +kernel : ∀ t : Fin grid0.N, _)

theorem blkA (c : Dev nD) (t : Fin cfg0.N) (i : S768x1024.Idx) (j : S4608x1024.Idx) (h0 : (j 0).val = t.val / 3 * 768 + (i 0).val)
    (h1 : (j 1).val = (i 1).val) : iblk m c 0 t i = V m c main_v3 j := by
  blk_ext [iblk, idx t]

theorem blkB (c : Dev nD) (t : Fin cfg0.N) (i : S1024x1024.Idx) (j : S3072x1024.Idx) (h0 : (j 0).val = t.val % 3 * 1024 + (i 0).val)
    (h1 : (j 1).val = (i 1).val) : iblk m c 1 t i = V m c main_v2 j := by
  blk_ext [iblk, idx t]

/-- The product of the two arrays the region reads. -/
def G (X : S4608x1024.Idx → EReal) (Y : S3072x1024.Idx → EReal) (i : S4608x3072.Idx) : EReal :=
  ∑ l : Fin 1024, X (ix2 (i 0) l) * Y (ix2 (i 1) l)

theorem arr (c : Dev nD) : (dats m 0 c).arrAt 2 cfg0.N = G (V m c main_v3) (V m c main_v2) := by
  refine (dats m 0 c).arrAt_eq_of_covers 2 _ (by decide +kernel) fun t hf y => ?_
  blk_simp
  have e := idx t
  have e0 : ((win0_2.blk t).view.emb y 0).val = t.val / 3 * 768 + (y 0).val := by blk_simp [e]
  have e1 : ((win0_2.blk t).view.emb y 1).val = t.val % 3 * 1024 + (y 1).val := by blk_simp [e]
  rw [after0_2]
  unfold outsAt0
  frame_out
  refine (pay _ _ _ y).trans ?_
  rw [zero]
  refine (zero_add _).trans ?_
  exact Finset.sum_congr rfl fun l _ => congrArg₂ (· * ·) (blkA m c t _ _ e0 rfl) (blkB m c t _ _ e1 rfl)

/-- The columns of `u @ w_in` from 0 on, its rows counted through. -/
def prod (U : S2x2304x1024.Idx → EReal) (W : S1024x8224.Idx → EReal) (i : S4608x3072.Idx) : EReal :=
  ∑ l : Fin 1024, U (ix3 (hi 2 2304 rfl (i 0)) (lo 2 2304 rfl (i 0)) l) * W (ix2 l ⟨(i 1).val, by have : (i 1).val < 3072 := (i 1).isLt; omega⟩)

theorem entry (c : Dev nD) : G (V m c main_v3) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel18Ideal_Reference18Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel18Ideal.Value.run_blocks m g),
    (θ_run _ _ _).mono (fun r h c => ⟨(h c).1.trans (funext fun i => ?_), (h c).2⟩) (Reference18Ideal.Value.run m' g')⟩
  refine Eq.trans ?_ (congrFun (congrArg₂ prod (hagree c).1 (hagree c).2) i)
  unfold prod
  exact (rows _ i).trans (product _ _ _)

end Cert.Products.InQkv

end
-- ==== Proof.InXl.lean ====
module

public import proofs.«01_k».proof.Defs
public import proofs.«01_k».proof.Proof.Split
public import proofs.«01_k».proof.Proof.Gen.Kernel19Ideal.Value
public import proofs.«01_k».proof.Proof.Gen.Reference19Ideal.Run
public import proofs.«01_k».proof.Proof.InQkv
public import Idealize.ShloMosaic.Lib.Pipeline.ValueKit
public import Idealize.ShloMosaic.Lib.Pipeline.ReadBack

/-! Columns 4128 to 5151 of the input projection `u @ w_in`: every block of the kernel's result is one product. -/

@[expose] public section

set_option maxRecDepth 16384

noncomputable section

namespace Cert.Products.InXl

section
open Cert.Reference19Ideal Cert.Reference19Ideal.Gen Idealize.ShloMosaic

theorem rows (W : FVec Ideal S2x2304x8224 .f32) (i : S4608x1024.Idx) :
    shapeCast S4608x1024 (extractStridedSlice S2x2304x1024 ![0, 0, 4128] W slices_S2x2304x8224_S2x2304x1024_0_0_4128) shapeCasts_S2x2304x1024_S4608x1024 i
      = W (ix3 (hi 2 2304 rfl (i 0)) (lo 2 2304 rfl (i 0)) ⟨4128 + (i 1).val, by have : (i 1).val < 1024 := (i 1).isLt; omega⟩) := by
  pointwise

end

open Cert.Kernel19Ideal Cert.Kernel19Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S768x1024 .f32) (x : Vec Ideal S768x1024 .bf16) (y : Vec Ideal S1024x1024 .bf16) (j : S768x1024.Idx) :
    k0_pay2 acc x y j = acc j + ∑ k : Fin 1024, x (ix2 (j 0) k) * y (ix2 (j 1) k) := by
  unfold k0_pay2
  pointwise

theorem zero (j : S768x1024.Idx) : k0_pay1 (F := Ideal) j = 0 := by
  unfold k0_pay1
  pointwise

theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

theorem blkA (c : Dev nD) (t : Fin cfg0.N) (i : S768x1024.Idx) (j : S4608x1024.Idx) (h0 : (j 0).val = t.val * 768 + (i 0).val)
    (h1 : (j 1).val = (i 1).val) : iblk m c 0 t i = V m c main_v3 j := by
  blk_ext [iblk, idx t]

theorem blkB (c : Dev nD) (t : Fin cfg0.N) (i : S1024x1024.Idx) (j : S1024x1024.Idx) (h0 : (j 0).val = (i 0).val)
    (h1 : (j 1).val = (i 1).val) : iblk m c 1 t i = V m c main_v2 j := by
  blk_ext [iblk, idx t]

/-- The product of the two arrays the region reads. -/
def G (X : S4608x1024.Idx → EReal) (Y : S1024x1024.Idx → EReal) (i : S4608x1024.Idx) : EReal :=
  ∑ l : Fin 1024, X (ix2 (i 0) l) * Y (ix2 (i 1) l)

theorem arr (c : Dev nD) : (dats m 0 c).arrAt 2 cfg0.N = G (V m c main_v3) (V m c main_v2) := by
  refine (dats m 0 c).arrAt_eq_of_covers 2 _ (by decide +kernel) fun t hf y => ?_
  blk_simp
  have e := idx t
  have e0 : ((win0_2.blk t).view.emb y 0).val = t.val * 768 + (y 0).val := by blk_simp [e]
  have e1 : ((win0_2.blk t).view.emb y 1).val = (y 1).val := by blk_simp [e]
  rw [after0_2]
  unfold outsAt0
  frame_out
  refine (pay _ _ _ y).trans ?_
  rw [zero]
  refine (zero_add _).trans ?_
  exact Finset.sum_congr rfl fun l _ => congrArg₂ (· * ·) (blkA m c t _ _ e0 rfl) (blkB m c t _ _ e1 rfl)

/-- The columns of `u @ w_in` from 4128 on, its rows counted through. -/
def prod (U : S2x2304x1024.Idx → EReal) (W : S1024x8224.Idx → EReal) (i : S4608x1024.Idx) : EReal :=
  ∑ l : Fin 1024, U (ix3 (hi 2 2304 rfl (i 0)) (lo 2 2304 rfl (i 0)) l) * W (ix2 l ⟨4128 + (i 1).val, by have : (i 1).val < 1024 := (i 1).isLt; omega⟩)

theorem entry (c : Dev nD) : G (V m c main_v3) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel19Ideal_Reference19Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel19Ideal.Value.run_blocks m g),
    (θ_run _ _ _).mono (fun r h c => ⟨(h c).1.trans (funext fun i => ?_), (h c).2⟩) (Reference19Ideal.Value.run m' g')⟩
  refine Eq.trans ?_ (congrFun (congrArg₂ prod (hagree c).1 (hagree c).2) i)
  unfold prod
  exact (rows _ i).trans (InQkv.product _ _ _)

end Cert.Products.InXl

end
-- ==== Proof.InZ.lean ====
module

public import proofs.«01_k».proof.Defs
public import proofs.«01_k».proof.Proof.Split
public import proofs.«01_k».proof.Proof.Gen.Kernel20Ideal.Value
public import proofs.«01_k».proof.Proof.Gen.Reference20Ideal.Run
public import proofs.«01_k».proof.Proof.InQkv
public import Idealize.ShloMosaic.Lib.Pipeline.ValueKit
public import Idealize.ShloMosaic.Lib.Pipeline.ReadBack

/-! Columns 1024 to 4095 of the input projection `u @ w_in`: every block of the kernel's result is one product, stored in bf16. -/

@[expose] public section

set_option maxRecDepth 16384

noncomputable section

namespace Cert.Products.InZ

section
open Cert.Reference20Ideal Cert.Reference20Ideal.Gen Idealize.ShloMosaic

theorem rows (W : FVec Ideal S2x2304x8224 .f32) (i : S4608x1024.Idx) :
    shapeCast S4608x1024 (truncf .bf16 (extractStridedSlice S2x2304x1024 ![0, 0, 3072] W slices_S2x2304x8224_S2x2304x1024_0_0_3072) bitsLt_bf16_f32) shapeCasts_S2x2304x1024_S4608x1024 i
      = W (ix3 (hi 2 2304 rfl (i 0)) (lo 2 2304 rfl (i 0)) ⟨3072 + (i 1).val, by have : (i 1).val < 1024 := (i 1).isLt; omega⟩) := by
  pointwise

end

open Cert.Kernel20Ideal Cert.Kernel20Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S768x1024 .f32) (x : Vec Ideal S768x1024 .bf16) (y : Vec Ideal S1024x1024 .bf16) (j : S768x1024.Idx) :
    k0_pay2 acc x y j = acc j + ∑ k : Fin 1024, x (ix2 (j 0) k) * y (ix2 (j 1) k) := by
  unfold k0_pay2
  pointwise

theorem zero (j : S768x1024.Idx) : k0_pay1 (F := Ideal) j = 0 := by
  unfold k0_pay1
  pointwise

theorem round (v : Vec Ideal S768x1024 .f32) (j : S768x1024.Idx) : k0_pay3 v j = v j := by
  unfold k0_pay3
  pointwise

theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

theorem blkA (c : Dev nD) (t : Fin cfg0.N) (i : S768x1024.Idx) (j : S4608x1024.Idx) (h0 : (j 0).val = t.val * 768 + (i 0).val)
    (h1 : (j 1).val = (i 1).val) : iblk m c 0 t i = V m c main_v3 j := by
  blk_ext [iblk, idx t]

theorem blkB (c : Dev nD) (t : Fin cfg0.N) (i : S1024x1024.Idx) (j : S1024x1024.Idx) (h0 : (j 0).val = (i 0).val)
    (h1 : (j 1).val = (i 1).val) : iblk m c 1 t i = V m c main_v2 j := by
  blk_ext [iblk, idx t]

/-- The product of the two arrays the region reads. -/
def G (X : S4608x1024.Idx → EReal) (Y : S1024x1024.Idx → EReal) (i : S4608x1024.Idx) : EReal :=
  ∑ l : Fin 1024, X (ix2 (i 0) l) * Y (ix2 (i 1) l)

theorem arr (c : Dev nD) : (dats m 0 c).arrAt 2 cfg0.N = G (V m c main_v3) (V m c main_v2) := by
  refine (dats m 0 c).arrAt_eq_of_covers 2 _ (by decide +kernel) fun t hf y => ?_
  blk_simp
  have e := idx t
  have e0 : ((win0_2.blk t).view.emb y 0).val = t.val * 768 + (y 0).val := by blk_simp [e]
  have e1 : ((win0_2.blk t).view.emb y 1).val = (y 1).val := by blk_simp [e]
  rw [after0_2]
  unfold outsAt0
  frame_out
  refine (round _ y).trans ((pay _ _ _ y).trans ?_)
  rw [zero]
  refine (zero_add _).trans ?_
  exact Finset.sum_congr rfl fun l _ => congrArg₂ (· * ·) (blkA m c t _ _ e0 rfl) (blkB m c t _ _ e1 rfl)

/-- The columns of `u @ w_in` from 3072 on, its rows counted through. -/
def prod (U : S2x2304x1024.Idx → EReal) (W : S1024x8224.Idx → EReal) (i : S4608x1024.Idx) : EReal :=
  ∑ l : Fin 1024, U (ix3 (hi 2 2304 rfl (i 0)) (lo 2 2304 rfl (i 0)) l) * W (ix2 l ⟨3072 + (i 1).val, by have : (i 1).val < 1024 := (i 1).isLt; omega⟩)

theorem entry (c : Dev nD) : G (V m c main_v3) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel20Ideal_Reference20Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel20Ideal.Value.run_blocks m g),
    (θ_run _ _ _).mono (fun r h c => ⟨(h c).1.trans (funext fun i => ?_), (h c).2⟩) (Reference20Ideal.Value.run m' g')⟩
  refine Eq.trans ?_ (congrFun (congrArg₂ prod (hagree c).1 (hagree c).2) i)
  unfold prod
  exact (rows _ i).trans (InQkv.product _ _ _)

end Cert.Products.InZ

end
-- ==== Proof.InMg.lean ====
module

public import proofs.«01_k».proof.Defs
public import proofs.«01_k».proof.Proof.Split
public import proofs.«01_k».proof.Proof.Gen.Kernel21Ideal.Value
public import proofs.«01_k».proof.Proof.Gen.Reference21Ideal.Run
public import proofs.«01_k».proof.Proof.InQkv
public import Idealize.ShloMosaic.Lib.Pipeline.ValueKit
public import Idealize.ShloMosaic.Lib.Pipeline.ReadBack

/-! The last 2048 columns of the input projection `u @ w_in`: every block of the kernel's result is one product, stored in bf16. -/

@[expose] public section

set_option maxRecDepth 16384

noncomputable section

namespace Cert.Products.InMg

section
open Cert.Reference21Ideal Cert.Reference21Ideal.Gen Idealize.ShloMosaic

theorem rows (W : FVec Ideal S2x2304x8224 .f32) (i : S4608x2048.Idx) :
    shapeCast S4608x2048 (truncf .bf16 (extractStridedSlice S2x2304x2048 ![0, 0, 6176] W slices_S2x2304x8224_S2x2304x2048_0_0_6176) bitsLt_bf16_f32) shapeCasts_S2x2304x2048_S4608x2048 i
      = W (ix3 (hi 2 2304 rfl (i 0)) (lo 2 2304 rfl (i 0)) ⟨6176 + (i 1).val, by have : (i 1).val < 2048 := (i 1).isLt; omega⟩) := by
  pointwise

end

open Cert.Kernel21Ideal Cert.Kernel21Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S768x1024 .f32) (x : Vec Ideal S768x1024 .bf16) (y : Vec Ideal S1024x1024 .bf16) (j : S768x1024.Idx) :
    k0_pay2 acc x y j = acc j + ∑ k : Fin 1024, x (ix2 (j 0) k) * y (ix2 (j 1) k) := by
  unfold k0_pay2
  pointwise

theorem zero (j : S768x1024.Idx) : k0_pay1 (F := Ideal) j = 0 := by
  unfold k0_pay1
  pointwise

theorem round (v : Vec Ideal S768x1024 .f32) (j : S768x1024.Idx) : k0_pay3 v j = v j := by
  unfold k0_pay3
  pointwise

theorem idx : ∀ t : Fin cfg0.N, win0_0.index t 0 = t.val / 2 ∧ win0_0.index t 1 = 0 ∧ win0_1.index t 0 = t.val % 2
    ∧ win0_1.index t 1 = 0 ∧ win0_2.index t 0 = t.val / 2 ∧ win0_2.index t 1 = t.val % 2 :=
  (by decide +kernel : ∀ t : Fin grid0.N, _)

theorem blkA (c : Dev nD) (t : Fin cfg0.N) (i : S768x1024.Idx) (j : S4608x1024.Idx) (h0 : (j 0).val = t.val / 2 * 768 + (i 0).val)
    (h1 : (j 1).val = (i 1).val) : iblk m c 0 t i = V m c main_v3 j := by
  blk_ext [iblk, idx t]

theorem blkB (c : Dev nD) (t : Fin cfg0.N) (i : S1024x1024.Idx) (j : S2048x1024.Idx) (h0 : (j 0).val = t.val % 2 * 1024 + (i 0).val)
    (h1 : (j 1).val = (i 1).val) : iblk m c 1 t i = V m c main_v2 j := by
  blk_ext [iblk, idx t]

/-- The product of the two arrays the region reads. -/
def G (X : S4608x1024.Idx → EReal) (Y : S2048x1024.Idx → EReal) (i : S4608x2048.Idx) : EReal :=
  ∑ l : Fin 1024, X (ix2 (i 0) l) * Y (ix2 (i 1) l)

theorem arr (c : Dev nD) : (dats m 0 c).arrAt 2 cfg0.N = G (V m c main_v3) (V m c main_v2) := by
  refine (dats m 0 c).arrAt_eq_of_covers 2 _ (by decide +kernel) fun t hf y => ?_
  blk_simp
  have e := idx t
  have e0 : ((win0_2.blk t).view.emb y 0).val = t.val / 2 * 768 + (y 0).val := by blk_simp [e]
  have e1 : ((win0_2.blk t).view.emb y 1).val = t.val % 2 * 1024 + (y 1).val := by blk_simp [e]
  rw [after0_2]
  unfold outsAt0
  frame_out
  refine (round _ y).trans ((pay _ _ _ y).trans ?_)
  rw [zero]
  refine (zero_add _).trans ?_
  exact Finset.sum_congr rfl fun l _ => congrArg₂ (· * ·) (blkA m c t _ _ e0 rfl) (blkB m c t _ _ e1 rfl)

/-- The columns of `u @ w_in` from 6176 on, its rows counted through. -/
def prod (U : S2x2304x1024.Idx → EReal) (W : S1024x8224.Idx → EReal) (i : S4608x2048.Idx) : EReal :=
  ∑ l : Fin 1024, U (ix3 (hi 2 2304 rfl (i 0)) (lo 2 2304 rfl (i 0)) l) * W (ix2 l ⟨6176 + (i 1).val, by have : (i 1).val < 2048 := (i 1).isLt; omega⟩)

theorem entry (c : Dev nD) : G (V m c main_v3) (V m c main_v2) = prod (m ((c : Thread nD τ).loc main_arg0)) (m ((c : Thread nD τ).loc main_arg1)) := by
  funext i
  refine Finset.sum_congr rfl fun l _ => congrArg₂ (· * ·) ?_ ?_
  · entry_read
    pointwise
  · entry_read
    pointwise

theorem values : algebraic_Kernel21Ideal_Reference21Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel21Ideal.Value.run_blocks m g),
    (θ_run _ _ _).mono (fun r h c => ⟨(h c).1.trans (funext fun i => ?_), (h c).2⟩) (Reference21Ideal.Value.run m' g')⟩
  refine Eq.trans ?_ (congrFun (congrArg₂ prod (hagree c).1 (hagree c).2) i)
  unfold prod
  exact (rows _ i).trans (InQkv.product _ _ _)

end Cert.Products.InMg

end
-- ==== Proof.InAb.lean ====
module

public import proofs.«01_k».proof.Defs
public import proofs.«01_k».proof.Proof.Split
public import proofs.«01_k».proof.Proof.Gen.Kernel22Ideal.Value
public import proofs.«01_k».proof.Proof.Gen.Reference22Ideal.Run
public import proofs.«01_k».proof.Proof.InQkv
public import Idealize.ShloMosaic.Lib.Pipeline.ValueKit
public import Idealize.ShloMosaic.Lib.Pipeline.ReadBack

/-! Columns 4096 to 4127 of the input projection, padded with zeros to 128 columns, `u @ w_in`: every block of the kernel's result is one product. -/

@[expose] public section

set_option maxRecDepth 16384

noncomputable section

namespace Cert.Products.InAb

section
open Cert.Reference22Ideal Cert.Reference22Ideal.Gen Idealize.ShloMosaic

theorem rows (W : FVec Ideal S2x2304x8224 .f32) (i : S4608x32.Idx) :
    shapeCast S4608x32 (extractStridedSlice S2x2304x32 ![0, 0, 4096] W slices_S2x2304x8224_S2x2304x32_0_0_4096) shapeCasts_S2x2304x32_S4608x32 i
      = W (ix3 (hi 2 2304 rfl (i 0)) (lo 2 2304 rfl (i 0)) ⟨4096 + (i 1).val, by have : (i 1).val < 32 := (i 1).isLt; omega⟩) := by
  pointwise

/-- The word zero read as a real number. -/
theorem zeroWord : ((((0#32 : BitVec 32).toInt : ℤ) : ℝ) : EReal) = 0 := by
  simp

theorem padded (A : FVec Ideal S4608x32 .f32) (i : S4608x128.Idx) :
    pad S4608x128 ![0, 0] ![0, 96] ![0, 0] A (sitofp .f32 (constantI S_ 32 0#32)) pads_S4608x32_S4608x128_000_0960 h_S_ i
      = if h : (i 1).val < 32 then A (ix2 (i 0) ⟨(i 1).val, h⟩) else 0 := by
  pointwise
  by_cases h : (i 1).val < 32
  · rw [dif_pos h, dif_pos h]
  · rw [dif_neg h, dif_neg h]
    exact zeroWord

end

open Cert.Kernel22Ideal Cert.Kernel22Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S768x128 .f32) (x : Vec Ideal S768x1024 .bf16) (y : Vec Ideal S128x1024 .bf16) (j : S768x128.Idx) :
    k0_pay2 acc x y j = acc j + ∑ k : Fin 1024, x (ix2 (j 0) k) * y (ix2 (j 1) k) := by
  unfold k0_pay2
  pointwise

theorem zero (j : S768x128.Idx) : k0_pay1 (F := Ideal) j = 0 := by
  unfold k0_pay1
  pointwise

theorem idx : ∀ t : Fin cfg0.N, win0_0.index t 0 = t.val ∧ win0_0.index t 1 = 0 ∧ win0_1.index t 0 = 0
    ∧ win0_1.index t 1 = 0 ∧ win0_2.index t 0 = t.val ∧ win0_2.index t 1 = 0 :=
  (by decide +kernel : ∀ t : Fin grid0.N, _)

theorem blkA (c : Dev nD) (t : Fin cfg0.N) (i : S768x1024.Idx) (j : S4608x1024.Idx) (h0 : (j 0).val = t.val * 768 + (i 0).val)
    (h1 : (j 1).val = (i 1).val) : iblk m c 0 t i = V m c main_v4 j := by
  blk_ext [iblk, idx t]

theorem blkB (c : Dev nD) (t : Fin cfg0.N) (i : S128x1024.Idx) (j : S128x1024.Idx) (h0 : (j 0).val = (i 0).val)
    (h1 : (j 1).val = (i 1).val) : iblk m c 1 t i = V m c main_v3 j := by
  blk_ext [iblk, idx t]

/-- The product of the two arrays the region reads. -/
def G (X : S4608x1024.Idx → EReal) (Y : S128x1024.Idx → EReal) (i : S4608x128.Idx) : EReal :=
  ∑ l : Fin 1024, X (ix2 (i 0) l) * Y (ix2 (i 1) l)

theorem arr (c : Dev nD) : (dats m 0 c).arrAt 2 cfg0.N = G (V m c main_v4) (V m c main_v3) := by
  refine (dats m 0 c).arrAt_eq_of_covers 2 _ (by decide +kernel) fun t hf y => ?_
  blk_simp
  have e := idx t
  have e0 : ((win0_2.blk t).view.emb y 0).val = t.val * 768 + (y 0).val := by blk_simp [e]
  have e1 : ((win0_2.blk t).view.emb y 1).val = (y 1).val := by blk_simp [e]
  rw [after0_2]
  unfold outsAt0
  frame_out
  refine (pay _ _ _ y).trans ?_
  rw [zero]
  refine (zero_add _).trans ?_
  exact Finset.sum_congr rfl fun l _ => congrArg₂ (· * ·) (blkA m c t _ _ e0 rfl) (blkB m c t _ _ e1 rfl)

theorem left (c : Dev nD) (j : S4608x1024.Idx) :
    V m c main_v4 j = m ((c : Thread nD τ).loc main_arg0) (ix3 (hi 2 2304 rfl (j 0)) (lo 2 2304 rfl (j 0)) (j 1)) := by
  unfold V
  simp only [List.flatten_cons, List.flatten_nil, List.append_nil, StableHlo.after_append]
  entry_read
  pointwise

theorem strip (W : FVec Ideal S1024x8224 .f32) (j : S32x1024.Idx) :
    extractStridedSlice S32x1024 ![4096, 0] (transpose S8224x1024 [1, 0] (truncf .bf16 W bitsLt_bf16_f32) transposes_S1024x8224_S8224x1024_1_0)
      slices_S8224x1024_S32x1024_4096_0 j = W (ix2 (j 1) ⟨4096 + (j 0).val, by have : (j 0).val < 32 := (j 0).isLt; omega⟩) := by
  pointwise

theorem wide (A : FVec Ideal S32x1024 .bf16) (j : S128x1024.Idx) :
    pad S128x1024 ![0, 0] ![96, 0] ![0, 0] A (sitofp .bf16 (constantI S_ 32 0#32)) pads_S32x1024_S128x1024_0960_000 h_S_ j
      = if h : (j 0).val < 32 then A (ix2 ⟨(j 0).val, h⟩ (j 1)) else 0 := by
  pointwise
  by_cases h : (j 0).val < 32
  · rw [dif_pos h, dif_pos h]
  · rw [dif_neg h, dif_neg h]
    exact zeroWord

/-- The 32 columns of `w_in` as rows, and 96 rows of zeros. -/
def strips (W : S1024x8224.Idx → EReal) (j : S128x1024.Idx) : EReal :=
  if h : (j 0).val < 32 then W (ix2 (j 1) ⟨4096 + (j 0).val, by omega⟩) else 0

theorem right (c : Dev nD) (j : S128x1024.Idx) : V m c main_v3 j = strips (m ((c : Thread nD τ).loc main_arg1)) j := by
  unfold V strips
  simp only [List.flatten_cons, List.flatten_nil, List.append_nil, StableHlo.after_append]
  entry_read
  refine (wide _ j).trans ?_
  by_cases h : (j 0).val < 32
  · rw [dif_pos h, dif_pos h]
    exact strip _ _
  · rw [dif_neg h, dif_neg h]

/-- Columns 4096 to 4127 of `u @ w_in` and 96 columns of zeros, the rows counted through. -/
def prod (U : S2x2304x1024.Idx → EReal) (W : S1024x8224.Idx → EReal) (i : S4608x128.Idx) : EReal :=
  if h : (i 1).val < 32 then
    ∑ l : Fin 1024, U (ix3 (hi 2 2304 rfl (i 0)) (lo 2 2304 rfl (i 0)) l) * W (ix2 l ⟨4096 + (i 1).val, by omega⟩)
  else 0

theorem entry (c : Dev nD) : G (V m c main_v4) (V m c main_v3) = prod (m ((c : Thread nD τ).loc main_arg0)) (m ((c : Thread nD τ).loc main_arg1)) := by
  funext i
  unfold prod
  split
  next h =>
    refine Finset.sum_congr rfl fun l _ => congrArg₂ (· * ·) (left m c _) ((right m c _).trans (dif_pos h))
  next h =>
    refine Finset.sum_eq_zero fun l _ => ?_
    rw [show V m c main_v3 (ix2 (i 1) l) = (0 : EReal) from (right m c _).trans (dif_neg h)]
    exact mul_zero _

theorem values : algebraic_Kernel22Ideal_Reference22Ideal := by
  intro m g m' g' _ hagree
  refine ⟨fun c => prod (m ((c : Thread nD τ).loc main_arg0)) (m ((c : Thread nD τ).loc main_arg1)),
    (θ_run _ _ _).mono (fun r h c => ⟨(h c).1.trans ((arr m c).trans (entry m c)), (h c).2⟩) (Kernel22Ideal.Value.run_blocks m g),
    (θ_run _ _ _).mono (fun r h c => ⟨(h c).1.trans (funext fun i => ?_), (h c).2⟩) (Reference22Ideal.Value.run m' g')⟩
  refine Eq.trans ?_ (congrFun (congrArg₂ prod (hagree c).1 (hagree c).2) i)
  unfold prod
  refine (padded _ i).trans ?_
  split
  next h => exact (rows _ _).trans (InQkv.product _ _ _)
  next h => rfl

end Cert.Products.InAb

end
-- ==== Proof.GateMath.lean ====
module

public import Idealize.ShloMosaic.PureOps.Ideal

/-! The gates' arithmetic at one position: the decay `a`, and the scale `s` of the input by way of `tanh` and of `expm1`. -/

@[expose] public section

noncomputable section

namespace Cert.Products.Gates

open Idealize.ShloMosaic

/-- `(-tanh r) * (e^r * e^r + 1) = -(e^(2 r) - 1)`. -/
theorem real_scale (r : ℝ) : -Real.tanh r * (Real.exp r * Real.exp r + 1) = -(Real.exp (2 * r) - 1) := by
  have h : Real.exp r * Real.exp (-r) = 1 := by rw [← Real.exp_add, add_neg_cancel, Real.exp_zero]
  have hp : 0 < Real.exp r + Real.exp (-r) := add_pos (Real.exp_pos _) (Real.exp_pos _)
  have h2 : Real.exp (2 * r) = Real.exp r * Real.exp r := by rw [← Real.exp_add]; ring_nf
  rw [h2, Real.tanh_eq_sinh_div_cosh, Real.sinh_eq, Real.cosh_eq]
  field_simp
  linear_combination (2 * Real.exp r) * h

/-- The same at every extended real. -/
theorem scale (l : EReal) : -Ideal.tanh l * (Ideal.exp l * Ideal.exp l + 1) = -Ideal.expm1 (2 * l) := by
  induction l with
  | bot =>
    have e : (2 : EReal) * ⊥ = ⊥ := EReal.mul_bot_of_pos (by norm_num)
    rw [Ideal.expm1, e, Ideal.tanh_bot, Ideal.exp_bot]
    simp
  | top =>
    have e : (2 : EReal) * ⊤ = ⊤ := EReal.mul_top_of_pos (by norm_num)
    rw [Ideal.expm1, e, Ideal.tanh_top, Ideal.exp_top]
    have e1 : (⊤ : EReal) * ⊤ + 1 = ⊤ := rfl
    have e2 : (⊤ : EReal) - 1 = ⊤ := rfl
    rw [e1, e2, neg_one_mul]
  | coe r =>
    have e : (2 : EReal) * (r : EReal) = ((2 * r : ℝ) : EReal) := rfl
    rw [Ideal.expm1, e, Ideal.tanh_coe, Ideal.exp_coe, Ideal.exp_coe]
    exact congrArg Real.toEReal (real_scale r)

/-- The softplus of `x`. -/
def softplus (x : EReal) : EReal := max x 0 + Ideal.log (1 + Ideal.exp (-max x (-x)))

/-- The logarithm of the decay, of a gate `r` and a parameter `l`: `-8` times the gate's logistic times the softplus of `-l`. -/
def logDecay (r l : EReal) : EReal := Ideal.ofBits .f32 0xC1000000#32 * Ideal.logistic r * softplus (-l)

/-- The float of these bits is 2. -/
theorem two : Ideal.ofBits .f32 0x40000000#32 = 2 := by
  have : ((2 : ℝ) : EReal) = 2 := rfl
  rw [← this]
  simp [Ideal.ofBits, Ideal.ieee]
  rw [← EReal.coe_mul]
  norm_num

/-- The logistic, written with a difference from zero. -/
theorem logistic_sub (z : EReal) : Ideal.div 1 (1 + Ideal.exp (0 - z)) = Ideal.logistic z := by
  rw [zero_sub]
  rfl

/-- The softplus, written with differences from zero. -/
theorem softplus_sub (z : EReal) :
    max (0 - z) 0 + Ideal.log (1 + Ideal.exp (0 - max (0 - z) (-(0 - z)))) = softplus (-z) := by
  rw [zero_sub, zero_sub]
  rfl

/-- The scaled input, of the two gates, the parameter and the input. -/
def input (r i l x : EReal) : EReal :=
  Ideal.sqrt (-Ideal.expm1 (2 * logDecay r l)) * (Ideal.logistic i * x)

end Cert.Products.Gates

end
-- ==== Proof.Gates.lean ====
module

public import proofs.«01_k».proof.Defs
public import proofs.«01_k».proof.Proof.Split
public import proofs.«01_k».proof.Proof.GateMath
public import proofs.«01_k».proof.Proof.Gen.Kernel23Ideal.Value
public import proofs.«01_k».proof.Proof.Gen.Reference23Ideal.Run
public import Idealize.ShloMosaic.Lib.Pipeline.ValueKit
public import Idealize.ShloMosaic.Lib.Pipeline.ReadBack

/-! The gates of the recurrence: every block of the kernel's two results, and the reference's. -/

@[expose] public section

set_option maxRecDepth 16384

noncomputable section

namespace Cert.Products.Gates

section
open Cert.Reference23Ideal Cert.Reference23Ideal.Gen Idealize.ShloMosaic

theorem product (W : FVec Ideal S2x16x64x64 .f32) (X : FVec Ideal S2x2304x1024 .f32) (B : FVec Ideal S2x1024 .f32) (i : S2x2x2304x1024.Idx) :
    addf (shapeCast S2x2x2304x1024 (transpose S2x2x2304x16x64 [0, 3, 4, 1, 2] (Host.dotGeneral (F := Ideal) dot_S2x16x64x64_S2x2x2304x16x64_S2x16x64x2x2304_2_4_3_12_01_03 none W
      (shapeCast S2x2x2304x16x64 (broadcastInDim S2x2x2304x1024 ![1, 2, 3] bcast_S2x2304x1024_S2x2x2304x1024_1_2_3 X) shapeCasts_S2x2x2304x1024_S2x2x2304x16x64))
        transposes_S2x16x64x2x2304_S2x2x2304x16x64_0_3_4_1_2) shapeCasts_S2x2x2304x16x64_S2x2x2304x1024)
      (broadcastInDim S2x2x2304x1024 ![0, 1, 2, 3] bcast_S2x1x1x1024_S2x2x2304x1024_0_1_2_3 (broadcastInDim S2x1x1x1024 ![0, 3] bcast_S2x1024_S2x1x1x1024_0_3 B)) i
      = ∑ l : Fin 64, W (ix4 (i 0) (hi 16 64 rfl (i 3)) l (lo 16 64 rfl (i 3))) * X (ix3 (i 1) (i 2) (pair 16 64 rfl (hi 16 64 rfl (i 3)) l))
        + B (ix2 (i 0) (i 3)) := by
  pointwise

theorem sigmoid (Z : FVec Ideal S2x2x2304x1024 .f32) (i : S2x2x2304x1024.Idx) :
    Host.divf (broadcastInDim S2x2x2304x1024 ![] bcast_S_S2x2x2304x1024 (constant (F := Ideal) S_ .f32 0x3F800000#32))
      (addf (broadcastInDim S2x2x2304x1024 ![] bcast_S_S2x2x2304x1024 (constant S_ .f32 0x3F800000#32)) (Host.exp (Host.negf Z))) i = Ideal.logistic (Z i) := by
  pointwise
  rfl

theorem soft (L : FVec Ideal S2x1024 .f32) (i : S2x1024.Idx) :
    select (cmpf .une (subf (Host.negf L) (broadcastInDim S2x1024 ![] bcast_S_S2x1024 (constant S_ .f32 0x00000000#32))) (subf (Host.negf L) (broadcastInDim S2x1024 ![] bcast_S_S2x1024 (constant S_ .f32 0x00000000#32)))) (addf (Host.negf L) (broadcastInDim S2x1024 ![] bcast_S_S2x1024 (constant S_ .f32 0x00000000#32))) (addf (maximumf (Host.negf L) (broadcastInDim S2x1024 ![] bcast_S_S2x1024 (constant S_ .f32 0x00000000#32))) (Host.log1p (Host.exp (Host.negf (Host.absf (subf (Host.negf L) (broadcastInDim S2x1024 ![] bcast_S_S2x1024 (constant S_ .f32 0x00000000#32)))))))) i
      = softplus (-L i) := by
  pointwise
  rw [if_neg (fun h => h rfl)]
  rfl

theorem decayR (Z : FVec Ideal S2x2x2304x1024 .f32) (S : FVec Ideal S2x1024 .f32) (i : S2x2x2304x1024.Idx) :
    mulf (mulf (broadcastInDim S2x2x2304x1024 ![] bcast_S_S2x2x2304x1024 (constant S_ .f32 0xC1000000#32)) Z)
      (broadcastInDim S2x2x2304x1024 ![0, 1, 2, 3] bcast_S2x1x1x1024_S2x2x2304x1024_0_1_2_3 (broadcastInDim S2x1x1x1024 ![0, 3] bcast_S2x1024_S2x1x1x1024_0_3 S)) i
      = Ideal.ofBits .f32 0xC1000000#32 * Z i * S (ix2 (i 0) (i 3)) := by
  pointwise

theorem inputR (D G : FVec Ideal S2x2x2304x1024 .f32) (X : FVec Ideal S2x2304x1024 .f32) (i : S2x2x2304x1024.Idx) :
    mulf (Host.sqrt (Host.negf (Host.expm1 (mulf (broadcastInDim S2x2x2304x1024 ![] bcast_S_S2x2x2304x1024 (constant S_ .f32 0x40000000#32)) D))))
      (mulf G (broadcastInDim S2x2x2304x1024 ![1, 2, 3] bcast_S2x2304x1024_S2x2x2304x1024_1_2_3 X)) i
      = Ideal.sqrt (-Ideal.expm1 (2 * D i)) * (G i * X (ix3 (i 1) (i 2) (i 3))) := by
  rw [← two]
  pointwise
  rfl

end

section
open Cert.Kernel23Ideal Cert.Kernel23Ideal.Gen Idealize.ShloMosaic Idealize.ShloMosaic.TcCoe Idealize.SL.Sem
open Idealize.ShloMosaic.Pipeline (Dat)

variable (m : (ℓ : Loc nD τ sig) → Buf (Elt Ideal) ℓ)

/-- What a gate's logistic is taken of, in a block. -/
def pre (x : Vec Ideal S1x768x256 .f32) (w : Fin 256 → Fin 256 → EReal) (b : Fin 256 → EReal) (p : Fin 768) (q : Fin 256) : EReal :=
  ∑ k : Fin 256, x (ix3 0 p k) * w k q + b q

theorem pay5 (x : Vec Ideal S1x768x256 .f32) (j : S768x256.Idx) : k0_pay5 x j = x (ix3 0 (j 0) (j 1)) := by
  unfold k0_pay5
  pointwise

theorem pay6 (x : Vec Ideal S1x768x256 .f32) (w : Vec Ideal S1x1x256x256 .bf16) (b : Vec Ideal S1x256 .f32) (j : S768x256.Idx) :
    k0_pay6 x w b j = Ideal.logistic (pre x (fun k q => w (ix4 0 0 k q)) (fun q => b (ix2 0 q)) (j 0) (j 1)) := by
  unfold k0_pay6 k0_pay5 pre
  refine Eq.trans ?_ (logistic_sub _)
  pointwise

theorem pay14 (x : Vec Ideal S1x768x256 .f32) (w : Vec Ideal S1x1x256x256 .bf16) (b : Vec Ideal S1x256 .f32) (j : S768x256.Idx) :
    k0_pay14 (k0_pay5 x) (k0_pay13 w) b j = Ideal.logistic (pre x (fun k q => w (ix4 0 0 k q)) (fun q => b (ix2 0 q)) (j 0) (j 1)) := by
  unfold k0_pay14 k0_pay13 k0_pay5 pre
  refine Eq.trans ?_ (logistic_sub _)
  pointwise

theorem pay15 (x : Vec Ideal S1x768x256 .f32) (w : Vec Ideal S1x1x256x256 .bf16) (b : Vec Ideal S1x256 .f32) (j : S768x256.Idx) :
    k0_pay15 (k0_pay5 x) w b j = Ideal.logistic (pre x (fun k q => w (ix4 0 0 k q)) (fun q => b (ix2 0 q)) (j 0) (j 1)) := by
  unfold k0_pay15 k0_pay5 pre
  refine Eq.trans ?_ (logistic_sub _)
  pointwise

theorem pay7 (x : Vec Ideal S1x768x256 .f32) (w : Vec Ideal S1x1x256x256 .bf16) (b : Vec Ideal S1x256 .f32) (j : S768x256.Idx) :
    Ideal.div (k0_pay8 (F := Ideal) j) (k0_pay7 x w b j) = Ideal.logistic (pre x (fun k q => w (ix4 0 0 k q)) (fun q => b (ix2 0 q)) (j 0) (j 1)) := by
  unfold k0_pay7 k0_pay8 k0_pay5 pre
  refine Eq.trans ?_ (logistic_sub _)
  pointwise

theorem pay16 (l : Vec Ideal S1x256 .f32) (j : S1x256.Idx) : k0_pay16 l j = softplus (-l j) := by
  unfold k0_pay16
  refine Eq.trans ?_ (softplus_sub _)
  pointwise
  rfl

theorem pay9 (l : Vec Ideal S1x256 .f32) (r : FVec Ideal S768x256 .f32) (j : S768x256.Idx) :
    k0_pay9 l r j = Ideal.ofBits .f32 0xC1000000#32 * r j * softplus (-l (ix2 0 (j 1))) := by
  unfold k0_pay9
  rw [← softplus_sub]
  pointwise
  rfl

theorem pay1 (r : FVec Ideal S768x256 .f32) (s : FVec Ideal S1x256 .f32) (j : S768x256.Idx) :
    k0_pay1 r s j = Ideal.ofBits .f32 0xC1000000#32 * r j * s (ix2 0 (j 1)) := by
  unfold k0_pay1
  pointwise

theorem pay11 (l : Vec Ideal S1x256 .f32) (r : FVec Ideal S768x256 .f32) (j : S1x1x768x256.Idx) :
    k0_pay11 l r j = Ideal.exp (k0_pay9 l r (ix2 (j 2) (j 3))) := by
  unfold k0_pay11 k0_pay10
  pointwise

theorem pay3 (r : FVec Ideal S768x256 .f32) (s : FVec Ideal S1x256 .f32) (j : S1x1x768x256.Idx) :
    k0_pay3 r s j = Ideal.exp (k0_pay1 r s (ix2 (j 2) (j 3))) := by
  unfold k0_pay3 k0_pay2
  pointwise

theorem sub_scale (l : EReal) : (0 - Ideal.tanh l) * (Ideal.exp l * Ideal.exp l + 1) = -Ideal.expm1 (2 * l) := by
  rw [zero_sub]
  exact scale l

theorem pay12 (x : FVec Ideal S768x256 .f32) (l : Vec Ideal S1x256 .f32) (r e o : FVec Ideal S768x256 .f32) (j : S1x1x768x256.Idx) :
    k0_pay12 x l r e o j = Ideal.sqrt (-Ideal.expm1 (2 * k0_pay9 l r (ix2 (j 2) (j 3))))
      * (Ideal.div (o (ix2 (j 2) (j 3))) (e (ix2 (j 2) (j 3))) * x (ix2 (j 2) (j 3))) := by
  unfold k0_pay12 k0_pay10
  rw [← sub_scale]
  pointwise

theorem pay4 (x r i : FVec Ideal S768x256 .f32) (s : FVec Ideal S1x256 .f32) (j : S1x1x768x256.Idx) :
    k0_pay4 x r i s j = Ideal.sqrt (-Ideal.expm1 (2 * k0_pay1 r s (ix2 (j 2) (j 3))))
      * (i (ix2 (j 2) (j 3)) * x (ix2 (j 2) (j 3))) := by
  unfold k0_pay4 k0_pay2
  rw [← sub_scale]
  pointwise

/-- The row of the stacked tables that holds the decay's gate of direction `d`. -/
def rg (d : Fin 2) : Fin 4 := ⟨2 * d.val, by omega⟩

/-- The row that holds the input's gate of direction `d`. -/
def ig (d : Fin 2) : Fin 4 := ⟨2 * d.val + 1, by omega⟩

/-- What row `g`'s logistic is taken of, in a block. -/
def preB (x : Vec Ideal S1x768x256 .f32) (w : Vec Ideal S4x1x256x256 .bf16) (b : Vec Ideal S4x256 .f32) (g : Fin 4) (p : Fin 768) (q : Fin 256) : EReal :=
  pre x (fun k q => w (ix4 g 0 k q)) (fun q => b (ix2 g q)) p q

/-- The block of decays. -/
def outA (x : Vec Ideal S1x768x256 .f32) (w : Vec Ideal S4x1x256x256 .bf16) (b : Vec Ideal S4x256 .f32) (l : Vec Ideal S2x256 .f32)
    (y : S2x1x768x256.Idx) : EReal :=
  Ideal.exp (logDecay (preB x w b (rg (y 0)) (y 2) (y 3)) (l (ix2 (y 0) (y 3))))

/-- The block of scaled inputs. -/
def outI (x : Vec Ideal S1x768x256 .f32) (w : Vec Ideal S4x1x256x256 .bf16) (b : Vec Ideal S4x256 .f32) (l : Vec Ideal S2x256 .f32)
    (y : S2x1x768x256.Idx) : EReal :=
  input (preB x w b (rg (y 0)) (y 2) (y 3)) (preB x w b (ig (y 0)) (y 2) (y 3)) (l (ix2 (y 0) (y 3))) (x (ix3 0 (y 2) (y 3)))

theorem ld0 (x : Vec Ideal S1x768x256 .f32) : View.ld x r0_0 = x := by
  funext i
  have h : (i 0).val < 1 := (i 0).isLt
  pointwise
  refine congrArg x (funext fun k => Fin.ext ?_)
  fin_cases k
  · show 0 = (i 0).val
    omega
  · rfl
  · rfl

theorem ld1 (x : Vec Ideal S4x1x256x256 .bf16) (k q : Fin 256) : View.ld x r0_1 (ix4 0 0 k q) = x (ix4 (rg 0) 0 k q) := by
  pointwise
  rfl

theorem ld2 (x : Vec Ideal S4x1x256x256 .bf16) (k q : Fin 256) : View.ld x r0_2 (ix4 0 0 k q) = x (ix4 (ig 0) 0 k q) := by
  pointwise
  rfl

theorem ld7 (x : Vec Ideal S4x1x256x256 .bf16) (k q : Fin 256) : View.ld x r0_7 (ix4 0 0 k q) = x (ix4 (rg 1) 0 k q) := by
  pointwise
  rfl

theorem ld8 (x : Vec Ideal S4x1x256x256 .bf16) (k q : Fin 256) : View.ld x r0_8 (ix4 0 0 k q) = x (ix4 (ig 1) 0 k q) := by
  pointwise
  rfl

theorem ld3 (x : Vec Ideal S4x256 .f32) (q : Fin 256) : View.ld x r0_3 (ix2 0 q) = x (ix2 (rg 0) q) := by
  pointwise
  rfl

theorem ld4 (x : Vec Ideal S4x256 .f32) (q : Fin 256) : View.ld x r0_4 (ix2 0 q) = x (ix2 (ig 0) q) := by
  pointwise
  rfl

theorem ld9 (x : Vec Ideal S4x256 .f32) (q : Fin 256) : View.ld x r0_9 (ix2 0 q) = x (ix2 (rg 1) q) := by
  pointwise
  rfl

theorem ld10 (x : Vec Ideal S4x256 .f32) (q : Fin 256) : View.ld x r0_10 (ix2 0 q) = x (ix2 (ig 1) q) := by
  pointwise
  rfl

theorem ld5 (x : Vec Ideal S2x256 .f32) (q : Fin 256) : View.ld x r0_5 (ix2 0 q) = x (ix2 0 q) := by
  pointwise

theorem ld11 (x : Vec Ideal S2x256 .f32) (q : Fin 256) : View.ld x r0_11 (ix2 0 q) = x (ix2 1 q) := by
  pointwise

theorem emb6 (j : S1x1x768x256.Idx) : r0_6.emb j = ix4 0 0 (j 2) (j 3) := by
  have h0 : (j 0).val < 1 := (j 0).isLt
  have h1 : (j 1).val < 1 := (j 1).isLt
  funext k
  apply Fin.ext
  fin_cases k <;> simp [Rect.emb, Rect.unit] <;> omega

theorem emb12 (j : S1x1x768x256.Idx) : r0_12.emb j = ix4 1 0 (j 2) (j 3) := by
  have h0 : (j 0).val < 1 := (j 0).isLt
  have h1 : (j 1).val < 1 := (j 1).isLt
  funext k
  apply Fin.ext
  fin_cases k <;> simp [Rect.emb, Rect.unit] <;> omega

theorem pre_congr {x x' : Vec Ideal S1x768x256 .f32} {w w' : Fin 256 → Fin 256 → EReal} {b b' : Fin 256 → EReal} (hx : x' = x)
    (hw : ∀ k q, w' k q = w k q) (hb : ∀ q, b' q = b q) (p : Fin 768) (q : Fin 256) : pre x' w' b' p q = pre x w b p q := by
  subst hx
  obtain rfl : w' = w := funext fun k => funext (hw k)
  obtain rfl : b' = b := funext hb
  rfl

theorem decay0 (x : Vec Ideal S1x768x256 .f32) (w : Vec Ideal S4x1x256x256 .bf16) (b : Vec Ideal S4x256 .f32) (l : Vec Ideal S2x256 .f32) (j : S768x256.Idx) :
    k0_pay9 (View.ld l r0_5) (k0_pay6 (View.ld x r0_0) (View.ld w r0_1) (View.ld b r0_3)) j
      = logDecay (preB x w b (rg 0) (j 0) (j 1)) (l (ix2 0 (j 1))) := by
  rw [pay9, pay6]
  exact congrArg₂ (· * ·) (congrArg₂ (· * ·) rfl (congrArg Ideal.logistic (pre_congr (ld0 x) (ld1 w) (ld3 b) _ _)))
    (congrArg (fun z => softplus (-z)) (ld5 l _))

theorem decay1 (x : Vec Ideal S1x768x256 .f32) (w : Vec Ideal S4x1x256x256 .bf16) (b : Vec Ideal S4x256 .f32) (l : Vec Ideal S2x256 .f32) (j : S768x256.Idx) :
    k0_pay1 (k0_pay14 (k0_pay5 (View.ld x r0_0)) (k0_pay13 (View.ld w r0_7)) (View.ld b r0_9)) (k0_pay16 (View.ld l r0_11)) j
      = logDecay (preB x w b (rg 1) (j 0) (j 1)) (l (ix2 1 (j 1))) := by
  rw [pay1, pay14, pay16]
  exact congrArg₂ (· * ·) (congrArg₂ (· * ·) rfl (congrArg Ideal.logistic (pre_congr (ld0 x) (ld7 w) (ld9 b) _ _)))
    (congrArg (fun z => softplus (-z)) (ld11 l _))

theorem blkA (x : Vec Ideal S1x768x256 .f32) (w : Vec Ideal S4x1x256x256 .bf16) (b : Vec Ideal S4x256 .f32) (l : Vec Ideal S2x256 .f32) (y : S2x1x768x256.Idx) :
    out0_4 x w b l y = outA x w b l y := by
  unfold_out out0_4
  refine View.canon_apply_of_pieces (Val := Elt Ideal) (outA x w b l) _ ?_ y (cover0_4 _ _ y)
  intro p hp j
  simp only [List.mem_cons, List.not_mem_nil, or_false] at hp
  rcases hp with rfl | rfl
  · dsimp only
    rw [emb12]
    refine (pay3 _ _ j).trans ?_
    rw [decay1]
    rfl
  · dsimp only
    rw [emb6]
    refine (pay11 _ _ j).trans ?_
    rw [decay0]
    rfl

theorem blkI (x : Vec Ideal S1x768x256 .f32) (w : Vec Ideal S4x1x256x256 .bf16) (b : Vec Ideal S4x256 .f32) (l : Vec Ideal S2x256 .f32) (y : S2x1x768x256.Idx) :
    out0_5 x w b l y = outI x w b l y := by
  unfold_out out0_5
  refine View.canon_apply_of_pieces (Val := Elt Ideal) (outI x w b l) _ ?_ y (cover0_5 _ _ y)
  intro p hp j
  simp only [List.mem_cons, List.not_mem_nil, or_false] at hp
  rcases hp with rfl | rfl
  · dsimp only
    rw [emb12]
    refine (pay4 _ _ _ _ j).trans ?_
    rw [decay1, pay15, pay5]
    exact congrArg₂ (· * ·) rfl (congrArg₂ (· * ·) (congrArg Ideal.logistic (pre_congr (ld0 x) (ld8 w) (ld10 b) _ _)) (congrFun (ld0 x) _))
  · dsimp only
    rw [emb6]
    refine (pay12 _ _ _ _ _ j).trans ?_
    rw [decay0, pay7, pay5]
    exact congrArg₂ (· * ·) rfl (congrArg₂ (· * ·) (congrArg Ideal.logistic (pre_congr (ld0 x) (ld2 w) (ld4 b) _ _)) (congrFun (ld0 x) _))

theorem idx : ∀ t : Fin cfg0.N,
    (win0_0.index t 0 = t.val / 12 ∧ win0_0.index t 1 = t.val / 4 % 3 ∧ win0_0.index t 2 = t.val % 4)
    ∧ (win0_1.index t 0 = 0 ∧ win0_1.index t 1 = t.val % 4 ∧ win0_1.index t 2 = 0 ∧ win0_1.index t 3 = 0)
    ∧ (win0_2.index t 0 = 0 ∧ win0_2.index t 1 = t.val % 4) ∧ (win0_3.index t 0 = 0 ∧ win0_3.index t 1 = t.val % 4)
    ∧ (win0_4.index t 0 = 0 ∧ win0_4.index t 1 = t.val / 12 ∧ win0_4.index t 2 = t.val / 4 % 3 ∧ win0_4.index t 3 = t.val % 4)
    ∧ (win0_5.index t 0 = 0 ∧ win0_5.index t 1 = t.val / 12 ∧ win0_5.index t 2 = t.val / 4 % 3 ∧ win0_5.index t 3 = t.val % 4) :=
  (by decide +kernel : ∀ t : Fin grid0.N, _)

theorem blk0 (c : Dev nD) (t : Fin cfg0.N) (i : S1x768x256.Idx) (j : S2x2304x1024.Idx) (h0 : (j 0).val = t.val / 12)
    (h1 : (j 1).val = t.val / 4 % 3 * 768 + (i 1).val) (h2 : (j 2).val = t.val % 4 * 256 + (i 2).val) : iblk m c 0 t i = V m c main_arg0 j := by
  blk_ext [iblk, idx t]

theorem blk1 (c : Dev nD) (t : Fin cfg0.N) (i : S4x1x256x256.Idx) (j : S4x4x256x256.Idx) (h0 : (j 0).val = (i 0).val)
    (h1 : (j 1).val = t.val % 4) (h2 : (j 2).val = (i 2).val) (h3 : (j 3).val = (i 3).val) : iblk m c 1 t i = V m c main_v41 j := by
  blk_ext [iblk, idx t]

theorem blk2 (c : Dev nD) (t : Fin cfg0.N) (i : S4x256.Idx) (j : S4x1024.Idx) (h0 : (j 0).val = (i 0).val)
    (h1 : (j 1).val = t.val % 4 * 256 + (i 1).val) : iblk m c 2 t i = V m c main_v54 j := by
  blk_ext [iblk, idx t]

theorem blk3 (c : Dev nD) (t : Fin cfg0.N) (i : S2x256.Idx) (j : S2x1024.Idx) (h0 : (j 0).val = (i 0).val)
    (h1 : (j 1).val = t.val % 4 * 256 + (i 1).val) : iblk m c 3 t i = V m c main_arg5 j := by
  blk_ext [iblk, idx t]

/-- What row `g`'s logistic is taken of, from the arrays the region reads. -/
def preG (X : S2x2304x1024.Idx → EReal) (W : S4x4x256x256.Idx → EReal) (B : S4x1024.Idx → EReal) (g : Fin 4) (b : Fin 2) (r : Fin 2304) (n : Fin 1024) : EReal :=
  ∑ k : Fin 256, X (ix3 b r (pair 4 256 rfl (hi 4 256 rfl n) k)) * W (ix4 g (hi 4 256 rfl n) k (lo 4 256 rfl n)) + B (ix2 g n)

theorem preEq (c : Dev nD) (t : Fin cfg0.N) (g : Fin 4) (p : Fin 768) (q : Fin 256) (b : Fin 2) (r : Fin 2304) (n : Fin 1024)
    (h0 : b.val = t.val / 12) (h1 : r.val = t.val / 4 % 3 * 768 + p.val) (h2 : n.val = t.val % 4 * 256 + q.val) :
    preB (iblk m c 0 t) (iblk m c 1 t) (iblk m c 2 t) g p q = preG (V m c main_arg0) (V m c main_v41) (V m c main_v54) g b r n := by
  have hq := q.isLt
  have h3 : n.val / 256 = t.val % 4 := by omega
  have h4 : n.val % 256 = q.val := by omega
  unfold preB pre preG
  refine congrArg₂ (· + ·) (Finset.sum_congr rfl fun k _ => congrArg₂ (· * ·) (blk0 m c t _ _ h0 h1 ?_) (blk1 m c t _ _ rfl h3 rfl h4)) (blk2 m c t _ _ rfl h2)
  show n.val / 256 * 256 + k.val = t.val % 4 * 256 + k.val
  rw [h3]

/-- The decays, from the arrays the region reads. -/
def arrA (X : S2x2304x1024.Idx → EReal) (W : S4x4x256x256.Idx → EReal) (B : S4x1024.Idx → EReal) (L : S2x1024.Idx → EReal) (i : S2x2x2304x1024.Idx) : EReal :=
  Ideal.exp (logDecay (preG X W B (rg (i 0)) (i 1) (i 2) (i 3)) (L (ix2 (i 0) (i 3))))

/-- The scaled inputs, from the arrays the region reads. -/
def arrI (X : S2x2304x1024.Idx → EReal) (W : S4x4x256x256.Idx → EReal) (B : S4x1024.Idx → EReal) (L : S2x1024.Idx → EReal) (i : S2x2x2304x1024.Idx) : EReal :=
  input (preG X W B (rg (i 0)) (i 1) (i 2) (i 3)) (preG X W B (ig (i 0)) (i 1) (i 2) (i 3)) (L (ix2 (i 0) (i 3))) (X (ix3 (i 1) (i 2) (i 3)))

theorem arr4 (c : Dev nD) : (dats m 0 c).arrAt 4 cfg0.N = arrA (V m c main_arg0) (V m c main_v41) (V m c main_v54) (V m c main_arg5) := by
  refine (dats m 0 c).arrAt_eq_of_covers 4 _ (by decide +kernel) fun t hf y => ?_
  blk_simp
  have e := idx t
  have e0 : (win0_4.blk t).view.emb y 0 = y 0 := Fin.ext (by blk_simp [e])
  have y1 : (y 1).val < 1 := (y 1).isLt
  have e1 : ((win0_4.blk t).view.emb y 1).val = t.val / 12 := by blk_simp [e]
  have e2 : ((win0_4.blk t).view.emb y 2).val = t.val / 4 % 3 * 768 + (y 2).val := by blk_simp [e]
  have e3 : ((win0_4.blk t).view.emb y 3).val = t.val % 4 * 256 + (y 3).val := by blk_simp [e]
  rw [after0_4]
  refine (blkA _ _ _ _ y).trans ?_
  unfold outA arrA
  rw [preEq m c t _ _ _ _ _ _ e1 e2 e3, blk3 m c t (ix2 (y 0) (y 3)) (ix2 (y 0) ((win0_4.blk t).view.emb y 3)) rfl e3]
  exact congrArg (fun d => Ideal.exp (logDecay (preG _ _ _ (rg d) _ _ _) (V m c main_arg5 (ix2 d _)))) e0.symm

theorem arr5 (c : Dev nD) : (dats m 0 c).arrAt 5 cfg0.N = arrI (V m c main_arg0) (V m c main_v41) (V m c main_v54) (V m c main_arg5) := by
  refine (dats m 0 c).arrAt_eq_of_covers 5 _ (by decide +kernel) fun t hf y => ?_
  blk_simp
  have e := idx t
  have e0 : (win0_5.blk t).view.emb y 0 = y 0 := Fin.ext (by blk_simp [e])
  have y1 : (y 1).val < 1 := (y 1).isLt
  have e1 : ((win0_5.blk t).view.emb y 1).val = t.val / 12 := by blk_simp [e]
  have e2 : ((win0_5.blk t).view.emb y 2).val = t.val / 4 % 3 * 768 + (y 2).val := by blk_simp [e]
  have e3 : ((win0_5.blk t).view.emb y 3).val = t.val % 4 * 256 + (y 3).val := by blk_simp [e]
  rw [after0_5]
  refine (blkI _ _ _ _ y).trans ?_
  unfold outI arrI
  rw [preEq m c t _ _ _ _ _ _ e1 e2 e3, preEq m c t _ _ _ _ _ _ e1 e2 e3, blk3 m c t (ix2 (y 0) (y 3)) (ix2 (y 0) ((win0_5.blk t).view.emb y 3)) rfl e3,
    blk0 m c t (ix3 0 (y 2) (y 3)) (ix3 ((win0_5.blk t).view.emb y 1) ((win0_5.blk t).view.emb y 2) ((win0_5.blk t).view.emb y 3)) e1 e2 e3]
  exact congrArg (fun d => input (preG _ _ _ (rg d) _ _ _) (preG _ _ _ (ig d) _ _ _) (V m c main_arg5 (ix2 d _)) _) e0.symm

/-- What a gate's logistic is taken of: the row's block of 64 channels times the block's matrix, plus the bias. -/
def preR (W : S2x16x64x64.Idx → EReal) (B : S2x1024.Idx → EReal) (X : S2x2304x1024.Idx → EReal) (i : S2x2x2304x1024.Idx) : EReal :=
  ∑ l : Fin 64, W (ix4 (i 0) (hi 16 64 rfl (i 3)) l (lo 16 64 rfl (i 3))) * X (ix3 (i 1) (i 2) (pair 16 64 rfl (hi 16 64 rfl (i 3)) l))
    + B (ix2 (i 0) (i 3))

/-- The decays, from the arguments. -/
def decays (X : S2x2304x1024.Idx → EReal) (W : S2x16x64x64.Idx → EReal) (B L : S2x1024.Idx → EReal) (i : S2x2x2304x1024.Idx) : EReal :=
  Ideal.exp (logDecay (preR W B X i) (L (ix2 (i 0) (i 3))))

/-- The scaled inputs, from the arguments. -/
def inputs (X : S2x2304x1024.Idx → EReal) (W W' : S2x16x64x64.Idx → EReal) (B B' L : S2x1024.Idx → EReal) (i : S2x2x2304x1024.Idx) : EReal :=
  input (preR W B X i) (preR W' B' X i) (L (ix2 (i 0) (i 3))) (X (ix3 (i 1) (i 2) (i 3)))

theorem after_two (l₁ l₂ : List (HloOp τ sig (Elt Ideal))) (σ : Valuation τ sig (Elt Ideal)) :
    StableHlo.after (l₁ ++ l₂) σ = StableHlo.after l₂ (StableHlo.after l₁ σ) := by
  induction l₁ generalizing σ with
  | nil => rfl
  | cons op l ih => exact ih _

theorem after_drop (n : ℕ) (l : List (HloOp τ sig (Elt Ideal))) (σ : Valuation τ sig (Elt Ideal)) :
    StableHlo.after l σ = StableHlo.after (l.drop n) (StableHlo.after (l.take n) σ) := by
  rw [← after_two, List.take_append_drop]

theorem entry_drop (n : ℕ) (c : Dev nD) (b : Ref sig .tc) :
    V m c b = StableHlo.after (hostOps0.drop n) (StableHlo.after (hostOps0.take n) (fun b => m (c, b))) b :=
  congrFun (after_drop n hostOps0 _) _

theorem table0 (c : Dev nD) (t : Fin 4) (k q : Fin 256) :
    V m c main_v41 (ix4 0 t k q) = (V m c main_v36 (ix4 0 t k q) : EReal) := by
  rw [entry_drop m 42 c main_v41, entry_drop m 42 c main_v36]
  generalize StableHlo.after (hostOps0.take 42) (fun b => m (c, b)) = σ
  simp only [List.drop_succ_cons, List.drop_zero]
  entry_read
  pointwise

theorem table1 (c : Dev nD) (t : Fin 4) (k q : Fin 256) :
    V m c main_v41 (ix4 1 t k q) = (V m c main_v37 (ix4 0 t k q) : EReal) := by
  rw [entry_drop m 42 c main_v41, entry_drop m 42 c main_v37]
  generalize StableHlo.after (hostOps0.take 42) (fun b => m (c, b)) = σ
  simp only [List.drop_succ_cons, List.drop_zero]
  entry_read
  pointwise

theorem table2 (c : Dev nD) (t : Fin 4) (k q : Fin 256) :
    V m c main_v41 (ix4 2 t k q) = (V m c main_v38 (ix4 0 t k q) : EReal) := by
  rw [entry_drop m 42 c main_v41, entry_drop m 42 c main_v38]
  generalize StableHlo.after (hostOps0.take 42) (fun b => m (c, b)) = σ
  simp only [List.drop_succ_cons, List.drop_zero]
  entry_read
  pointwise

theorem table3 (c : Dev nD) (t : Fin 4) (k q : Fin 256) :
    V m c main_v41 (ix4 3 t k q) = (V m c main_v39 (ix4 0 t k q) : EReal) := by
  rw [entry_drop m 42 c main_v41, entry_drop m 42 c main_v39]
  generalize StableHlo.after (hostOps0.take 42) (fun b => m (c, b)) = σ
  simp only [List.drop_succ_cons, List.drop_zero]
  entry_read
  pointwise

theorem bias0 (c : Dev nD) (n : Fin 1024) : V m c main_v54 (ix2 0 n) = (V m c main_v50 (ix2 0 n) : EReal) := by
  rw [entry_drop m 56 c main_v54, entry_drop m 56 c main_v50]
  generalize StableHlo.after (hostOps0.take 56) (fun b => m (c, b)) = σ
  simp only [List.drop_succ_cons, List.drop_zero]
  entry_read
  pointwise

theorem bias1 (c : Dev nD) (n : Fin 1024) : V m c main_v54 (ix2 1 n) = (V m c main_v51 (ix2 0 n) : EReal) := by
  rw [entry_drop m 56 c main_v54, entry_drop m 56 c main_v51]
  generalize StableHlo.after (hostOps0.take 56) (fun b => m (c, b)) = σ
  simp only [List.drop_succ_cons, List.drop_zero]
  entry_read
  pointwise

theorem bias2 (c : Dev nD) (n : Fin 1024) : V m c main_v54 (ix2 2 n) = (V m c main_v52 (ix2 0 n) : EReal) := by
  rw [entry_drop m 56 c main_v54, entry_drop m 56 c main_v52]
  generalize StableHlo.after (hostOps0.take 56) (fun b => m (c, b)) = σ
  simp only [List.drop_succ_cons, List.drop_zero]
  entry_read
  pointwise

theorem bias3 (c : Dev nD) (n : Fin 1024) : V m c main_v54 (ix2 3 n) = (V m c main_v53 (ix2 0 n) : EReal) := by
  rw [entry_drop m 56 c main_v54, entry_drop m 56 c main_v53]
  generalize StableHlo.after (hostOps0.take 56) (fun b => m (c, b)) = σ
  simp only [List.drop_succ_cons, List.drop_zero]
  entry_read
  pointwise

theorem unit (a b : ℕ) (ha : a < 4) (hb : b < 4) :
    (FloatOps.uitofp (F := Ideal) FTy.f32 (IntOp.cmpi .eq (IntOp.addi (BitVec.ofNat 32 a) 0#32) (BitVec.ofNat 32 b)) : EReal)
      = if a = b then 1 else 0 := by
  interval_cases a <;> interval_cases b <;> simp [FloatOps.uitofp, IntOp.cmpi, IntOp.addi]

/-- An entry of a block diagonal matrix. -/
def diag (W : S2x16x64x64.Idx → EReal) (d : Fin 2) (t : Fin 4) (k q : Fin 256) : EReal :=
  W (ix4 d ⟨t.val * 4 + k.val / 64, by omega⟩ ⟨k.val % 64, by omega⟩ ⟨q.val % 64, by omega⟩) * if k.val / 64 = q.val / 64 then 1 else 0

theorem diagR0 (c : Dev nD) (t : Fin 4) (k q : Fin 256) :
    V m c main_v41 (ix4 0 t k q) = diag (m ((c : Thread nD τ).loc main_arg1)) 0 t k q := by
  refine (table0 m c t k q).trans ?_
  unfold diag
  rw [← unit _ _ (by omega) (by omega)]
  entry_read
  pointwise

theorem biasR0 (c : Dev nD) (n : Fin 1024) : V m c main_v54 (ix2 0 n) = (m ((c : Thread nD τ).loc main_arg3) (ix2 0 n) : EReal) := by
  refine (bias0 m c n).trans ?_
  entry_read
  pointwise

theorem diagI0 (c : Dev nD) (t : Fin 4) (k q : Fin 256) :
    V m c main_v41 (ix4 1 t k q) = diag (m ((c : Thread nD τ).loc main_arg2)) 0 t k q := by
  refine (table1 m c t k q).trans ?_
  unfold diag
  rw [← unit _ _ (by omega) (by omega)]
  entry_read
  pointwise

theorem biasI0 (c : Dev nD) (n : Fin 1024) : V m c main_v54 (ix2 1 n) = (m ((c : Thread nD τ).loc main_arg4) (ix2 0 n) : EReal) := by
  refine (bias1 m c n).trans ?_
  entry_read
  pointwise

theorem diagR1 (c : Dev nD) (t : Fin 4) (k q : Fin 256) :
    V m c main_v41 (ix4 2 t k q) = diag (m ((c : Thread nD τ).loc main_arg1)) 1 t k q := by
  refine (table2 m c t k q).trans ?_
  unfold diag
  rw [← unit _ _ (by omega) (by omega)]
  entry_read
  pointwise

theorem biasR1 (c : Dev nD) (n : Fin 1024) : V m c main_v54 (ix2 2 n) = (m ((c : Thread nD τ).loc main_arg3) (ix2 1 n) : EReal) := by
  refine (bias2 m c n).trans ?_
  entry_read
  pointwise

theorem diagI1 (c : Dev nD) (t : Fin 4) (k q : Fin 256) :
    V m c main_v41 (ix4 3 t k q) = diag (m ((c : Thread nD τ).loc main_arg2)) 1 t k q := by
  refine (table3 m c t k q).trans ?_
  unfold diag
  rw [← unit _ _ (by omega) (by omega)]
  entry_read
  pointwise

theorem biasI1 (c : Dev nD) (n : Fin 1024) : V m c main_v54 (ix2 3 n) = (m ((c : Thread nD τ).loc main_arg4) (ix2 1 n) : EReal) := by
  refine (bias3 m c n).trans ?_
  entry_read
  pointwise

theorem diag_sum (x w : Fin 256 → EReal) (h : Fin 4) :
    ∑ k : Fin 256, x k * (w k * if k.val / 64 = h.val then 1 else 0) = ∑ l : Fin 64, w (pair 4 64 rfl h l) * x (pair 4 64 rfl h l) := by
  symm
  refine Finset.sum_of_injOn (pair 4 64 rfl h) ?_ (fun _ _ => Finset.mem_coe.mpr (Finset.mem_univ _)) ?_ ?_
  · intro a _ b _ e
    have := congrArg Fin.val e
    exact Fin.ext (by simpa using this)
  · intro k _ hk
    rw [if_neg, mul_zero, mul_zero]
    intro e
    refine hk ⟨⟨k.val % 64, by omega⟩, Finset.mem_coe.mpr (Finset.mem_univ _), Fin.ext ?_⟩
    show h.val * 64 + k.val % 64 = k.val
    omega
  · intro l _
    have : (h.val * 64 + l.val) / 64 = h.val := by omega
    rw [if_pos this, mul_one, mul_comm]

theorem pre_entry (W4 : S4x4x256x256.Idx → EReal) (B4 : S4x1024.Idx → EReal) (X : S2x2304x1024.Idx → EReal) (W : S2x16x64x64.Idx → EReal)
    (B : S2x1024.Idx → EReal) (g : Fin 4) (i : S2x2x2304x1024.Idx) (hw : ∀ t k q, W4 (ix4 g t k q) = diag W (i 0) t k q)
    (hb : ∀ n, B4 (ix2 g n) = B (ix2 (i 0) n)) : preG X W4 B4 g (i 1) (i 2) (i 3) = preR W B X i := by
  have hn : (i 3).val < 1024 := (i 3).isLt
  unfold preG preR
  refine congrArg₂ (· + ·) ?_ (hb _)
  simp only [hw]
  unfold diag
  refine (diag_sum _ (fun k => W (ix4 (i 0) ⟨(i 3).val / 256 * 4 + k.val / 64, by omega⟩ ⟨k.val % 64, by omega⟩ ⟨(i 3).val % 256 % 64, by omega⟩))
    ⟨(i 3).val % 256 / 64, by omega⟩).trans ?_
  refine Finset.sum_congr rfl fun l _ => ?_
  have h0 : (i 3).val / 256 * 4 + ((i 3).val % 256 / 64 * 64 + l.val) / 64 = (i 3).val / 64 := by omega
  have h1 : ((i 3).val % 256 / 64 * 64 + l.val) % 64 = l.val := by omega
  have h2 : (i 3).val % 256 % 64 = (i 3).val % 64 := by omega
  have h3 : (i 3).val / 256 * 256 + ((i 3).val % 256 / 64 * 64 + l.val) = (i 3).val / 64 * 64 + l.val := by omega
  refine congrArg₂ (· * ·) (congrArg W ?_) (congrArg X ?_)
  · funext k
    fin_cases k
    · rfl
    · exact Fin.ext h0
    · exact Fin.ext h1
    · exact Fin.ext h2
  · funext k
    fin_cases k
    · rfl
    · rfl
    · exact Fin.ext h3

theorem entryR (c : Dev nD) (i : S2x2x2304x1024.Idx) :
    preG (V m c main_arg0) (V m c main_v41) (V m c main_v54) (rg (i 0)) (i 1) (i 2) (i 3)
      = preR (m ((c : Thread nD τ).loc main_arg1)) (m ((c : Thread nD τ).loc main_arg3)) (m ((c : Thread nD τ).loc main_arg0)) i := by
  rw [V_main_arg0]
  refine pre_entry _ _ _ _ _ _ i ?_ ?_
  · generalize i 0 = d
    change Fin 2 at d
    fin_cases d
    · exact diagR0 m c
    · exact diagR1 m c
  · generalize i 0 = d
    change Fin 2 at d
    fin_cases d
    · exact biasR0 m c
    · exact biasR1 m c

theorem entryI (c : Dev nD) (i : S2x2x2304x1024.Idx) :
    preG (V m c main_arg0) (V m c main_v41) (V m c main_v54) (ig (i 0)) (i 1) (i 2) (i 3)
      = preR (m ((c : Thread nD τ).loc main_arg2)) (m ((c : Thread nD τ).loc main_arg4)) (m ((c : Thread nD τ).loc main_arg0)) i := by
  rw [V_main_arg0]
  refine pre_entry _ _ _ _ _ _ i ?_ ?_
  · generalize i 0 = d
    change Fin 2 at d
    fin_cases d
    · exact diagI0 m c
    · exact diagI1 m c
  · generalize i 0 = d
    change Fin 2 at d
    fin_cases d
    · exact biasI0 m c
    · exact biasI1 m c

theorem entryA (c : Dev nD) : arrA (V m c main_arg0) (V m c main_v41) (V m c main_v54) (V m c main_arg5)
    = decays (m ((c : Thread nD τ).loc main_arg0)) (m ((c : Thread nD τ).loc main_arg1)) (m ((c : Thread nD τ).loc main_arg3)) (m ((c : Thread nD τ).loc main_arg5)) := by
  funext i
  unfold arrA decays
  rw [entryR, V_main_arg5]

theorem entryS (c : Dev nD) : arrI (V m c main_arg0) (V m c main_v41) (V m c main_v54) (V m c main_arg5)
    = inputs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  funext i
  unfold arrI inputs
  rw [entryR, entryI, V_main_arg5, V_main_arg0]

theorem values : algebraic_Kernel23Ideal_Reference23Ideal := by
  intro m g m' g' _ hagree
  refine ⟨fun c => decays (m ((c : Thread nD τ).loc main_arg0)) (m ((c : Thread nD τ).loc main_arg1)) (m ((c : Thread nD τ).loc main_arg3)) (m ((c : Thread nD τ).loc main_arg5)),
    fun c => inputs (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)),
    (θ_run _ _ _).mono (fun r h c => ⟨(h c).1.trans ((arr4 m c).trans (entryA m c)), (h c).2.1.trans ((arr5 m c).trans (entryS m c)), (h c).2.2⟩)
      (Kernel23Ideal.Value.run_blocks m g),
    (θ_run _ _ _).mono (fun r h c => ⟨(h c).1.trans (funext fun i => ?_), (h c).2.1.trans (funext fun i => ?_), (h c).2.2⟩) (Reference23Ideal.Value.run m' g')⟩
  · obtain ⟨a0, a1, a2, a3, a4, a5⟩ := hagree c
    beta_reduce
    rw [← a0, ← a1, ← a3, ← a5]
    refine congrArg Ideal.exp ((decayR _ _ i).trans ?_)
    exact congrArg₂ (· * ·) (congrArg₂ (· * ·) rfl ((sigmoid _ i).trans (congrArg Ideal.logistic (product _ _ _ i)))) (soft _ _)
  · obtain ⟨a0, a1, a2, a3, a4, a5⟩ := hagree c
    beta_reduce
    rw [← a0, ← a1, ← a2, ← a3, ← a4, ← a5]
    refine (inputR _ _ _ i).trans ?_
    refine congrArg₂ (· * ·) (congrArg (fun z => Ideal.sqrt (-Ideal.expm1 (2 * z))) ((decayR _ _ i).trans ?_))
      (congrArg₂ (· * ·) ((sigmoid _ i).trans (congrArg Ideal.logistic (product _ _ _ i))) rfl)
    exact congrArg₂ (· * ·) (congrArg₂ (· * ·) rfl ((sigmoid _ i).trans (congrArg Ideal.logistic (product _ _ _ i)))) (soft _ _)

end

end Cert.Products.Gates

end
-- ==== Proof.AdamMath.lean ====
module

public import proofs.«01_k».proof.Proof.Split
public import Idealize.ShloMosaic.PureOps.Ideal
public import Idealize.ShloMosaic.Lib.Pipeline.ValueKit

/-! One step of AdamW at one position, and the same step written over whole arrays. -/

@[expose] public section

noncomputable section

namespace Cert.Products.Adam

open Idealize.ShloMosaic

/-- The new first moment. -/
def first (m g : EReal) : EReal := Ideal.ofBits .f32 0x3F666666#32 * m + Ideal.ofBits .f32 0x3DCCCCCD#32 * g

/-- The new second moment. -/
def second (v g : EReal) : EReal := Ideal.ofBits .f32 0x3F7FBE77#32 * v + Ideal.ofBits .f32 0x3A83126F#32 * (g * g)

/-- The change of the weight, from the weight and the new moments. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

/-- The gradient at one position: the sum of its parts. -/
def grad {n r c : ℕ} (G : (⟨3, ![n, r, c]⟩ : Shape).Idx → EReal) (i : (⟨3, ![1, r, c]⟩ : Shape).Idx) : EReal :=
  ∑ p : Fin n, G (ix3 p (i 1) (i 2))

variable {S : Shape} (h : (⟨0, ![]⟩ : Shape).BroadcastsInDim S (![] : Fin 0 → Fin S.rank)) (W M V G : FVec Ideal S .f32)

theorem firstR (i : S.Idx) :
    addf (mulf (broadcastInDim S ![] h (constant (F := Ideal) ⟨0, ![]⟩ .f32 0x3F666666#32)) M)
      (mulf (broadcastInDim S ![] h (constant (F := Ideal) ⟨0, ![]⟩ .f32 0x3DCCCCCD#32)) G) i = first (M i) (G i) := rfl

theorem secondR (i : S.Idx) :
    addf (mulf (broadcastInDim S ![] h (constant (F := Ideal) ⟨0, ![]⟩ .f32 0x3F7FBE77#32)) V)
      (mulf (broadcastInDim S ![] h (constant (F := Ideal) ⟨0, ![]⟩ .f32 0x3A83126F#32)) (mulf G G)) i = second (V i) (G i) := rfl

theorem changeR (i : S.Idx) :
    mulf (broadcastInDim S ![] h (constant (F := Ideal) ⟨0, ![]⟩ .f32 0xBA83126F#32))
      (addf (Host.divf (Host.divf M (broadcastInDim S ![] h (constant (F := Ideal) ⟨0, ![]⟩ .f32 0x3F26BD02#32)))
          (addf (Host.sqrt (Host.divf V (broadcastInDim S ![] h (constant (F := Ideal) ⟨0, ![]⟩ .f32 0x3C231ACC#32))))
            (broadcastInDim S ![] h (constant (F := Ideal) ⟨0, ![]⟩ .f32 0x322BCC77#32))))
        (mulf (broadcastInDim S ![] h (constant (F := Ideal) ⟨0, ![]⟩ .f32 0x3C23D70A#32)) W)) i = change (W i) (M i) (V i) := rfl

end Cert.Products.Adam

end
-- ==== Proof.AdamUp.lean ====
module

public import proofs.«01_k».proof.Defs
public import proofs.«01_k».proof.Proof.Split
public import proofs.«01_k».proof.Proof.AdamMath
public import proofs.«01_k».proof.Proof.Gen.Kernel24Ideal.Value
public import proofs.«01_k».proof.Proof.Gen.Reference24Ideal.Run
public import Idealize.ShloMosaic.Lib.Pipeline.ValueKit
public import Idealize.ShloMosaic.Lib.Pipeline.ReadBack

/-! The optimiser's step of `w_up`: every block of the kernel's four results, and the reference's. -/

@[expose] public section

set_option maxRecDepth 16384

noncomputable section

namespace Cert.Products.AdamUp

open Cert.Products.Adam

section
open Cert.Reference24Ideal Cert.Reference24Ideal.Gen Idealize.ShloMosaic

theorem gradR (G : FVec Ideal S4x1024x1024 .bf16) (i : S1x1024x1024.Idx) :
    broadcastInDim S1x1024x1024 ![1, 2] bcast_S1024x1024_S1x1024x1024_1_2 (Host.reduceAdd (extf .f32 G bitsLt_bf16_f32) (constant S_ .f32 0x00000000#32)
      reducesTo_S4x1024x1024_S1024x1024_d0 h_S_) i = grad G i := by
  unfold grad
  pointwise

end

section
open Cert.Kernel24Ideal Cert.Kernel24Ideal.Gen Idealize.ShloMosaic Idealize.ShloMosaic.TcCoe Idealize.SL.Sem
open Idealize.ShloMosaic.Pipeline (Dat)

variable (m : (ℓ : Loc nD τ sig) → Buf (Elt Ideal) ℓ)

theorem pay4 (x : Vec Ideal S4x128x1024 .bf16) (j : S128x1024.Idx) :
    k0_pay4 (View.ld x r0_0) (View.ld x r0_1) (View.ld x r0_2) (View.ld x r0_3) j = grad x (ix3 0 (j 0) (j 1)) := by
  unfold grad
  rw [Fin.sum_univ_four]
  unfold k0_pay4
  pointwise

theorem pay5 (x : Vec Ideal S4x128x1024 .bf16) (y : Vec Ideal S1x128x1024 .f32) (j : S128x1024.Idx) :
    k0_pay5 (View.ld x r0_0) (View.ld x r0_1) (View.ld x r0_2) (View.ld x r0_3) (View.ld y r0_4) j
      = first (y (ix3 0 (j 0) (j 1))) (grad x (ix3 0 (j 0) (j 1))) := by
  rw [← pay4]
  unfold first k0_pay5
  generalize k0_pay4 (F := Ideal) _ _ _ _ = g
  pointwise

theorem pay6 (x : Vec Ideal S4x128x1024 .bf16) (y : Vec Ideal S1x128x1024 .f32) (j : S128x1024.Idx) :
    k0_pay6 (View.ld x r0_0) (View.ld x r0_1) (View.ld x r0_2) (View.ld x r0_3) (View.ld y r0_4) j
      = second (y (ix3 0 (j 0) (j 1))) (grad x (ix3 0 (j 0) (j 1))) := by
  rw [← pay4]
  unfold second k0_pay6
  generalize k0_pay4 (F := Ideal) _ _ _ _ = g
  pointwise

theorem pay3 (a b : FVec Ideal S128x1024 .f32) (y : Vec Ideal S1x128x1024 .f32) (j : S1x128x1024.Idx) :
    k0_pay3 a b (View.ld y r0_4) j = change (y (ix3 0 (j 1) (j 2))) (a (ix2 (j 1) (j 2))) (b (ix2 (j 1) (j 2))) := by
  unfold change k0_pay3
  pointwise

theorem pay1 (a : FVec Ideal S128x1024 .f32) (j : S1x128x1024.Idx) : k0_pay1 a j = a (ix2 (j 1) (j 2)) := by
  unfold k0_pay1
  pointwise

theorem emb4 (j : S1x128x1024.Idx) : r0_4.emb j = j := by
  funext k
  apply Fin.ext
  fin_cases k <;> simp [Rect.emb, Rect.unit]

theorem pay2 (a : FVec Ideal S128x1024 .f32) (j : S1x128x1024.Idx) : k0_pay2 a j = a (ix2 (j 1) (j 2)) := by
  unfold k0_pay2
  pointwise

theorem pay7 (x : Vec Ideal S4x128x1024 .bf16) (j : S1x128x1024.Idx) :
    k0_pay7 (View.ld x r0_0) (View.ld x r0_1) (View.ld x r0_2) (View.ld x r0_3) j = grad x (ix3 0 (j 1) (j 2)) := by
  unfold k0_pay7
  refine Eq.trans ?_ (pay4 x (ix2 (j 1) (j 2)))
  generalize k0_pay4 (F := Ideal) _ _ _ _ = g
  pointwise

/-- One store over the whole block leaves what it stores. -/
theorem whole (p : Vec Ideal S1x128x1024 .f32) : View.canon (Val := Elt Ideal) [⟨r0_4, p⟩] = p :=
  funext fun y => View.canon_apply_of_pieces (Val := Elt Ideal) p _ (fun q hq j => by
    obtain rfl : q = ⟨r0_4, p⟩ := by simpa using hq
    exact congrArg p (emb4 j).symm) y (cover0_4 _ y)

/-- The block of gradients. -/
theorem out4 (w x v : Vec Ideal S1x128x1024 .f32) (g : Vec Ideal S4x128x1024 .bf16) (y : S1x128x1024.Idx) :
    out0_4 w x v g y = grad g (ix3 0 (y 1) (y 2)) := by
  unfold_out out0_4
  rw [whole, pay7]

/-- The block of changes of the weight. -/
theorem out5 (w x v : Vec Ideal S1x128x1024 .f32) (g : Vec Ideal S4x128x1024 .bf16) (y : S1x128x1024.Idx) :
    out0_5 w x v g y = change (w (ix3 0 (y 1) (y 2))) (first (x (ix3 0 (y 1) (y 2))) (grad g (ix3 0 (y 1) (y 2))))
      (second (v (ix3 0 (y 1) (y 2))) (grad g (ix3 0 (y 1) (y 2)))) := by
  unfold_out out0_5
  rw [whole, pay3, pay5, pay6]
  rfl

/-- The block of first moments. -/
theorem out6 (w x v : Vec Ideal S1x128x1024 .f32) (g : Vec Ideal S4x128x1024 .bf16) (y : S1x128x1024.Idx) :
    out0_6 w x v g y = first (x (ix3 0 (y 1) (y 2))) (grad g (ix3 0 (y 1) (y 2))) := by
  unfold_out out0_6
  rw [whole, pay1, pay5]
  rfl

/-- The block of second moments. -/
theorem out7 (w x v : Vec Ideal S1x128x1024 .f32) (g : Vec Ideal S4x128x1024 .bf16) (y : S1x128x1024.Idx) :
    out0_7 w x v g y = second (v (ix3 0 (y 1) (y 2))) (grad g (ix3 0 (y 1) (y 2))) := by
  unfold_out out0_7
  rw [whole, pay2, pay6]
  rfl

theorem idx : ∀ t : Fin cfg0.N,
    (win0_0.index t 0 = 0 ∧ win0_0.index t 1 = t.val ∧ win0_0.index t 2 = 0) ∧ (win0_1.index t 0 = 0 ∧ win0_1.index t 1 = t.val ∧ win0_1.index t 2 = 0)
    ∧ (win0_2.index t 0 = 0 ∧ win0_2.index t 1 = t.val ∧ win0_2.index t 2 = 0) ∧ (win0_3.index t 0 = 0 ∧ win0_3.index t 1 = t.val ∧ win0_3.index t 2 = 0)
    ∧ (win0_4.index t 0 = 0 ∧ win0_4.index t 1 = t.val ∧ win0_4.index t 2 = 0) ∧ (win0_5.index t 0 = 0 ∧ win0_5.index t 1 = t.val ∧ win0_5.index t 2 = 0)
    ∧ (win0_6.index t 0 = 0 ∧ win0_6.index t 1 = t.val ∧ win0_6.index t 2 = 0) ∧ (win0_7.index t 0 = 0 ∧ win0_7.index t 1 = t.val ∧ win0_7.index t 2 = 0) :=
  (by decide +kernel : ∀ t : Fin grid0.N, _)

theorem blk3 (c : Dev nD) (t : Fin cfg0.N) (p : Fin 4) (y : S1x128x1024.Idx) (j : S1x1024x1024.Idx) (h1 : (j 1).val = t.val * 128 + (y 1).val)
    (h2 : (j 2).val = (y 2).val) : iblk m c 3 t (ix3 p (y 1) (y 2)) = V m c main_arg3 (ix3 p (j 1) (j 2)) := by
  blk_ext [iblk, idx t]

theorem blk0 (c : Dev nD) (t : Fin cfg0.N) (y : S1x128x1024.Idx) (j : S1x1024x1024.Idx) (h1 : (j 1).val = t.val * 128 + (y 1).val)
    (h2 : (j 2).val = (y 2).val) : iblk m c 0 t (ix3 0 (y 1) (y 2)) = V m c main_arg0 j := by
  have h0 : (j 0).val < 1 := (j 0).isLt
  blk_ext [iblk, idx t]

theorem blk1 (c : Dev nD) (t : Fin cfg0.N) (y : S1x128x1024.Idx) (j : S1x1024x1024.Idx) (h1 : (j 1).val = t.val * 128 + (y 1).val)
    (h2 : (j 2).val = (y 2).val) : iblk m c 1 t (ix3 0 (y 1) (y 2)) = V m c main_arg1 j := by
  have h0 : (j 0).val < 1 := (j 0).isLt
  blk_ext [iblk, idx t]

theorem blk2 (c : Dev nD) (t : Fin cfg0.N) (y : S1x128x1024.Idx) (j : S1x1024x1024.Idx) (h1 : (j 1).val = t.val * 128 + (y 1).val)
    (h2 : (j 2).val = (y 2).val) : iblk m c 2 t (ix3 0 (y 1) (y 2)) = V m c main_arg2 j := by
  have h0 : (j 0).val < 1 := (j 0).isLt
  blk_ext [iblk, idx t]

theorem blkG (c : Dev nD) (t : Fin cfg0.N) (y : S1x128x1024.Idx) (j : S1x1024x1024.Idx) (h1 : (j 1).val = t.val * 128 + (y 1).val)
    (h2 : (j 2).val = (y 2).val) : grad (iblk m c 3 t) (ix3 0 (y 1) (y 2)) = grad (V m c main_arg3) j :=
  Finset.sum_congr rfl fun p _ => blk3 m c t p y j h1 h2

theorem arr4 (c : Dev nD) : (dats m 0 c).arrAt 4 cfg0.N = grad (V m c main_arg3) := by
  refine (dats m 0 c).arrAt_eq_of_covers 4 _ (by decide +kernel) fun t hf y => ?_
  blk_simp
  have e := idx t
  have e1 : ((win0_4.blk t).view.emb y 1).val = t.val * 128 + (y 1).val := by blk_simp [e]
  have e2 : ((win0_4.blk t).view.emb y 2).val = (y 2).val := by blk_simp [e]
  rw [after0_4]
  refine (out4 _ _ _ _ y).trans ?_
  exact blkG m c t y _ e1 e2

theorem arr6 (c : Dev nD) : (dats m 0 c).arrAt 6 cfg0.N = fun i => first (V m c main_arg1 i) (grad (V m c main_arg3) i) := by
  refine (dats m 0 c).arrAt_eq_of_covers 6 _ (by decide +kernel) fun t hf y => ?_
  blk_simp
  have e := idx t
  have e1 : ((win0_6.blk t).view.emb y 1).val = t.val * 128 + (y 1).val := by blk_simp [e]
  have e2 : ((win0_6.blk t).view.emb y 2).val = (y 2).val := by blk_simp [e]
  rw [after0_6]
  refine (out6 _ _ _ _ y).trans ?_
  exact congrArg₂ first (blk1 m c t y _ e1 e2) (blkG m c t y _ e1 e2)

theorem arr7 (c : Dev nD) : (dats m 0 c).arrAt 7 cfg0.N = fun i => second (V m c main_arg2 i) (grad (V m c main_arg3) i) := by
  refine (dats m 0 c).arrAt_eq_of_covers 7 _ (by decide +kernel) fun t hf y => ?_
  blk_simp
  have e := idx t
  have e1 : ((win0_7.blk t).view.emb y 1).val = t.val * 128 + (y 1).val := by blk_simp [e]
  have e2 : ((win0_7.blk t).view.emb y 2).val = (y 2).val := by blk_simp [e]
  rw [after0_7]
  refine (out7 _ _ _ _ y).trans ?_
  exact congrArg₂ second (blk2 m c t y _ e1 e2) (blkG m c t y _ e1 e2)

theorem arr5 (c : Dev nD) : (dats m 0 c).arrAt 5 cfg0.N = fun i => change (V m c main_arg0 i) (first (V m c main_arg1 i) (grad (V m c main_arg3) i))
      (second (V m c main_arg2 i) (grad (V m c main_arg3) i)) := by
  refine (dats m 0 c).arrAt_eq_of_covers 5 _ (by decide +kernel) fun t hf y => ?_
  blk_simp
  have e := idx t
  have e1 : ((win0_5.blk t).view.emb y 1).val = t.val * 128 + (y 1).val := by blk_simp [e]
  have e2 : ((win0_5.blk t).view.emb y 2).val = (y 2).val := by blk_simp [e]
  rw [after0_5]
  refine (out5 _ _ _ _ y).trans ?_
  exact congr (congrArg₂ change (blk0 m c t y _ e1 e2) (congrArg₂ first (blk1 m c t y _ e1 e2) (blkG m c t y _ e1 e2)))
    (congrArg₂ second (blk2 m c t y _ e1 e2) (blkG m c t y _ e1 e2))

theorem values : algebraic_Kernel24Ideal_Reference24Ideal := by
  intro m g m' g' _ hagree
  refine ⟨fun c => grad (m ((c : Thread nD τ).loc main_arg3)),
    fun c i => change (m ((c : Thread nD τ).loc main_arg0) i) (first (m ((c : Thread nD τ).loc main_arg1) i) (grad (m ((c : Thread nD τ).loc main_arg3)) i))
      (second (m ((c : Thread nD τ).loc main_arg2) i) (grad (m ((c : Thread nD τ).loc main_arg3)) i)),
    fun c i => first (m ((c : Thread nD τ).loc main_arg1) i) (grad (m ((c : Thread nD τ).loc main_arg3)) i),
    fun c i => second (m ((c : Thread nD τ).loc main_arg2) i) (grad (m ((c : Thread nD τ).loc main_arg3)) i),
    (θ_run _ _ _).mono (fun r h c => ⟨(h c).1.trans ?_, (h c).2.1.trans ?_, (h c).2.2.1.trans ?_, (h c).2.2.2.1.trans ?_, (h c).2.2.2.2⟩)
      (Kernel24Ideal.Value.run_blocks m g),
    (θ_run _ _ _).mono (fun r h c => ⟨(h c).1.trans (funext fun i => ?_), (h c).2.1.trans (funext fun i => ?_),
      (h c).2.2.1.trans (funext fun i => ?_), (h c).2.2.2.1.trans (funext fun i => ?_), (h c).2.2.2.2⟩) (Reference24Ideal.Value.run m' g')⟩
  · rw [arr4, V_main_arg3]
  · rw [arr5, V_main_arg0, V_main_arg1, V_main_arg2, V_main_arg3]
    rfl
  · rw [arr6, V_main_arg1, V_main_arg3]
    rfl
  · rw [arr7, V_main_arg2, V_main_arg3]
    rfl
  all_goals
    obtain ⟨a0, a1, a2, a3⟩ := hagree c
    beta_reduce
  · rw [← a3]
    exact gradR _ i
  · rw [← a0, ← a1, ← a2, ← a3]
    refine (changeR _ _ _ _ i).trans ?_
    exact congr (congrArg (change _) (congrArg (first _) (gradR _ i))) (congrArg (second _) (gradR _ i))
  · rw [← a1, ← a3]
    exact congrArg (first _) (gradR _ i)
  · rw [← a2, ← a3]
    exact congrArg (second _) (gradR _ i)

end

end Cert.Products.AdamUp

end
-- ==== Proof.AdamDown.lean ====
module

public import proofs.«01_k».proof.Defs
public import proofs.«01_k».proof.Proof.Split
public import proofs.«01_k».proof.Proof.AdamUp
public import proofs.«01_k».proof.Proof.Gen.Kernel25Ideal.Value
public import proofs.«01_k».proof.Proof.Gen.Reference25Ideal.Run
public import Idealize.ShloMosaic.Lib.Pipeline.ValueKit
public import Idealize.ShloMosaic.Lib.Pipeline.ReadBack

/-! The optimiser's step of `w_down`: every block of the kernel's four results, and the reference's. -/

@[expose] public section

set_option maxRecDepth 16384

noncomputable section

namespace Cert.Products.AdamDown

open Cert.Products.Adam

section
open Cert.Reference25Ideal Cert.Reference25Ideal.Gen Idealize.ShloMosaic

theorem gradR (G : FVec Ideal S4x512x1024 .bf16) (i : S1x512x1024.Idx) :
    broadcastInDim S1x512x1024 ![1, 2] bcast_S512x1024_S1x512x1024_1_2 (Host.reduceAdd (extf .f32 G bitsLt_bf16_f32) (constant S_ .f32 0x00000000#32)
      reducesTo_S4x512x1024_S512x1024_d0 h_S_) i = grad G i := by
  unfold grad
  pointwise

end

section
open Cert.Kernel25Ideal Cert.Kernel25Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    (win0_0.index t 0 = 0 ∧ win0_0.index t 1 = t.val ∧ win0_0.index t 2 = 0) ∧ (win0_1.index t 0 = 0 ∧ win0_1.index t 1 = t.val ∧ win0_1.index t 2 = 0)
    ∧ (win0_2.index t 0 = 0 ∧ win0_2.index t 1 = t.val ∧ win0_2.index t 2 = 0) ∧ (win0_3.index t 0 = 0 ∧ win0_3.index t 1 = t.val ∧ win0_3.index t 2 = 0)
    ∧ (win0_4.index t 0 = 0 ∧ win0_4.index t 1 = t.val ∧ win0_4.index t 2 = 0) ∧ (win0_5.index t 0 = 0 ∧ win0_5.index t 1 = t.val ∧ win0_5.index t 2 = 0)
    ∧ (win0_6.index t 0 = 0 ∧ win0_6.index t 1 = t.val ∧ win0_6.index t 2 = 0) ∧ (win0_7.index t 0 = 0 ∧ win0_7.index t 1 = t.val ∧ win0_7.index t 2 = 0) :=
  (by decide +kernel : ∀ t : Fin grid0.N, _)

theorem blk3 (c : Dev nD) (t : Fin cfg0.N) (p : Fin 4) (y : S1x128x1024.Idx) (j : S1x512x1024.Idx) (h1 : (j 1).val = t.val * 128 + (y 1).val)
    (h2 : (j 2).val = (y 2).val) : iblk m c 3 t (ix3 p (y 1) (y 2)) = V m c main_arg3 (ix3 p (j 1) (j 2)) := by
  blk_ext [iblk, idx t]

theorem blk0 (c : Dev nD) (t : Fin cfg0.N) (y : S1x128x1024.Idx) (j : S1x512x1024.Idx) (h1 : (j 1).val = t.val * 128 + (y 1).val)
    (h2 : (j 2).val = (y 2).val) : iblk m c 0 t (ix3 0 (y 1) (y 2)) = V m c main_arg0 j := by
  have h0 : (j 0).val < 1 := (j 0).isLt
  blk_ext [iblk, idx t]

theorem blk1 (c : Dev nD) (t : Fin cfg0.N) (y : S1x128x1024.Idx) (j : S1x512x1024.Idx) (h1 : (j 1).val = t.val * 128 + (y 1).val)
    (h2 : (j 2).val = (y 2).val) : iblk m c 1 t (ix3 0 (y 1) (y 2)) = V m c main_arg1 j := by
  have h0 : (j 0).val < 1 := (j 0).isLt
  blk_ext [iblk, idx t]

theorem blk2 (c : Dev nD) (t : Fin cfg0.N) (y : S1x128x1024.Idx) (j : S1x512x1024.Idx) (h1 : (j 1).val = t.val * 128 + (y 1).val)
    (h2 : (j 2).val = (y 2).val) : iblk m c 2 t (ix3 0 (y 1) (y 2)) = V m c main_arg2 j := by
  have h0 : (j 0).val < 1 := (j 0).isLt
  blk_ext [iblk, idx t]

theorem blkG (c : Dev nD) (t : Fin cfg0.N) (y : S1x128x1024.Idx) (j : S1x512x1024.Idx) (h1 : (j 1).val = t.val * 128 + (y 1).val)
    (h2 : (j 2).val = (y 2).val) : grad (iblk m c 3 t) (ix3 0 (y 1) (y 2)) = grad (V m c main_arg3) j :=
  Finset.sum_congr rfl fun p _ => blk3 m c t p y j h1 h2

theorem arr4 (c : Dev nD) : (dats m 0 c).arrAt 4 cfg0.N = grad (V m c main_arg3) := by
  refine (dats m 0 c).arrAt_eq_of_covers 4 _ (by decide +kernel) fun t hf y => ?_
  blk_simp
  have e := idx t
  have e1 : ((win0_4.blk t).view.emb y 1).val = t.val * 128 + (y 1).val := by blk_simp [e]
  have e2 : ((win0_4.blk t).view.emb y 2).val = (y 2).val := by blk_simp [e]
  rw [after0_4]
  refine (AdamUp.out4 (iblk m c 0 t) (iblk m c 1 t) (iblk m c 2 t) (iblk m c 3 t) y).trans ?_
  exact blkG m c t y _ e1 e2

theorem arr6 (c : Dev nD) : (dats m 0 c).arrAt 6 cfg0.N = fun i => first (V m c main_arg1 i) (grad (V m c main_arg3) i) := by
  refine (dats m 0 c).arrAt_eq_of_covers 6 _ (by decide +kernel) fun t hf y => ?_
  blk_simp
  have e := idx t
  have e1 : ((win0_6.blk t).view.emb y 1).val = t.val * 128 + (y 1).val := by blk_simp [e]
  have e2 : ((win0_6.blk t).view.emb y 2).val = (y 2).val := by blk_simp [e]
  rw [after0_6]
  refine (AdamUp.out6 (iblk m c 0 t) (iblk m c 1 t) (iblk m c 2 t) (iblk m c 3 t) y).trans ?_
  exact congrArg₂ first (blk1 m c t y _ e1 e2) (blkG m c t y _ e1 e2)

theorem arr7 (c : Dev nD) : (dats m 0 c).arrAt 7 cfg0.N = fun i => second (V m c main_arg2 i) (grad (V m c main_arg3) i) := by
  refine (dats m 0 c).arrAt_eq_of_covers 7 _ (by decide +kernel) fun t hf y => ?_
  blk_simp
  have e := idx t
  have e1 : ((win0_7.blk t).view.emb y 1).val = t.val * 128 + (y 1).val := by blk_simp [e]
  have e2 : ((win0_7.blk t).view.emb y 2).val = (y 2).val := by blk_simp [e]
  rw [after0_7]
  refine (AdamUp.out7 (iblk m c 0 t) (iblk m c 1 t) (iblk m c 2 t) (iblk m c 3 t) y).trans ?_
  exact congrArg₂ second (blk2 m c t y _ e1 e2) (blkG m c t y _ e1 e2)

theorem arr5 (c : Dev nD) : (dats m 0 c).arrAt 5 cfg0.N = fun i => change (V m c main_arg0 i) (first (V m c main_arg1 i) (grad (V m c main_arg3) i))
      (second (V m c main_arg2 i) (grad (V m c main_arg3) i)) := by
  refine (dats m 0 c).arrAt_eq_of_covers 5 _ (by decide +kernel) fun t hf y => ?_
  blk_simp
  have e := idx t
  have e1 : ((win0_5.blk t).view.emb y 1).val = t.val * 128 + (y 1).val := by blk_simp [e]
  have e2 : ((win0_5.blk t).view.emb y 2).val = (y 2).val := by blk_simp [e]
  rw [after0_5]
  refine (AdamUp.out5 (iblk m c 0 t) (iblk m c 1 t) (iblk m c 2 t) (iblk m c 3 t) y).trans ?_
  exact congr (congrArg₂ change (blk0 m c t y _ e1 e2) (congrArg₂ first (blk1 m c t y _ e1 e2) (blkG m c t y _ e1 e2)))
    (congrArg₂ second (blk2 m c t y _ e1 e2) (blkG m c t y _ e1 e2))

theorem values : algebraic_Kernel25Ideal_Reference25Ideal := by
  intro m g m' g' _ hagree
  refine ⟨fun c => grad (m ((c : Thread nD τ).loc main_arg3)),
    fun c i => change (m ((c : Thread nD τ).loc main_arg0) i) (first (m ((c : Thread nD τ).loc main_arg1) i) (grad (m ((c : Thread nD τ).loc main_arg3)) i))
      (second (m ((c : Thread nD τ).loc main_arg2) i) (grad (m ((c : Thread nD τ).loc main_arg3)) i)),
    fun c i => first (m ((c : Thread nD τ).loc main_arg1) i) (grad (m ((c : Thread nD τ).loc main_arg3)) i),
    fun c i => second (m ((c : Thread nD τ).loc main_arg2) i) (grad (m ((c : Thread nD τ).loc main_arg3)) i),
    (θ_run _ _ _).mono (fun r h c => ⟨(h c).1.trans ?_, (h c).2.1.trans ?_, (h c).2.2.1.trans ?_, (h c).2.2.2.1.trans ?_, (h c).2.2.2.2⟩)
      (Kernel25Ideal.Value.run_blocks m g),
    (θ_run _ _ _).mono (fun r h c => ⟨(h c).1.trans (funext fun i => ?_), (h c).2.1.trans (funext fun i => ?_),
      (h c).2.2.1.trans (funext fun i => ?_), (h c).2.2.2.1.trans (funext fun i => ?_), (h c).2.2.2.2⟩) (Reference25Ideal.Value.run m' g')⟩
  · rw [arr4, V_main_arg3]
  · rw [arr5, V_main_arg0, V_main_arg1, V_main_arg2, V_main_arg3]
    rfl
  · rw [arr6, V_main_arg1, V_main_arg3]
    rfl
  · rw [arr7, V_main_arg2, V_main_arg3]
    rfl
  all_goals
    obtain ⟨a0, a1, a2, a3⟩ := hagree c
    beta_reduce
  · rw [← a3]
    exact gradR _ i
  · rw [← a0, ← a1, ← a2, ← a3]
    refine (changeR _ _ _ _ i).trans ?_
    exact congr (congrArg (change _) (congrArg (first _) (gradR _ i))) (congrArg (second _) (gradR _ i))
  · rw [← a1, ← a3]
    exact congrArg (first _) (gradR _ i)
  · rw [← a2, ← a3]
    exact congrArg (second _) (gradR _ i)

end

end Cert.Products.AdamDown

end
-- ==== Proof.AdamSquare.lean ====
module

public import proofs.«01_k».proof.Defs
public import proofs.«01_k».proof.Proof.Split
public import proofs.«01_k».proof.Proof.AdamUp
public import proofs.«01_k».proof.Proof.Gen.Kernel26Ideal.Value
public import proofs.«01_k».proof.Proof.Gen.Reference26Ideal.Run
public import Idealize.ShloMosaic.Lib.Pipeline.ValueKit
public import Idealize.ShloMosaic.Lib.Pipeline.ReadBack

/-! The optimiser's step of `w_branch_dn`, `w_branch_lru` and `w_out`: every block of the kernel's four results, and the reference's. -/

@[expose] public section

set_option maxRecDepth 16384

noncomputable section

namespace Cert.Products.AdamSquare

open Cert.Products.Adam

section
open Cert.Reference26Ideal Cert.Reference26Ideal.Gen Idealize.ShloMosaic

theorem gradR (G : FVec Ideal S4x128x1024 .bf16) (i : S1x128x1024.Idx) :
    broadcastInDim S1x128x1024 ![1, 2] bcast_S128x1024_S1x128x1024_1_2 (Host.reduceAdd (extf .f32 G bitsLt_bf16_f32) (constant S_ .f32 0x00000000#32)
      reducesTo_S4x128x1024_S128x1024_d0 h_S_) i = grad G i := by
  unfold grad
  pointwise

end

section
open Cert.Kernel26Ideal Cert.Kernel26Ideal.Gen Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N,
    (win0_0.index t 0 = 0 ∧ win0_0.index t 1 = t.val ∧ win0_0.index t 2 = 0) ∧ (win0_1.index t 0 = 0 ∧ win0_1.index t 1 = t.val ∧ win0_1.index t 2 = 0)
    ∧ (win0_2.index t 0 = 0 ∧ win0_2.index t 1 = t.val ∧ win0_2.index t 2 = 0) ∧ (win0_3.index t 0 = 0 ∧ win0_3.index t 1 = t.val ∧ win0_3.index t 2 = 0)
    ∧ (win0_4.index t 0 = 0 ∧ win0_4.index t 1 = t.val ∧ win0_4.index t 2 = 0) ∧ (win0_5.index t 0 = 0 ∧ win0_5.index t 1 = t.val ∧ win0_5.index t 2 = 0)
    ∧ (win0_6.index t 0 = 0 ∧ win0_6.index t 1 = t.val ∧ win0_6.index t 2 = 0) ∧ (win0_7.index t 0 = 0 ∧ win0_7.index t 1 = t.val ∧ win0_7.index t 2 = 0) :=
  (by decide +kernel : ∀ t : Fin grid0.N, _)

theorem blk3 (c : Dev nD) (t : Fin cfg0.N) (p : Fin 4) (y : S1x128x1024.Idx) (j : S1x128x1024.Idx) (h1 : (j 1).val = t.val * 128 + (y 1).val)
    (h2 : (j 2).val = (y 2).val) : iblk m c 3 t (ix3 p (y 1) (y 2)) = V m c main_arg3 (ix3 p (j 1) (j 2)) := by
  blk_ext [iblk, idx t]

theorem blk0 (c : Dev nD) (t : Fin cfg0.N) (y : S1x128x1024.Idx) (j : S1x128x1024.Idx) (h1 : (j 1).val = t.val * 128 + (y 1).val)
    (h2 : (j 2).val = (y 2).val) : iblk m c 0 t (ix3 0 (y 1) (y 2)) = V m c main_arg0 j := by
  have h0 : (j 0).val < 1 := (j 0).isLt
  blk_ext [iblk, idx t]

theorem blk1 (c : Dev nD) (t : Fin cfg0.N) (y : S1x128x1024.Idx) (j : S1x128x1024.Idx) (h1 : (j 1).val = t.val * 128 + (y 1).val)
    (h2 : (j 2).val = (y 2).val) : iblk m c 1 t (ix3 0 (y 1) (y 2)) = V m c main_arg1 j := by
  have h0 : (j 0).val < 1 := (j 0).isLt
  blk_ext [iblk, idx t]

theorem blk2 (c : Dev nD) (t : Fin cfg0.N) (y : S1x128x1024.Idx) (j : S1x128x1024.Idx) (h1 : (j 1).val = t.val * 128 + (y 1).val)
    (h2 : (j 2).val = (y 2).val) : iblk m c 2 t (ix3 0 (y 1) (y 2)) = V m c main_arg2 j := by
  have h0 : (j 0).val < 1 := (j 0).isLt
  blk_ext [iblk, idx t]

theorem blkG (c : Dev nD) (t : Fin cfg0.N) (y : S1x128x1024.Idx) (j : S1x128x1024.Idx) (h1 : (j 1).val = t.val * 128 + (y 1).val)
    (h2 : (j 2).val = (y 2).val) : grad (iblk m c 3 t) (ix3 0 (y 1) (y 2)) = grad (V m c main_arg3) j :=
  Finset.sum_congr rfl fun p _ => blk3 m c t p y j h1 h2

theorem arr4 (c : Dev nD) : (dats m 0 c).arrAt 4 cfg0.N = grad (V m c main_arg3) := by
  refine (dats m 0 c).arrAt_eq_of_covers 4 _ (by decide +kernel) fun t hf y => ?_
  blk_simp
  have e := idx t
  have e1 : ((win0_4.blk t).view.emb y 1).val = t.val * 128 + (y 1).val := by blk_simp [e]
  have e2 : ((win0_4.blk t).view.emb y 2).val = (y 2).val := by blk_simp [e]
  rw [after0_4]
  refine (AdamUp.out4 (iblk m c 0 t) (iblk m c 1 t) (iblk m c 2 t) (iblk m c 3 t) y).trans ?_
  exact blkG m c t y _ e1 e2

theorem arr6 (c : Dev nD) : (dats m 0 c).arrAt 6 cfg0.N = fun i => first (V m c main_arg1 i) (grad (V m c main_arg3) i) := by
  refine (dats m 0 c).arrAt_eq_of_covers 6 _ (by decide +kernel) fun t hf y => ?_
  blk_simp
  have e := idx t
  have e1 : ((win0_6.blk t).view.emb y 1).val = t.val * 128 + (y 1).val := by blk_simp [e]
  have e2 : ((win0_6.blk t).view.emb y 2).val = (y 2).val := by blk_simp [e]
  rw [after0_6]
  refine (AdamUp.out6 (iblk m c 0 t) (iblk m c 1 t) (iblk m c 2 t) (iblk m c 3 t) y).trans ?_
  exact congrArg₂ first (blk1 m c t y _ e1 e2) (blkG m c t y _ e1 e2)

theorem arr7 (c : Dev nD) : (dats m 0 c).arrAt 7 cfg0.N = fun i => second (V m c main_arg2 i) (grad (V m c main_arg3) i) := by
  refine (dats m 0 c).arrAt_eq_of_covers 7 _ (by decide +kernel) fun t hf y => ?_
  blk_simp
  have e := idx t
  have e1 : ((win0_7.blk t).view.emb y 1).val = t.val * 128 + (y 1).val := by blk_simp [e]
  have e2 : ((win0_7.blk t).view.emb y 2).val = (y 2).val := by blk_simp [e]
  rw [after0_7]
  refine (AdamUp.out7 (iblk m c 0 t) (iblk m c 1 t) (iblk m c 2 t) (iblk m c 3 t) y).trans ?_
  exact congrArg₂ second (blk2 m c t y _ e1 e2) (blkG m c t y _ e1 e2)

theorem arr5 (c : Dev nD) : (dats m 0 c).arrAt 5 cfg0.N = fun i => change (V m c main_arg0 i) (first (V m c main_arg1 i) (grad (V m c main_arg3) i))
      (second (V m c main_arg2 i) (grad (V m c main_arg3) i)) := by
  refine (dats m 0 c).arrAt_eq_of_covers 5 _ (by decide +kernel) fun t hf y => ?_
  blk_simp
  have e := idx t
  have e1 : ((win0_5.blk t).view.emb y 1).val = t.val * 128 + (y 1).val := by blk_simp [e]
  have e2 : ((win0_5.blk t).view.emb y 2).val = (y 2).val := by blk_simp [e]
  rw [after0_5]
  refine (AdamUp.out5 (iblk m c 0 t) (iblk m c 1 t) (iblk m c 2 t) (iblk m c 3 t) y).trans ?_
  exact congr (congrArg₂ change (blk0 m c t y _ e1 e2) (congrArg₂ first (blk1 m c t y _ e1 e2) (blkG m c t y _ e1 e2)))
    (congrArg₂ second (blk2 m c t y _ e1 e2) (blkG m c t y _ e1 e2))

theorem values : algebraic_Kernel26Ideal_Reference26Ideal := by
  intro m g m' g' _ hagree
  refine ⟨fun c => grad (m ((c : Thread nD τ).loc main_arg3)),
    fun c i => change (m ((c : Thread nD τ).loc main_arg0) i) (first (m ((c : Thread nD τ).loc main_arg1) i) (grad (m ((c : Thread nD τ).loc main_arg3)) i))
      (second (m ((c : Thread nD τ).loc main_arg2) i) (grad (m ((c : Thread nD τ).loc main_arg3)) i)),
    fun c i => first (m ((c : Thread nD τ).loc main_arg1) i) (grad (m ((c : Thread nD τ).loc main_arg3)) i),
    fun c i => second (m ((c : Thread nD τ).loc main_arg2) i) (grad (m ((c : Thread nD τ).loc main_arg3)) i),
    (θ_run _ _ _).mono (fun r h c => ⟨(h c).1.trans ?_, (h c).2.1.trans ?_, (h c).2.2.1.trans ?_, (h c).2.2.2.1.trans ?_, (h c).2.2.2.2⟩)
      (Kernel26Ideal.Value.run_blocks m g),
    (θ_run _ _ _).mono (fun r h c => ⟨(h c).1.trans (funext fun i => ?_), (h c).2.1.trans (funext fun i => ?_),
      (h c).2.2.1.trans (funext fun i => ?_), (h c).2.2.2.1.trans (funext fun i => ?_), (h c).2.2.2.2⟩) (Reference26Ideal.Value.run m' g')⟩
  · rw [arr4, V_main_arg3]
  · rw [arr5, V_main_arg0, V_main_arg1, V_main_arg2, V_main_arg3]
    rfl
  · rw [arr6, V_main_arg1, V_main_arg3]
    rfl
  · rw [arr7, V_main_arg2, V_main_arg3]
    rfl
  all_goals
    obtain ⟨a0, a1, a2, a3⟩ := hagree c
    beta_reduce
  · rw [← a3]
    exact gradR _ i
  · rw [← a0, ← a1, ← a2, ← a3]
    refine (changeR _ _ _ _ i).trans ?_
    exact congr (congrArg (change _) (congrArg (first _) (gradR _ i))) (congrArg (second _) (gradR _ i))
  · rw [← a1, ← a3]
    exact congrArg (first _) (gradR _ i)
  · rw [← a2, ← a3]
    exact congrArg (second _) (gradR _ i)

end

end Cert.Products.AdamSquare

end
-- ==== Proof.AdamIn.lean ====
module

public import proofs.«01_k».proof.Defs
public import proofs.«01_k».proof.Proof.Split
public import proofs.«01_k».proof.Proof.AdamMath
public import proofs.«01_k».proof.Proof.Gen.Kernel27Ideal.Value
public import proofs.«01_k».proof.Proof.Gen.Reference27Ideal.Run
public import Idealize.ShloMosaic.Lib.Pipeline.ValueKit
public import Idealize.ShloMosaic.Lib.Pipeline.ReadBack

/-! The optimiser's step of `w_in`: every block of the kernel's four results, and the reference's. -/

@[expose] public section

set_option maxRecDepth 16384

noncomputable section

namespace Cert.Products.AdamIn

open Cert.Products.Adam

section
open Cert.Reference27Ideal Cert.Reference27Ideal.Gen Idealize.ShloMosaic

/-- The gradient at one position: the sum of its parts, which come transposed. -/
def gradT (G : Vec Ideal S4x1028x1024 .bf16) (i : S1x1024x1028.Idx) : EReal := ∑ p : Fin 4, G (ix3 p (i 2) (i 1))

theorem gradR (G : FVec Ideal S4x1028x1024 .bf16) (i : S1x1024x1028.Idx) :
    broadcastInDim S1x1024x1028 ![1, 2] bcast_S1024x1028_S1x1024x1028_1_2 (Host.reduceAdd (extf .f32
      (transpose S4x1024x1028 [0, 2, 1] G transposes_S4x1028x1024_S4x1024x1028_0_2_1) bitsLt_bf16_f32) (constant S_ .f32 0x00000000#32)
      reducesTo_S4x1024x1028_S1024x1028_d0 h_S_) i = gradT G i := by
  unfold gradT
  pointwise

end

section
open Cert.Kernel27Ideal Cert.Kernel27Ideal.Gen Idealize.ShloMosaic Idealize.ShloMosaic.TcCoe Idealize.SL.Sem
open Idealize.ShloMosaic.Pipeline (Dat)

variable (m : (ℓ : Loc nD τ sig) → Buf (Elt Ideal) ℓ)

theorem pay4 (x : Vec Ideal S4x64x1028 .bf16) (j : S64x1028.Idx) :
    k0_pay4 (View.ld x r0_0) (View.ld x r0_1) (View.ld x r0_2) (View.ld x r0_3) j = grad x (ix3 0 (j 0) (j 1)) := by
  unfold grad
  rw [Fin.sum_univ_four]
  unfold k0_pay4
  pointwise

theorem pay5 (x : Vec Ideal S4x64x1028 .bf16) (y : Vec Ideal S1x64x1028 .f32) (j : S64x1028.Idx) :
    k0_pay5 (View.ld x r0_0) (View.ld x r0_1) (View.ld x r0_2) (View.ld x r0_3) (View.ld y r0_4) j
      = first (y (ix3 0 (j 0) (j 1))) (grad x (ix3 0 (j 0) (j 1))) := by
  rw [← pay4]
  unfold first k0_pay5
  generalize k0_pay4 (F := Ideal) _ _ _ _ = g
  pointwise

theorem pay6 (x : Vec Ideal S4x64x1028 .bf16) (y : Vec Ideal S1x64x1028 .f32) (j : S64x1028.Idx) :
    k0_pay6 (View.ld x r0_0) (View.ld x r0_1) (View.ld x r0_2) (View.ld x r0_3) (View.ld y r0_4) j
      = second (y (ix3 0 (j 0) (j 1))) (grad x (ix3 0 (j 0) (j 1))) := by
  rw [← pay4]
  unfold second k0_pay6
  generalize k0_pay4 (F := Ideal) _ _ _ _ = g
  pointwise

theorem pay3 (a b : FVec Ideal S64x1028 .f32) (y : Vec Ideal S1x64x1028 .f32) (j : S1x64x1028.Idx) :
    k0_pay3 a b (View.ld y r0_4) j = change (y (ix3 0 (j 1) (j 2))) (a (ix2 (j 1) (j 2))) (b (ix2 (j 1) (j 2))) := by
  unfold change k0_pay3
  pointwise

theorem pay1 (a : FVec Ideal S64x1028 .f32) (j : S1x64x1028.Idx) : k0_pay1 a j = a (ix2 (j 1) (j 2)) := by
  unfold k0_pay1
  pointwise

theorem emb4 (j : S1x64x1028.Idx) : r0_4.emb j = j := by
  funext k
  apply Fin.ext
  fin_cases k <;> simp [Rect.emb, Rect.unit]

theorem pay2 (a : FVec Ideal S64x1028 .f32) (j : S1x64x1028.Idx) : k0_pay2 a j = a (ix2 (j 1) (j 2)) := by
  unfold k0_pay2
  pointwise

theorem pay7 (x : Vec Ideal S4x64x1028 .bf16) (j : S1x64x1028.Idx) :
    k0_pay7 (View.ld x r0_0) (View.ld x r0_1) (View.ld x r0_2) (View.ld x r0_3) j = grad x (ix3 0 (j 1) (j 2)) := by
  unfold k0_pay7
  refine Eq.trans ?_ (pay4 x (ix2 (j 1) (j 2)))
  generalize k0_pay4 (F := Ideal) _ _ _ _ = g
  pointwise

/-- One store over the whole block leaves what it stores. -/
theorem whole (p : Vec Ideal S1x64x1028 .f32) : View.canon (Val := Elt Ideal) [⟨r0_4, p⟩] = p :=
  funext fun y => View.canon_apply_of_pieces (Val := Elt Ideal) p _ (fun q hq j => by
    obtain rfl : q = ⟨r0_4, p⟩ := by simpa using hq
    exact congrArg p (emb4 j).symm) y (cover0_4 _ y)

/-- The block of gradients. -/
theorem out4 (w x v : Vec Ideal S1x64x1028 .f32) (g : Vec Ideal S4x64x1028 .bf16) (y : S1x64x1028.Idx) :
    out0_4 w x v g y = grad g (ix3 0 (y 1) (y 2)) := by
  unfold_out out0_4
  rw [whole, pay7]

/-- The block of changes of the weight. -/
theorem out5 (w x v : Vec Ideal S1x64x1028 .f32) (g : Vec Ideal S4x64x1028 .bf16) (y : S1x64x1028.Idx) :
    out0_5 w x v g y = change (w (ix3 0 (y 1) (y 2))) (first (x (ix3 0 (y 1) (y 2))) (grad g (ix3 0 (y 1) (y 2))))
      (second (v (ix3 0 (y 1) (y 2))) (grad g (ix3 0 (y 1) (y 2)))) := by
  unfold_out out0_5
  rw [whole, pay3, pay5, pay6]
  rfl

/-- The block of first moments. -/
theorem out6 (w x v : Vec Ideal S1x64x1028 .f32) (g : Vec Ideal S4x64x1028 .bf16) (y : S1x64x1028.Idx) :
    out0_6 w x v g y = first (x (ix3 0 (y 1) (y 2))) (grad g (ix3 0 (y 1) (y 2))) := by
  unfold_out out0_6
  rw [whole, pay1, pay5]
  rfl

/-- The block of second moments. -/
theorem out7 (w x v : Vec Ideal S1x64x1028 .f32) (g : Vec Ideal S4x64x1028 .bf16) (y : S1x64x1028.Idx) :
    out0_7 w x v g y = second (v (ix3 0 (y 1) (y 2))) (grad g (ix3 0 (y 1) (y 2))) := by
  unfold_out out0_7
  rw [whole, pay2, pay6]
  rfl

theorem idx : ∀ t : Fin cfg0.N,
    (win0_0.index t 0 = 0 ∧ win0_0.index t 1 = t.val ∧ win0_0.index t 2 = 0) ∧ (win0_1.index t 0 = 0 ∧ win0_1.index t 1 = t.val ∧ win0_1.index t 2 = 0)
    ∧ (win0_2.index t 0 = 0 ∧ win0_2.index t 1 = t.val ∧ win0_2.index t 2 = 0) ∧ (win0_3.index t 0 = 0 ∧ win0_3.index t 1 = t.val ∧ win0_3.index t 2 = 0)
    ∧ (win0_4.index t 0 = 0 ∧ win0_4.index t 1 = t.val ∧ win0_4.index t 2 = 0) ∧ (win0_5.index t 0 = 0 ∧ win0_5.index t 1 = t.val ∧ win0_5.index t 2 = 0)
    ∧ (win0_6.index t 0 = 0 ∧ win0_6.index t 1 = t.val ∧ win0_6.index t 2 = 0) ∧ (win0_7.index t 0 = 0 ∧ win0_7.index t 1 = t.val ∧ win0_7.index t 2 = 0) :=
  (by decide +kernel : ∀ t : Fin grid0.N, _)

theorem blk3 (c : Dev nD) (t : Fin cfg0.N) (p : Fin 4) (y : S1x64x1028.Idx) (j : S1x1024x1028.Idx) (h1 : (j 1).val = t.val * 64 + (y 1).val)
    (h2 : (j 2).val = (y 2).val) : iblk m c 3 t (ix3 p (y 1) (y 2)) = V m c main_v0 (ix3 p (j 1) (j 2)) := by
  blk_ext [iblk, idx t]

theorem blk0 (c : Dev nD) (t : Fin cfg0.N) (y : S1x64x1028.Idx) (j : S1x1024x1028.Idx) (h1 : (j 1).val = t.val * 64 + (y 1).val)
    (h2 : (j 2).val = (y 2).val) : iblk m c 0 t (ix3 0 (y 1) (y 2)) = V m c main_arg0 j := by
  have h0 : (j 0).val < 1 := (j 0).isLt
  blk_ext [iblk, idx t]

theorem blk1 (c : Dev nD) (t : Fin cfg0.N) (y : S1x64x1028.Idx) (j : S1x1024x1028.Idx) (h1 : (j 1).val = t.val * 64 + (y 1).val)
    (h2 : (j 2).val = (y 2).val) : iblk m c 1 t (ix3 0 (y 1) (y 2)) = V m c main_arg1 j := by
  have h0 : (j 0).val < 1 := (j 0).isLt
  blk_ext [iblk, idx t]

theorem blk2 (c : Dev nD) (t : Fin cfg0.N) (y : S1x64x1028.Idx) (j : S1x1024x1028.Idx) (h1 : (j 1).val = t.val * 64 + (y 1).val)
    (h2 : (j 2).val = (y 2).val) : iblk m c 2 t (ix3 0 (y 1) (y 2)) = V m c main_arg2 j := by
  have h0 : (j 0).val < 1 := (j 0).isLt
  blk_ext [iblk, idx t]

theorem blkG (c : Dev nD) (t : Fin cfg0.N) (y : S1x64x1028.Idx) (j : S1x1024x1028.Idx) (h1 : (j 1).val = t.val * 64 + (y 1).val)
    (h2 : (j 2).val = (y 2).val) : grad (iblk m c 3 t) (ix3 0 (y 1) (y 2)) = grad (V m c main_v0) j :=
  Finset.sum_congr rfl fun p _ => blk3 m c t p y j h1 h2

theorem arr4 (c : Dev nD) : (dats m 0 c).arrAt 4 cfg0.N = grad (V m c main_v0) := by
  refine (dats m 0 c).arrAt_eq_of_covers 4 _ (by decide +kernel) fun t hf y => ?_
  blk_simp
  have e := idx t
  have e1 : ((win0_4.blk t).view.emb y 1).val = t.val * 64 + (y 1).val := by blk_simp [e]
  have e2 : ((win0_4.blk t).view.emb y 2).val = (y 2).val := by blk_simp [e]
  rw [after0_4]
  refine (out4 _ _ _ _ y).trans ?_
  exact blkG m c t y _ e1 e2

theorem arr6 (c : Dev nD) : (dats m 0 c).arrAt 6 cfg0.N = fun i => first (V m c main_arg1 i) (grad (V m c main_v0) i) := by
  refine (dats m 0 c).arrAt_eq_of_covers 6 _ (by decide +kernel) fun t hf y => ?_
  blk_simp
  have e := idx t
  have e1 : ((win0_6.blk t).view.emb y 1).val = t.val * 64 + (y 1).val := by blk_simp [e]
  have e2 : ((win0_6.blk t).view.emb y 2).val = (y 2).val := by blk_simp [e]
  rw [after0_6]
  refine (out6 _ _ _ _ y).trans ?_
  exact congrArg₂ first (blk1 m c t y _ e1 e2) (blkG m c t y _ e1 e2)

theorem arr7 (c : Dev nD) : (dats m 0 c).arrAt 7 cfg0.N = fun i => second (V m c main_arg2 i) (grad (V m c main_v0) i) := by
  refine (dats m 0 c).arrAt_eq_of_covers 7 _ (by decide +kernel) fun t hf y => ?_
  blk_simp
  have e := idx t
  have e1 : ((win0_7.blk t).view.emb y 1).val = t.val * 64 + (y 1).val := by blk_simp [e]
  have e2 : ((win0_7.blk t).view.emb y 2).val = (y 2).val := by blk_simp [e]
  rw [after0_7]
  refine (out7 _ _ _ _ y).trans ?_
  exact congrArg₂ second (blk2 m c t y _ e1 e2) (blkG m c t y _ e1 e2)

theorem arr5 (c : Dev nD) : (dats m 0 c).arrAt 5 cfg0.N = fun i => change (V m c main_arg0 i) (first (V m c main_arg1 i) (grad (V m c main_v0) i))
      (second (V m c main_arg2 i) (grad (V m c main_v0) i)) := by
  refine (dats m 0 c).arrAt_eq_of_covers 5 _ (by decide +kernel) fun t hf y => ?_
  blk_simp
  have e := idx t
  have e1 : ((win0_5.blk t).view.emb y 1).val = t.val * 64 + (y 1).val := by blk_simp [e]
  have e2 : ((win0_5.blk t).view.emb y 2).val = (y 2).val := by blk_simp [e]
  rw [after0_5]
  refine (out5 _ _ _ _ y).trans ?_
  exact congr (congrArg₂ change (blk0 m c t y _ e1 e2) (congrArg₂ first (blk1 m c t y _ e1 e2) (blkG m c t y _ e1 e2)))
    (congrArg₂ second (blk2 m c t y _ e1 e2) (blkG m c t y _ e1 e2))

theorem entry (c : Dev nD) : grad (V m c main_v0) = gradT (m ((c : Thread nD τ).loc main_arg3)) := by
  funext i
  refine Finset.sum_congr rfl fun p _ => ?_
  entry_read
  pointwise

theorem values : algebraic_Kernel27Ideal_Reference27Ideal := by
  intro m g m' g' _ hagree
  refine ⟨fun c => gradT (m ((c : Thread nD τ).loc main_arg3)),
    fun c i => change (m ((c : Thread nD τ).loc main_arg0) i) (first (m ((c : Thread nD τ).loc main_arg1) i) (gradT (m ((c : Thread nD τ).loc main_arg3)) i))
      (second (m ((c : Thread nD τ).loc main_arg2) i) (gradT (m ((c : Thread nD τ).loc main_arg3)) i)),
    fun c i => first (m ((c : Thread nD τ).loc main_arg1) i) (gradT (m ((c : Thread nD τ).loc main_arg3)) i),
    fun c i => second (m ((c : Thread nD τ).loc main_arg2) i) (gradT (m ((c : Thread nD τ).loc main_arg3)) i),
    (θ_run _ _ _).mono (fun r h c => ⟨(h c).1.trans ?_, (h c).2.1.trans ?_, (h c).2.2.1.trans ?_, (h c).2.2.2.1.trans ?_, (h c).2.2.2.2⟩)
      (Kernel27Ideal.Value.run_blocks m g),
    (θ_run _ _ _).mono (fun r h c => ⟨(h c).1.trans (funext fun i => ?_), (h c).2.1.trans (funext fun i => ?_),
      (h c).2.2.1.trans (funext fun i => ?_), (h c).2.2.2.1.trans (funext fun i => ?_), (h c).2.2.2.2⟩) (Reference27Ideal.Value.run m' g')⟩
  · rw [arr4, entry]
  · rw [arr5, V_main_arg0, V_main_arg1, V_main_arg2, entry]
    rfl
  · rw [arr6, V_main_arg1, entry]
    rfl
  · rw [arr7, V_main_arg2, entry]
    rfl
  all_goals
    obtain ⟨a0, a1, a2, a3⟩ := hagree c
    beta_reduce
  · rw [← a3]
    exact gradR _ i
  · rw [← a0, ← a1, ← a2, ← a3]
    refine (changeR _ _ _ _ i).trans ?_
    exact congr (congrArg (change _) (congrArg (first _) (gradR _ i))) (congrArg (second _) (gradR _ i))
  · rw [← a1, ← a3]
    exact congrArg (first _) (gradR _ i)
  · rw [← a2, ← a3]
    exact congrArg (second _) (gradR _ i)

end

end Cert.Products.AdamIn

end
-- ==== Proof.AdamAda.lean ====
module

public import proofs.«01_k».proof.Defs
public import proofs.«01_k».proof.Proof.Split
public import proofs.«01_k».proof.Proof.AdamMath
public import proofs.«01_k».proof.Proof.Gen.Kernel28Ideal.Value
public import proofs.«01_k».proof.Proof.Gen.Reference28Ideal.Run
public import Idealize.ShloMosaic.Lib.Pipeline.ValueKit
public import Idealize.ShloMosaic.Lib.Pipeline.ReadBack

/-! The optimiser's step of `w_ada`: every block of the kernel's four results, and the reference's. -/

@[expose] public section

set_option maxRecDepth 16384

noncomputable section

namespace Cert.Products.AdamAda

open Cert.Products.Adam

section
open Cert.Reference28Ideal Cert.Reference28Ideal.Gen Idealize.ShloMosaic

theorem gradR (G : FVec Ideal S1x1024x768 .f32) (i : S1x1024x768.Idx) :
    broadcastInDim S1x1024x768 ![1, 2] bcast_S1024x768_S1x1024x768_1_2 (Host.reduceAdd G (constant S_ .f32 0x00000000#32)
      reducesTo_S1x1024x768_S1024x768_d0 h_S_) i = grad G i := by
  unfold grad
  pointwise

end

section
open Cert.Kernel28Ideal Cert.Kernel28Ideal.Gen Idealize.ShloMosaic Idealize.ShloMosaic.TcCoe Idealize.SL.Sem
open Idealize.ShloMosaic.Pipeline (Dat)

variable (m : (ℓ : Loc nD τ sig) → Buf (Elt Ideal) ℓ)

theorem pay2 (g : Vec Ideal S1x128x768 .f32) (j : S128x768.Idx) : k0_pay2 (View.ld g r0_0) j = grad g (ix3 0 (j 0) (j 1)) := by
  unfold grad k0_pay2
  rw [Fin.sum_univ_one]
  pointwise

theorem pay3 (g y : Vec Ideal S1x128x768 .f32) (j : S128x768.Idx) :
    k0_pay3 (View.ld g r0_0) (View.ld y r0_0) j = first (y (ix3 0 (j 0) (j 1))) (grad g (ix3 0 (j 0) (j 1))) := by
  rw [← pay2]
  unfold first k0_pay3
  generalize k0_pay2 (F := Ideal) _ = a
  pointwise

theorem pay4 (g y : Vec Ideal S1x128x768 .f32) (j : S128x768.Idx) :
    k0_pay4 (View.ld g r0_0) (View.ld y r0_0) j = second (y (ix3 0 (j 0) (j 1))) (grad g (ix3 0 (j 0) (j 1))) := by
  rw [← pay2]
  unfold second k0_pay4
  generalize k0_pay2 (F := Ideal) _ = a
  pointwise

theorem pay1 (g w x v : Vec Ideal S1x128x768 .f32) (j : S1x128x768.Idx) :
    k0_pay1 (k0_pay8 (View.ld g r0_0) (View.ld x r0_0)) (k0_pay9 (View.ld g r0_0) (View.ld v r0_0)) (Scalar.ofBits .f32 0x322BCC77#32) (View.ld w r0_0) j
      = change (w (ix3 0 (j 1) (j 2))) (k0_pay3 (View.ld g r0_0) (View.ld x r0_0) (ix2 (j 1) (j 2)))
          (k0_pay4 (View.ld g r0_0) (View.ld v r0_0) (ix2 (j 1) (j 2))) := by
  unfold change k0_pay1 k0_pay8 k0_pay9
  generalize k0_pay3 (F := Ideal) _ _ = a
  generalize k0_pay4 (F := Ideal) _ _ = b
  pointwise

theorem pay5 (g : Vec Ideal S1x128x768 .f32) (j : S1x128x768.Idx) : k0_pay5 (View.ld g r0_0) j = k0_pay2 (View.ld g r0_0) (ix2 (j 1) (j 2)) := by
  unfold k0_pay5
  generalize k0_pay2 (F := Ideal) _ = a
  pointwise

theorem pay6 (g y : Vec Ideal S1x128x768 .f32) (j : S1x128x768.Idx) :
    k0_pay6 (View.ld g r0_0) (View.ld y r0_0) j = k0_pay3 (View.ld g r0_0) (View.ld y r0_0) (ix2 (j 1) (j 2)) := by
  unfold k0_pay6
  generalize k0_pay3 (F := Ideal) _ _ = a
  pointwise

theorem pay7 (g y : Vec Ideal S1x128x768 .f32) (j : S1x128x768.Idx) :
    k0_pay7 (View.ld g r0_0) (View.ld y r0_0) j = k0_pay4 (View.ld g r0_0) (View.ld y r0_0) (ix2 (j 1) (j 2)) := by
  unfold k0_pay7
  generalize k0_pay4 (F := Ideal) _ _ = a
  pointwise

theorem emb4 (j : S1x128x768.Idx) : r0_0.emb j = j := by
  funext k
  apply Fin.ext
  fin_cases k <;> simp [Rect.emb, Rect.unit]

/-- One store over the whole block leaves what it stores. -/
theorem whole (p : Vec Ideal S1x128x768 .f32) : View.canon (Val := Elt Ideal) [⟨r0_0, p⟩] = p :=
  funext fun y => View.canon_apply_of_pieces (Val := Elt Ideal) p _ (fun q hq j => by
    obtain rfl : q = ⟨r0_0, p⟩ := by simpa using hq
    exact congrArg p (emb4 j).symm) y (cover0_4 _ y)

/-- The block of gradients. -/
theorem out4 (w x v : Vec Ideal S1x128x768 .f32) (g : Vec Ideal S1x128x768 .f32) (y : S1x128x768.Idx) :
    out0_4 w x v g y = grad g (ix3 0 (y 1) (y 2)) := by
  unfold out0_4
  rw [whole, pay5, pay2]
  rfl

/-- The block of changes of the weight. -/
theorem out5 (w x v : Vec Ideal S1x128x768 .f32) (g : Vec Ideal S1x128x768 .f32) (y : S1x128x768.Idx) :
    out0_5 w x v g y = change (w (ix3 0 (y 1) (y 2))) (first (x (ix3 0 (y 1) (y 2))) (grad g (ix3 0 (y 1) (y 2))))
      (second (v (ix3 0 (y 1) (y 2))) (grad g (ix3 0 (y 1) (y 2)))) := by
  unfold out0_5
  rw [whole, pay1, pay3, pay4]
  rfl

/-- The block of first moments. -/
theorem out6 (w x v : Vec Ideal S1x128x768 .f32) (g : Vec Ideal S1x128x768 .f32) (y : S1x128x768.Idx) :
    out0_6 w x v g y = first (x (ix3 0 (y 1) (y 2))) (grad g (ix3 0 (y 1) (y 2))) := by
  unfold out0_6
  rw [whole, pay6, pay3]
  rfl

/-- The block of second moments. -/
theorem out7 (w x v : Vec Ideal S1x128x768 .f32) (g : Vec Ideal S1x128x768 .f32) (y : S1x128x768.Idx) :
    out0_7 w x v g y = second (v (ix3 0 (y 1) (y 2))) (grad g (ix3 0 (y 1) (y 2))) := by
  unfold out0_7
  rw [whole, pay7, pay4]
  rfl

theorem idx : ∀ t : Fin cfg0.N,
    (win0_0.index t 0 = 0 ∧ win0_0.index t 1 = t.val ∧ win0_0.index t 2 = 0) ∧ (win0_1.index t 0 = 0 ∧ win0_1.index t 1 = t.val ∧ win0_1.index t 2 = 0)
    ∧ (win0_2.index t 0 = 0 ∧ win0_2.index t 1 = t.val ∧ win0_2.index t 2 = 0) ∧ (win0_3.index t 0 = 0 ∧ win0_3.index t 1 = t.val ∧ win0_3.index t 2 = 0)
    ∧ (win0_4.index t 0 = 0 ∧ win0_4.index t 1 = t.val ∧ win0_4.index t 2 = 0) ∧ (win0_5.index t 0 = 0 ∧ win0_5.index t 1 = t.val ∧ win0_5.index t 2 = 0)
    ∧ (win0_6.index t 0 = 0 ∧ win0_6.index t 1 = t.val ∧ win0_6.index t 2 = 0) ∧ (win0_7.index t 0 = 0 ∧ win0_7.index t 1 = t.val ∧ win0_7.index t 2 = 0) :=
  (by decide +kernel : ∀ t : Fin grid0.N, _)

theorem blk3 (c : Dev nD) (t : Fin cfg0.N) (p : Fin 1) (y : S1x128x768.Idx) (j : S1x1024x768.Idx) (h1 : (j 1).val = t.val * 128 + (y 1).val)
    (h2 : (j 2).val = (y 2).val) : iblk m c 3 t (ix3 p (y 1) (y 2)) = V m c main_arg3 (ix3 p (j 1) (j 2)) := by
  blk_ext [iblk, idx t]

theorem blk0 (c : Dev nD) (t : Fin cfg0.N) (y : S1x128x768.Idx) (j : S1x1024x768.Idx) (h1 : (j 1).val = t.val * 128 + (y 1).val)
    (h2 : (j 2).val = (y 2).val) : iblk m c 0 t (ix3 0 (y 1) (y 2)) = V m c main_arg0 j := by
  have h0 : (j 0).val < 1 := (j 0).isLt
  blk_ext [iblk, idx t]

theorem blk1 (c : Dev nD) (t : Fin cfg0.N) (y : S1x128x768.Idx) (j : S1x1024x768.Idx) (h1 : (j 1).val = t.val * 128 + (y 1).val)
    (h2 : (j 2).val = (y 2).val) : iblk m c 1 t (ix3 0 (y 1) (y 2)) = V m c main_arg1 j := by
  have h0 : (j 0).val < 1 := (j 0).isLt
  blk_ext [iblk, idx t]

theorem blk2 (c : Dev nD) (t : Fin cfg0.N) (y : S1x128x768.Idx) (j : S1x1024x768.Idx) (h1 : (j 1).val = t.val * 128 + (y 1).val)
    (h2 : (j 2).val = (y 2).val) : iblk m c 2 t (ix3 0 (y 1) (y 2)) = V m c main_arg2 j := by
  have h0 : (j 0).val < 1 := (j 0).isLt
  blk_ext [iblk, idx t]

theorem blkG (c : Dev nD) (t : Fin cfg0.N) (y : S1x128x768.Idx) (j : S1x1024x768.Idx) (h1 : (j 1).val = t.val * 128 + (y 1).val)
    (h2 : (j 2).val = (y 2).val) : grad (iblk m c 3 t) (ix3 0 (y 1) (y 2)) = grad (V m c main_arg3) j :=
  Finset.sum_congr rfl fun p _ => blk3 m c t p y j h1 h2

theorem arr4 (c : Dev nD) : (dats m 0 c).arrAt 4 cfg0.N = grad (V m c main_arg3) := by
  refine (dats m 0 c).arrAt_eq_of_covers 4 _ (by decide +kernel) fun t hf y => ?_
  blk_simp
  have e := idx t
  have e1 : ((win0_4.blk t).view.emb y 1).val = t.val * 128 + (y 1).val := by blk_simp [e]
  have e2 : ((win0_4.blk t).view.emb y 2).val = (y 2).val := by blk_simp [e]
  rw [after0_4]
  refine (out4 _ _ _ _ y).trans ?_
  exact blkG m c t y _ e1 e2

theorem arr6 (c : Dev nD) : (dats m 0 c).arrAt 6 cfg0.N = fun i => first (V m c main_arg1 i) (grad (V m c main_arg3) i) := by
  refine (dats m 0 c).arrAt_eq_of_covers 6 _ (by decide +kernel) fun t hf y => ?_
  blk_simp
  have e := idx t
  have e1 : ((win0_6.blk t).view.emb y 1).val = t.val * 128 + (y 1).val := by blk_simp [e]
  have e2 : ((win0_6.blk t).view.emb y 2).val = (y 2).val := by blk_simp [e]
  rw [after0_6]
  refine (out6 _ _ _ _ y).trans ?_
  exact congrArg₂ first (blk1 m c t y _ e1 e2) (blkG m c t y _ e1 e2)

theorem arr7 (c : Dev nD) : (dats m 0 c).arrAt 7 cfg0.N = fun i => second (V m c main_arg2 i) (grad (V m c main_arg3) i) := by
  refine (dats m 0 c).arrAt_eq_of_covers 7 _ (by decide +kernel) fun t hf y => ?_
  blk_simp
  have e := idx t
  have e1 : ((win0_7.blk t).view.emb y 1).val = t.val * 128 + (y 1).val := by blk_simp [e]
  have e2 : ((win0_7.blk t).view.emb y 2).val = (y 2).val := by blk_simp [e]
  rw [after0_7]
  refine (out7 _ _ _ _ y).trans ?_
  exact congrArg₂ second (blk2 m c t y _ e1 e2) (blkG m c t y _ e1 e2)

theorem arr5 (c : Dev nD) : (dats m 0 c).arrAt 5 cfg0.N = fun i => change (V m c main_arg0 i) (first (V m c main_arg1 i) (grad (V m c main_arg3) i))
      (second (V m c main_arg2 i) (grad (V m c main_arg3) i)) := by
  refine (dats m 0 c).arrAt_eq_of_covers 5 _ (by decide +kernel) fun t hf y => ?_
  blk_simp
  have e := idx t
  have e1 : ((win0_5.blk t).view.emb y 1).val = t.val * 128 + (y 1).val := by blk_simp [e]
  have e2 : ((win0_5.blk t).view.emb y 2).val = (y 2).val := by blk_simp [e]
  rw [after0_5]
  refine (out5 _ _ _ _ y).trans ?_
  exact congr (congrArg₂ change (blk0 m c t y _ e1 e2) (congrArg₂ first (blk1 m c t y _ e1 e2) (blkG m c t y _ e1 e2)))
    (congrArg₂ second (blk2 m c t y _ e1 e2) (blkG m c t y _ e1 e2))

theorem values : algebraic_Kernel28Ideal_Reference28Ideal := by
  intro m g m' g' _ hagree
  refine ⟨fun c => grad (m ((c : Thread nD τ).loc main_arg3)),
    fun c i => change (m ((c : Thread nD τ).loc main_arg0) i) (first (m ((c : Thread nD τ).loc main_arg1) i) (grad (m ((c : Thread nD τ).loc main_arg3)) i))
      (second (m ((c : Thread nD τ).loc main_arg2) i) (grad (m ((c : Thread nD τ).loc main_arg3)) i)),
    fun c i => first (m ((c : Thread nD τ).loc main_arg1) i) (grad (m ((c : Thread nD τ).loc main_arg3)) i),
    fun c i => second (m ((c : Thread nD τ).loc main_arg2) i) (grad (m ((c : Thread nD τ).loc main_arg3)) i),
    (θ_run _ _ _).mono (fun r h c => ⟨(h c).1.trans ?_, (h c).2.1.trans ?_, (h c).2.2.1.trans ?_, (h c).2.2.2.1.trans ?_, (h c).2.2.2.2⟩)
      (Kernel28Ideal.Value.run_blocks m g),
    (θ_run _ _ _).mono (fun r h c => ⟨(h c).1.trans (funext fun i => ?_), (h c).2.1.trans (funext fun i => ?_),
      (h c).2.2.1.trans (funext fun i => ?_), (h c).2.2.2.1.trans (funext fun i => ?_), (h c).2.2.2.2⟩) (Reference28Ideal.Value.run m' g')⟩
  · rw [arr4, V_main_arg3]
  · rw [arr5, V_main_arg0, V_main_arg1, V_main_arg2, V_main_arg3]
    rfl
  · rw [arr6, V_main_arg1, V_main_arg3]
    rfl
  · rw [arr7, V_main_arg2, V_main_arg3]
    rfl
  all_goals
    obtain ⟨a0, a1, a2, a3⟩ := hagree c
    beta_reduce
  · rw [← a3]
    exact gradR _ i
  · rw [← a0, ← a1, ← a2, ← a3]
    refine (changeR _ _ _ _ i).trans ?_
    exact congr (congrArg (change _) (congrArg (first _) (gradR _ i))) (congrArg (second _) (gradR _ i))
  · rw [← a1, ← a3]
    exact congrArg (first _) (gradR _ i)
  · rw [← a2, ← a3]
    exact congrArg (second _) (gradR _ i)

end

end Cert.Products.AdamAda

end
-- ==== Proof.FwdRegion.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The run of the forward scan at every grid point, from any contents of the buffers it is entered with: the
   carried row (the state after the tile) is the invariant between two points. -/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

abbrev cond0_0 (i : grid0.Coords) : Prop := (Scalar.cmpi .ne (Scalar.extui (Scalar.cmpi .eq (BitVec.ofNat 32 (i 2).val) 0#32)) 0#32) = 1#1
theorem hcond0_0 : ∀ t : Fin cfg0.N, cond0_0 (grid0.coords t) ↔ t.val % 9 = 0 :=
  (fun t => by
    have ht : t.val < 18 := Nat.lt_of_lt_of_eq t.isLt N_0
    have e0 : (grid0.coords t 0).val = t.val / 9 % 2 := Pipeline.Grid.coords_val t 0 (by decide) rfl
    have e1 : (grid0.coords t 1).val = t.val / 9 % 1 := Pipeline.Grid.coords_val t 1 (by decide) rfl
    have e2 : (grid0.coords t 2).val = t.val / 1 % 9 := Pipeline.Grid.coords_val t 2 (by decide) rfl
    simp only [cond0_0, e0, e1, e2]
    word_cmp
   : ∀ t : Fin grid0.N, cond0_0 (grid0.coords t) ↔ t.val % 9 = 0)

/-! ## The kernel body on any staging memrefs: a subtype the run finds -/

abbrev VO0_2 : View sig .tc .vmem S1x256x1024 .f32 := (Memref.whole cc0_stg2_0 : Memref sig .tc .vmem S1x256x1024 .f32).view
abbrev ms0_0 (t : Fin cfg0.N) : Memref sig .tc .vmem S1x1x256x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x256x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x256x1024 .f32 := win0_2.stage (cfg0.slots t 2)
abbrev hs0_2 (t : Fin cfg0.N) : (ms0_2 t).IsWhole := hstage0_2 ((cfg0.slots t 2).cast nbuf0_2)
abbrev scM0_0 : Memref sig .tc .vmem S8x1024 .f32 := Memref.whole cc0_scratch0
abbrev VS0_0 : View sig .tc .vmem S8x1024 .f32 := scM0_0.view

set_option maxHeartbeats 1000000 in
noncomputable def kernelRun0_A (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : cond0_0 i)
    (x0 : Vec F S1x1x256x1024 .f32) (x1 : Vec F S1x1x256x1024 .f32) :
    Σ' (L2 : List (View.Piece (Elt F) S1x256x1024 .f32)), { LS0 : List (View.Piece (Elt F) S8x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0_lru_scan0 i arg3 harg3 arg4 harg4 arg5 harg5 arg6 harg6) K } := by
  refine ⟨?_, ?_, fun E K => ?run⟩
  case run =>
    simp only [cc0_lru_scan0_eq_skeleton]; unfold cc0_lru_scan0_skel
    simp only [k0_part1_eq_skeleton, k0_part2_eq_skeleton]
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

set_option maxHeartbeats 1000000 in
noncomputable def kernelRun0_B (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : ¬cond0_0 i)
    (x0 : Vec F S1x1x256x1024 .f32) (x1 : Vec F S1x1x256x1024 .f32) (xs0 : Vec F S8x1024 .f32) :
    Σ' (L2 : List (View.Piece (Elt F) S1x256x1024 .f32)), { LS0 : List (View.Piece (Elt F) S8x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0_lru_scan0 i arg3 harg3 arg4 harg4 arg5 harg5 arg6 harg6) K } := by
  refine ⟨?_, ?_, fun E K => ?run⟩
  case run =>
    simp only [cc0_lru_scan0_eq_skeleton]; unfold cc0_lru_scan0_skel
    simp only [k0_part1_eq_skeleton, k0_part2_eq_skeleton]
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0
theorem cover0_A_2 (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : cond0_0 i)
    (x0 : Vec F S1x1x256x1024 .f32) (x1 : Vec F S1x1x256x1024 .f32) (y : S1x256x1024.Idx) :
    ∃ pc ∈ (kernelRun0_A c i arg3 harg3 arg4 harg4 arg5 harg5 arg6 harg6 hc0 x0 x1).1, y ∈ pc.1.set :=
  View.cover_of_tiledL (kernelRun0_A c i arg3 harg3 arg4 harg4 arg5 harg5 arg6 harg6 hc0 x0 x1).1 S1x256x1024.size (by sl_kernel_rfl) y

def out0_A_2 (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : cond0_0 i)
    (x0 : Vec F S1x1x256x1024 .f32) (x1 : Vec F S1x1x256x1024 .f32) : Vec F S1x256x1024 .f32 :=
  VO0_2.read (Elt F) (VO0_2.writes (Elt F) VO0_2.junk (kernelRun0_A c i arg3 harg3 arg4 harg4 arg5 harg5 arg6 harg6 hc0 x0 x1).1)

theorem scover0_A_0 (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : cond0_0 i)
    (x0 : Vec F S1x1x256x1024 .f32) (x1 : Vec F S1x1x256x1024 .f32) (y : S8x1024.Idx) :
    ∃ pc ∈ (kernelRun0_A c i arg3 harg3 arg4 harg4 arg5 harg5 arg6 harg6 hc0 x0 x1).2.1, y ∈ pc.1.set :=
  View.cover_of_tiledL (kernelRun0_A c i arg3 harg3 arg4 harg4 arg5 harg5 arg6 harg6 hc0 x0 x1).2.1 S8x1024.size (by sl_kernel_rfl) y

def sout0_A_0 (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : cond0_0 i)
    (x0 : Vec F S1x1x256x1024 .f32) (x1 : Vec F S1x1x256x1024 .f32) : Vec F S8x1024 .f32 :=
  VS0_0.read (Elt F) (VS0_0.writes (Elt F) VS0_0.junk (kernelRun0_A c i arg3 harg3 arg4 harg4 arg5 harg5 arg6 harg6 hc0 x0 x1).2.1)

theorem cover0_B_2 (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : ¬cond0_0 i)
    (x0 : Vec F S1x1x256x1024 .f32) (x1 : Vec F S1x1x256x1024 .f32) (xs0 : Vec F S8x1024 .f32) (y : S1x256x1024.Idx) :
    ∃ pc ∈ (kernelRun0_B c i arg3 harg3 arg4 harg4 arg5 harg5 arg6 harg6 hc0 x0 x1 xs0).1, y ∈ pc.1.set :=
  View.cover_of_tiledL (kernelRun0_B c i arg3 harg3 arg4 harg4 arg5 harg5 arg6 harg6 hc0 x0 x1 xs0).1 S1x256x1024.size (by sl_kernel_rfl) y

def out0_B_2 (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : ¬cond0_0 i)
    (x0 : Vec F S1x1x256x1024 .f32) (x1 : Vec F S1x1x256x1024 .f32) (xs0 : Vec F S8x1024 .f32) : Vec F S1x256x1024 .f32 :=
  VO0_2.read (Elt F) (VO0_2.writes (Elt F) VO0_2.junk (kernelRun0_B c i arg3 harg3 arg4 harg4 arg5 harg5 arg6 harg6 hc0 x0 x1 xs0).1)

theorem scover0_B_0 (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : ¬cond0_0 i)
    (x0 : Vec F S1x1x256x1024 .f32) (x1 : Vec F S1x1x256x1024 .f32) (xs0 : Vec F S8x1024 .f32) (y : S8x1024.Idx) :
    ∃ pc ∈ (kernelRun0_B c i arg3 harg3 arg4 harg4 arg5 harg5 arg6 harg6 hc0 x0 x1 xs0).2.1, y ∈ pc.1.set :=
  View.cover_of_tiledL (kernelRun0_B c i arg3 harg3 arg4 harg4 arg5 harg5 arg6 harg6 hc0 x0 x1 xs0).2.1 S8x1024.size (by sl_kernel_rfl) y

def sout0_B_0 (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole) (hc0 : ¬cond0_0 i)
    (x0 : Vec F S1x1x256x1024 .f32) (x1 : Vec F S1x1x256x1024 .f32) (xs0 : Vec F S8x1024 .f32) : Vec F S8x1024 .f32 :=
  VS0_0.read (Elt F) (VS0_0.writes (Elt F) VS0_0.junk (kernelRun0_B c i arg3 harg3 arg4 harg4 arg5 harg5 arg6 harg6 hc0 x0 x1 xs0).2.1)

/-! ## What the outputs hold after each point -/

def outsAt0 (c : Dev nD) : (n : ℕ) → n < cfg0.N → Vec F S1x256x1024 .f32 × Vec F S8x1024 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (iblk0 V c 0 ⟨0, hn⟩) (iblk0 V c 1 ⟨0, hn⟩))
  | n + 1, hn =>
    if h0 : (n + 1) % 9 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (iblk0 V c 0 ⟨n + 1, hn⟩) (iblk0 V c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 9 = 0) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (iblk0 V c 0 t) (iblk0 V c 1 t)) := by
  obtain ⟨n, hn⟩ := t
  cases n with
  | zero => exact rfl
  | succ n => exact (dif_pos h0).trans rfl

theorem outsAt0_B (c : Dev nD) (t : Fin cfg0.N) (h0 : ¬t.val % 9 = 0) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- What rides through the region's points beside its own carried rows: every other scoped buffer and the
    generator register. -/
def Side0 (c : Dev nD) : sProp 𝕄 :=
  iprop(Pipeline.scopedRestBut (Ix := Unit) (Name := ℕ) (U := UR sig nD τ) (Lvl := ℕ) (Val := Elt F) spec0 c [cc0_scratch0] ∗ (∃ r, prngReg c r))

/-- The invariant the launch hands the region, its own carried rows taken out. -/
theorem PhiA0_eq (c : Dev nD) :
    (Pipeline.ΦA spec0 c : sProp 𝕄) = iprop((∃ d, owns (c : Thread nD τ) scM0_0 fullShare d) ∗ Side0 c) := by
  unfold Pipeline.ΦA Side0
  rw [Pipeline.scopedRest_split_of_list spec0 c [cc0_scratch0] (by decide) (by decide)]
  simp only [scM0_0, owns_whole]
  exact BI.Entails.antisymm BI.sep_assoc BI.sep_assoc'

def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ Side0 c)

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2)) ∗ Side0 c) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2)) ∗ Side0 c) := by
  cases n with
  | zero => exact absurd rfl hz
  | succ n => rfl

/-! ## The pipeline's proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 3200000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl,
    after0_0, after0_1, after0_2]
  rw [show (dat0 V c).Φ t.succ = PhiS0 V c (t.val + 1) t.isLt from rfl, PhiS0_succ]
  have hN : t.val < 18 := lt_of_lt_of_eq t.isLt (show cfg0.N = 18 from N_0)
  by_cases h0 : t.val % 9 = 0
  · by_cases hz : t.val = 0
    · rw [PhiS0_castSucc V c t, PhiS0_zero V c _ _ hz, PhiA0_eq]
      rw [outsAt0_A V c t h0]
      unfold out0_A_2 sout0_A_0; (try dsimp only)
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
    · rw [PhiS0_castSucc V c t, PhiS0_pos V c _ _ hz]
      rw [outsAt0_A V c t h0]
      unfold out0_A_2 sout0_A_0; (try dsimp only)
      iintro ⟨⟨HS0, Hg⟩, Ho, ⟨%d0, H0⟩, ⟨%d1, H1⟩, ⟨%d2, H2⟩⟩
      iapply ((kernelRun0_A c (grid0.coords t) _ _ _ _ _ _ _ _ ((hcond0_0 t).mpr h0) (iblk0 V c 0 t) (iblk0 V c 1 t)).2.2 Set.univ _)
      isplitl [H0]; · iexact H0
      isplitl [H1]; · iexact H1
      isplitl [H2]; · iexists _; iexact H2
      isplitl [HS0]; · iexists _; iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_A_2 c _ _ _ _ _ _ _ _ _ _ _ _)
  · by_cases hz : t.val = 0
    · exfalso; have hN : t.val < 18 := lt_of_lt_of_eq t.isLt (show cfg0.N = 18 from N_0); omega
    · rw [PhiS0_castSucc V c t, PhiS0_pos V c _ _ hz]
      rw [outsAt0_B V c t h0]
      unfold out0_B_2 sout0_B_0; (try dsimp only)
      iintro ⟨⟨HS0, Hg⟩, Ho, ⟨%d0, H0⟩, ⟨%d1, H1⟩, ⟨%d2, H2⟩⟩
      iapply ((kernelRun0_B c (grid0.coords t) _ _ _ _ _ _ _ _ (fun h => h0 ((hcond0_0 t).mp h)) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_B_2 c _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- After the last point the invariant gives back what the launch handed in. -/
theorem PhiS0_forget (c : Dev nD) : (dat0 V c).Φ (Fin.last _) ⊢ (Pipeline.ΦA spec0 c : sProp 𝕄) := by
  rw [show (dat0 V c).Φ (Fin.last _) = PhiS0 V c cfg0.N (Nat.le_refl _) from rfl,
    PhiS0_pos V c _ _ (by rw [show cfg0.N = 18 from N_0]; decide), PhiA0_eq]
  iintro ⟨HS0, Hd⟩
  isplitl [HS0]; · iexists _; iexact HS0
  iexact Hd

end Cert.Scan

end
-- ==== Proof.BwdRegion.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

/-! The run of the scan's gradient at every grid point: the carried rows are the decay and the gradient of the row
   that follows the tile. -/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 9 = 0 :=
  (fun t => by
    have ht : t.val < 18 := Nat.lt_of_lt_of_eq t.isLt N_1
    have e0 : (grid1.coords t 0).val = t.val / 9 % 2 := Pipeline.Grid.coords_val t 0 (by decide) rfl
    have e1 : (grid1.coords t 1).val = t.val / 9 % 1 := Pipeline.Grid.coords_val t 1 (by decide) rfl
    have e2 : (grid1.coords t 2).val = t.val / 1 % 9 := Pipeline.Grid.coords_val t 2 (by decide) rfl
    simp only [cond1_0, e0, e1, e2]
    word_cmp
   : ∀ t : Fin grid1.N, cond1_0 (grid1.coords t) ↔ t.val % 9 = 0)

/-! ## The kernel body on any staging memrefs: a subtype the run finds -/

abbrev VO1_4 : View sig .tc .vmem S1x256x1024 .f32 := (Memref.whole cc1_stg4_0 : Memref sig .tc .vmem S1x256x1024 .f32).view
abbrev VO1_5 : View sig .tc .vmem S1x256x1024 .f32 := (Memref.whole cc1_stg5_0 : Memref sig .tc .vmem S1x256x1024 .f32).view
abbrev ms1_0 (t : Fin cfg1.N) : Memref sig .tc .vmem S1x1x256x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x256x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x8x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x256x1024 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256x1024 .f32 := win1_5.stage (cfg1.slots t 5)
abbrev hs1_5 (t : Fin cfg1.N) : (ms1_5 t).IsWhole := hstage1_5 ((cfg1.slots t 5).cast nbuf1_5)
abbrev scM1_0 : Memref sig .tc .vmem S8x1024 .f32 := Memref.whole cc1_scratch0
abbrev scM1_1 : Memref sig .tc .vmem S8x1024 .f32 := Memref.whole cc1_scratch1
abbrev VS1_0 : View sig .tc .vmem S8x1024 .f32 := scM1_0.view
abbrev VS1_1 : View sig .tc .vmem S8x1024 .f32 := scM1_1.view

set_option maxHeartbeats 1000000 in
noncomputable def kernelRun1_A (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) :
    Σ' (L4 : List (View.Piece (Elt F) S1x256x1024 .f32)), Σ' (L5 : List (View.Piece (Elt F) S1x256x1024 .f32)), Σ' (LS0 : List (View.Piece (Elt F) S8x1024 .f32)), { LS1 : List (View.Piece (Elt F) S8x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_lru_scan_bwd0 i arg3 harg3 arg4 harg4 arg5 harg5 arg6 harg6 arg7 harg7 arg8 harg8 arg9 harg9 arg10 harg10) K } := by
  refine ⟨?_, ?_, ?_, ?_, fun E K => ?run⟩
  case run =>
    simp only [cc1_lru_scan_bwd0_eq_skeleton]; unfold cc1_lru_scan_bwd0_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexists _; iexact HS0
    iexists _; iexact HS1

set_option maxHeartbeats 1000000 in
noncomputable def kernelRun1_B (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) :
    Σ' (L4 : List (View.Piece (Elt F) S1x256x1024 .f32)), Σ' (L5 : List (View.Piece (Elt F) S1x256x1024 .f32)), Σ' (LS0 : List (View.Piece (Elt F) S8x1024 .f32)), { LS1 : List (View.Piece (Elt F) S8x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ (∃ d, owns (c : Thread nD τ) arg8 fullShare d) ∗ owns (c : Thread nD τ) arg9 fullShare xs0 ∗ owns (c : Thread nD τ) arg10 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f L5) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc1_lru_scan_bwd0 i arg3 harg3 arg4 harg4 arg5 harg5 arg6 harg6 arg7 harg7 arg8 harg8 arg9 harg9 arg10 harg10) K } := by
  refine ⟨?_, ?_, ?_, ?_, fun E K => ?run⟩
  case run =>
    simp only [cc1_lru_scan_bwd0_eq_skeleton]; unfold cc1_lru_scan_bwd0_skel
    simp only [k1_part1_eq_skeleton, k1_part2_eq_skeleton, k1_part3_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg9.eq_unread hfs0; obtain rfl := harg10.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    isplitl [H5]; · iexists _; iexact H5
    isplitl [HS0]; · iexists _; iexact HS0
    iexists _; iexact HS1
theorem cover1_A_4 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) (y : S1x256x1024.Idx) :
    ∃ pc ∈ (kernelRun1_A c i arg3 harg3 arg4 harg4 arg5 harg5 arg6 harg6 arg7 harg7 arg8 harg8 arg9 harg9 arg10 harg10 hc0 x0 x1 x2 x3).1, y ∈ pc.1.set :=
  View.cover_of_tiledL (kernelRun1_A c i arg3 harg3 arg4 harg4 arg5 harg5 arg6 harg6 arg7 harg7 arg8 harg8 arg9 harg9 arg10 harg10 hc0 x0 x1 x2 x3).1 S1x256x1024.size (by sl_kernel_rfl) y

def out1_A_4 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) : Vec F S1x256x1024 .f32 :=
  VO1_4.read (Elt F) (VO1_4.writes (Elt F) VO1_4.junk (kernelRun1_A c i arg3 harg3 arg4 harg4 arg5 harg5 arg6 harg6 arg7 harg7 arg8 harg8 arg9 harg9 arg10 harg10 hc0 x0 x1 x2 x3).1)

theorem cover1_A_5 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) (y : S1x256x1024.Idx) :
    ∃ pc ∈ (kernelRun1_A c i arg3 harg3 arg4 harg4 arg5 harg5 arg6 harg6 arg7 harg7 arg8 harg8 arg9 harg9 arg10 harg10 hc0 x0 x1 x2 x3).2.1, y ∈ pc.1.set :=
  View.cover_of_tiledL (kernelRun1_A c i arg3 harg3 arg4 harg4 arg5 harg5 arg6 harg6 arg7 harg7 arg8 harg8 arg9 harg9 arg10 harg10 hc0 x0 x1 x2 x3).2.1 S1x256x1024.size (by sl_kernel_rfl) y

def out1_A_5 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) : Vec F S1x256x1024 .f32 :=
  VO1_5.read (Elt F) (VO1_5.writes (Elt F) VO1_5.junk (kernelRun1_A c i arg3 harg3 arg4 harg4 arg5 harg5 arg6 harg6 arg7 harg7 arg8 harg8 arg9 harg9 arg10 harg10 hc0 x0 x1 x2 x3).2.1)

theorem scover1_A_0 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) (y : S8x1024.Idx) :
    ∃ pc ∈ (kernelRun1_A c i arg3 harg3 arg4 harg4 arg5 harg5 arg6 harg6 arg7 harg7 arg8 harg8 arg9 harg9 arg10 harg10 hc0 x0 x1 x2 x3).2.2.1, y ∈ pc.1.set :=
  View.cover_of_tiledL (kernelRun1_A c i arg3 harg3 arg4 harg4 arg5 harg5 arg6 harg6 arg7 harg7 arg8 harg8 arg9 harg9 arg10 harg10 hc0 x0 x1 x2 x3).2.2.1 S8x1024.size (by sl_kernel_rfl) y

def sout1_A_0 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) : Vec F S8x1024 .f32 :=
  VS1_0.read (Elt F) (VS1_0.writes (Elt F) VS1_0.junk (kernelRun1_A c i arg3 harg3 arg4 harg4 arg5 harg5 arg6 harg6 arg7 harg7 arg8 harg8 arg9 harg9 arg10 harg10 hc0 x0 x1 x2 x3).2.2.1)

theorem scover1_A_1 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) (y : S8x1024.Idx) :
    ∃ pc ∈ (kernelRun1_A c i arg3 harg3 arg4 harg4 arg5 harg5 arg6 harg6 arg7 harg7 arg8 harg8 arg9 harg9 arg10 harg10 hc0 x0 x1 x2 x3).2.2.2.1, y ∈ pc.1.set :=
  View.cover_of_tiledL (kernelRun1_A c i arg3 harg3 arg4 harg4 arg5 harg5 arg6 harg6 arg7 harg7 arg8 harg8 arg9 harg9 arg10 harg10 hc0 x0 x1 x2 x3).2.2.2.1 S8x1024.size (by sl_kernel_rfl) y

def sout1_A_1 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : cond1_0 i)
    (x0 : Vec F S1x1x256x1024 .f32) (x1 : Vec F S1x256x1024 .f32) (x2 : Vec F S1x8x1024 .f32) (x3 : Vec F S1x256x1024 .f32) : Vec F S8x1024 .f32 :=
  VS1_1.read (Elt F) (VS1_1.writes (Elt F) VS1_1.junk (kernelRun1_A c i arg3 harg3 arg4 harg4 arg5 harg5 arg6 harg6 arg7 harg7 arg8 harg8 arg9 harg9 arg10 harg10 hc0 x0 x1 x2 x3).2.2.2.1)

theorem cover1_B_4 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) (y : S1x256x1024.Idx) :
    ∃ pc ∈ (kernelRun1_B c i arg3 harg3 arg4 harg4 arg5 harg5 arg6 harg6 arg7 harg7 arg8 harg8 arg9 harg9 arg10 harg10 hc0 x0 x1 x2 x3 xs0 xs1).1, y ∈ pc.1.set :=
  View.cover_of_tiledL (kernelRun1_B c i arg3 harg3 arg4 harg4 arg5 harg5 arg6 harg6 arg7 harg7 arg8 harg8 arg9 harg9 arg10 harg10 hc0 x0 x1 x2 x3 xs0 xs1).1 S1x256x1024.size (by sl_kernel_rfl) y

def out1_B_4 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) : Vec F S1x256x1024 .f32 :=
  VO1_4.read (Elt F) (VO1_4.writes (Elt F) VO1_4.junk (kernelRun1_B c i arg3 harg3 arg4 harg4 arg5 harg5 arg6 harg6 arg7 harg7 arg8 harg8 arg9 harg9 arg10 harg10 hc0 x0 x1 x2 x3 xs0 xs1).1)

theorem cover1_B_5 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) (y : S1x256x1024.Idx) :
    ∃ pc ∈ (kernelRun1_B c i arg3 harg3 arg4 harg4 arg5 harg5 arg6 harg6 arg7 harg7 arg8 harg8 arg9 harg9 arg10 harg10 hc0 x0 x1 x2 x3 xs0 xs1).2.1, y ∈ pc.1.set :=
  View.cover_of_tiledL (kernelRun1_B c i arg3 harg3 arg4 harg4 arg5 harg5 arg6 harg6 arg7 harg7 arg8 harg8 arg9 harg9 arg10 harg10 hc0 x0 x1 x2 x3 xs0 xs1).2.1 S1x256x1024.size (by sl_kernel_rfl) y

def out1_B_5 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) : Vec F S1x256x1024 .f32 :=
  VO1_5.read (Elt F) (VO1_5.writes (Elt F) VO1_5.junk (kernelRun1_B c i arg3 harg3 arg4 harg4 arg5 harg5 arg6 harg6 arg7 harg7 arg8 harg8 arg9 harg9 arg10 harg10 hc0 x0 x1 x2 x3 xs0 xs1).2.1)

theorem scover1_B_0 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) (y : S8x1024.Idx) :
    ∃ pc ∈ (kernelRun1_B c i arg3 harg3 arg4 harg4 arg5 harg5 arg6 harg6 arg7 harg7 arg8 harg8 arg9 harg9 arg10 harg10 hc0 x0 x1 x2 x3 xs0 xs1).2.2.1, y ∈ pc.1.set :=
  View.cover_of_tiledL (kernelRun1_B c i arg3 harg3 arg4 harg4 arg5 harg5 arg6 harg6 arg7 harg7 arg8 harg8 arg9 harg9 arg10 harg10 hc0 x0 x1 x2 x3 xs0 xs1).2.2.1 S8x1024.size (by sl_kernel_rfl) y

def sout1_B_0 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) : Vec F S8x1024 .f32 :=
  VS1_0.read (Elt F) (VS1_0.writes (Elt F) VS1_0.junk (kernelRun1_B c i arg3 harg3 arg4 harg4 arg5 harg5 arg6 harg6 arg7 harg7 arg8 harg8 arg9 harg9 arg10 harg10 hc0 x0 x1 x2 x3 xs0 xs1).2.2.1)

theorem scover1_B_1 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) (y : S8x1024.Idx) :
    ∃ pc ∈ (kernelRun1_B c i arg3 harg3 arg4 harg4 arg5 harg5 arg6 harg6 arg7 harg7 arg8 harg8 arg9 harg9 arg10 harg10 hc0 x0 x1 x2 x3 xs0 xs1).2.2.2.1, y ∈ pc.1.set :=
  View.cover_of_tiledL (kernelRun1_B c i arg3 harg3 arg4 harg4 arg5 harg5 arg6 harg6 arg7 harg7 arg8 harg8 arg9 harg9 arg10 harg10 hc0 x0 x1 x2 x3 xs0 xs1).2.2.2.1 S8x1024.size (by sl_kernel_rfl) y

def sout1_B_1 (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole) (hc0 : ¬cond1_0 i)
    (x0 : Vec F S1x1x256x1024 .f32) (x1 : Vec F S1x256x1024 .f32) (x2 : Vec F S1x8x1024 .f32) (x3 : Vec F S1x256x1024 .f32) (xs0 : Vec F S8x1024 .f32) (xs1 : Vec F S8x1024 .f32) : Vec F S8x1024 .f32 :=
  VS1_1.read (Elt F) (VS1_1.writes (Elt F) VS1_1.junk (kernelRun1_B c i arg3 harg3 arg4 harg4 arg5 harg5 arg6 harg6 arg7 harg7 arg8 harg8 arg9 harg9 arg10 harg10 hc0 x0 x1 x2 x3 xs0 xs1).2.2.2.1)

/-! ## What the outputs hold after each point -/

def outsAt1 (c : Dev nD) : (n : ℕ) → n < cfg1.N → Vec F S1x256x1024 .f32 × Vec F S1x256x1024 .f32 × Vec F S8x1024 .f32 × Vec F S8x1024 .f32
  | 0, hn => (out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) scM1_0 (Memref.isWhole_whole _) scM1_1 (Memref.isWhole_whole _) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩))
  | n + 1, hn =>
    if h0 : (n + 1) % 9 = 0 then
      (out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩))
    else
      (out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) scM1_0 (Memref.isWhole_whole _) scM1_1 (Memref.isWhole_whole _) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (outsAt1 c n (Nat.lt_of_succ_lt hn)).2.2.1 (outsAt1 c n (Nat.lt_of_succ_lt hn)).2.2.2)

theorem outsAt1_A (c : Dev nD) (t : Fin cfg1.N) (h0 : t.val % 9 = 0) :
    outsAt1 V c t.val t.isLt = (out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (iblk1 V c 0 t) (iblk1 V c 1 t) (iblk1 V c 2 t) (iblk1 V c 3 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (iblk1 V c 0 t) (iblk1 V c 1 t) (iblk1 V c 2 t) (iblk1 V c 3 t), sout1_A_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (iblk1 V c 0 t) (iblk1 V c 1 t) (iblk1 V c 2 t) (iblk1 V c 3 t), sout1_A_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) ((hcond1_0 t).mpr h0) (iblk1 V c 0 t) (iblk1 V c 1 t) (iblk1 V c 2 t) (iblk1 V c 3 t)) := by
  obtain ⟨n, hn⟩ := t
  cases n with
  | zero => exact rfl
  | succ n => exact (dif_pos h0).trans rfl

theorem outsAt1_B (c : Dev nD) (t : Fin cfg1.N) (h0 : ¬t.val % 9 = 0) :
    outsAt1 V c t.val t.isLt = (out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) (fun h => h0 ((hcond1_0 t).mp h)) (iblk1 V c 0 t) (iblk1 V c 1 t) (iblk1 V c 2 t) (iblk1 V c 3 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- What rides through the region's points beside its own carried rows: every other scoped buffer and the
    generator register. -/
def Side1 (c : Dev nD) : sProp 𝕄 :=
  iprop(Pipeline.scopedRestBut (Ix := Unit) (Name := ℕ) (U := UR sig nD τ) (Lvl := ℕ) (Val := Elt F) spec1 c [cc1_scratch0, cc1_scratch1] ∗ (∃ r, prngReg c r))

/-- The invariant the launch hands the region, its own carried rows taken out. -/
theorem PhiA1_eq (c : Dev nD) :
    (Pipeline.ΦA spec1 c : sProp 𝕄) = iprop(iprop((∃ d, owns (c : Thread nD τ) scM1_0 fullShare d) ∗ (∃ d, owns (c : Thread nD τ) scM1_1 fullShare d)) ∗ Side1 c) := by
  unfold Pipeline.ΦA Side1
  rw [Pipeline.scopedRest_split_of_list spec1 c [cc1_scratch0, cc1_scratch1] (by decide) (by decide)]
  simp only [scM1_0, scM1_1, owns_whole]
  exact BI.Entails.antisymm BI.sep_assoc BI.sep_assoc'

def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.1) ∗ owns (c : Thread nD τ) scM1_1 fullShare ((outsAt1 V c n hn).2.2.2)) ∗ Side1 c)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2)) ∗ Side1 c) := rfl

theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2)) ∗ Side1 c) := by
  cases n with
  | zero => exact absurd rfl hz
  | succ n => rfl

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
  Φ t := PhiS1 V c t.val (Nat.le_of_lt_succ t.isLt)
  q w := Pipeline.shareOf spec1 w
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 6400000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl,
    after1_0, after1_1, after1_2, after1_3, after1_4, after1_5]
  rw [show (dat1 V c).Φ t.succ = PhiS1 V c (t.val + 1) t.isLt from rfl, PhiS1_succ]
  have hN : t.val < 18 := lt_of_lt_of_eq t.isLt (show cfg1.N = 18 from N_1)
  by_cases h0 : t.val % 9 = 0
  · by_cases hz : t.val = 0
    · rw [PhiS1_castSucc V c t, PhiS1_zero V c _ _ hz, PhiA1_eq]
      rw [outsAt1_A V c t h0]
      unfold out1_A_4 out1_A_5 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _ _ _ _ _)
    · rw [PhiS1_castSucc V c t, PhiS1_pos V c _ _ hz]
      rw [outsAt1_A V c t h0]
      unfold out1_A_4 out1_A_5 sout1_A_0 sout1_A_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ ((hcond1_0 t).mpr h0) (iblk1 V c 0 t) (iblk1 V c 1 t) (iblk1 V c 2 t) (iblk1 V c 3 t)).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexists _; iexact HS0
      isplitl [HS1]; · iexists _; iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _ _ _ _ _ _)
          unfold owns; iexists _; isplitr
          swap; · iexact HS1
          ipureintro; exact View.read_writes_of_cover _ _ _ _ _ (scover1_A_1 c _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_A_4 c _ _ _ _ _ _ _ _ _ _ _ _ _ _ _ _ _ _ _ _ _ _)
      unfold owns; iexists _; isplitr
      swap; · iexact H5
      ipureintro; exact View.read_writes_of_cover _ _ _ _ _ (cover1_A_5 c _ _ _ _ _ _ _ _ _ _ _ _ _ _ _ _ _ _ _ _ _ _)
  · by_cases hz : t.val = 0
    · exfalso; have hN : t.val < 18 := lt_of_lt_of_eq t.isLt (show cfg1.N = 18 from N_1); omega
    · rw [PhiS1_castSucc V c t, PhiS1_pos V c _ _ hz]
      rw [outsAt1_B V c t h0]
      unfold out1_B_4 out1_B_5 sout1_B_0 sout1_B_1; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ (fun h => h0 ((hcond1_0 t).mp h)) (iblk1 V c 0 t) (iblk1 V c 1 t) (iblk1 V c 2 t) (iblk1 V c 3 t) _ _).2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      isplitl [HS1]; · iexact HS1
      iintro ⟨H0, H1, H2, H3, ⟨%e4, H4⟩, ⟨%e5, H5⟩, ⟨%es0, HS0⟩, ⟨%es1, HS1⟩⟩
      isplitl [HS0 HS1 Hg]
      · isplitl [HS0 HS1]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _ _ _)
          unfold owns; iexists _; isplitr
          swap; · iexact HS1
          ipureintro; exact View.read_writes_of_cover _ _ _ _ _ (scover1_B_1 c _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]
      · unfold owns; iexists _; isplitr
        swap; · iexact H4
        ipureintro; exact View.read_writes_of_cover _ _ _ _ _ (cover1_B_4 c _ _ _ _ _ _ _ _ _ _ _ _ _ _ _ _ _ _ _ _ _ _ _ _)
      unfold owns; iexists _; isplitr
      swap; · iexact H5
      ipureintro; exact View.read_writes_of_cover _ _ _ _ _ (cover1_B_5 c _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- After the last point the invariant gives back what the launch handed in. -/
theorem PhiS1_forget (c : Dev nD) : (dat1 V c).Φ (Fin.last _) ⊢ (Pipeline.ΦA spec1 c : sProp 𝕄) := by
  rw [show (dat1 V c).Φ (Fin.last _) = PhiS1 V c cfg1.N (Nat.le_refl _) from rfl,
    PhiS1_pos V c _ _ (by rw [show cfg1.N = 18 from N_1]; decide), PhiA1_eq]
  iintro ⟨⟨HS0, HS1⟩, Hd⟩
  isplitl [HS0 HS1]
  · isplitl [HS0]; · iexists _; iexact HS0
    iexists _; iexact HS1
  iexact Hd

end Cert.Scan

end
-- ==== Proof.KernelRun.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.FwdRegion
public import proofs.«01_k».proof.Proof.BwdRegion

/-! The two calls one after the other: the contents of every buffer at each boundary, and the run of the whole kernel. -/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev argRefs : List (Ref sig .tc) := [main_arg0, main_arg1, main_arg2]

abbrev W0 : Dev nD → Valuation τ sig (Elt F) := fun c b => m ((c : Dev nD), b)
theorem W0_args (c : Dev nD) : ∀ a ∈ argRefs, W0 m c (Proc.devRef .tc a) = m ((c : Thread nD τ).loc a) := fun _ _ => rfl
abbrev V0 : (c : Dev nD) → (b : Ref sig .tc) → Buf (Elt F) ((c : Thread nD τ).loc b) := fun c b => W0 m c b
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
theorem W1_of (c : Dev nD) (r : Ref sig .tc) (h : ∀ w : Fin cfg0.W, Pipeline.arrRef spec0 w = r → (cfg0.win w).isOut = false) :
    W1 m c (Proc.devRef .tc r) = W0 m c (Proc.devRef .tc r) := by
  by_cases hw : ∃ w : Fin cfg0.W, Pipeline.arrRef spec0 w = r
  · obtain ⟨w, rfl⟩ := hw
    exact (W1_arr m c w).trans (((dat0 (V0 m) c).arrAt_in w (h w rfl) _).trans (A_eq0 (V0 m) c w))
  · exact W1_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W1_args (c : Dev nD) : ∀ a ∈ argRefs, W1 m c (Proc.devRef .tc a) = m ((c : Thread nD τ).loc a) :=
  fun a ha => (W1_of m c a (argsIn0 a ha)).trans (W0_args m c a ha)
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact (dat1 (V1 m) c).withArrays_arrAt launch₀1.sharedIn _ (A_eq1 (V1 m) c) w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
theorem W2_of (c : Dev nD) (r : Ref sig .tc) (h : ∀ w : Fin cfg1.W, Pipeline.arrRef spec1 w = r → (cfg1.win w).isOut = false) :
    W2 m c (Proc.devRef .tc r) = W1 m c (Proc.devRef .tc r) := by
  by_cases hw : ∃ w : Fin cfg1.W, Pipeline.arrRef spec1 w = r
  · obtain ⟨w, rfl⟩ := hw
    exact (W2_arr m c w).trans (((dat1 (V1 m) c).arrAt_in w (h w rfl) _).trans (A_eq1 (V1 m) c w))
  · exact W2_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn1 a ha)).trans (W1_args m c a ha)
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

theorem W2_main_arg0 (c : Dev nD) : W2 m c (Proc.devRef .tc main_arg0) = m ((c : Thread nD τ).loc main_arg0) :=
  W2_args m c main_arg0 (by decide)
theorem W2_main_arg1 (c : Dev nD) : W2 m c (Proc.devRef .tc main_arg1) = m ((c : Thread nD τ).loc main_arg1) :=
  W2_args m c main_arg1 (by decide)
theorem W2_main_arg2 (c : Dev nD) : W2 m c (Proc.devRef .tc main_arg2) = m ((c : Thread nD τ).loc main_arg2) :=
  W2_args m c main_arg2 (by decide)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m) c
  | ⟨1, _⟩ => fun c => dat1 (V1 m) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0 m c) (A_eq0 (V0 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (PhiS0_forget (V0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch₀1.win
  block_pos := launch₀1.block_pos
  stage_whole := launch₀1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m c)
  hentry c := by
    rw [Pipeline.ownSems0_none]
    have hsplit := Pipeline.arrays_of_unscopedBufs_shared (p := 1) (pcfgs (F := F)) adm (pdats m) launch₀1.win launch₀1.sharedIn launch₀1.arr_whole c
      (fun _ _ => rfl) (V1 m c) (A_eq1 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (PhiS1_forget (V1 m) c).trans ?_
    unfold Pipeline.ΦA
    iintro ⟨Hr, Hp⟩
    isplitl [Hp]; · iexact Hp
    isplitr; · iempintro
    iexact Hr
  hexit c := by
    have hjoin := Pipeline.unscopedBufs_of_arrays_shared (p := 1) (pcfgs (F := F)) adm (Ix := Unit) (Name := ℕ) (U := UR sig nD τ) (Lvl := ℕ)
      launch₀1.win launch₀1.sharedIn launch₀1.arr_whole c (pdats m) (fun _ _ => rfl)
      (V1 m c) (V2 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m) () defs₀ 𝒱₀ L lv) :=
  [ .region (reg0 m),
    .region (reg1 m) ]
theorem main_run (c : Dev nD) : main (F := F) c = Pipeline.Seg.run (segs m) := (main_chain c).trans (by chain_rfl)

theorem no_unscoped : ∀ sm : SemLoc sig, sm.isScoped .tc = true := by decide

set_option backward.isDefEq.respectTransparency.types false in
/-- Every execution ends, without a fault, with every buffer of the module at the contents the two calls leave and
    every counter at zero. -/
theorem run_main : θ_run defs (onTc (τ := τ) (main (F := F))) ⟨m, fun _ => 0, ρ⟩ (fun r => (∀ c : Dev nD, ∀ b ∈ Pipeline.ucRefs τ sig, r.2.mem (((c : Thread nD τ)).1, b) = W2 m c b)
      ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h hz => ⟨h, funext fun g => hz g (.inr (no_unscoped g.2))⟩)

end Cert.Scan

end
-- ==== Proof.ScanSeq.lean ====
module

public import Idealize.ShloMosaic.PureOps.Ideal

/-! The recurrences of the scan and of its gradient, one channel at a time, and the doubling scan of one tile. -/

@[expose] public section

noncomputable section

namespace Cert.Scan

/-- The state before step `t` of `h ← a·h + x`, from zero. -/
def hs (a x : ℕ → EReal) : ℕ → EReal
  | 0 => 0
  | t + 1 => a t * hs a x t + x t

/-- What the `k` last steps send back to the state before them: `s ← a·(s + d)`, from the last step down. -/
def ls (a d : ℕ → EReal) : ℕ → EReal
  | 0 => 0
  | k + 1 => a (2303 - k) * (ls a d k + d (2303 - k))

/-- The whole gradient of the state after step `t`. -/
def lam (a d : ℕ → EReal) (t : ℕ) : EReal := ls a d (2303 - t) + d t

theorem lam_step (a d : ℕ → EReal) (t : ℕ) (ht : t < 2303) : lam a d t = a (t + 1) * lam a d (t + 1) + d t := by
  unfold lam
  rw [show 2303 - t = (2302 - t) + 1 by omega, ls, show 2303 - (2302 - t) = t + 1 by omega, show 2303 - (t + 1) = 2302 - t by omega]

theorem lam_last (a d : ℕ → EReal) : lam a d 2303 = d 2303 := by
  unfold lam; rw [Nat.sub_self, ls, zero_add]

/-! ## A run of steps -/

/-- The last `n` steps up to step `i`, applied to the state before them. -/
def run (a x : ℕ → EReal) : ℕ → ℕ → EReal → EReal
  | _, 0, y => y
  | i, n + 1, y => a i * run a x (i - 1) n y + x i

theorem run_add (a x : ℕ → EReal) (m : ℕ) (y : EReal) : ∀ n i, run a x i (n + m) y = run a x i n (run a x (i - n) m y)
  | 0, i => by rw [Nat.zero_add, run, Nat.sub_zero]
  | n + 1, i => by
    rw [show n + 1 + m = (n + m) + 1 by omega, run, run, run_add a x m y n (i - 1), show i - 1 - n = i - (n + 1) by omega]

/-- `A`, `X` are the coefficients of the run of `n` steps up to step `i`. -/
structure Seg (a x : ℕ → EReal) (i n : ℕ) (A X : EReal) : Prop where
  nonneg : 0 ≤ A
  finite : A ≠ ⊤
  eq : ∀ y, X + A * y = run a x i n y

theorem Seg.one {a x : ℕ → EReal} {i : ℕ} (h0 : 0 ≤ a i) (h1 : a i ≠ ⊤) : Seg a x i 1 (a i) (x i) :=
  ⟨h0, h1, fun y => by rw [run, run, add_comm]⟩

theorem Seg.append {a x : ℕ → EReal} {i n m : ℕ} {A X A' X' : EReal} (h : Seg a x i n A X) (h' : Seg a x (i - n) m A' X') :
    Seg a x i (n + m) (A * A') (X + A * X') where
  nonneg := mul_nonneg h.nonneg h'.nonneg
  finite := by
    have e : A ≠ ⊥ := ne_of_gt (lt_of_lt_of_le EReal.bot_lt_zero h.nonneg)
    have e' : A' ≠ ⊥ := ne_of_gt (lt_of_lt_of_le EReal.bot_lt_zero h'.nonneg)
    lift A to ℝ using ⟨h.finite, e⟩
    lift A' to ℝ using ⟨h'.finite, e'⟩
    rw [← EReal.coe_mul]; exact EReal.coe_ne_top _
  eq := fun y => by
    rw [run_add, ← h'.eq, ← h.eq, EReal.left_distrib_of_nonneg_of_ne_top h.nonneg h.finite, ← mul_assoc, add_assoc]

/-- One doubling of a tile: position `i` joins the coefficients of the `s` positions before its own. -/
def stepA (s : ℕ) (A : ℕ → EReal) (i : ℕ) : EReal := if s ≤ i then A i * A (i - s) else A i
def stepX (s : ℕ) (A X : ℕ → EReal) (i : ℕ) : EReal := if s ≤ i then X i + A i * X (i - s) else X i

/-- The coefficients a tile holds when each position has joined the last `s`. -/
def Joined (a x : ℕ → EReal) (s : ℕ) (A X : ℕ → EReal) : Prop := ∀ i < 256, Seg a x i (min s (i + 1)) (A i) (X i)

theorem Joined.init {a x : ℕ → EReal} (h : ∀ i < 256, 0 ≤ a i ∧ a i ≠ ⊤) : Joined a x 1 a x := fun i hi => by
  rw [show min 1 (i + 1) = 1 by omega]; exact Seg.one (h i hi).1 (h i hi).2

theorem Joined.double {a x A X A' X' : ℕ → EReal} {s : ℕ} (h : Joined a x s A X)
    (hA : ∀ i < 256, A' i = stepA s A i) (hX : ∀ i < 256, X' i = stepX s A X i) : Joined a x (s + s) A' X' := fun i hi => by
  rw [hA i hi, hX i hi]
  unfold stepA stepX
  by_cases hs : s ≤ i
  · rw [if_pos hs, if_pos hs]
    have e := h i hi
    rw [show min s (i + 1) = s by omega] at e
    have := e.append (h (i - s) (by omega))
    rwa [show s + min s (i - s + 1) = min (s + s) (i + 1) by omega] at this
  · rw [if_neg hs, if_neg hs]
    have e := h i hi
    rwa [show min s (i + 1) = min (s + s) (i + 1) by omega] at e

theorem Joined.full {a x A X : ℕ → EReal} (h : Joined a x 256 A X) (i : ℕ) (hi : i < 256) (y : EReal) : X i + A i * y = run a x i (i + 1) y := by
  have e := (h i hi).eq y
  rwa [show min 256 (i + 1) = i + 1 by omega] at e

/-- The states along a tile that starts at the global step `o`. -/
theorem run_hs (a x a' x' : ℕ → EReal) (o : ℕ) (ha : ∀ i < 256, a' i = a (o + i)) (hx : ∀ i < 256, x' i = x (o + i)) :
    ∀ i < 256, run a' x' i (i + 1) (hs a x o) = hs a x (o + i + 1)
  | 0, h => by rw [run, run, ha 0 h, hx 0 h]; rfl
  | i + 1, h => by
    rw [run, Nat.add_sub_cancel, run_hs a x a' x' o ha hx i (by omega), ha _ h, hx _ h]; rfl

/-- The gradients along a tile, from its last step down, given the one of its last step. -/
theorem run_lam (a d c' d' : ℕ → EReal) (o : ℕ) (ho : o + 255 < 2304) (hc : ∀ j < 256, 0 < j → c' j = a (o + 255 - j + 1)) (hd : ∀ j < 256, d' j = d (o + 255 - j))
    (y : EReal) (h0 : c' 0 * y + d' 0 = lam a d (o + 255)) : ∀ j < 256, run c' d' j (j + 1) y = lam a d (o + 255 - j)
  | 0, _ => by rw [run, run]; exact h0
  | j + 1, h => by
    rw [run, Nat.add_sub_cancel, run_lam a d c' d' o ho hc hd y h0 j (by omega), hc _ h (by omega), hd _ h, lam_step a d (o + 255 - (j + 1)) (by omega),
      show o + 255 - (j + 1) + 1 = o + 255 - j by omega]

end Cert.Scan

end
-- ==== Proof.TileVec.lean ====
module

public import proofs.«01_k».proof.Proof.ScanSeq
public import proofs.«01_k».proof.Proof.FwdRegion
public import Idealize.ShloMosaic.Lib.PointwiseCore
public import Idealize.ShloMosaic.Lib.IdealHost

/-! The doubling scan of one tile, as the two kernels run it. -/

@[expose] public section

set_option maxRecDepth 16384

noncomputable section

namespace Cert.Scan

open Cert.KernelIdeal Cert.KernelIdeal.Gen
open Idealize.ShloMosaic Idealize.ShloMosaic.TcCoe Idealize.ShloMosaic.Tactic

/-- The row numbers of a tile. -/
abbrev rows : IVec S256x1024 32 := iota .tc S256x1024 32 [0] iota_S256x1024_d0_w32

theorem sge_row (i : Fin 256) (s : ℕ) (hs : s < 256) : IntOp.cmpi .sge (BitVec.ofNat 32 i.val) (BitVec.ofNat 32 s) = 1#1 ↔ s ≤ i.val := by
  word_cmp
theorem slt_row (i : Fin 256) (s : ℕ) (hs : s < 256) : IntOp.cmpi .slt (BitVec.ofNat 32 i.val) (BitVec.ofNat 32 s) = 1#1 ↔ i.val < s := by
  word_cmp
theorem eq_row (i : Fin 256) (s : ℕ) (hs : s < 256) : IntOp.cmpi .eq (BitVec.ofNat 32 i.val) (BitVec.ofNat 32 s) = 1#1 ↔ i.val = s := by
  word_cmp

variable {F : FTy → Type} [FloatOps F]

/-- One doubling, from the first row down (`f`) and from the last row up (`b`). -/
def fA (s : BitVec 32) (A : FVec F S256x1024 .f32) : FVec F S256x1024 .f32 :=
  select (cmpi .sge rows (broadcast S256x1024 s)) (mulf A (dynamicRotate 0 s none A rotates_S256x1024_d0)) A
def fX (s : BitVec 32) (A X : FVec F S256x1024 .f32) : FVec F S256x1024 .f32 :=
  select (cmpi .sge rows (broadcast S256x1024 s)) (addf X (mulf A (dynamicRotate 0 s none X rotates_S256x1024_d0))) X
def bA (s : BitVec 32) (A : FVec F S256x1024 .f32) : FVec F S256x1024 .f32 :=
  select (cmpi .slt rows (broadcast S256x1024 s)) (mulf A (dynamicRotate 0 s none A rotates_S256x1024_d0)) A
def bX (s : BitVec 32) (A X : FVec F S256x1024 .f32) : FVec F S256x1024 .f32 :=
  select (cmpi .slt rows (broadcast S256x1024 s)) (addf X (mulf A (dynamicRotate 0 s none X rotates_S256x1024_d0))) X

/-- A channel of a tile, from its first row and from its last. -/
def colF (v : FVec Ideal S256x1024 .f32) (w : Fin 1024) (i : ℕ) : EReal := if h : i < 256 then v (ix2 ⟨i, h⟩ w) else 0
def colB (v : FVec Ideal S256x1024 .f32) (w : Fin 1024) (j : ℕ) : EReal := if h : j < 256 then v (ix2 ⟨255 - j, by omega⟩ w) else 0

theorem colF_of (v : FVec Ideal S256x1024 .f32) (w : Fin 1024) (i : ℕ) (h : i < 256) : colF v w i = v (ix2 ⟨i, h⟩ w) := dif_pos h
theorem colB_of (v : FVec Ideal S256x1024 .f32) (w : Fin 1024) (i : ℕ) (h : i < 256) : colB v w i = v (ix2 ⟨255 - i, by omega⟩ w) := dif_pos h

theorem fA_col (s : ℕ) (hs : s < 256) (A : FVec Ideal S256x1024 .f32) (w : Fin 1024) (i : ℕ) (hi : i < 256) :
    colF (fA (BitVec.ofNat 32 s) A) w i = stepA s (colF A w) i := by
  rw [colF_of _ _ _ hi]
  unfold fA stepA
  pointwise
  by_cases h : s ≤ i
  · refine (if_pos ((sge_row ⟨i, hi⟩ s hs).mpr h)).trans ?_
    rw [if_pos h, colF_of A _ _ hi, colF_of A _ (i - s) (by omega)]
    refine congrArg (fun z : EReal => A _ * z) (congrArg A ?_)
    refine congrArg (fun r => ix2 r w) (Fin.ext ?_)
    simp only [BitVec.toNat_ofNat]
    omega
  · refine (if_neg (fun e => h ((sge_row ⟨i, hi⟩ s hs).mp e))).trans ?_
    rw [if_neg h, colF_of A _ _ hi]

theorem fX_col (s : ℕ) (hs : s < 256) (A X : FVec Ideal S256x1024 .f32) (w : Fin 1024) (i : ℕ) (hi : i < 256) :
    colF (fX (BitVec.ofNat 32 s) A X) w i = stepX s (colF A w) (colF X w) i := by
  rw [colF_of _ _ _ hi]
  unfold fX stepX
  pointwise
  by_cases h : s ≤ i
  · refine (if_pos ((sge_row ⟨i, hi⟩ s hs).mpr h)).trans ?_
    rw [if_pos h, colF_of A _ _ hi, colF_of X _ (i - s) (by omega), colF_of X _ _ hi]
    refine congrArg (fun z : EReal => X _ + A _ * z) (congrArg X ?_)
    refine congrArg (fun r => ix2 r w) (Fin.ext ?_)
    simp only [BitVec.toNat_ofNat]
    omega
  · refine (if_neg (fun e => h ((sge_row ⟨i, hi⟩ s hs).mp e))).trans ?_
    rw [if_neg h, colF_of X _ _ hi]

theorem bA_col (s : ℕ) (hs : s < 256) (h0 : 0 < s) (A : FVec Ideal S256x1024 .f32) (w : Fin 1024) (i : ℕ) (hi : i < 256) :
    colB (bA (BitVec.ofNat 32 (256 - s)) A) w i = stepA s (colB A w) i := by
  rw [colB_of _ _ _ hi]
  unfold bA stepA
  pointwise
  by_cases h : s ≤ i
  · refine (if_pos ((slt_row ⟨255 - i, by omega⟩ (256 - s) (by omega)).mpr (show 255 - i < 256 - s by omega))).trans ?_
    rw [if_pos h, colB_of A _ _ hi, colB_of A _ (i - s) (by omega)]
    refine congrArg (fun z : EReal => A _ * z) (congrArg A ?_)
    refine congrArg (fun r => ix2 r w) (Fin.ext ?_)
    simp only [BitVec.toNat_ofNat]
    omega
  · refine (if_neg (fun e => h (by have : 255 - i < 256 - s := (slt_row ⟨255 - i, by omega⟩ (256 - s) (by omega)).mp e; omega))).trans ?_
    rw [if_neg h, colB_of A _ _ hi]

theorem bX_col (s : ℕ) (hs : s < 256) (h0 : 0 < s) (A X : FVec Ideal S256x1024 .f32) (w : Fin 1024) (i : ℕ) (hi : i < 256) :
    colB (bX (BitVec.ofNat 32 (256 - s)) A X) w i = stepX s (colB A w) (colB X w) i := by
  rw [colB_of _ _ _ hi]
  unfold bX stepX
  pointwise
  by_cases h : s ≤ i
  · refine (if_pos ((slt_row ⟨255 - i, by omega⟩ (256 - s) (by omega)).mpr (show 255 - i < 256 - s by omega))).trans ?_
    rw [if_pos h, colB_of A _ _ hi, colB_of X _ (i - s) (by omega), colB_of X _ _ hi]
    refine congrArg (fun z : EReal => X _ + A _ * z) (congrArg X ?_)
    refine congrArg (fun r => ix2 r w) (Fin.ext ?_)
    simp only [BitVec.toNat_ofNat]
    omega
  · refine (if_neg (fun e => h (by have : 255 - i < 256 - s := (slt_row ⟨255 - i, by omega⟩ (256 - s) (by omega)).mp e; omega))).trans ?_
    rw [if_neg h, colB_of X _ _ hi]

/-! ## The eight doublings -/

theorem fwd_joined (a x : FVec Ideal S256x1024 .f32) (w : Fin 1024) (ha : ∀ i < 256, 0 ≤ colF a w i ∧ colF a w i ≠ ⊤) (i : ℕ) (hi : i < 256) (y : EReal)
    (a1 a2 a3 a4 a5 a6 a7 a8 x1 x2 x3 x4 x5 x6 x7 x8 : FVec Ideal S256x1024 .f32)
    (ea1 : a1 = fA 1#32 a) (ea2 : a2 = fA 2#32 a1) (ea3 : a3 = fA 4#32 a2) (ea4 : a4 = fA 8#32 a3)
    (ea5 : a5 = fA 16#32 a4) (ea6 : a6 = fA 32#32 a5) (ea7 : a7 = fA 64#32 a6) (ea8 : a8 = fA 128#32 a7)
    (ex1 : x1 = fX 1#32 a x) (ex2 : x2 = fX 2#32 a1 x1) (ex3 : x3 = fX 4#32 a2 x2) (ex4 : x4 = fX 8#32 a3 x3)
    (ex5 : x5 = fX 16#32 a4 x4) (ex6 : x6 = fX 32#32 a5 x5) (ex7 : x7 = fX 64#32 a6 x6) (ex8 : x8 = fX 128#32 a7 x7) :
    colF x8 w i + colF a8 w i * y = run (colF a w) (colF x w) i (i + 1) y := by
  have j (s : ℕ) (hs : s < 256) {A X A' X' : FVec Ideal S256x1024 .f32} (h : Joined (colF a w) (colF x w) s (colF A w) (colF X w))
      (eA : A' = fA (BitVec.ofNat 32 s) A) (eX : X' = fX (BitVec.ofNat 32 s) A X) : Joined (colF a w) (colF x w) (s + s) (colF A' w) (colF X' w) :=
    h.double (fun i hi => by rw [eA, fA_col s hs A w i hi]) (fun i hi => by rw [eX, fX_col s hs A X w i hi])
  exact (j 128 (by decide) (j 64 (by decide) (j 32 (by decide) (j 16 (by decide) (j 8 (by decide) (j 4 (by decide) (j 2 (by decide) (j 1 (by decide)
    (Joined.init ha) ea1 ex1) ea2 ex2) ea3 ex3) ea4 ex4) ea5 ex5) ea6 ex6) ea7 ex7) ea8 ex8).full i hi y

theorem bwd_joined (a x : FVec Ideal S256x1024 .f32) (w : Fin 1024) (ha : ∀ i < 256, 0 ≤ colB a w i ∧ colB a w i ≠ ⊤) (i : ℕ) (hi : i < 256) (y : EReal)
    (a1 a2 a3 a4 a5 a6 a7 a8 x1 x2 x3 x4 x5 x6 x7 x8 : FVec Ideal S256x1024 .f32)
    (ea1 : a1 = bA 255#32 a) (ea2 : a2 = bA 254#32 a1) (ea3 : a3 = bA 252#32 a2) (ea4 : a4 = bA 248#32 a3)
    (ea5 : a5 = bA 240#32 a4) (ea6 : a6 = bA 224#32 a5) (ea7 : a7 = bA 192#32 a6) (ea8 : a8 = bA 128#32 a7)
    (ex1 : x1 = bX 255#32 a x) (ex2 : x2 = bX 254#32 a1 x1) (ex3 : x3 = bX 252#32 a2 x2) (ex4 : x4 = bX 248#32 a3 x3)
    (ex5 : x5 = bX 240#32 a4 x4) (ex6 : x6 = bX 224#32 a5 x5) (ex7 : x7 = bX 192#32 a6 x6) (ex8 : x8 = bX 128#32 a7 x7) :
    colB x8 w i + colB a8 w i * y = run (colB a w) (colB x w) i (i + 1) y := by
  have j (s : ℕ) (hs : s < 256) (h0 : 0 < s) {A X A' X' : FVec Ideal S256x1024 .f32} (h : Joined (colB a w) (colB x w) s (colB A w) (colB X w))
      (eA : A' = bA (BitVec.ofNat 32 (256 - s)) A) (eX : X' = bX (BitVec.ofNat 32 (256 - s)) A X) : Joined (colB a w) (colB x w) (s + s) (colB A' w) (colB X' w) :=
    h.double (fun i hi => by rw [eA, bA_col s hs h0 A w i hi]) (fun i hi => by rw [eX, bX_col s hs h0 A X w i hi])
  exact (j 128 (by decide) (by decide) (j 64 (by decide) (by decide) (j 32 (by decide) (by decide) (j 16 (by decide) (by decide) (j 8 (by decide) (by decide)
    (j 4 (by decide) (by decide) (j 2 (by decide) (by decide) (j 1 (by decide) (by decide)
    (Joined.init ha) ea1 ex1) ea2 ex2) ea3 ex3) ea4 ex4) ea5 ex5) ea6 ex6) ea7 ex7) ea8 ex8).full i hi y

/-! ## The kernels' own lines are these doublings -/

/-- The first kernel's tile: the coefficients after the eight doublings applied to the carried state. -/
theorem tile_fwd (v3 v5 : Vec Ideal S1x1x256x1024 .f32) (w : Fin 1024)
    (ha : ∀ i < 256, 0 ≤ colF (k0_pay5 v3) w i ∧ colF (k0_pay5 v3) w i ≠ ⊤) (i : ℕ) (hi : i < 256) (y : EReal) :
    colF (k0_pay23 rows (k0_pay11 v3 v5) (k0_pay12 v3) (k0_pay13 v3)) w i + colF (k0_pay24 rows (k0_pay12 v3) (k0_pay13 v3)) w i * y
      = run (colF (k0_pay5 v3) w) (colF (shapeCast S256x1024 v5 shapeCasts_S1x1x256x1024_S256x1024) w) i (i + 1) y :=
  fwd_joined (k0_pay5 v3) _ w ha i hi y
    (k0_pay7 v3) (k0_pay9 v3) (k0_pay12 v3) (k0_pay15 rows (k0_pay12 v3) (k0_pay13 v3)) (k0_pay17 rows (k0_pay12 v3) (k0_pay13 v3))
    (k0_pay19 rows (k0_pay12 v3) (k0_pay13 v3)) (k0_pay21 rows (k0_pay12 v3) (k0_pay13 v3)) _
    (fX 1#32 (k0_pay5 v3) (shapeCast S256x1024 v5 shapeCasts_S1x1x256x1024_S256x1024)) _ (k0_pay11 v3 v5) _ _ _ _ _
    rfl rfl rfl rfl rfl rfl rfl rfl rfl rfl rfl rfl rfl rfl rfl rfl

theorem lam_lines (v76 v78 v79 : FVec Ideal S256x1024 .f32) (v88 : Vec Ideal S1x1024 .f32) (h : v79 = dynamicRotate 0 128#32 none v78 rotates_S256x1024_d0) :
    k1_pay25 rows v76 v78 v79 128#32 v88 = addf (bX 128#32 v78 v76) (mulf (bA 128#32 v78) (broadcastTo S256x1024 v88 broadcasts_S1x1024_S256x1024)) := by
  subst h; rfl

theorem row_read (v88 : Vec Ideal S1x1024 .f32) (i : Fin 256) (w : Fin 1024) : broadcastTo S256x1024 v88 broadcasts_S1x1024_S256x1024 (ix2 i w) = v88 (ix2 (0 : Fin 1) w) := by
  pointwise

/-- The second kernel's tile. -/
theorem tile_bwd (v3 : Vec Ideal S1x1x256x1024 .f32) (v8 : Vec Ideal S1x1024 .f32) (v13 : Vec Ideal S1x256x1024 .f32) (w : Fin 1024)
    (ha : ∀ i < 256, 0 ≤ colB (k1_pay6 v3 v8) w i ∧ colB (k1_pay6 v3 v8) w i ≠ ⊤) (v88 : Vec Ideal S1x1024 .f32) (i : ℕ) (hi : i < 256) :
    colB (k1_pay25 rows (k1_pay22 rows (k1_pay10 v3 v8 v13) (k1_pay11 v3 v8) (k1_pay12 v3 v8) 252#32)
        (k1_pay23 rows (k1_pay11 v3 v8) (k1_pay12 v3 v8)) (k1_pay24 rows (k1_pay11 v3 v8) (k1_pay12 v3 v8)) 128#32 v88) w i
      = run (colB (k1_pay6 v3 v8) w) (colB (shapeCast S256x1024 v13 shapeCasts_S1x256x1024_S256x1024) w) i (i + 1) (v88 (ix2 (0 : Fin 1) w)) := by
  rw [← bwd_joined (k1_pay6 v3 v8) _ w ha i hi _
    (k1_pay8 v3 v8) (k1_pay11 v3 v8) (k1_pay14 rows (k1_pay11 v3 v8) (k1_pay12 v3 v8)) (k1_pay16 rows (k1_pay11 v3 v8) (k1_pay12 v3 v8))
    (k1_pay18 rows (k1_pay11 v3 v8) (k1_pay12 v3 v8)) (k1_pay20 rows (k1_pay11 v3 v8) (k1_pay12 v3 v8)) (k1_pay23 rows (k1_pay11 v3 v8) (k1_pay12 v3 v8)) _
    (bX 255#32 (k1_pay6 v3 v8) (shapeCast S256x1024 v13 shapeCasts_S1x256x1024_S256x1024)) (k1_pay10 v3 v8 v13) _ _ _ _
    (k1_pay22 rows (k1_pay10 v3 v8 v13) (k1_pay11 v3 v8) (k1_pay12 v3 v8) 252#32) _
    rfl rfl rfl rfl rfl rfl rfl rfl rfl rfl rfl rfl rfl rfl rfl rfl]
  rw [lam_lines _ (k1_pay23 rows (k1_pay11 v3 v8) (k1_pay12 v3 v8)) (k1_pay24 rows (k1_pay11 v3 v8) (k1_pay12 v3 v8)) _ rfl, colB_of _ _ _ hi, colB_of _ _ _ hi, colB_of _ _ _ hi, ← row_read v88 ⟨255 - i, by omega⟩ w]
  rfl

end Cert.Scan

end
-- ==== Proof.FwdPoint.lean ====
module

public import proofs.«01_k».proof.Proof.TileVec
public import Idealize.ShloMosaic.Lib.Pipeline.Value
public import Idealize.ShloMosaic.Lib.Pipeline.ReadBack

/-! What one grid point of the first kernel leaves: its tile of states and the carried state. -/

@[expose] public section

set_option maxRecDepth 16384

noncomputable section

namespace Cert.Scan

open Cert.KernelIdeal Cert.KernelIdeal.Gen
open Idealize.ShloMosaic Idealize.ShloMosaic.TcCoe Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The first row of a carried block. -/
abbrev firstRow (xs : Vec F S8x1024 .f32) : Vec F S1x1024 .f32 := View.ld xs (Rect.unit (s := S8x1024) ![0, 0] S1x1024.size inb_S8x1024_S1x1024_0_0)

/-- The tile of states from the decays, the inputs and the carried row. -/
abbrev fwdTile (v3 v5 : Vec F S1x1x256x1024 .f32) (v80 : Vec F S1x1024 .f32) : FVec F S1x256x1024 .f32 :=
  k0_pay2 (k0_pay23 rows (k0_pay11 v3 v5) (k0_pay12 v3) (k0_pay13 v3)) (k0_pay24 rows (k0_pay12 v3) (k0_pay13 v3)) v80
abbrev fwdCarry (v3 v5 : Vec F S1x1x256x1024 .f32) (v80 : Vec F S1x1024 .f32) : FVec F S8x1024 .f32 :=
  k0_pay3 (k0_pay23 rows (k0_pay11 v3 v5) (k0_pay12 v3) (k0_pay13 v3)) (k0_pay24 rows (k0_pay12 v3) (k0_pay13 v3)) v80

section
variable (c : Dev nD) (i : grid0.Coords) (arg3 : Memref sig .tc .vmem S1x1x256x1024 .f32) (harg3 : arg3.IsWhole) (arg4 : Memref sig .tc .vmem S1x1x256x1024 .f32) (harg4 : arg4.IsWhole) (arg5 : Memref sig .tc .vmem S1x256x1024 .f32) (harg5 : arg5.IsWhole) (arg6 : Memref sig .tc .vmem S8x1024 .f32) (harg6 : arg6.IsWhole)

theorem out0_B (hc0 : ¬cond0_0 i) (x0 x1 : Vec F S1x1x256x1024 .f32) (xs0 : Vec F S8x1024 .f32) :
    out0_B_2 c i arg3 harg3 arg4 harg4 arg5 harg5 arg6 harg6 hc0 x0 x1 xs0 = fwdTile x0 x1 (firstRow xs0) := by
  unfold out0_B_2
  rw [View.read_writes_eq_canon _ _ _ (cover0_B_2 c i arg3 harg3 arg4 harg4 arg5 harg5 arg6 harg6 hc0 x0 x1 xs0)]
  unfold kernelRun0_B
  dsimp only
  sl_unfold_words
  rw [View.canon_unit_zero hz3]
  simp only [View.readAt_eq_ld, harg3.read_unread, harg4.read_unread, harg6.read_unread, View.ld_unit_zero (S := S1x1x256x1024) hz4]
theorem sout0_B (hc0 : ¬cond0_0 i) (x0 x1 : Vec F S1x1x256x1024 .f32) (xs0 : Vec F S8x1024 .f32) :
    sout0_B_0 c i arg3 harg3 arg4 harg4 arg5 harg5 arg6 harg6 hc0 x0 x1 xs0 = fwdCarry x0 x1 (firstRow xs0) := by
  unfold sout0_B_0
  rw [View.read_writes_eq_canon _ _ _ (scover0_B_0 c i arg3 harg3 arg4 harg4 arg5 harg5 arg6 harg6 hc0 x0 x1 xs0)]
  unfold kernelRun0_B
  dsimp only
  sl_unfold_words
  rw [View.canon_unit_zero hz2]
  simp only [View.readAt_eq_ld, harg3.read_unread, harg4.read_unread, harg6.read_unread, View.ld_unit_zero (S := S1x1x256x1024) hz4]
theorem out0_A (hc0 : cond0_0 i) (x0 x1 : Vec F S1x1x256x1024 .f32) :
    out0_A_2 c i arg3 harg3 arg4 harg4 arg5 harg5 arg6 harg6 hc0 x0 x1 = fwdTile x0 x1 (firstRow k0_pay4) := by
  unfold out0_A_2
  rw [View.read_writes_eq_canon _ _ _ (cover0_A_2 c i arg3 harg3 arg4 harg4 arg5 harg5 arg6 harg6 hc0 x0 x1)]
  unfold kernelRun0_A
  dsimp only
  sl_unfold_words
  rw [View.canon_unit_zero hz3]
  simp only [View.readAt_eq_ld, harg3.read_unread, harg4.read_unread, View.ld_unit_zero (S := S1x1x256x1024) hz4]
  rw [View.readCov_fill (s := S8x1024) _ _ _ _ _ (by decide)]
theorem sout0_A (hc0 : cond0_0 i) (x0 x1 : Vec F S1x1x256x1024 .f32) :
    sout0_A_0 c i arg3 harg3 arg4 harg4 arg5 harg5 arg6 harg6 hc0 x0 x1 = fwdCarry x0 x1 (firstRow k0_pay4) := by
  unfold sout0_A_0
  rw [View.read_writes_eq_canon _ _ _ (scover0_A_0 c i arg3 harg3 arg4 harg4 arg5 harg5 arg6 harg6 hc0 x0 x1)]
  unfold kernelRun0_A
  dsimp only
  sl_unfold_words
  rw [View.canon_cons_unit_zero (S := S8x1024) hz2]
  simp only [View.readAt_eq_ld, harg3.read_unread, harg4.read_unread, View.ld_unit_zero (S := S1x1x256x1024) hz4]
  rw [View.readCov_fill (s := S8x1024) _ _ _ _ _ (by decide)]
end

end Cert.Scan

end
-- ==== Proof.FwdValue.lean ====
module

public import proofs.«01_k».proof.Proof.FwdPoint
public import Idealize.ShloMosaic.Lib.Pipeline.ValueKit

/-! The first kernel's output over the reals: the states of the recurrence. -/

@[expose] public section

set_option maxRecDepth 16384

noncomputable section

namespace Cert.Scan

open Cert.KernelIdeal Cert.KernelIdeal.Gen
open Idealize.ShloMosaic Idealize.ShloMosaic.TcCoe Idealize.ShloMosaic.Tactic

/-- One channel of the first direction's part of an array, and of a plain array. -/
def chan4 (A : Vec Ideal S2x2x2304x1024 .f32) (b : Fin 2) (w : Fin 1024) (t : ℕ) : EReal := if h : t < 2304 then A (ix4 (0 : Fin 2) b ⟨t, h⟩ w) else 0
def chan3 (A : Vec Ideal S2x2304x1024 .f32) (b : Fin 2) (w : Fin 1024) (t : ℕ) : EReal := if h : t < 2304 then A (ix3 b ⟨t, h⟩ w) else 0

theorem chan4_of (A : Vec Ideal S2x2x2304x1024 .f32) (b : Fin 2) (w : Fin 1024) (t : Fin 2304) : chan4 A b w t.val = A (ix4 (0 : Fin 2) b t w) := dif_pos t.isLt
theorem chan3_of (A : Vec Ideal S2x2304x1024 .f32) (b : Fin 2) (w : Fin 1024) (t : Fin 2304) : chan3 A b w t.val = A (ix3 b t w) := dif_pos t.isLt

/-! ## One tile -/

theorem fwd_col (v3 v5 : Vec Ideal S1x1x256x1024 .f32) (v80 : Vec Ideal S1x1024 .f32) (w : Fin 1024) (a x : ℕ → EReal) (o : ℕ)
    (ha : ∀ i < 256, 0 ≤ a (o + i) ∧ a (o + i) ≠ ⊤) (h3 : ∀ i : Fin 256, v3 (ix4 (0 : Fin 1) (0 : Fin 1) i w) = a (o + i.val))
    (h5 : ∀ i : Fin 256, v5 (ix4 (0 : Fin 1) (0 : Fin 1) i w) = x (o + i.val)) (hy : v80 (ix2 (0 : Fin 1) w) = hs a x o) (i : Fin 256) :
    k0_pay1 (k0_pay23 rows (k0_pay11 v3 v5) (k0_pay12 v3) (k0_pay13 v3)) (k0_pay24 rows (k0_pay12 v3) (k0_pay13 v3)) v80 (ix2 i w) = hs a x (o + i.val + 1) := by
  have ea : ∀ j < 256, colF (k0_pay5 v3) w j = a (o + j) := fun j hj => by
    rw [colF_of _ _ _ hj, ← h3 ⟨j, hj⟩]; unfold k0_pay5; pointwise
  have ex : ∀ j < 256, colF (shapeCast S256x1024 v5 shapeCasts_S1x1x256x1024_S256x1024) w j = x (o + j) := fun j hj => by
    rw [colF_of _ _ _ hj, ← h5 ⟨j, hj⟩]; pointwise
  have e := tile_fwd v3 v5 w (fun j hj => by rw [ea j hj]; exact ha j hj) i.val i.isLt (hs a x o)
  rw [run_hs a x _ _ o ea ex i.val i.isLt, colF_of _ _ _ i.isLt, colF_of _ _ _ i.isLt] at e
  rw [← e, ← hy]
  rw [← row_read v80 i w]
  rfl

theorem fwdTile_at (v3 v5 : Vec Ideal S1x1x256x1024 .f32) (v80 : Vec Ideal S1x1024 .f32) (w : Fin 1024) (a x : ℕ → EReal) (o : ℕ)
    (ha : ∀ i < 256, 0 ≤ a (o + i) ∧ a (o + i) ≠ ⊤) (h3 : ∀ i : Fin 256, v3 (ix4 (0 : Fin 1) (0 : Fin 1) i w) = a (o + i.val))
    (h5 : ∀ i : Fin 256, v5 (ix4 (0 : Fin 1) (0 : Fin 1) i w) = x (o + i.val)) (hy : v80 (ix2 (0 : Fin 1) w) = hs a x o) (i : Fin 256) :
    fwdTile v3 v5 v80 (ix3 (0 : Fin 1) i w) = hs a x (o + i.val + 1) := by
  rw [← fwd_col v3 v5 v80 w a x o ha h3 h5 hy i]
  unfold fwdTile k0_pay2
  pointwise

theorem fwdCarry_at (v3 v5 : Vec Ideal S1x1x256x1024 .f32) (v80 : Vec Ideal S1x1024 .f32) (w : Fin 1024) (a x : ℕ → EReal) (o : ℕ)
    (ha : ∀ i < 256, 0 ≤ a (o + i) ∧ a (o + i) ≠ ⊤) (h3 : ∀ i : Fin 256, v3 (ix4 (0 : Fin 1) (0 : Fin 1) i w) = a (o + i.val))
    (h5 : ∀ i : Fin 256, v5 (ix4 (0 : Fin 1) (0 : Fin 1) i w) = x (o + i.val)) (hy : v80 (ix2 (0 : Fin 1) w) = hs a x o) :
    firstRow (fwdCarry v3 v5 v80) (ix2 (0 : Fin 1) w) = hs a x (o + 256) := by
  have e := fwd_col v3 v5 v80 w a x o ha h3 h5 hy (255 : Fin 256)
  rw [show o + 256 = o + (255 : Fin 256).val + 1 from rfl, ← e]
  unfold firstRow fwdCarry k0_pay3
  pointwise

theorem firstRow_zero (w : Fin 1024) : firstRow (F := Ideal) (k0_pay4 (F := Ideal)) (ix2 (0 : Fin 1) w) = 0 := by
  unfold firstRow k0_pay4
  pointwise

/-! ## The blocks -/

theorem idx0_eq : ∀ t : Fin cfg0.N, win0_0.index t = ![0, t.val / 9, t.val % 9, 0] ∧ win0_1.index t = ![0, t.val / 9, t.val % 9, 0] ∧ win0_2.index t = ![t.val / 9, t.val % 9, 0] :=
  (by decide +kernel : ∀ t : Fin grid0.N, win0_0.index t = ![0, t.val / 9, t.val % 9, 0] ∧ win0_1.index t = ![0, t.val / 9, t.val % 9, 0] ∧ win0_2.index t = ![t.val / 9, t.val % 9, 0])

theorem lt0 (t : Fin cfg0.N) : t.val < 18 := lt_of_lt_of_eq t.isLt N_0

variable (V : (c : Dev nD) → (b : Ref sig .tc) → Buf (Elt Ideal) ((c : Thread nD τ).loc b))

/-- The batch of a grid point. -/
abbrev bat (n : ℕ) (h : n < 18) : Fin 2 := ⟨n / 9, by omega⟩

theorem blk0_0 (c : Dev nD) (t : Fin cfg0.N) (i : Fin 256) (w : Fin 1024) :
    iblk0 V c 0 t (ix4 (0 : Fin 1) (0 : Fin 1) i w) = chan4 (V c main_arg0) (bat t.val (lt0 t)) w (256 * (t.val % 9) + i.val) := by
  have ht := lt0 t
  have hi := i.isLt
  rw [show 256 * (t.val % 9) + i.val = (⟨256 * (t.val % 9) + i.val, by omega⟩ : Fin 2304).val from rfl, chan4_of]
  obtain ⟨e0, e1, e2⟩ := idx0_eq t
  blk_ext [iblk0, e0]
theorem blk0_1 (c : Dev nD) (t : Fin cfg0.N) (i : Fin 256) (w : Fin 1024) :
    iblk0 V c 1 t (ix4 (0 : Fin 1) (0 : Fin 1) i w) = chan4 (V c main_arg1) (bat t.val (lt0 t)) w (256 * (t.val % 9) + i.val) := by
  have ht := lt0 t
  have hi := i.isLt
  rw [show 256 * (t.val % 9) + i.val = (⟨256 * (t.val % 9) + i.val, by omega⟩ : Fin 2304).val from rfl, chan4_of]
  obtain ⟨e0, e1, e2⟩ := idx0_eq t
  blk_ext [iblk0, e1]

/-! ## The points -/

variable (hpos : ∀ (c : Dev nD) (b : Fin 2) (w : Fin 1024) (t : ℕ), 0 ≤ chan4 (V c main_arg0) b w t ∧ chan4 (V c main_arg0) b w t ≠ ⊤)

/-- The states of a grid point's batch and channel. -/
abbrev st (c : Dev nD) (b : Fin 2) (w : Fin 1024) : ℕ → EReal := hs (chan4 (V c main_arg0) b w) (chan4 (V c main_arg1) b w)

include hpos in
theorem carry0 (c : Dev nD) (w : Fin 1024) : ∀ (n : ℕ) (h : n < cfg0.N),
    firstRow (outsAt0 V c n h).2 (ix2 (0 : Fin 1) w) = st V c (bat n (lt0 ⟨n, h⟩)) w (256 * (n % 9) + 256) := by
  intro n
  induction n with
  | zero =>
    intro h
    rw [outsAt0_A V c ⟨0, h⟩ rfl, sout0_A]
    exact fwdCarry_at _ _ _ w _ _ _ (fun i _ => hpos c _ w _) (fun i => blk0_0 V c ⟨0, h⟩ i w) (fun i => blk0_1 V c ⟨0, h⟩ i w) (firstRow_zero w)
  | succ n ih =>
    intro h
    have hn := lt0 ⟨n + 1, h⟩
    by_cases h0 : (n + 1) % 9 = 0
    · rw [outsAt0_A V c ⟨n + 1, h⟩ h0, sout0_A]
      exact fwdCarry_at _ _ _ w _ _ _ (fun i _ => hpos c _ w _) (fun i => blk0_0 V c ⟨n + 1, h⟩ i w) (fun i => blk0_1 V c ⟨n + 1, h⟩ i w)
        ((firstRow_zero w).trans (by show 0 = st V c _ w (256 * ((n + 1) % 9)); rw [h0]; rfl))
    · rw [outsAt0_B V c ⟨n + 1, h⟩ h0, sout0_B]
      refine fwdCarry_at _ _ _ w _ _ _ (fun i _ => hpos c _ w _) (fun i => blk0_0 V c ⟨n + 1, h⟩ i w) (fun i => blk0_1 V c ⟨n + 1, h⟩ i w) ?_
      refine (ih (Nat.lt_of_succ_lt h)).trans ?_
      have eb : bat n (lt0 ⟨n, Nat.lt_of_succ_lt h⟩) = bat (n + 1) hn := Fin.ext (show n / 9 = (n + 1) / 9 by omega)
      rw [eb, show 256 * (n % 9) + 256 = 256 * ((n + 1) % 9) by omega]

include hpos in
theorem tile0 (c : Dev nD) (t : Fin cfg0.N) (i : Fin 256) (w : Fin 1024) :
    (outsAt0 V c t.val t.isLt).1 (ix3 (0 : Fin 1) i w) = st V c (bat t.val (lt0 t)) w (256 * (t.val % 9) + i.val + 1) := by
  have ht := lt0 t
  by_cases h0 : t.val % 9 = 0
  · rw [outsAt0_A V c t h0, out0_A]
    exact fwdTile_at _ _ _ w _ _ _ (fun i _ => hpos c _ w _) (fun i => blk0_0 V c t i w) (fun i => blk0_1 V c t i w)
      ((firstRow_zero w).trans (by show 0 = st V c _ w (256 * (t.val % 9)); rw [h0]; rfl)) i
  · rw [outsAt0_B V c t h0, out0_B]
    refine fwdTile_at _ _ _ w _ _ _ (fun i _ => hpos c _ w _) (fun i => blk0_0 V c t i w) (fun i => blk0_1 V c t i w) ?_ i
    refine (carry0 V hpos c w (t.val - 1) (Nat.lt_of_le_of_lt (Nat.sub_le _ _) t.isLt)).trans ?_
    have eb : bat (t.val - 1) (lt0 ⟨t.val - 1, Nat.lt_of_le_of_lt (Nat.sub_le _ _) t.isLt⟩) = bat t.val ht := Fin.ext (show (t.val - 1) / 9 = t.val / 9 by omega)
    rw [eb, show 256 * ((t.val - 1) % 9) + 256 = 256 * (t.val % 9) by omega]

/-- The array of states. -/
def statesOf (c : Dev nD) : Vec Ideal S2x2304x1024 .f32 := fun i => st V c (i 0) (i 2) ((i 1).val + 1)

include hpos in
theorem states_arr (c : Dev nD) : (dat0 V c).arrAt 2 cfg0.N = statesOf V c := by
  refine (dat0 V c).arrAt_eq_of_covers 2 _ (by decide +kernel) fun t hf y => ?_
  obtain ⟨e0, e1, e2⟩ := idx0_eq t
  blk_simp
  rw [after0_2]
  have q0 : (win0_2.blk t).view.emb y 0 = bat t.val (lt0 t) := Fin.ext (by blk_simp [e2])
  have q1 : ((win0_2.blk t).view.emb y 1).val = 256 * (t.val % 9) + (y 1).val := by blk_simp [e2, Nat.mul_comm]
  have q2 : (win0_2.blk t).view.emb y 2 = y 2 := Fin.ext (by blk_simp [e2])
  unfold statesOf
  rw [q0, q1, q2]
  refine Eq.trans (congrArg (outsAt0 V c t.val t.isLt).1 (?_ : (y : S1x256x1024.Idx) = ix3 (0 : Fin 1) (y 1) (y 2))) (tile0 V hpos c t (y 1) (y 2))
  exact (eq_ix3 y).trans (congrArg (fun z => ix3 z (y 1) (y 2)) (Subsingleton.elim (α := Fin 1) _ _))

end Cert.Scan

end
-- ==== Proof.BwdPoint.lean ====
module

public import proofs.«01_k».proof.Proof.FwdPoint
public import proofs.«01_k».proof.Proof.BwdRegion

/-! What one grid point of the second kernel leaves: its tile of state gradients, its tile of decay gradients and the two carried rows. -/

@[expose] public section

set_option maxRecDepth 16384

noncomputable section

namespace Cert.Scan

open Cert.KernelIdeal Cert.KernelIdeal.Gen
open Idealize.ShloMosaic Idealize.ShloMosaic.TcCoe Idealize.ShloMosaic.Tactic

variable {F : FTy → Type} [FloatOps F]

/-- The gradients of one tile of states, from the decays, the carried decay row, the cotangents and the carried gradient row. -/
abbrev bwdRows (v3 : Vec F S1x1x256x1024 .f32) (v8 : Vec F S1x1024 .f32) (v13 : Vec F S1x256x1024 .f32) (v88 : Vec F S1x1024 .f32) : FVec F S256x1024 .f32 :=
  k1_pay25 rows (k1_pay22 rows (k1_pay10 v3 v8 v13) (k1_pay11 v3 v8) (k1_pay12 v3 v8) 252#32)
    (k1_pay23 rows (k1_pay11 v3 v8) (k1_pay12 v3 v8)) (k1_pay24 rows (k1_pay11 v3 v8) (k1_pay12 v3 v8)) 128#32 v88
abbrev lamTile (v3 : Vec F S1x1x256x1024 .f32) (v8 : Vec F S1x1024 .f32) (v13 : Vec F S1x256x1024 .f32) (v88 : Vec F S1x1024 .f32) : FVec F S1x256x1024 .f32 :=
  k1_pay26 rows (k1_pay22 rows (k1_pay10 v3 v8 v13) (k1_pay11 v3 v8) (k1_pay12 v3 v8) 252#32)
    (k1_pay23 rows (k1_pay11 v3 v8) (k1_pay12 v3 v8)) (k1_pay24 rows (k1_pay11 v3 v8) (k1_pay12 v3 v8)) 128#32 v88
abbrev daTile (r : BitVec 32) (v3 : Vec F S1x1x256x1024 .f32) (v8 : Vec F S1x1024 .f32) (v13 : Vec F S1x256x1024 .f32) (v88 : Vec F S1x1024 .f32)
    (v96 : Vec F S1x8x1024 .f32) (v103 : Vec F S1x256x1024 .f32) : FVec F S1x256x1024 .f32 :=
  k1_pay27 r rows rows (k1_pay22 rows (k1_pay10 v3 v8 v13) (k1_pay11 v3 v8) (k1_pay12 v3 v8) 252#32)
    (k1_pay23 rows (k1_pay11 v3 v8) (k1_pay12 v3 v8)) (k1_pay24 rows (k1_pay11 v3 v8) (k1_pay12 v3 v8)) 128#32 v88 v96 v103
abbrev decayCarry (v3 : Vec F S1x1x256x1024 .f32) : FVec F S8x1024 .f32 := k1_pay1 (k1_pay28 (k1_pay5 v3))
abbrev lamCarry (v3 : Vec F S1x1x256x1024 .f32) (v8 : Vec F S1x1024 .f32) (v13 : Vec F S1x256x1024 .f32) (v88 : Vec F S1x1024 .f32) : FVec F S8x1024 .f32 :=
  k1_pay2 (bwdRows v3 v8 v13 v88)

section
variable (c : Dev nD) (i : grid1.Coords) (arg3 : Memref sig .tc .vmem S1x1x256x1024 .f32) (harg3 : arg3.IsWhole) (arg4 : Memref sig .tc .vmem S1x256x1024 .f32) (harg4 : arg4.IsWhole) (arg5 : Memref sig .tc .vmem S1x8x1024 .f32) (harg5 : arg5.IsWhole) (arg6 : Memref sig .tc .vmem S1x256x1024 .f32) (harg6 : arg6.IsWhole) (arg7 : Memref sig .tc .vmem S1x256x1024 .f32) (harg7 : arg7.IsWhole) (arg8 : Memref sig .tc .vmem S1x256x1024 .f32) (harg8 : arg8.IsWhole) (arg9 : Memref sig .tc .vmem S8x1024 .f32) (harg9 : arg9.IsWhole) (arg10 : Memref sig .tc .vmem S8x1024 .f32) (harg10 : arg10.IsWhole)
  (x0 : Vec F S1x1x256x1024 .f32) (x1 : Vec F S1x256x1024 .f32) (x2 : Vec F S1x8x1024 .f32) (x3 : Vec F S1x256x1024 .f32)

theorem out1_B4 (hc0 : ¬cond1_0 i) (xs0 xs1 : Vec F S8x1024 .f32) :
    out1_B_4 c i arg3 harg3 arg4 harg4 arg5 harg5 arg6 harg6 arg7 harg7 arg8 harg8 arg9 harg9 arg10 harg10 hc0 x0 x1 x2 x3 xs0 xs1 = lamTile x0 (firstRow xs0) x3 (firstRow xs1) := by
  unfold out1_B_4
  rw [View.read_writes_eq_canon _ _ _ (cover1_B_4 c i arg3 harg3 arg4 harg4 arg5 harg5 arg6 harg6 arg7 harg7 arg8 harg8 arg9 harg9 arg10 harg10 hc0 x0 x1 x2 x3 xs0 xs1)]
  unfold kernelRun1_B
  dsimp only
  sl_unfold_words
  rw [View.canon_unit_zero hz3]
  simp only [View.readAt_eq_ld, harg3.read_unread, harg4.read_unread, harg5.read_unread, harg6.read_unread, harg9.read_unread, harg10.read_unread, View.ld_unit_zero (S := S1x1x256x1024) hz4, View.ld_unit_zero (S := S1x256x1024) hz3, View.ld_unit_zero (S := S1x8x1024) hz3]
theorem out1_B5 (hc0 : ¬cond1_0 i) (xs0 xs1 : Vec F S8x1024 .f32) :
    out1_B_5 c i arg3 harg3 arg4 harg4 arg5 harg5 arg6 harg6 arg7 harg7 arg8 harg8 arg9 harg9 arg10 harg10 hc0 x0 x1 x2 x3 xs0 xs1 = daTile (BitVec.ofNat 32 (i 2).val) x0 (firstRow xs0) x3 (firstRow xs1) x2 x1 := by
  unfold out1_B_5
  rw [View.read_writes_eq_canon _ _ _ (cover1_B_5 c i arg3 harg3 arg4 harg4 arg5 harg5 arg6 harg6 arg7 harg7 arg8 harg8 arg9 harg9 arg10 harg10 hc0 x0 x1 x2 x3 xs0 xs1)]
  unfold kernelRun1_B
  dsimp only
  sl_unfold_words
  rw [View.canon_unit_zero hz3]
  simp only [View.readAt_eq_ld, harg3.read_unread, harg4.read_unread, harg5.read_unread, harg6.read_unread, harg9.read_unread, harg10.read_unread, View.ld_unit_zero (S := S1x1x256x1024) hz4, View.ld_unit_zero (S := S1x256x1024) hz3, View.ld_unit_zero (S := S1x8x1024) hz3]
theorem sout1_B0 (hc0 : ¬cond1_0 i) (xs0 xs1 : Vec F S8x1024 .f32) :
    sout1_B_0 c i arg3 harg3 arg4 harg4 arg5 harg5 arg6 harg6 arg7 harg7 arg8 harg8 arg9 harg9 arg10 harg10 hc0 x0 x1 x2 x3 xs0 xs1 = decayCarry x0 := by
  unfold sout1_B_0
  rw [View.read_writes_eq_canon _ _ _ (scover1_B_0 c i arg3 harg3 arg4 harg4 arg5 harg5 arg6 harg6 arg7 harg7 arg8 harg8 arg9 harg9 arg10 harg10 hc0 x0 x1 x2 x3 xs0 xs1)]
  unfold kernelRun1_B
  dsimp only
  sl_unfold_words
  rw [View.canon_unit_zero hz2]
  simp only [View.readAt_eq_ld, harg3.read_unread, harg4.read_unread, harg5.read_unread, harg6.read_unread, harg9.read_unread, harg10.read_unread, View.ld_unit_zero (S := S1x1x256x1024) hz4, View.ld_unit_zero (S := S1x256x1024) hz3, View.ld_unit_zero (S := S1x8x1024) hz3]
theorem sout1_B1 (hc0 : ¬cond1_0 i) (xs0 xs1 : Vec F S8x1024 .f32) :
    sout1_B_1 c i arg3 harg3 arg4 harg4 arg5 harg5 arg6 harg6 arg7 harg7 arg8 harg8 arg9 harg9 arg10 harg10 hc0 x0 x1 x2 x3 xs0 xs1 = lamCarry x0 (firstRow xs0) x3 (firstRow xs1) := by
  unfold sout1_B_1
  rw [View.read_writes_eq_canon _ _ _ (scover1_B_1 c i arg3 harg3 arg4 harg4 arg5 harg5 arg6 harg6 arg7 harg7 arg8 harg8 arg9 harg9 arg10 harg10 hc0 x0 x1 x2 x3 xs0 xs1)]
  unfold kernelRun1_B
  dsimp only
  sl_unfold_words
  rw [View.canon_unit_zero hz2]
  simp only [View.readAt_eq_ld, harg3.read_unread, harg4.read_unread, harg5.read_unread, harg6.read_unread, harg9.read_unread, harg10.read_unread, View.ld_unit_zero (S := S1x1x256x1024) hz4, View.ld_unit_zero (S := S1x256x1024) hz3, View.ld_unit_zero (S := S1x8x1024) hz3]
theorem out1_A4 (hc0 : cond1_0 i) :
    out1_A_4 c i arg3 harg3 arg4 harg4 arg5 harg5 arg6 harg6 arg7 harg7 arg8 harg8 arg9 harg9 arg10 harg10 hc0 x0 x1 x2 x3 = lamTile x0 (firstRow k1_pay3) x3 (firstRow k1_pay4) := by
  unfold out1_A_4
  rw [View.read_writes_eq_canon _ _ _ (cover1_A_4 c i arg3 harg3 arg4 harg4 arg5 harg5 arg6 harg6 arg7 harg7 arg8 harg8 arg9 harg9 arg10 harg10 hc0 x0 x1 x2 x3)]
  unfold kernelRun1_A
  dsimp only
  sl_unfold_words
  rw [View.canon_unit_zero hz3]
  simp only [View.readAt_eq_ld, harg3.read_unread, harg4.read_unread, harg5.read_unread, harg6.read_unread, View.ld_unit_zero (S := S1x1x256x1024) hz4, View.ld_unit_zero (S := S1x256x1024) hz3, View.ld_unit_zero (S := S1x8x1024) hz3]
  rw [View.readCov_fill (s := S8x1024) _ _ _ _ _ (by decide), View.readCov_fill (s := S8x1024) _ _ _ _ _ (by decide)]
theorem out1_A5 (hc0 : cond1_0 i) :
    out1_A_5 c i arg3 harg3 arg4 harg4 arg5 harg5 arg6 harg6 arg7 harg7 arg8 harg8 arg9 harg9 arg10 harg10 hc0 x0 x1 x2 x3 = daTile (BitVec.ofNat 32 (i 2).val) x0 (firstRow k1_pay3) x3 (firstRow k1_pay4) x2 x1 := by
  unfold out1_A_5
  rw [View.read_writes_eq_canon _ _ _ (cover1_A_5 c i arg3 harg3 arg4 harg4 arg5 harg5 arg6 harg6 arg7 harg7 arg8 harg8 arg9 harg9 arg10 harg10 hc0 x0 x1 x2 x3)]
  unfold kernelRun1_A
  dsimp only
  sl_unfold_words
  rw [View.canon_unit_zero hz3]
  simp only [View.readAt_eq_ld, harg3.read_unread, harg4.read_unread, harg5.read_unread, harg6.read_unread, View.ld_unit_zero (S := S1x1x256x1024) hz4, View.ld_unit_zero (S := S1x256x1024) hz3, View.ld_unit_zero (S := S1x8x1024) hz3]
  rw [View.readCov_fill (s := S8x1024) _ _ _ _ _ (by decide), View.readCov_fill (s := S8x1024) _ _ _ _ _ (by decide)]
theorem sout1_A0 (hc0 : cond1_0 i) :
    sout1_A_0 c i arg3 harg3 arg4 harg4 arg5 harg5 arg6 harg6 arg7 harg7 arg8 harg8 arg9 harg9 arg10 harg10 hc0 x0 x1 x2 x3 = decayCarry x0 := by
  unfold sout1_A_0
  rw [View.read_writes_eq_canon _ _ _ (scover1_A_0 c i arg3 harg3 arg4 harg4 arg5 harg5 arg6 harg6 arg7 harg7 arg8 harg8 arg9 harg9 arg10 harg10 hc0 x0 x1 x2 x3)]
  unfold kernelRun1_A
  dsimp only
  sl_unfold_words
  rw [View.canon_cons_unit_zero (S := S8x1024) hz2]
  simp only [View.readAt_eq_ld, harg3.read_unread, harg4.read_unread, harg5.read_unread, harg6.read_unread, View.ld_unit_zero (S := S1x1x256x1024) hz4, View.ld_unit_zero (S := S1x256x1024) hz3, View.ld_unit_zero (S := S1x8x1024) hz3]
theorem sout1_A1 (hc0 : cond1_0 i) :
    sout1_A_1 c i arg3 harg3 arg4 harg4 arg5 harg5 arg6 harg6 arg7 harg7 arg8 harg8 arg9 harg9 arg10 harg10 hc0 x0 x1 x2 x3 = lamCarry x0 (firstRow k1_pay3) x3 (firstRow k1_pay4) := by
  unfold sout1_A_1
  rw [View.read_writes_eq_canon _ _ _ (scover1_A_1 c i arg3 harg3 arg4 harg4 arg5 harg5 arg6 harg6 arg7 harg7 arg8 harg8 arg9 harg9 arg10 harg10 hc0 x0 x1 x2 x3)]
  unfold kernelRun1_A
  dsimp only
  sl_unfold_words
  rw [View.canon_cons_unit_zero (S := S8x1024) hz2]
  simp only [View.readAt_eq_ld, harg3.read_unread, harg4.read_unread, harg5.read_unread, harg6.read_unread, View.ld_unit_zero (S := S1x1x256x1024) hz4, View.ld_unit_zero (S := S1x256x1024) hz3, View.ld_unit_zero (S := S1x8x1024) hz3]
  rw [View.readCov_fill (s := S8x1024) _ _ _ _ _ (by decide), View.readCov_fill (s := S8x1024) _ _ _ _ _ (by decide)]
end

end Cert.Scan

end
-- ==== Proof.BwdValue.lean ====
module

public import proofs.«01_k».proof.Proof.FwdValue
public import proofs.«01_k».proof.Proof.BwdPoint

/-! The second kernel's outputs over the reals: the gradients of the states and of the decays. -/

@[expose] public section

set_option maxRecDepth 16384

noncomputable section

namespace Cert.Scan

open Cert.KernelIdeal Cert.KernelIdeal.Gen
open Idealize.ShloMosaic Idealize.ShloMosaic.TcCoe Idealize.ShloMosaic.Tactic

/-! ## One tile -/

/-- The decays of a tile moved up one row: the last row is the carried one. -/
theorem shifted (v3 : Vec Ideal S1x1x256x1024 .f32) (v8 : Vec Ideal S1x1024 .f32) (w : Fin 1024) (i : Fin 256) :
    k1_pay6 v3 v8 (ix2 i w) = if h : i.val = 255 then v8 (ix2 (0 : Fin 1) w) else v3 (ix4 (0 : Fin 1) (0 : Fin 1) ⟨i.val + 1, by omega⟩ w) := by
  unfold k1_pay6
  pointwise
  by_cases h : i.val = 255
  · refine (if_pos ((eq_row i 255 (by omega)).mpr h)).trans ?_
    rw [dif_pos h]
  · refine (if_neg (fun e => h ((eq_row i 255 (by omega)).mp e))).trans ?_
    rw [dif_neg h]
    unfold k1_pay5
    pointwise
    refine congrArg v3 (congrArg (fun r => ix4 (0 : Fin 1) (0 : Fin 1) r w) (Fin.ext ?_))
    show (i.val + 256 - 255) % 256 = i.val + 1
    omega

section
variable (v3 : Vec Ideal S1x1x256x1024 .f32) (v8 : Vec Ideal S1x1024 .f32) (v13 : Vec Ideal S1x256x1024 .f32) (v88 : Vec Ideal S1x1024 .f32) (w : Fin 1024)
  (a d : ℕ → EReal) (o : ℕ) (ho : o + 255 < 2304) (ha : ∀ t, 0 ≤ a t ∧ a t ≠ ⊤)
  (h3 : ∀ i : Fin 256, v3 (ix4 (0 : Fin 1) (0 : Fin 1) i w) = a (o + i.val)) (h13 : ∀ i : Fin 256, v13 (ix3 (0 : Fin 1) i w) = d (o + i.val))
  (h8 : 0 ≤ v8 (ix2 (0 : Fin 1) w) ∧ v8 (ix2 (0 : Fin 1) w) ≠ ⊤)
  (hy : v8 (ix2 (0 : Fin 1) w) * v88 (ix2 (0 : Fin 1) w) + d (o + 255) = lam a d (o + 255))

include ho ha h3 h13 h8 hy in
theorem bwd_col (i : Fin 256) : bwdRows v3 v8 v13 v88 (ix2 i w) = lam a d (o + i.val) := by
  have e0 : colB (k1_pay6 v3 v8) w 0 = v8 (ix2 (0 : Fin 1) w) := by
    rw [colB_of _ _ _ (by omega), shifted, dif_pos rfl]
  have es : ∀ j < 256, 0 < j → colB (k1_pay6 v3 v8) w j = a (o + 255 - j + 1) := fun j hj h => by
    rw [colB_of _ _ _ hj, shifted, dif_neg (show ¬(255 - j = 255) by omega), h3]
    exact congrArg a (show o + (255 - j + 1) = o + 255 - j + 1 by omega)
  have ed : ∀ j < 256, colB (shapeCast S256x1024 v13 shapeCasts_S1x256x1024_S256x1024) w j = d (o + 255 - j) := fun j hj => by
    rw [colB_of _ _ _ hj, show o + 255 - j = o + (⟨255 - j, by omega⟩ : Fin 256).val from (show o + 255 - j = o + (255 - j) by omega), ← h13]; pointwise
  have e := tile_bwd v3 v8 v13 w (fun j hj => by
    rcases Nat.eq_zero_or_pos j with rfl | h
    · rw [e0]; exact h8
    · rw [es j hj h]; exact ha _) v88 (255 - i.val) (by omega)
  rw [run_lam a d _ _ o ho es ed _ (by rw [e0, ed 0 (by omega)]; exact hy) (255 - i.val) (by omega), colB_of _ _ _ (by omega)] at e
  rw [show o + 255 - (255 - i.val) = o + i.val by omega] at e
  rw [← e]
  exact congrArg (fun z => bwdRows v3 v8 v13 v88 (ix2 z w)) (Fin.ext (show i.val = 255 - (255 - i.val) by omega))

include ho ha h3 h13 h8 hy in
theorem lamTile_at (i : Fin 256) : lamTile v3 v8 v13 v88 (ix3 (0 : Fin 1) i w) = lam a d (o + i.val) := by
  rw [← bwd_col v3 v8 v13 v88 w a d o ho ha h3 h13 h8 hy i]
  unfold lamTile k1_pay26
  pointwise

include ho ha h3 h13 h8 hy in
theorem lamCarry_at : firstRow (lamCarry v3 v8 v13 v88) (ix2 (0 : Fin 1) w) = lam a d o := by
  have e := bwd_col v3 v8 v13 v88 w a d o ho ha h3 h13 h8 hy (0 : Fin 256)
  rw [show lam a d o = lam a d (o + (0 : Fin 256).val) from rfl, ← e]
  unfold firstRow lamCarry k1_pay2
  pointwise

include h3 in
theorem decayCarry_at : firstRow (decayCarry v3) (ix2 (0 : Fin 1) w) = a o := by
  rw [show a o = a (o + (0 : Fin 256).val) from rfl, ← h3]
  unfold firstRow decayCarry k1_pay1 k1_pay28 k1_pay5
  pointwise

include ho ha h3 h13 h8 hy in
theorem daTile_at (r : ℕ) (hr : r < 9) (v96 : Vec Ideal S1x8x1024 .f32) (v103 : Vec Ideal S1x256x1024 .f32) (h : ℕ → EReal)
    (h103 : ∀ i : Fin 256, v103 (ix3 (0 : Fin 1) i w) = h (o + i.val + 1))
    (h96 : (if r = 8 then (0 : EReal) else v96 (ix3 (0 : Fin 1) (7 : Fin 8) w)) = h o) (i : Fin 256) :
    daTile (BitVec.ofNat 32 r) v3 v8 v13 v88 v96 v103 (ix3 (0 : Fin 1) i w) = lam a d (o + i.val) * h (o + i.val) := by
  rw [← bwd_col v3 v8 v13 v88 w a d o ho ha h3 h13 h8 hy i]
  unfold daTile k1_pay27
  pointwise
  refine congrArg (fun z : EReal => bwdRows v3 v8 v13 v88 (ix2 i w) * z) ?_
  by_cases h0 : i.val = 0
  · refine (if_pos ((eq_row i 0 (by omega)).mpr h0)).trans ?_
    rw [h0, Nat.add_zero, ← h96]
    by_cases h8 : r = 8
    · subst h8
      rfl
    · rw [if_neg h8]
      refine if_neg (fun e => h8 ?_)
      exact (eq_row (⟨r, by omega⟩ : Fin 256) 8 (by omega)).mp e
  · refine (if_neg (fun e => h0 ((eq_row i 0 (by omega)).mp e))).trans ?_
    have hi := i.isLt
    refine (h103 _).trans (congrArg h ?_)
    show o + (i.val + 256 - 1) % 256 + 1 = o + i.val
    omega
end

theorem zero3 (w : Fin 1024) : firstRow (F := Ideal) (k1_pay3 (F := Ideal)) (ix2 (0 : Fin 1) w) = 0 := by
  unfold firstRow k1_pay3
  pointwise
theorem zero4 (w : Fin 1024) : firstRow (F := Ideal) (k1_pay4 (F := Ideal)) (ix2 (0 : Fin 1) w) = 0 := by
  unfold firstRow k1_pay4
  pointwise

/-! ## The blocks -/

theorem idx1_eq : ∀ t : Fin cfg1.N, win1_0.index t = ![0, t.val / 9, 8 - t.val % 9, 0] ∧ win1_1.index t = ![t.val / 9, 8 - t.val % 9, 0] ∧
    win1_2.index t = ![t.val / 9, (8 - t.val % 9) * 32 - 1, 0] ∧ win1_3.index t = ![t.val / 9, 8 - t.val % 9, 0] ∧ win1_4.index t = ![t.val / 9, 8 - t.val % 9, 0] ∧
    win1_5.index t = ![t.val / 9, 8 - t.val % 9, 0] ∧ (grid1.coords t 2).val = t.val % 9 :=
  (by decide +kernel : ∀ t : Fin grid1.N, win1_0.index t = ![0, t.val / 9, 8 - t.val % 9, 0] ∧ win1_1.index t = ![t.val / 9, 8 - t.val % 9, 0] ∧
    win1_2.index t = ![t.val / 9, (8 - t.val % 9) * 32 - 1, 0] ∧ win1_3.index t = ![t.val / 9, 8 - t.val % 9, 0] ∧ win1_4.index t = ![t.val / 9, 8 - t.val % 9, 0] ∧
    win1_5.index t = ![t.val / 9, 8 - t.val % 9, 0] ∧ (grid1.coords t 2).val = t.val % 9)

theorem lt1 (t : Fin cfg1.N) : t.val < 18 := lt_of_lt_of_eq t.isLt N_1

/-- The first row of a grid point's tile. -/
abbrev org (n : ℕ) : ℕ := 256 * (8 - n % 9)

variable (V : (c : Dev nD) → (b : Ref sig .tc) → Buf (Elt Ideal) ((c : Thread nD τ).loc b))

theorem blk1_0 (c : Dev nD) (t : Fin cfg1.N) (i : Fin 256) (w : Fin 1024) :
    iblk1 V c 0 t (ix4 (0 : Fin 1) (0 : Fin 1) i w) = chan4 (V c main_arg0) (bat t.val (lt1 t)) w (org t.val + i.val) := by
  have ht := lt1 t
  have hi := i.isLt
  rw [show org t.val + i.val = (⟨256 * (8 - t.val % 9) + i.val, by omega⟩ : Fin 2304).val from rfl, chan4_of]
  obtain ⟨e0, e1, e2, e3, e4, e5, e6⟩ := idx1_eq t
  blk_ext [iblk1, e0]
theorem blk1_3 (c : Dev nD) (t : Fin cfg1.N) (i : Fin 256) (w : Fin 1024) :
    iblk1 V c 3 t (ix3 (0 : Fin 1) i w) = chan3 (V c main_arg2) (bat t.val (lt1 t)) w (org t.val + i.val) := by
  have ht := lt1 t
  have hi := i.isLt
  rw [show org t.val + i.val = (⟨256 * (8 - t.val % 9) + i.val, by omega⟩ : Fin 2304).val from rfl, chan3_of]
  obtain ⟨e0, e1, e2, e3, e4, e5, e6⟩ := idx1_eq t
  blk_ext [iblk1, e3]
theorem blk1_1 (c : Dev nD) (t : Fin cfg1.N) (i : Fin 256) (w : Fin 1024) :
    iblk1 V c 1 t (ix3 (0 : Fin 1) i w) = chan3 (V c main_v0) (bat t.val (lt1 t)) w (org t.val + i.val) := by
  have ht := lt1 t
  have hi := i.isLt
  rw [show org t.val + i.val = (⟨256 * (8 - t.val % 9) + i.val, by omega⟩ : Fin 2304).val from rfl, chan3_of]
  obtain ⟨e0, e1, e2, e3, e4, e5, e6⟩ := idx1_eq t
  blk_ext [iblk1, e1]
theorem blk1_2 (c : Dev nD) (t : Fin cfg1.N) (h8 : ¬t.val % 9 = 8) (w : Fin 1024) :
    iblk1 V c 2 t (ix3 (0 : Fin 1) (7 : Fin 8) w) = chan3 (V c main_v0) (bat t.val (lt1 t)) w (org t.val - 1) := by
  have ht := lt1 t
  rw [show org t.val - 1 = (⟨256 * (8 - t.val % 9) - 1, by omega⟩ : Fin 2304).val from rfl, chan3_of]
  obtain ⟨e0, e1, e2, e3, e4, e5, e6⟩ := idx1_eq t
  blk_ext [iblk1, e2]

/-! ## The points -/

variable (hpos : ∀ (c : Dev nD) (b : Fin 2) (w : Fin 1024) (t : ℕ), 0 ≤ chan4 (V c main_arg0) b w t ∧ chan4 (V c main_arg0) b w t ≠ ⊤)
  (G : Dev nD → Fin 2 → Fin 1024 → ℕ → EReal) (hG : ∀ c b w t, t < 2304 → chan3 (V c main_v0) b w t = G c b w (t + 1)) (hG0 : ∀ c b w, G c b w 0 = 0)

/-- The gradients of the states of a grid point's batch and channel. -/
abbrev lm (c : Dev nD) (b : Fin 2) (w : Fin 1024) : ℕ → EReal := lam (chan4 (V c main_arg0) b w) (chan3 (V c main_arg2) b w)

/-- The row beneath the last row of the last tile is zero, and so is what comes from there. -/
theorem enter_A (c : Dev nD) (n : ℕ) (hn : n < 18) (h0 : n % 9 = 0) (w : Fin 1024) :
    (0 : EReal) * 0 + chan3 (V c main_arg2) (bat n hn) w (org n + 255) = lm V c (bat n hn) w (org n + 255) := by
  rw [zero_mul, zero_add, show org n + 255 = 2303 by show 256 * (8 - n % 9) + 255 = 2303; omega, lm, lam_last]

theorem enter_B (c : Dev nD) (n : ℕ) (hn : n < 18) (h0 : ¬n % 9 = 0) (w : Fin 1024) :
    chan4 (V c main_arg0) (bat n hn) w (org n + 255 + 1) * lm V c (bat n hn) w (org n + 255 + 1) + chan3 (V c main_arg2) (bat n hn) w (org n + 255) = lm V c (bat n hn) w (org n + 255) :=
  (lam_step _ _ _ (by show 256 * (8 - n % 9) + 255 < 2303; omega)).symm

theorem org_lt (n : ℕ) : org n + 255 < 2304 := by show 256 * (8 - n % 9) + 255 < 2304; omega

include hpos in
/-- What a grid point leaves for the next: the first row of its decays and of its gradients. -/
theorem carry1 (c : Dev nD) (w : Fin 1024) : ∀ (n : ℕ) (h : n < cfg1.N),
    firstRow (outsAt1 V c n h).2.2.1 (ix2 (0 : Fin 1) w) = chan4 (V c main_arg0) (bat n (lt1 ⟨n, h⟩)) w (org n) ∧
    firstRow (outsAt1 V c n h).2.2.2 (ix2 (0 : Fin 1) w) = lm V c (bat n (lt1 ⟨n, h⟩)) w (org n) := by
  have hA : ∀ (t : Fin cfg1.N), t.val % 9 = 0 →
      firstRow (outsAt1 V c t.val t.isLt).2.2.1 (ix2 (0 : Fin 1) w) = chan4 (V c main_arg0) (bat t.val (lt1 t)) w (org t.val) ∧
      firstRow (outsAt1 V c t.val t.isLt).2.2.2 (ix2 (0 : Fin 1) w) = lm V c (bat t.val (lt1 t)) w (org t.val) := fun t h0 => by
    rw [outsAt1_A V c t h0, sout1_A0, sout1_A1]
    refine ⟨decayCarry_at _ w _ _ (fun i => blk1_0 V c t i w), lamCarry_at _ _ _ _ w _ _ _ (org_lt _) (hpos c _ w) (fun i => blk1_0 V c t i w) (fun i => blk1_3 V c t i w) ?_ ?_⟩
    · rw [zero3]; exact ⟨le_refl _, EReal.zero_ne_top⟩
    · rw [zero3, zero4]; exact enter_A V c t.val (lt1 t) h0 w
  intro n
  induction n with
  | zero => exact fun h => hA ⟨0, h⟩ rfl
  | succ n ih =>
    intro h
    have hn := lt1 ⟨n + 1, h⟩
    by_cases h0 : (n + 1) % 9 = 0
    · exact hA ⟨n + 1, h⟩ h0
    · obtain ⟨i1, i2⟩ := ih (Nat.lt_of_succ_lt h)
      have eb : bat n (lt1 ⟨n, Nat.lt_of_succ_lt h⟩) = bat (n + 1) hn := Fin.ext (show n / 9 = (n + 1) / 9 by omega)
      have eo : org n = org (n + 1) + 255 + 1 := by show 256 * (8 - n % 9) = 256 * (8 - (n + 1) % 9) + 255 + 1; omega
      rw [eb, eo] at i1 i2
      rw [outsAt1_B V c ⟨n + 1, h⟩ h0, sout1_B0, sout1_B1]
      refine ⟨decayCarry_at _ w _ _ (fun i => blk1_0 V c ⟨n + 1, h⟩ i w), lamCarry_at _ _ _ _ w _ _ _ (org_lt _) (hpos c _ w) (fun i => blk1_0 V c ⟨n + 1, h⟩ i w) (fun i => blk1_3 V c ⟨n + 1, h⟩ i w) ?_ ?_⟩
      · exact i1.symm ▸ hpos c _ w _
      · refine Eq.trans ?_ (enter_B V c (n + 1) hn h0 w)
        exact congrArg₂ (fun y z : EReal => y * z + _) i1 i2

/-- The row a grid point receives: zeros at a batch's first point, else what the point before it left. -/
def inDecay (c : Dev nD) (t : Fin cfg1.N) : Vec Ideal S1x1024 .f32 :=
  if t.val % 9 = 0 then firstRow (F := Ideal) (k1_pay3 (F := Ideal)) else firstRow (outsAt1 V c (t.val - 1) (Nat.lt_of_le_of_lt (Nat.sub_le _ _) t.isLt)).2.2.1
def inLam (c : Dev nD) (t : Fin cfg1.N) : Vec Ideal S1x1024 .f32 :=
  if t.val % 9 = 0 then firstRow (F := Ideal) (k1_pay4 (F := Ideal)) else firstRow (outsAt1 V c (t.val - 1) (Nat.lt_of_le_of_lt (Nat.sub_le _ _) t.isLt)).2.2.2

include hpos in
theorem in_at (c : Dev nD) (t : Fin cfg1.N) (w : Fin 1024) :
    (0 ≤ inDecay V c t (ix2 (0 : Fin 1) w) ∧ inDecay V c t (ix2 (0 : Fin 1) w) ≠ ⊤) ∧
    inDecay V c t (ix2 (0 : Fin 1) w) * inLam V c t (ix2 (0 : Fin 1) w) + chan3 (V c main_arg2) (bat t.val (lt1 t)) w (org t.val + 255) = lm V c (bat t.val (lt1 t)) w (org t.val + 255) := by
  have ht := lt1 t
  unfold inDecay inLam
  by_cases h0 : t.val % 9 = 0
  · rw [if_pos h0, if_pos h0, zero3, zero4]
    exact ⟨⟨le_refl _, EReal.zero_ne_top⟩, enter_A V c t.val ht h0 w⟩
  · rw [if_neg h0, if_neg h0]
    obtain ⟨i1, i2⟩ := carry1 V hpos c w (t.val - 1) (Nat.lt_of_le_of_lt (Nat.sub_le _ _) t.isLt)
    have eb : bat (t.val - 1) (lt1 ⟨t.val - 1, Nat.lt_of_le_of_lt (Nat.sub_le _ _) t.isLt⟩) = bat t.val ht := Fin.ext (show (t.val - 1) / 9 = t.val / 9 by omega)
    have eo : org (t.val - 1) = org t.val + 255 + 1 := by show 256 * (8 - (t.val - 1) % 9) = 256 * (8 - t.val % 9) + 255 + 1; omega
    rw [eb, eo] at i1 i2
    rw [i1, i2]
    exact ⟨hpos c _ w _, enter_B V c t.val ht h0 w⟩

theorem outs_4 (c : Dev nD) (t : Fin cfg1.N) : (outsAt1 V c t.val t.isLt).1 = lamTile (iblk1 V c 0 t) (inDecay V c t) (iblk1 V c 3 t) (inLam V c t) := by
  unfold inDecay inLam
  by_cases h0 : t.val % 9 = 0
  · rw [if_pos h0, if_pos h0, outsAt1_A V c t h0, out1_A4]
  · rw [if_neg h0, if_neg h0, outsAt1_B V c t h0, out1_B4]
theorem outs_5 (c : Dev nD) (t : Fin cfg1.N) : (outsAt1 V c t.val t.isLt).2.1 =
    daTile (BitVec.ofNat 32 (t.val % 9)) (iblk1 V c 0 t) (inDecay V c t) (iblk1 V c 3 t) (inLam V c t) (iblk1 V c 2 t) (iblk1 V c 1 t) := by
  rw [← (idx1_eq t).2.2.2.2.2.2]
  unfold inDecay inLam
  by_cases h0 : t.val % 9 = 0
  · rw [if_pos h0, if_pos h0, outsAt1_A V c t h0, out1_A5]
  · rw [if_neg h0, if_neg h0, outsAt1_B V c t h0, out1_B5]

include hpos in
theorem tile4 (c : Dev nD) (t : Fin cfg1.N) (i : Fin 256) (w : Fin 1024) :
    (outsAt1 V c t.val t.isLt).1 (ix3 (0 : Fin 1) i w) = lm V c (bat t.val (lt1 t)) w (org t.val + i.val) := by
  rw [outs_4]
  exact lamTile_at _ _ _ _ w _ _ _ (org_lt _) (hpos c _ w) (fun i => blk1_0 V c t i w) (fun i => blk1_3 V c t i w) (in_at V hpos c t w).1 (in_at V hpos c t w).2 i

include hpos hG hG0 in
theorem tile5 (c : Dev nD) (t : Fin cfg1.N) (i : Fin 256) (w : Fin 1024) :
    (outsAt1 V c t.val t.isLt).2.1 (ix3 (0 : Fin 1) i w) = lm V c (bat t.val (lt1 t)) w (org t.val + i.val) * G c (bat t.val (lt1 t)) w (org t.val + i.val) := by
  have ht := lt1 t
  rw [outs_5]
  refine daTile_at _ _ _ _ w _ _ _ (org_lt _) (hpos c _ w) (fun i => blk1_0 V c t i w) (fun i => blk1_3 V c t i w) (in_at V hpos c t w).1 (in_at V hpos c t w).2 (t.val % 9) (by omega) _ _ _ ?_ ?_ i
  · intro i
    have hi := i.isLt
    have ho := org_lt t.val
    rw [blk1_1, hG _ _ _ _ (by omega)]
  · by_cases h8 : t.val % 9 = 8
    · rw [if_pos h8, show org t.val = 0 by show 256 * (8 - t.val % 9) = 0; omega, hG0]
    · have ho := org_lt t.val
      have hp : 0 < org t.val := by show 0 < 256 * (8 - t.val % 9); omega
      rw [if_neg h8, blk1_2 V c t h8, hG _ _ _ _ (by omega), Nat.sub_add_cancel hp]

/-! ## The arrays -/

/-- The gradients of the states and of the decays. -/
def lamsOf (c : Dev nD) : Vec Ideal S2x2304x1024 .f32 := fun i => lm V c (i 0) (i 2) (i 1).val
def dasOf (c : Dev nD) : Vec Ideal S2x2304x1024 .f32 := fun i => lm V c (i 0) (i 2) (i 1).val * G c (i 0) (i 2) (i 1).val

include hpos in
theorem lams_arr (c : Dev nD) : (dat1 V c).arrAt 4 cfg1.N = lamsOf V c := by
  refine (dat1 V c).arrAt_eq_of_covers 4 _ (by decide +kernel) fun t hf y => ?_
  obtain ⟨e0, e1, e2, e3, e4, e5, e6⟩ := idx1_eq t
  blk_simp
  rw [after1_4]
  have q0 : (win1_4.blk t).view.emb y 0 = bat t.val (lt1 t) := Fin.ext (by blk_simp [e4])
  have q1 : ((win1_4.blk t).view.emb y 1).val = org t.val + (y 1).val := by blk_simp [e4, Nat.mul_comm]
  have q2 : (win1_4.blk t).view.emb y 2 = y 2 := Fin.ext (by blk_simp [e4])
  unfold lamsOf
  rw [q0, q1, q2]
  refine Eq.trans (congrArg (outsAt1 V c t.val t.isLt).1 (?_ : (y : S1x256x1024.Idx) = ix3 (0 : Fin 1) (y 1) (y 2))) (tile4 V hpos c t (y 1) (y 2))
  exact (eq_ix3 y).trans (congrArg (fun z => ix3 z (y 1) (y 2)) (Subsingleton.elim (α := Fin 1) _ _))

include hpos hG hG0 in
theorem das_arr (c : Dev nD) : (dat1 V c).arrAt 5 cfg1.N = dasOf V G c := by
  refine (dat1 V c).arrAt_eq_of_covers 5 _ (by decide +kernel) fun t hf y => ?_
  obtain ⟨e0, e1, e2, e3, e4, e5, e6⟩ := idx1_eq t
  blk_simp
  rw [after1_5]
  have q0 : (win1_5.blk t).view.emb y 0 = bat t.val (lt1 t) := Fin.ext (by blk_simp [e5])
  have q1 : ((win1_5.blk t).view.emb y 1).val = org t.val + (y 1).val := by blk_simp [e5, Nat.mul_comm]
  have q2 : (win1_5.blk t).view.emb y 2 = y 2 := Fin.ext (by blk_simp [e5])
  unfold dasOf
  rw [q0, q1, q2]
  refine Eq.trans (congrArg (outsAt1 V c t.val t.isLt).2.1 (?_ : (y : S1x256x1024.Idx) = ix3 (0 : Fin 1) (y 1) (y 2))) (tile5 V hpos G hG hG0 c t (y 1) (y 2))
  exact (eq_ix3 y).trans (congrArg (fun z => ix3 z (y 1) (y 2)) (Subsingleton.elim (α := Fin 1) _ _))

end Cert.Scan

end
-- ==== Proof.Decays.lean ====
module

public import proofs.«01_k».proof.Pre_decays
public import proofs.«01_k».proof.Proof.FwdValue
public import Idealize.ShloMosaic.Lib.IdealHost

/-! What the precondition says of the decays: each is zero or more, and none is infinite. -/

@[expose] public section

set_option maxRecDepth 16384

noncomputable section

namespace Cert.Scan

open Idealize.ShloMosaic Idealize.ShloMosaic.Tactic

theorem decays_facts : Cert.Pre_decays.Facts where
  slices_S2x2x2304x1024_S1x2x2304x1024_0_0_0_0 := by decide
  shapeCasts_S1x2x2304x1024_S2x2304x1024 := by decide
  bcast_S_S2x2304x1024 := by decide

theorem decays_read [Cert.Pre_decays.Facts] (A X : Vec Ideal Cert.KernelIdeal.S2x2x2304x1024 .f32) (D : Vec Ideal Cert.KernelIdeal.S2x2304x1024 .f32)
    (h : Cert.Pre_decays.fn (F := Ideal) A X D = fun _ => 1#1) (b : Fin 2) (t : Fin 2304) (w : Fin 1024) :
    0 ≤ A (ix4 (0 : Fin 2) b t w) ∧ A (ix4 (0 : Fin 2) b t w) ≠ ⊤ := by
  have e := congrFun h (ix3 b t w)
  unfold Cert.Pre_decays.fn at e
  dsimp only at e
  revert e
  pointwise
  intro e
  by_cases h1 : (0 : EReal) ≤ A (ix4 (0 : Fin 2) b t w)
  · refine ⟨h1, fun h2 => ?_⟩
    rw [decide_eq_false (fun h3 : A (ix4 (0 : Fin 2) b t w) < _ => ne_top_of_lt h3 h2)] at e
    rw [decide_eq_true h1] at e
    exact absurd e (by decide)
  · rw [decide_eq_false h1] at e
    generalize decide (A (ix4 (0 : Fin 2) b t w) < Ideal.ofBits FTy.f32 2139095040#32) = q at e
    exact absurd e ((by decide : ∀ q : Bool, ¬IntOp.andi (BitVec.ofBool false) (BitVec.ofBool q) = 1#1) q)

theorem decays_chan [Cert.Pre_decays.Facts] (A X : Vec Ideal Cert.KernelIdeal.S2x2x2304x1024 .f32) (D : Vec Ideal Cert.KernelIdeal.S2x2304x1024 .f32)
    (h : Cert.Pre_decays.fn (F := Ideal) A X D = fun _ => 1#1) (b : Fin 2) (w : Fin 1024) (t : ℕ) : 0 ≤ chan4 A b w t ∧ chan4 A b w t ≠ ⊤ := by
  unfold chan4
  split
  · exact decays_read A X D h b _ w
  · exact ⟨le_refl _, EReal.zero_ne_top⟩

end Cert.Scan

end
-- ==== Proof.TwoLoops.lean ====
module

public import Idealize.ShloMosaic.Lib.StableHlo.RunLoop

/-! The run of a host-only program with two counted loops: stretches, a loop, stretches, a second loop, stretches. -/

@[expose] public section

noncomputable section

namespace Cert.Scan

open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)

variable {nD : Nat} {τ : Topo} {sig : RefSig} {F : FTy → Type} {Λ₀ : Labels}

local notation "𝕄" => MT nD τ sig Unit (Elt F) ℕ (Option PUnit) ℕ

variable (pcs : Fin 0 → PCfg sig Λ₀ (Elt F)) (defs₀ : Defs nD τ sig (Elt F) Λ₀) {nL : Nat}
  (loops : Fin nL → Prog (TpuEff nD τ sig (Elt F) (HostLoop.Sig (Pipeline.Sig Λ₀ (Fin 0) fun p => (pcs p).Adm) nL) .tc) PUnit)

abbrev noAdm : (p : Fin 0) → (pcs p).Adm := fun p => p.elim0
abbrev noTickets : Fin 0 → Ticket (Ix := Unit) (Name := ℕ) (U := Option PUnit) (Lvl := ℕ) (nD := nD) (τ := τ) pcs (noAdm pcs) := fun j => j.elim0
abbrev noCells : GSem nD τ sig → Finset Unit := fun _ => ∅
abbrev noLevel : GSem nD τ sig → Unit → ℕ := fun _ _ => 0

theorem noCells_injective : Function.Injective (Pipeline.cellOf (nD := nD) (τ := τ) (Pipeline.pin pcs (noAdm pcs))) :=
  fun k => k.1.elim0

/-- What stays beside the buffers: the core owes nothing. -/
abbrev Beside (c : Dev nD) : sProp 𝕄 := iprop(∃ W, owes (c : Thread nD τ) (0 : CellTallies nD τ sig Unit) W)

variable {pcs defs₀ loops}

/-- A condition's specification with what stays beside the buffers carried through it. -/
theorem condBeside {cond : Prog (TpuEff nD τ sig (Elt F) (HostLoop.Sig (Pipeline.Sig Λ₀ (Fin 0) fun p => (pcs p).Adm) nL) .tc) (Elt F .i1)}
    {condOps : List (HloOp τ sig (Elt F))} {bodyI : List (List (HloOp τ sig (Elt F)))} {W₀ : Dev nD → Valuation τ sig (Elt F)} {n : ℕ}
    (hcond : CondSpec pcs defs₀ loops cond condOps bodyI W₀ n) :
    LoopCond (Ix := Unit) (Name := ℕ) (U := Option PUnit) (Lvl := ℕ) pcs defs₀ Variants.none loops Beside cond condOps bodyI W₀ n := fun k hk c bd => by
  have hp : ∀ v : Elt F .i1,
      iprop(iprop(⌜v = 1#1 ↔ k < n⌝ ∗ boundary (c : Thread nD τ) ∗ held (c : Thread nD τ) (ucRefs τ sig) (after condOps (atTrip condOps bodyI W₀ k c))) ∗ Beside c)
        ⊢ (iprop(⌜v = 1#1 ↔ k < n⌝ ∗ boundary (c : Thread nD τ) ∗ held (c : Thread nD τ) (ucRefs τ sig) (after condOps (atTrip condOps bodyI W₀ k c)) ∗ Beside c) : sProp 𝕄) := fun v => by
    iintro ⟨⟨%hv, Hb, Hh⟩, HR⟩
    isplitr; · ipureintro; exact hv
    isplitl [Hb]; · iexact Hb
    isplitl [Hh]; · iexact Hh
    iexact HR
  refine BIBase.Entails.trans ?_ (((sep_mono_left (hcond k hk c bd)).trans (wp_frame_r _ _ _)).trans (wp_mono _ _ _ hp))
  iintro ⟨Hb, Hh, HR⟩
  isplitl [Hb Hh]
  · isplitl [Hb]; · iexact Hb
    iexact Hh
  iexact HR

variable (pcs defs₀ loops)

/-- Every execution of `pre ; loop ; mid ; loop ; post` ends, each tensor buffer at the fold of the operations and every counter at zero. -/
theorem run_two_loops [∀ e, Nonempty (Elt F e)]
    (main : Dev nD → Prog (TpuEff nD τ sig (Elt F) (HostLoop.Sig (Pipeline.Sig Λ₀ (Fin 0) fun p => (pcs p).Adm) nL) .tc) PUnit)
    (l : Fin nL)
    (cond : Prog (TpuEff nD τ sig (Elt F) (HostLoop.Sig (Pipeline.Sig Λ₀ (Fin 0) fun p => (pcs p).Adm) nL) .tc) (Elt F .i1))
    (body : Prog (TpuEff nD τ sig (Elt F) (HostLoop.Sig (Pipeline.Sig Λ₀ (Fin 0) fun p => (pcs p).Adm) nL) .tc) PUnit)
    (hloops : loops l = HostLoop.step l cond body)
    (l' : Fin nL)
    (cond' : Prog (TpuEff nD τ sig (Elt F) (HostLoop.Sig (Pipeline.Sig Λ₀ (Fin 0) fun p => (pcs p).Adm) nL) .tc) (Elt F .i1))
    (body' : Prog (TpuEff nD τ sig (Elt F) (HostLoop.Sig (Pipeline.Sig Λ₀ (Fin 0) fun p => (pcs p).Adm) nL) .tc) PUnit)
    (hloops' : loops l' = HostLoop.step l' cond' body')
    (preI bodyI midI bodyI' postI : List (List (HloOp τ sig (Elt F)))) (condOps condOps' : List (HloOp τ sig (Elt F)))
    (hpre : Plain preI) (hbodyI : Plain bodyI) (hmid : Plain midI) (hbodyI' : Plain bodyI') (hpost : Plain postI)
    (hmain : ∀ c, main c = Pipeline.chain ((preI.map fun ops => (seq ops : Prog _ PUnit)) ++ HostLoop.enter l ::
      ((midI.map fun ops => (seq ops : Prog _ PUnit)) ++ HostLoop.enter l' :: postI.map fun ops => (seq ops : Prog _ PUnit))))
    (hbody : body = Pipeline.chain (bodyI.map fun ops => (seq ops : Prog _ PUnit)))
    (hbody' : body' = Pipeline.chain (bodyI'.map fun ops => (seq ops : Prog _ PUnit)))
    (n n' : ℕ) (m : (ℓ : Loc nD τ sig) → Buf (Elt F) ℓ) (ρ : Dev nD → PrngReg)
    (hsem : ∀ sm : SemLoc sig, sm.isScoped .tc = true)
    (hcond : CondSpec pcs defs₀ loops cond condOps bodyI (entryContents preI m) n)
    (hcond' : CondSpec pcs defs₀ loops cond' condOps' bodyI'
      (fun c => afterL midI (after condOps (atTrip condOps bodyI (entryContents preI m) n c))) n') :
    θ_run (HostLoop.defs loops (Pipeline.defs pcs defs₀)) (onTc (τ := τ) main) ⟨m, fun _ => 0, ρ⟩
      (fun r => (∀ (c : Dev nD) (b : Ref sig .tc), (Proc.devRef .tc b : DevRef τ sig).isScoped = false →
        r.2.mem ((c.tc : Thread nD τ).loc b)
          = afterL postI (after condOps' (atTrip condOps' bodyI'
              (fun c => afterL midI (after condOps (atTrip condOps bodyI (entryContents preI m) n c))) n' c)) (Proc.devRef .tc b))
        ∧ r.2.sem = fun _ => 0) := by
  let X0 : Dev nD → Valuation τ sig (Elt F) := fun c => after condOps (atTrip condOps bodyI (entryContents preI m) n c)
  let X1 : Dev nD → Valuation τ sig (Elt F) := fun c => after condOps' (atTrip condOps' bodyI' (fun c => afterL midI (X0 c)) n' c)
  let segs : List (CSeg pcs (noAdm pcs) defs₀ Variants.none noCells noLevel loops (noTickets pcs)) :=
    segsOf _ _ _ _ _ _ _ _ Beside preI hpre (launchContents m)
      ++ loopSeg _ _ _ _ _ _ _ _ l cond body hloops condOps bodyI hbodyI hbody n (entryContents preI m) Beside (condBeside hcond)
        :: (segsOf _ _ _ _ _ _ _ _ Beside midI hmid X0
          ++ loopSeg _ _ _ _ _ _ _ _ l' cond' body' hloops' condOps' bodyI' hbodyI' hbody' n' (fun c => afterL midI (X0 c)) Beside (condBeside hcond')
            :: segsOf _ _ _ _ _ _ _ _ Beside postI hpost X1)
  have hprog : segs.map CSeg.prog = (preI.map fun ops => (seq ops : Prog _ PUnit)) ++ HostLoop.enter l ::
      ((midI.map fun ops => (seq ops : Prog _ PUnit)) ++ HostLoop.enter l' :: postI.map fun ops => (seq ops : Prog _ PUnit)) := by
    simp only [segs]
    rw [List.map_append, List.map_cons, List.map_append, List.map_cons, segsOf_prog, segsOf_prog, segsOf_prog]
    rfl
  have hchains : CSeg.Chains (fun c => iprop(held (c : Thread nD τ) (ucRefs τ sig) (launchContents m c) ∗ Beside c)) segs
      (fun c => iprop(iprop(held (c : Thread nD τ) (ucRefs τ sig) (afterL postI (X1 c))) ∗ ∃ W, owes (c : Thread nD τ) (0 : CellTallies nD τ sig Unit) W)) :=
    CSeg.Chains.append (segsOf_chains _ _ _ _ _ _ _ _ Beside preI hpre _)
      ⟨fun _ => .rfl, CSeg.Chains.append (segsOf_chains _ _ _ _ _ _ _ _ Beside midI hmid _)
        ⟨fun _ => .rfl, segsOf_chains _ _ _ _ _ _ _ _ Beside postI hpost _⟩⟩
  exact Pipeline.θ_run_regions_loop_kit_sems (Ix := Unit) (Name := ℕ) (U := Option PUnit) (Lvl := ℕ) (J := Fin 0) (P := Fin 0) (Val := Elt F)
    pcs (noAdm pcs) (noCells_injective pcs) defs₀ Variants.none noCells noLevel loops (noTickets pcs) m ρ main segs
    (fun c Q => by
      rw [hmain c]
      show wp _ _ _ (Pipeline.chain (segs.map CSeg.prog)) Q ⊢ _
      rw [hprog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Beside c))
    (Tₙ := fun c => iprop(held (c : Thread nD τ) (ucRefs τ sig) (afterL postI (X1 c))))
    (hch := hchains)
    (hinit := by
      refine Pipeline.initEach noCells noLevel fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = afterL postI (X1 c) b)
    (hfin := fun c s' => by
      unfold held
      iintro ⟨Hh, HSI⟩
      ihave Hr := (pointsTo_read_all (ucRefs τ sig) (fun b => ((c : Dev nD), b)) (fun b => afterL postI (X1 c) b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (hsem g.2))⟩)

end Cert.Scan

end
-- ==== Proof.RefRun.lean ====
module

public import proofs.«01_k».proof.Proof.Gen.ReferenceIdeal
public import proofs.«01_k».proof.Proof.TwoLoops
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

/-! The reference as stretches of host operations around its two loops, and its run: every buffer ends at the fold of
   those stretches. -/

@[expose] public section

set_option maxRecDepth 16384

noncomputable section

namespace Cert.Scan.Ref

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-- A stretch of the main function's operations, in order. -/
abbrev mainOps0 : List (HloOp τ sig (Elt F)) :=
  [ StableHlo.unary main_arg0 main_v0 ((extractStridedSlice S1x2x2304x1024 ![0, 0, 0, 0] · slices_S2x2x2304x1024_S1x2x2304x1024_0_0_0_0) : (⟨S2x2x2304x1024, .f32⟩ : BufTy).Contents (Elt F) → (⟨S1x2x2304x1024, .f32⟩ : BufTy).Contents (Elt F)),
    StableHlo.reshape main_v0 main_v1 (rfl : (.f32 : EltTy) = .f32) shapeCasts_S1x2x2304x1024_S2x2304x1024,
    StableHlo.unary main_arg1 main_v2 ((extractStridedSlice S1x2x2304x1024 ![0, 0, 0, 0] · slices_S2x2x2304x1024_S1x2x2304x1024_0_0_0_0) : (⟨S2x2x2304x1024, .f32⟩ : BufTy).Contents (Elt F) → (⟨S1x2x2304x1024, .f32⟩ : BufTy).Contents (Elt F)),
    StableHlo.reshape main_v2 main_v3 (rfl : (.f32 : EltTy) = .f32) shapeCasts_S1x2x2304x1024_S2x2304x1024,
    StableHlo.unary main_v3 main_v4 ((extractStridedSlice S2x1x1024 ![0, 0, 0] · slices_S2x2304x1024_S2x1x1024_0_0_0) : (⟨S2x2304x1024, .f32⟩ : BufTy).Contents (Elt F) → (⟨S2x1x1024, .f32⟩ : BufTy).Contents (Elt F)),
    StableHlo.reshape main_v4 main_v5 (rfl : (.f32 : EltTy) = .f32) shapeCasts_S2x1x1024_S2x1024,
    StableHlo.nullary main_cst (constant S_ .f32 0x00000000#32),
    StableHlo.unary main_cst main_v6 (broadcastInDim S2x1024 ![] bcast_S_S2x1024 : (⟨S_, .f32⟩ : BufTy).Contents (Elt F) → (⟨S2x1024, .f32⟩ : BufTy).Contents (Elt F)),
    StableHlo.unary main_v1 main_v7 ((transpose S2304x2x1024 [1, 0, 2] · transposes_S2x2304x1024_S2304x2x1024_1_0_2) : (⟨S2x2304x1024, .f32⟩ : BufTy).Contents (Elt F) → (⟨S2304x2x1024, .f32⟩ : BufTy).Contents (Elt F)),
    StableHlo.unary main_v3 main_v8 ((transpose S2304x2x1024 [1, 0, 2] · transposes_S2x2304x1024_S2304x2x1024_1_0_2) : (⟨S2x2304x1024, .f32⟩ : BufTy).Contents (Elt F) → (⟨S2304x2x1024, .f32⟩ : BufTy).Contents (Elt F)),
    StableHlo.nullary main_cst_0 (constant S_ .f32 0x00000000#32),
    StableHlo.unary main_cst_0 main_v9 (broadcastInDim S2304x2x1024 ![] bcast_S_S2304x2x1024 : (⟨S_, .f32⟩ : BufTy).Contents (Elt F) → (⟨S2304x2x1024, .f32⟩ : BufTy).Contents (Elt F)),
    StableHlo.nullary main_cst_1 (constant S_ .f32 0x00000000#32),
    StableHlo.unary main_cst_1 main_v10 (broadcastInDim S2304x2x1024 ![] bcast_S_S2304x2x1024 : (⟨S_, .f32⟩ : BufTy).Contents (Elt F) → (⟨S2304x2x1024, .f32⟩ : BufTy).Contents (Elt F)),
    StableHlo.nullary main_c (constantI S_ 32 0#32),
    StableHlo.unary main_v7 main_v11_0 id,
    StableHlo.unary main_v8 main_v11_1 id,
    StableHlo.unary main_c main_v11_2 id,
    StableHlo.unary main_v6 main_v11_3 id,
    StableHlo.unary main_v9 main_v11_4 id,
    StableHlo.unary main_v10 main_v11_5 id ]
theorem mainOps0_sub : (mainOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩
theorem mainOps0_fresh : (mainOps0 : List (HloOp τ sig (Elt F))).Forall fun op => op.fresh = ∅ :=
  StableHlo.forall_fresh_of_map rfl
abbrev mainOps0_W : List (Ref sig .tc) := [main_v0, main_v1, main_v2, main_v3, main_v4, main_v5, main_cst, main_v6, main_v7, main_v8, main_cst_0, main_v9, main_cst_1, main_v10, main_c, main_v11_0, main_v11_1, main_v11_2, main_v11_3, main_v11_4, main_v11_5]
theorem mainOps0_writes : (mainOps0 : List (HloOp τ sig (Elt F))).Forall fun op => op.writes ⊆ (mainOps0_W.map (Proc.devRef (τ := τ) .tc)).toFinset :=
  StableHlo.forall_writes_sub_of_map rfl
/-- A stretch of the main function's operations, in order. -/
abbrev mainOps1 : List (HloOp τ sig (Elt F)) :=
  [ StableHlo.unary main_v11_4 main_v12 ((transpose S2x2304x1024 [1, 0, 2] · transposes_S2304x2x1024_S2x2304x1024_1_0_2) : (⟨S2304x2x1024, .f32⟩ : BufTy).Contents (Elt F) → (⟨S2x2304x1024, .f32⟩ : BufTy).Contents (Elt F)),
    StableHlo.nullary main_cst_2 (constant S_ .f32 0x00000000#32),
    StableHlo.unary main_cst_2 main_v13 (broadcastInDim S2x1024 ![] bcast_S_S2x1024 : (⟨S_, .f32⟩ : BufTy).Contents (Elt F) → (⟨S2x1024, .f32⟩ : BufTy).Contents (Elt F)),
    StableHlo.unary main_arg2 main_v14 ((transpose S2304x2x1024 [1, 0, 2] · transposes_S2x2304x1024_S2304x2x1024_1_0_2) : (⟨S2x2304x1024, .f32⟩ : BufTy).Contents (Elt F) → (⟨S2304x2x1024, .f32⟩ : BufTy).Contents (Elt F)),
    StableHlo.nullary main_cst_3 (constant S_ .f32 0x00000000#32),
    StableHlo.unary main_cst_3 main_v15 (broadcastInDim S2x1024 ![] bcast_S_S2x1024 : (⟨S_, .f32⟩ : BufTy).Contents (Elt F) → (⟨S2x1024, .f32⟩ : BufTy).Contents (Elt F)),
    StableHlo.nullary main_cst_4 (constant S_ .f32 0x00000000#32),
    StableHlo.unary main_cst_4 main_v16 (broadcastInDim S2304x2x1024 ![] bcast_S_S2304x2x1024 : (⟨S_, .f32⟩ : BufTy).Contents (Elt F) → (⟨S2304x2x1024, .f32⟩ : BufTy).Contents (Elt F)),
    StableHlo.nullary main_cst_5 (constant S_ .f32 0x00000000#32),
    StableHlo.unary main_cst_5 main_v17 (broadcastInDim S2304x2x1024 ![] bcast_S_S2304x2x1024 : (⟨S_, .f32⟩ : BufTy).Contents (Elt F) → (⟨S2304x2x1024, .f32⟩ : BufTy).Contents (Elt F)),
    StableHlo.nullary main_c_6 (constantI S_ 32 0#32),
    StableHlo.unary main_v14 main_v18_0 id,
    StableHlo.unary main_v11_5 main_v18_1 id,
    StableHlo.unary main_v7 main_v18_2 id,
    StableHlo.unary main_c_6 main_v18_3 id,
    StableHlo.unary main_v15 main_v18_4 id,
    StableHlo.unary main_v16 main_v18_5 id,
    StableHlo.unary main_v17 main_v18_6 id ]
theorem mainOps1_sub : (mainOps1 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
theorem mainOps1_fresh : (mainOps1 : List (HloOp τ sig (Elt F))).Forall fun op => op.fresh = ∅ :=
  StableHlo.forall_fresh_of_map rfl
abbrev mainOps1_W : List (Ref sig .tc) := [main_v12, main_cst_2, main_v13, main_v14, main_cst_3, main_v15, main_cst_4, main_v16, main_cst_5, main_v17, main_c_6, main_v18_0, main_v18_1, main_v18_2, main_v18_3, main_v18_4, main_v18_5, main_v18_6]
theorem mainOps1_writes : (mainOps1 : List (HloOp τ sig (Elt F))).Forall fun op => op.writes ⊆ (mainOps1_W.map (Proc.devRef (τ := τ) .tc)).toFinset :=
  StableHlo.forall_writes_sub_of_map rfl
/-- A stretch of the main function's operations, in order. -/
abbrev mainOps2 : List (HloOp τ sig (Elt F)) :=
  [ StableHlo.unary main_v18_6 main_v19 ((transpose S2x2304x1024 [1, 0, 2] · transposes_S2304x2x1024_S2x2304x1024_1_0_2) : (⟨S2304x2x1024, .f32⟩ : BufTy).Contents (Elt F) → (⟨S2x2304x1024, .f32⟩ : BufTy).Contents (Elt F)),
    StableHlo.unary main_v18_5 main_v20 ((transpose S2x2304x1024 [1, 0, 2] · transposes_S2304x2x1024_S2x2304x1024_1_0_2) : (⟨S2304x2x1024, .f32⟩ : BufTy).Contents (Elt F) → (⟨S2x2304x1024, .f32⟩ : BufTy).Contents (Elt F)) ]
theorem mainOps2_sub : (mainOps2 : List (HloOp τ sig (Elt F))).Forall fun op => op.bufs ⊆ StableHlo.tcRefs τ sig :=
  ⟨StableHlo.unary_bufs_sub .., StableHlo.unary_bufs_sub ..⟩
theorem mainOps2_fresh : (mainOps2 : List (HloOp τ sig (Elt F))).Forall fun op => op.fresh = ∅ :=
  StableHlo.forall_fresh_of_map rfl
abbrev mainOps2_W : List (Ref sig .tc) := [main_v19, main_v20]
theorem mainOps2_writes : (mainOps2 : List (HloOp τ sig (Elt F))).Forall fun op => op.writes ⊆ (mainOps2_W.map (Proc.devRef (τ := τ) .tc)).toFinset :=
  StableHlo.forall_writes_sub_of_map rfl
/-- A stretch of the first loop's body. -/
abbrev fwdOps0 : List (HloOp τ sig (Elt F)) :=
  [ StableHlo.TRef.nullary (.of main_while0b_call0_c : StableHlo.TRef sig ⟨S_, .i32⟩) (constantI S_ 32 0#32),
    StableHlo.TRef.nullary (.of main_while0b_call0_c_0 : StableHlo.TRef sig ⟨S_, .i32⟩) (constantI S_ 32 0#32),
    StableHlo.TRef.unaryIndexed (.of main_v11_0 : StableHlo.TRef sig ⟨S2304x2x1024, .f32⟩) ![(.of main_v11_2 : StableHlo.TRef sig ⟨S_, .i32⟩), (.of main_while0b_call0_c : StableHlo.TRef sig ⟨S_, .i32⟩), (.of main_while0b_call0_c_0 : StableHlo.TRef sig ⟨S_, .i32⟩)] (.of main_while0b_call0_v0 : StableHlo.TRef sig ⟨S1x2x1024, .f32⟩) (fun x i => Host.dynamicSlice S1x2x1024 x (fun k => (i k (Shape.Idx.first h_S_)).toInt) sliceFits_S2304x2x1024_S1x2x1024),
    StableHlo.TRef.reshape (.of main_while0b_call0_v0 : StableHlo.TRef sig ⟨S1x2x1024, .f32⟩) (.of main_while0b_v21 : StableHlo.TRef sig ⟨S2x1024, .f32⟩) (rfl : (.f32 : EltTy) = .f32) shapeCasts_S1x2x1024_S2x1024 ]
theorem fwdOps0_sub : (fwdOps0 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem fwdOps0_fresh : (fwdOps0 : List (HloOp τ sig (Elt F))).Forall fun op => op.fresh = ∅ :=
  StableHlo.forall_fresh_of_map rfl
abbrev fwdOps0_W : List (Ref sig .tc) := [main_while0b_call0_c, main_while0b_call0_c_0, main_while0b_call0_v0, main_while0b_v21]
theorem fwdOps0_writes : (fwdOps0 : List (HloOp τ sig (Elt F))).Forall fun op => op.writes ⊆ (fwdOps0_W.map (Proc.devRef (τ := τ) .tc)).toFinset :=
  StableHlo.forall_writes_sub_of_map rfl
/-- A stretch of the first loop's body. -/
abbrev fwdOps1 : List (HloOp τ sig (Elt F)) :=
  [ StableHlo.TRef.nullary (.of main_while0b_call1_c : StableHlo.TRef sig ⟨S_, .i32⟩) (constantI S_ 32 0#32),
    StableHlo.TRef.nullary (.of main_while0b_call1_c_0 : StableHlo.TRef sig ⟨S_, .i32⟩) (constantI S_ 32 0#32),
    StableHlo.TRef.unaryIndexed (.of main_v11_1 : StableHlo.TRef sig ⟨S2304x2x1024, .f32⟩) ![(.of main_v11_2 : StableHlo.TRef sig ⟨S_, .i32⟩), (.of main_while0b_call1_c : StableHlo.TRef sig ⟨S_, .i32⟩), (.of main_while0b_call1_c_0 : StableHlo.TRef sig ⟨S_, .i32⟩)] (.of main_while0b_call1_v0 : StableHlo.TRef sig ⟨S1x2x1024, .f32⟩) (fun x i => Host.dynamicSlice S1x2x1024 x (fun k => (i k (Shape.Idx.first h_S_)).toInt) sliceFits_S2304x2x1024_S1x2x1024),
    StableHlo.TRef.reshape (.of main_while0b_call1_v0 : StableHlo.TRef sig ⟨S1x2x1024, .f32⟩) (.of main_while0b_v22 : StableHlo.TRef sig ⟨S2x1024, .f32⟩) (rfl : (.f32 : EltTy) = .f32) shapeCasts_S1x2x1024_S2x1024 ]
theorem fwdOps1_sub : (fwdOps1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem fwdOps1_fresh : (fwdOps1 : List (HloOp τ sig (Elt F))).Forall fun op => op.fresh = ∅ :=
  StableHlo.forall_fresh_of_map rfl
abbrev fwdOps1_W : List (Ref sig .tc) := [main_while0b_call1_c, main_while0b_call1_c_0, main_while0b_call1_v0, main_while0b_v22]
theorem fwdOps1_writes : (fwdOps1 : List (HloOp τ sig (Elt F))).Forall fun op => op.writes ⊆ (fwdOps1_W.map (Proc.devRef (τ := τ) .tc)).toFinset :=
  StableHlo.forall_writes_sub_of_map rfl
/-- A stretch of the first loop's body. -/
abbrev fwdOps2 : List (HloOp τ sig (Elt F)) :=
  [ StableHlo.binary main_while0b_v21 main_v11_3 main_while0b_v23 (mulf : (⟨S2x1024, .f32⟩ : BufTy).Contents (Elt F) → (⟨S2x1024, .f32⟩ : BufTy).Contents (Elt F) → (⟨S2x1024, .f32⟩ : BufTy).Contents (Elt F)),
    StableHlo.binary main_while0b_v23 main_while0b_v22 main_while0b_v24 (addf : (⟨S2x1024, .f32⟩ : BufTy).Contents (Elt F) → (⟨S2x1024, .f32⟩ : BufTy).Contents (Elt F) → (⟨S2x1024, .f32⟩ : BufTy).Contents (Elt F)) ]
theorem fwdOps2_sub : (fwdOps2 : List (HloOp τ sig (Elt F))).Forall fun op => op.bufs ⊆ StableHlo.tcRefs τ sig :=
  ⟨StableHlo.binary_bufs_sub .., StableHlo.binary_bufs_sub ..⟩
theorem fwdOps2_fresh : (fwdOps2 : List (HloOp τ sig (Elt F))).Forall fun op => op.fresh = ∅ :=
  StableHlo.forall_fresh_of_map rfl
abbrev fwdOps2_W : List (Ref sig .tc) := [main_while0b_v23, main_while0b_v24]
theorem fwdOps2_writes : (fwdOps2 : List (HloOp τ sig (Elt F))).Forall fun op => op.writes ⊆ (fwdOps2_W.map (Proc.devRef (τ := τ) .tc)).toFinset :=
  StableHlo.forall_writes_sub_of_map rfl
/-- A stretch of the first loop's body. -/
abbrev fwdOps3 : List (HloOp τ sig (Elt F)) :=
  [ StableHlo.TRef.unary (.of main_while0b_v24 : StableHlo.TRef sig ⟨S2x1024, .f32⟩) (.of main_while0b_call2_v0 : StableHlo.TRef sig ⟨S1x2x1024, .f32⟩) (broadcastInDim S1x2x1024 ![1, 2] bcast_S2x1024_S1x2x1024_1_2),
    StableHlo.TRef.nullary (.of main_while0b_call2_c : StableHlo.TRef sig ⟨S_, .i32⟩) (constantI S_ 32 0#32),
    StableHlo.TRef.nullary (.of main_while0b_call2_c_0 : StableHlo.TRef sig ⟨S_, .i32⟩) (constantI S_ 32 0#32),
    StableHlo.TRef.binaryIndexed (.of main_v11_4 : StableHlo.TRef sig ⟨S2304x2x1024, .f32⟩) (.of main_while0b_call2_v0 : StableHlo.TRef sig ⟨S1x2x1024, .f32⟩) ![(.of main_v11_2 : StableHlo.TRef sig ⟨S_, .i32⟩), (.of main_while0b_call2_c : StableHlo.TRef sig ⟨S_, .i32⟩), (.of main_while0b_call2_c_0 : StableHlo.TRef sig ⟨S_, .i32⟩)] (.of main_while0b_v25 : StableHlo.TRef sig ⟨S2304x2x1024, .f32⟩) (fun x u i => Host.dynamicUpdateSlice x u (fun k => (i k (Shape.Idx.first h_S_)).toInt) updateFits_S2304x2x1024_S1x2x1024) ]
theorem fwdOps3_sub : (fwdOps3 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fwdOps3_fresh : (fwdOps3 : List (HloOp τ sig (Elt F))).Forall fun op => op.fresh = ∅ :=
  StableHlo.forall_fresh_of_map rfl
abbrev fwdOps3_W : List (Ref sig .tc) := [main_while0b_call2_v0, main_while0b_call2_c, main_while0b_call2_c_0, main_while0b_v25]
theorem fwdOps3_writes : (fwdOps3 : List (HloOp τ sig (Elt F))).Forall fun op => op.writes ⊆ (fwdOps3_W.map (Proc.devRef (τ := τ) .tc)).toFinset :=
  StableHlo.forall_writes_sub_of_map rfl
/-- A stretch of the first loop's body. -/
abbrev fwdOps4 : List (HloOp τ sig (Elt F)) :=
  [ StableHlo.TRef.unary (.of main_v11_3 : StableHlo.TRef sig ⟨S2x1024, .f32⟩) (.of main_while0b_call3_v0 : StableHlo.TRef sig ⟨S1x2x1024, .f32⟩) (broadcastInDim S1x2x1024 ![1, 2] bcast_S2x1024_S1x2x1024_1_2),
    StableHlo.TRef.nullary (.of main_while0b_call3_c : StableHlo.TRef sig ⟨S_, .i32⟩) (constantI S_ 32 0#32),
    StableHlo.TRef.nullary (.of main_while0b_call3_c_0 : StableHlo.TRef sig ⟨S_, .i32⟩) (constantI S_ 32 0#32),
    StableHlo.TRef.binaryIndexed (.of main_v11_5 : StableHlo.TRef sig ⟨S2304x2x1024, .f32⟩) (.of main_while0b_call3_v0 : StableHlo.TRef sig ⟨S1x2x1024, .f32⟩) ![(.of main_v11_2 : StableHlo.TRef sig ⟨S_, .i32⟩), (.of main_while0b_call3_c : StableHlo.TRef sig ⟨S_, .i32⟩), (.of main_while0b_call3_c_0 : StableHlo.TRef sig ⟨S_, .i32⟩)] (.of main_while0b_v26 : StableHlo.TRef sig ⟨S2304x2x1024, .f32⟩) (fun x u i => Host.dynamicUpdateSlice x u (fun k => (i k (Shape.Idx.first h_S_)).toInt) updateFits_S2304x2x1024_S1x2x1024) ]
theorem fwdOps4_sub : (fwdOps4 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem fwdOps4_fresh : (fwdOps4 : List (HloOp τ sig (Elt F))).Forall fun op => op.fresh = ∅ :=
  StableHlo.forall_fresh_of_map rfl
abbrev fwdOps4_W : List (Ref sig .tc) := [main_while0b_call3_v0, main_while0b_call3_c, main_while0b_call3_c_0, main_while0b_v26]
theorem fwdOps4_writes : (fwdOps4 : List (HloOp τ sig (Elt F))).Forall fun op => op.writes ⊆ (fwdOps4_W.map (Proc.devRef (τ := τ) .tc)).toFinset :=
  StableHlo.forall_writes_sub_of_map rfl
/-- A stretch of the first loop's body. -/
abbrev fwdOps5 : List (HloOp τ sig (Elt F)) :=
  [ StableHlo.nullary main_while0b_c_12 (constantI S_ 32 1#32),
    StableHlo.binary main_v11_2 main_while0b_c_12 main_while0b_v27 (addi : (⟨S_, .i32⟩ : BufTy).Contents (Elt F) → (⟨S_, .i32⟩ : BufTy).Contents (Elt F) → (⟨S_, .i32⟩ : BufTy).Contents (Elt F)),
    StableHlo.unary main_while0b_v27 main_v11_2 id,
    StableHlo.unary main_while0b_v24 main_v11_3 id,
    StableHlo.unary main_while0b_v25 main_v11_4 id,
    StableHlo.unary main_while0b_v26 main_v11_5 id ]
theorem fwdOps5_sub : (fwdOps5 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem fwdOps5_fresh : (fwdOps5 : List (HloOp τ sig (Elt F))).Forall fun op => op.fresh = ∅ :=
  StableHlo.forall_fresh_of_map rfl
abbrev fwdOps5_W : List (Ref sig .tc) := [main_while0b_c_12, main_while0b_v27, main_v11_2, main_v11_3, main_v11_4, main_v11_5]
theorem fwdOps5_writes : (fwdOps5 : List (HloOp τ sig (Elt F))).Forall fun op => op.writes ⊆ (fwdOps5_W.map (Proc.devRef (τ := τ) .tc)).toFinset :=
  StableHlo.forall_writes_sub_of_map rfl
/-- A stretch of the second loop's body. -/
abbrev bwdOps0 : List (HloOp τ sig (Elt F)) :=
  [ StableHlo.nullary main_while1b_c_13 (constantI S_ 32 2304#32),
    StableHlo.binary main_while1b_c_13 main_v18_3 main_while1b_v21 (subi : (⟨S_, .i32⟩ : BufTy).Contents (Elt F) → (⟨S_, .i32⟩ : BufTy).Contents (Elt F) → (⟨S_, .i32⟩ : BufTy).Contents (Elt F)),
    StableHlo.nullary main_while1b_c_14 (constantI S_ 32 1#32),
    StableHlo.binary main_while1b_v21 main_while1b_c_14 main_while1b_v22 (subi : (⟨S_, .i32⟩ : BufTy).Contents (Elt F) → (⟨S_, .i32⟩ : BufTy).Contents (Elt F) → (⟨S_, .i32⟩ : BufTy).Contents (Elt F)) ]
theorem bwdOps0_sub : (bwdOps0 : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩
theorem bwdOps0_fresh : (bwdOps0 : List (HloOp τ sig (Elt F))).Forall fun op => op.fresh = ∅ :=
  StableHlo.forall_fresh_of_map rfl
abbrev bwdOps0_W : List (Ref sig .tc) := [main_while1b_c_13, main_while1b_v21, main_while1b_c_14, main_while1b_v22]
theorem bwdOps0_writes : (bwdOps0 : List (HloOp τ sig (Elt F))).Forall fun op => op.writes ⊆ (bwdOps0_W.map (Proc.devRef (τ := τ) .tc)).toFinset :=
  StableHlo.forall_writes_sub_of_map rfl
/-- A stretch of the second loop's body. -/
abbrev bwdOps1 : List (HloOp τ sig (Elt F)) :=
  [ StableHlo.TRef.nullary (.of main_while1b_call4_c : StableHlo.TRef sig ⟨S_, .i32⟩) (constantI S_ 32 0#32),
    StableHlo.TRef.nullary (.of main_while1b_call4_c_0 : StableHlo.TRef sig ⟨S_, .i32⟩) (constantI S_ 32 0#32),
    StableHlo.TRef.unaryIndexed (.of main_v18_0 : StableHlo.TRef sig ⟨S2304x2x1024, .f32⟩) ![(.of main_while1b_v22 : StableHlo.TRef sig ⟨S_, .i32⟩), (.of main_while1b_call4_c : StableHlo.TRef sig ⟨S_, .i32⟩), (.of main_while1b_call4_c_0 : StableHlo.TRef sig ⟨S_, .i32⟩)] (.of main_while1b_call4_v0 : StableHlo.TRef sig ⟨S1x2x1024, .f32⟩) (fun x i => Host.dynamicSlice S1x2x1024 x (fun k => (i k (Shape.Idx.first h_S_)).toInt) sliceFits_S2304x2x1024_S1x2x1024),
    StableHlo.TRef.reshape (.of main_while1b_call4_v0 : StableHlo.TRef sig ⟨S1x2x1024, .f32⟩) (.of main_while1b_v23 : StableHlo.TRef sig ⟨S2x1024, .f32⟩) (rfl : (.f32 : EltTy) = .f32) shapeCasts_S1x2x1024_S2x1024 ]
theorem bwdOps1_sub : (bwdOps1 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bwdOps1_fresh : (bwdOps1 : List (HloOp τ sig (Elt F))).Forall fun op => op.fresh = ∅ :=
  StableHlo.forall_fresh_of_map rfl
abbrev bwdOps1_W : List (Ref sig .tc) := [main_while1b_call4_c, main_while1b_call4_c_0, main_while1b_call4_v0, main_while1b_v23]
theorem bwdOps1_writes : (bwdOps1 : List (HloOp τ sig (Elt F))).Forall fun op => op.writes ⊆ (bwdOps1_W.map (Proc.devRef (τ := τ) .tc)).toFinset :=
  StableHlo.forall_writes_sub_of_map rfl
/-- A stretch of the second loop's body. -/
abbrev bwdOps2 : List (HloOp τ sig (Elt F)) :=
  [ StableHlo.TRef.nullary (.of main_while1b_call5_c : StableHlo.TRef sig ⟨S_, .i32⟩) (constantI S_ 32 0#32),
    StableHlo.TRef.nullary (.of main_while1b_call5_c_0 : StableHlo.TRef sig ⟨S_, .i32⟩) (constantI S_ 32 0#32),
    StableHlo.TRef.unaryIndexed (.of main_v18_1 : StableHlo.TRef sig ⟨S2304x2x1024, .f32⟩) ![(.of main_while1b_v22 : StableHlo.TRef sig ⟨S_, .i32⟩), (.of main_while1b_call5_c : StableHlo.TRef sig ⟨S_, .i32⟩), (.of main_while1b_call5_c_0 : StableHlo.TRef sig ⟨S_, .i32⟩)] (.of main_while1b_call5_v0 : StableHlo.TRef sig ⟨S1x2x1024, .f32⟩) (fun x i => Host.dynamicSlice S1x2x1024 x (fun k => (i k (Shape.Idx.first h_S_)).toInt) sliceFits_S2304x2x1024_S1x2x1024),
    StableHlo.TRef.reshape (.of main_while1b_call5_v0 : StableHlo.TRef sig ⟨S1x2x1024, .f32⟩) (.of main_while1b_v24 : StableHlo.TRef sig ⟨S2x1024, .f32⟩) (rfl : (.f32 : EltTy) = .f32) shapeCasts_S1x2x1024_S2x1024 ]
theorem bwdOps2_sub : (bwdOps2 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bwdOps2_fresh : (bwdOps2 : List (HloOp τ sig (Elt F))).Forall fun op => op.fresh = ∅ :=
  StableHlo.forall_fresh_of_map rfl
abbrev bwdOps2_W : List (Ref sig .tc) := [main_while1b_call5_c, main_while1b_call5_c_0, main_while1b_call5_v0, main_while1b_v24]
theorem bwdOps2_writes : (bwdOps2 : List (HloOp τ sig (Elt F))).Forall fun op => op.writes ⊆ (bwdOps2_W.map (Proc.devRef (τ := τ) .tc)).toFinset :=
  StableHlo.forall_writes_sub_of_map rfl
/-- A stretch of the second loop's body. -/
abbrev bwdOps3 : List (HloOp τ sig (Elt F)) :=
  [ StableHlo.TRef.nullary (.of main_while1b_call6_c : StableHlo.TRef sig ⟨S_, .i32⟩) (constantI S_ 32 0#32),
    StableHlo.TRef.nullary (.of main_while1b_call6_c_0 : StableHlo.TRef sig ⟨S_, .i32⟩) (constantI S_ 32 0#32),
    StableHlo.TRef.unaryIndexed (.of main_v18_2 : StableHlo.TRef sig ⟨S2304x2x1024, .f32⟩) ![(.of main_while1b_v22 : StableHlo.TRef sig ⟨S_, .i32⟩), (.of main_while1b_call6_c : StableHlo.TRef sig ⟨S_, .i32⟩), (.of main_while1b_call6_c_0 : StableHlo.TRef sig ⟨S_, .i32⟩)] (.of main_while1b_call6_v0 : StableHlo.TRef sig ⟨S1x2x1024, .f32⟩) (fun x i => Host.dynamicSlice S1x2x1024 x (fun k => (i k (Shape.Idx.first h_S_)).toInt) sliceFits_S2304x2x1024_S1x2x1024),
    StableHlo.TRef.reshape (.of main_while1b_call6_v0 : StableHlo.TRef sig ⟨S1x2x1024, .f32⟩) (.of main_while1b_v25 : StableHlo.TRef sig ⟨S2x1024, .f32⟩) (rfl : (.f32 : EltTy) = .f32) shapeCasts_S1x2x1024_S2x1024 ]
theorem bwdOps3_sub : (bwdOps3 : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩
theorem bwdOps3_fresh : (bwdOps3 : List (HloOp τ sig (Elt F))).Forall fun op => op.fresh = ∅ :=
  StableHlo.forall_fresh_of_map rfl
abbrev bwdOps3_W : List (Ref sig .tc) := [main_while1b_call6_c, main_while1b_call6_c_0, main_while1b_call6_v0, main_while1b_v25]
theorem bwdOps3_writes : (bwdOps3 : List (HloOp τ sig (Elt F))).Forall fun op => op.writes ⊆ (bwdOps3_W.map (Proc.devRef (τ := τ) .tc)).toFinset :=
  StableHlo.forall_writes_sub_of_map rfl
/-- A stretch of the second loop's body. -/
abbrev bwdOps4 : List (HloOp τ sig (Elt F)) :=
  [ StableHlo.binary main_v18_4 main_while1b_v23 main_while1b_v26 (addf : (⟨S2x1024, .f32⟩ : BufTy).Contents (Elt F) → (⟨S2x1024, .f32⟩ : BufTy).Contents (Elt F) → (⟨S2x1024, .f32⟩ : BufTy).Contents (Elt F)),
    StableHlo.binary main_while1b_v25 main_while1b_v26 main_while1b_v27 (mulf : (⟨S2x1024, .f32⟩ : BufTy).Contents (Elt F) → (⟨S2x1024, .f32⟩ : BufTy).Contents (Elt F) → (⟨S2x1024, .f32⟩ : BufTy).Contents (Elt F)),
    StableHlo.binary main_while1b_v26 main_while1b_v24 main_while1b_v28 (mulf : (⟨S2x1024, .f32⟩ : BufTy).Contents (Elt F) → (⟨S2x1024, .f32⟩ : BufTy).Contents (Elt F) → (⟨S2x1024, .f32⟩ : BufTy).Contents (Elt F)) ]
theorem bwdOps4_sub : (bwdOps4 : List (HloOp τ sig (Elt F))).Forall fun op => op.bufs ⊆ StableHlo.tcRefs τ sig :=
  ⟨StableHlo.binary_bufs_sub .., StableHlo.binary_bufs_sub .., StableHlo.binary_bufs_sub ..⟩
theorem bwdOps4_fresh : (bwdOps4 : List (HloOp τ sig (Elt F))).Forall fun op => op.fresh = ∅ :=
  StableHlo.forall_fresh_of_map rfl
abbrev bwdOps4_W : List (Ref sig .tc) := [main_while1b_v26, main_while1b_v27, main_while1b_v28]
theorem bwdOps4_writes : (bwdOps4 : List (HloOp τ sig (Elt F))).Forall fun op => op.writes ⊆ (bwdOps4_W.map (Proc.devRef (τ := τ) .tc)).toFinset :=
  StableHlo.forall_writes_sub_of_map rfl
/-- A stretch of the second loop's body. -/
abbrev bwdOps5 : List (HloOp τ sig (Elt F)) :=
  [ StableHlo.TRef.unary (.of main_while1b_v28 : StableHlo.TRef sig ⟨S2x1024, .f32⟩) (.of main_while1b_call7_v0 : StableHlo.TRef sig ⟨S1x2x1024, .f32⟩) (broadcastInDim S1x2x1024 ![1, 2] bcast_S2x1024_S1x2x1024_1_2),
    StableHlo.TRef.nullary (.of main_while1b_call7_c : StableHlo.TRef sig ⟨S_, .i32⟩) (constantI S_ 32 0#32),
    StableHlo.TRef.nullary (.of main_while1b_call7_c_0 : StableHlo.TRef sig ⟨S_, .i32⟩) (constantI S_ 32 0#32),
    StableHlo.TRef.binaryIndexed (.of main_v18_5 : StableHlo.TRef sig ⟨S2304x2x1024, .f32⟩) (.of main_while1b_call7_v0 : StableHlo.TRef sig ⟨S1x2x1024, .f32⟩) ![(.of main_while1b_v22 : StableHlo.TRef sig ⟨S_, .i32⟩), (.of main_while1b_call7_c : StableHlo.TRef sig ⟨S_, .i32⟩), (.of main_while1b_call7_c_0 : StableHlo.TRef sig ⟨S_, .i32⟩)] (.of main_while1b_v29 : StableHlo.TRef sig ⟨S2304x2x1024, .f32⟩) (fun x u i => Host.dynamicUpdateSlice x u (fun k => (i k (Shape.Idx.first h_S_)).toInt) updateFits_S2304x2x1024_S1x2x1024) ]
theorem bwdOps5_sub : (bwdOps5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem bwdOps5_fresh : (bwdOps5 : List (HloOp τ sig (Elt F))).Forall fun op => op.fresh = ∅ :=
  StableHlo.forall_fresh_of_map rfl
abbrev bwdOps5_W : List (Ref sig .tc) := [main_while1b_call7_v0, main_while1b_call7_c, main_while1b_call7_c_0, main_while1b_v29]
theorem bwdOps5_writes : (bwdOps5 : List (HloOp τ sig (Elt F))).Forall fun op => op.writes ⊆ (bwdOps5_W.map (Proc.devRef (τ := τ) .tc)).toFinset :=
  StableHlo.forall_writes_sub_of_map rfl
/-- A stretch of the second loop's body. -/
abbrev bwdOps6 : List (HloOp τ sig (Elt F)) :=
  [ StableHlo.TRef.unary (.of main_while1b_v26 : StableHlo.TRef sig ⟨S2x1024, .f32⟩) (.of main_while1b_call8_v0 : StableHlo.TRef sig ⟨S1x2x1024, .f32⟩) (broadcastInDim S1x2x1024 ![1, 2] bcast_S2x1024_S1x2x1024_1_2),
    StableHlo.TRef.nullary (.of main_while1b_call8_c : StableHlo.TRef sig ⟨S_, .i32⟩) (constantI S_ 32 0#32),
    StableHlo.TRef.nullary (.of main_while1b_call8_c_0 : StableHlo.TRef sig ⟨S_, .i32⟩) (constantI S_ 32 0#32),
    StableHlo.TRef.binaryIndexed (.of main_v18_6 : StableHlo.TRef sig ⟨S2304x2x1024, .f32⟩) (.of main_while1b_call8_v0 : StableHlo.TRef sig ⟨S1x2x1024, .f32⟩) ![(.of main_while1b_v22 : StableHlo.TRef sig ⟨S_, .i32⟩), (.of main_while1b_call8_c : StableHlo.TRef sig ⟨S_, .i32⟩), (.of main_while1b_call8_c_0 : StableHlo.TRef sig ⟨S_, .i32⟩)] (.of main_while1b_v30 : StableHlo.TRef sig ⟨S2304x2x1024, .f32⟩) (fun x u i => Host.dynamicUpdateSlice x u (fun k => (i k (Shape.Idx.first h_S_)).toInt) updateFits_S2304x2x1024_S1x2x1024) ]
theorem bwdOps6_sub : (bwdOps6 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
theorem bwdOps6_fresh : (bwdOps6 : List (HloOp τ sig (Elt F))).Forall fun op => op.fresh = ∅ :=
  StableHlo.forall_fresh_of_map rfl
abbrev bwdOps6_W : List (Ref sig .tc) := [main_while1b_call8_v0, main_while1b_call8_c, main_while1b_call8_c_0, main_while1b_v30]
theorem bwdOps6_writes : (bwdOps6 : List (HloOp τ sig (Elt F))).Forall fun op => op.writes ⊆ (bwdOps6_W.map (Proc.devRef (τ := τ) .tc)).toFinset :=
  StableHlo.forall_writes_sub_of_map rfl
/-- A stretch of the second loop's body. -/
abbrev bwdOps7 : List (HloOp τ sig (Elt F)) :=
  [ StableHlo.nullary main_while1b_c_15 (constantI S_ 32 1#32),
    StableHlo.binary main_v18_3 main_while1b_c_15 main_while1b_v31 (addi : (⟨S_, .i32⟩ : BufTy).Contents (Elt F) → (⟨S_, .i32⟩ : BufTy).Contents (Elt F) → (⟨S_, .i32⟩ : BufTy).Contents (Elt F)),
    StableHlo.unary main_while1b_v31 main_v18_3 id,
    StableHlo.unary main_while1b_v27 main_v18_4 id,
    StableHlo.unary main_while1b_v29 main_v18_5 id,
    StableHlo.unary main_while1b_v30 main_v18_6 id ]
theorem bwdOps7_sub : (bwdOps7 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub .., StableHlo.unary_bufs_sub ..⟩
theorem bwdOps7_fresh : (bwdOps7 : List (HloOp τ sig (Elt F))).Forall fun op => op.fresh = ∅ :=
  StableHlo.forall_fresh_of_map rfl
abbrev bwdOps7_W : List (Ref sig .tc) := [main_while1b_c_15, main_while1b_v31, main_v18_3, main_v18_4, main_v18_5, main_v18_6]
theorem bwdOps7_writes : (bwdOps7 : List (HloOp τ sig (Elt F))).Forall fun op => op.writes ⊆ (bwdOps7_W.map (Proc.devRef (τ := τ) .tc)).toFinset :=
  StableHlo.forall_writes_sub_of_map rfl
theorem main_items (c : Dev nD) : main (F := F) c = (Pipeline.chain
  [ StableHlo.seq mainOps0,
    HostLoop.enter 0,
    StableHlo.seq mainOps1,
    HostLoop.enter 1,
    StableHlo.seq mainOps2 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl
theorem fwd_items : main_while0_body (F := F) = (Pipeline.chain
  [ StableHlo.seq fwdOps0,
    StableHlo.seq fwdOps1,
    StableHlo.seq fwdOps2,
    StableHlo.seq fwdOps3,
    StableHlo.seq fwdOps4,
    StableHlo.seq fwdOps5 ] : Prog (TpuEff nD τ sig (Elt F) (HostLoop.Sig (Pipeline.Sig Λ₀ (Fin 0) fun p => (pcfgs (F := F) p).Adm) 2) .tc) PUnit) := by
  rewrite [Pipeline.chain_cons, Pipeline.chain_cons, StableHlo.chain_seq_cons, Pipeline.chain_cons, Pipeline.chain_cons, StableHlo.chain_seq_cons]
  chain_rfl
theorem bwd_items : main_while1_body (F := F) = (Pipeline.chain
  [ StableHlo.seq bwdOps0,
    StableHlo.seq bwdOps1,
    StableHlo.seq bwdOps2,
    StableHlo.seq bwdOps3,
    StableHlo.seq bwdOps4,
    StableHlo.seq bwdOps5,
    StableHlo.seq bwdOps6,
    StableHlo.seq bwdOps7 ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, Pipeline.chain_cons, Pipeline.chain_cons, StableHlo.chain_seq_cons, Pipeline.chain_cons, Pipeline.chain_cons, StableHlo.chain_seq_cons]
  chain_rfl
/-- The condition of loop 0: the bound, and the counter compared with it. -/
abbrev fwdCond : List (HloOp τ sig (Elt F)) :=
  [ StableHlo.nullary main_while0c_c_12 (constantI S_ 32 2304#32),
    StableHlo.binary main_v11_2 main_while0c_c_12 main_while0c_v21 (cmpi .slt) ]
abbrev fwdCond_W : List (Ref sig .tc) := [main_while0c_c_12, main_while0c_v21]
theorem fwdCond_writes : (fwdCond : List (HloOp τ sig (Elt F))).Forall fun op => op.writes ⊆ (fwdCond_W.map (Proc.devRef (τ := τ) .tc)).toFinset :=
  StableHlo.forall_writes_sub_of_map rfl
/-- The condition of loop 1: the bound, and the counter compared with it. -/
abbrev bwdCond : List (HloOp τ sig (Elt F)) :=
  [ StableHlo.nullary main_while1c_c_13 (constantI S_ 32 2304#32),
    StableHlo.binary main_v18_3 main_while1c_c_13 main_while1c_v21 (cmpi .slt) ]
abbrev bwdCond_W : List (Ref sig .tc) := [main_while1c_c_13, main_while1c_v21]
theorem bwdCond_writes : (bwdCond : List (HloOp τ sig (Elt F))).Forall fun op => op.writes ⊆ (bwdCond_W.map (Proc.devRef (τ := τ) .tc)).toFinset :=
  StableHlo.forall_writes_sub_of_map rfl
abbrev preI : List (List (HloOp τ sig (Elt F))) := [mainOps0]
theorem preI_plain : Plain (preI (F := F)) := .cons mainOps0_sub (hf := List.forall_iff_forall_mem.mp mainOps0_fresh) (.nil)
abbrev fwdI : List (List (HloOp τ sig (Elt F))) := [fwdOps0, fwdOps1, fwdOps2, fwdOps3, fwdOps4, fwdOps5]
theorem fwdI_plain : Plain (fwdI (F := F)) := .cons fwdOps0_sub (hf := List.forall_iff_forall_mem.mp fwdOps0_fresh) (.cons fwdOps1_sub (hf := List.forall_iff_forall_mem.mp fwdOps1_fresh) (.cons fwdOps2_sub (hf := List.forall_iff_forall_mem.mp fwdOps2_fresh) (.cons fwdOps3_sub (hf := List.forall_iff_forall_mem.mp fwdOps3_fresh) (.cons fwdOps4_sub (hf := List.forall_iff_forall_mem.mp fwdOps4_fresh) (.cons fwdOps5_sub (hf := List.forall_iff_forall_mem.mp fwdOps5_fresh) (.nil))))))
abbrev midI : List (List (HloOp τ sig (Elt F))) := [mainOps1]
theorem midI_plain : Plain (midI (F := F)) := .cons mainOps1_sub (hf := List.forall_iff_forall_mem.mp mainOps1_fresh) (.nil)
abbrev bwdI : List (List (HloOp τ sig (Elt F))) := [bwdOps0, bwdOps1, bwdOps2, bwdOps3, bwdOps4, bwdOps5, bwdOps6, bwdOps7]
theorem bwdI_plain : Plain (bwdI (F := F)) := .cons bwdOps0_sub (hf := List.forall_iff_forall_mem.mp bwdOps0_fresh) (.cons bwdOps1_sub (hf := List.forall_iff_forall_mem.mp bwdOps1_fresh) (.cons bwdOps2_sub (hf := List.forall_iff_forall_mem.mp bwdOps2_fresh) (.cons bwdOps3_sub (hf := List.forall_iff_forall_mem.mp bwdOps3_fresh) (.cons bwdOps4_sub (hf := List.forall_iff_forall_mem.mp bwdOps4_fresh) (.cons bwdOps5_sub (hf := List.forall_iff_forall_mem.mp bwdOps5_fresh) (.cons bwdOps6_sub (hf := List.forall_iff_forall_mem.mp bwdOps6_fresh) (.cons bwdOps7_sub (hf := List.forall_iff_forall_mem.mp bwdOps7_fresh) (.nil))))))))
abbrev postI : List (List (HloOp τ sig (Elt F))) := [mainOps2]
theorem postI_plain : Plain (postI (F := F)) := .cons mainOps2_sub (hf := List.forall_iff_forall_mem.mp mainOps2_fresh) (.nil)

/-- The first loop's entry. -/
abbrev entry0 (m : (ℓ : Loc nD τ sig) → Buf (Elt F) ℓ) (c : Dev nD) : Valuation τ sig (Elt F) := entryContents preI m c

theorem fwd_ctr_entry (m : (ℓ : Loc nD τ sig) → Buf (Elt F) ℓ) (c : Dev nD) : entry0 m c (Proc.devRef .tc main_v11_2) = fun _ => (0#32 : BitVec 32) := by
  simp only [entry0, entryContents, afterL_cons, afterL_nil]
  after_reads_simp
  rfl

/-- Every buffer before the `k`-th condition of loop 0. -/
abbrev fwdAt (m : (ℓ : Loc nD τ sig) → Buf (Elt F) ℓ) (k : ℕ) (c : Dev nD) : Valuation τ sig (Elt F) := atTrip fwdCond fwdI (entry0 m) k c

theorem fwd_ctr_step (X : Valuation τ sig (Elt F)) :
    after fwdOps5 X (Proc.devRef .tc main_v11_2) = addi (X (Proc.devRef .tc main_v11_2)) (constantI S_ 32 1#32) := by
  after_results
  rfl
theorem fwd_ctr_trip (X : Valuation τ sig (Elt F)) :
    afterL fwdI (after fwdCond X) (Proc.devRef .tc main_v11_2) = addi (X (Proc.devRef .tc main_v11_2)) (constantI S_ 32 1#32) := by
  simp only [afterL_cons, afterL_nil]
  rw [fwd_ctr_step, after_of_writes_sub fwdOps4 _ fwdOps4_writes (by decide +kernel), after_of_writes_sub fwdOps3 _ fwdOps3_writes (by decide +kernel), after_of_writes_sub fwdOps2 _ fwdOps2_writes (by decide +kernel), after_of_writes_sub fwdOps1 _ fwdOps1_writes (by decide +kernel), after_of_writes_sub fwdOps0 _ fwdOps0_writes (by decide +kernel), after_of_writes_sub fwdCond X fwdCond_writes (by decide +kernel)]
theorem fwd_ctr (m : (ℓ : Loc nD τ sig) → Buf (Elt F) ℓ) (c : Dev nD) : ∀ k, fwdAt m k c (Proc.devRef .tc main_v11_2) = fun _ => Scf.iv 0#32 1#32 k
  | 0 => by
    rw [show fwdAt m 0 c = entry0 m c from rfl, fwd_ctr_entry, Scf.iv_zero]
  | k + 1 => by
    rw [show fwdAt m (k + 1) c = afterL fwdI (after fwdCond (fwdAt m k c)) from rfl, fwd_ctr_trip, fwd_ctr m c k, Scf.iv_succ]
    rfl

set_option backward.isDefEq.respectTransparency.types false in
theorem fwd_cond (m : (ℓ : Loc nD τ sig) → Buf (Elt F) ℓ) :
    CondSpec (pcfgs (F := F)) defs₀ loops (main_while0_cond (F := F)) fwdCond fwdI (entry0 m) 2304 := by
  intro k hk c bd
  have hctr := fwd_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (fwdAt m k c) main_v11_2 HostLoop.idx0)
        (HloOp.result _ (fwdAt m k c) main_while0c_c_12 HostLoop.idx0) = 1#1) (k < 2304)
    rw [nullary_result_ne _ _ _ _ (by decide), nullary_result, hctr]
    exact Scf.cmpi_slt_iv_ub_iff (lb := 0#32) (ub := 2304#32) (st := 1#32) (by decide) (show k ≤ Scf.trips 0#32 2304#32 1#32 from hk)
  isplitl [Hb]; · iexact Hb
  rw [after_cons, after_cons, after_nil]; iexact Hh

/-- What the first loop leaves. -/
abbrev exit0 (m : (ℓ : Loc nD τ sig) → Buf (Elt F) ℓ) (c : Dev nD) : Valuation τ sig (Elt F) := after fwdCond (fwdAt m 2304 c)
/-- The second loop's entry. -/
abbrev entry1 (m : (ℓ : Loc nD τ sig) → Buf (Elt F) ℓ) (c : Dev nD) : Valuation τ sig (Elt F) := afterL midI (exit0 m c)

theorem bwd_ctr_mid (X : Valuation τ sig (Elt F)) : afterL midI X (Proc.devRef .tc main_v18_3) = fun _ => (0#32 : BitVec 32) := by
  simp only [afterL_cons, afterL_nil]
  after_reads_simp
  rfl
theorem bwd_ctr_entry (m : (ℓ : Loc nD τ sig) → Buf (Elt F) ℓ) (c : Dev nD) : entry1 m c (Proc.devRef .tc main_v18_3) = fun _ => (0#32 : BitVec 32) :=
  bwd_ctr_mid _

/-- Every buffer before the `k`-th condition of loop 1. -/
abbrev bwdAt (m : (ℓ : Loc nD τ sig) → Buf (Elt F) ℓ) (k : ℕ) (c : Dev nD) : Valuation τ sig (Elt F) := atTrip bwdCond bwdI (entry1 m) k c

theorem bwd_ctr_step (X : Valuation τ sig (Elt F)) :
    after bwdOps7 X (Proc.devRef .tc main_v18_3) = addi (X (Proc.devRef .tc main_v18_3)) (constantI S_ 32 1#32) := by
  after_results
  rfl
theorem bwd_ctr_trip (X : Valuation τ sig (Elt F)) :
    afterL bwdI (after bwdCond X) (Proc.devRef .tc main_v18_3) = addi (X (Proc.devRef .tc main_v18_3)) (constantI S_ 32 1#32) := by
  simp only [afterL_cons, afterL_nil]
  rw [bwd_ctr_step, after_of_writes_sub bwdOps6 _ bwdOps6_writes (by decide +kernel), after_of_writes_sub bwdOps5 _ bwdOps5_writes (by decide +kernel), after_of_writes_sub bwdOps4 _ bwdOps4_writes (by decide +kernel), after_of_writes_sub bwdOps3 _ bwdOps3_writes (by decide +kernel), after_of_writes_sub bwdOps2 _ bwdOps2_writes (by decide +kernel), after_of_writes_sub bwdOps1 _ bwdOps1_writes (by decide +kernel), after_of_writes_sub bwdOps0 _ bwdOps0_writes (by decide +kernel), after_of_writes_sub bwdCond X bwdCond_writes (by decide +kernel)]
theorem bwd_ctr (m : (ℓ : Loc nD τ sig) → Buf (Elt F) ℓ) (c : Dev nD) : ∀ k, bwdAt m k c (Proc.devRef .tc main_v18_3) = fun _ => Scf.iv 0#32 1#32 k
  | 0 => by
    rw [show bwdAt m 0 c = entry1 m c from rfl, bwd_ctr_entry, Scf.iv_zero]
  | k + 1 => by
    rw [show bwdAt m (k + 1) c = afterL bwdI (after bwdCond (bwdAt m k c)) from rfl, bwd_ctr_trip, bwd_ctr m c k, Scf.iv_succ]
    rfl

set_option backward.isDefEq.respectTransparency.types false in
theorem bwd_cond (m : (ℓ : Loc nD τ sig) → Buf (Elt F) ℓ) :
    CondSpec (pcfgs (F := F)) defs₀ loops (main_while1_cond (F := F)) bwdCond bwdI (entry1 m) 2304 := by
  intro k hk c bd
  have hctr := bwd_ctr m c k
  unfold main_while1_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (bwdAt m k c) main_v18_3 HostLoop.idx0)
        (HloOp.result _ (bwdAt m k c) main_while1c_c_13 HostLoop.idx0) = 1#1) (k < 2304)
    rw [nullary_result_ne _ _ _ _ (by decide), nullary_result, hctr]
    exact Scf.cmpi_slt_iv_ub_iff (lb := 0#32) (ub := 2304#32) (st := 1#32) (by decide) (show k ≤ Scf.trips 0#32 2304#32 1#32 from hk)
  isplitl [Hb]; · iexact Hb
  rw [after_cons, after_cons, after_nil]; iexact Hh

/-- What the second loop leaves, and the contents at the end. -/
abbrev exit1 (m : (ℓ : Loc nD τ sig) → Buf (Elt F) ℓ) (c : Dev nD) : Valuation τ sig (Elt F) := after bwdCond (bwdAt m 2304 c)
abbrev final (m : (ℓ : Loc nD τ sig) → Buf (Elt F) ℓ) (c : Dev nD) : Valuation τ sig (Elt F) := afterL postI (exit1 m c)

/-- Every execution of the reference ends with every tensor buffer at `final` and every counter at zero. -/
theorem run_final (m : (ℓ : Loc nD τ sig) → Buf (Elt F) ℓ) (ρ : Dev nD → PrngReg) :
    θ_run (defs (F := F)) (onTc (τ := τ) (main (F := F))) ⟨m, fun _ => 0, ρ⟩
      (fun r => (∀ (c : Dev nD) (b : Ref sig .tc), (Proc.devRef .tc b : DevRef τ sig).isScoped = false →
        r.2.mem ((c.tc : Thread nD τ).loc b) = final m c (Proc.devRef .tc b)) ∧ r.2.sem = fun _ => 0) :=
  run_two_loops (pcfgs (F := F)) defs₀ loops main 0 main_while0_cond main_while0_body rfl 1 main_while1_cond main_while1_body rfl
    preI fwdI midI bwdI postI fwdCond bwdCond preI_plain fwdI_plain midI_plain bwdI_plain postI_plain
    (fun c => by rw [main_items]; rfl) (by rw [fwd_items]; rfl) (by rw [bwd_items]; rfl) 2304 2304 m ρ (by decide) (fwd_cond m) (bwd_cond m)

end Cert.Scan.Ref

end
-- ==== Proof.RefTrip.lean ====
module

public import proofs.«01_k».proof.Proof.RefRun
public import Idealize.ShloMosaic.Lib.StableHlo.ReadAt
public import Idealize.ShloMosaic.Lib.DynamicIndex

/-! One trip of each of the reference's loops: the row a trip reads, the row it writes, and what it carries on. -/

@[expose] public section

set_option maxRecDepth 16384

noncomputable section

namespace Cert.Scan.Ref

open Cert.ReferenceIdeal Cert.ReferenceIdeal.Gen
open Idealize.ShloMosaic Idealize.ShloMosaic.TcCoe Idealize.ShloMosaic.Tactic
open Idealize.ShloMosaic.StableHlo

variable {F : FTy → Type} [FloatOps F]

/-- Row `k` of a time-major array. -/
def rowAt (x : Vec F S2304x2x1024 .f32) (k : Fin 2304) : Vec F S2x1024 .f32 := fun j => x (ix3 k (j 0) (j 1))
/-- A time-major array with row `k` replaced. -/
def setRow (x : Vec F S2304x2x1024 .f32) (u : Vec F S2x1024 .f32) (k : Fin 2304) : Vec F S2304x2x1024 .f32 :=
  fun i => if (i 0).val = k.val then u (ix2 (i 1) (i 2)) else x i

theorem starts (s : Fin S2304x2x1024.rank → Int) (k : Fin 2304) (h0 : s 0 = k.val) (h1 : s 1 = 0) (h2 : s 2 = 0)
    (hr : S1x2x1024.rank = S2304x2x1024.rank) (a : Fin S2304x2x1024.rank) :
    Host.clampedStart S2304x2x1024 S1x2x1024 hr s a = if a.val = 0 then k.val else 0 := by
  have hk := k.isLt
  fin_cases a
  · exact Host.clampedStart_of_le hr s _ k.val h0 (show k.val + 1 ≤ 2304 by omega)
  · exact Host.clampedStart_of_le hr s _ 0 h1 (show 0 + 2 ≤ 2 by omega)
  · exact Host.clampedStart_of_le hr s _ 0 h2 (show 0 + 1024 ≤ 1024 by omega)

theorem read_row (x : Vec F S2304x2x1024 .f32) (s : Fin S2304x2x1024.rank → Int) (k : Fin 2304) (h0 : s 0 = k.val) (h1 : s 1 = 0) (h2 : s 2 = 0) :
    shapeCast S2x1024 (Host.dynamicSlice S1x2x1024 x s sliceFits_S2304x2x1024_S1x2x1024) shapeCasts_S1x2x1024_S2x1024 = rowAt x k := by
  funext j
  idx_vars j
  pointwise
  simp only [starts s k h0 h1 h2, rowAt, ix2_0, ix2_1]
  congr 1
  ext a; fin_cases a <;> simp

theorem write_row (x : Vec F S2304x2x1024 .f32) (u : Vec F S2x1024 .f32) (s : Fin S2304x2x1024.rank → Int) (k : Fin 2304) (h0 : s 0 = k.val) (h1 : s 1 = 0) (h2 : s 2 = 0) :
    Host.dynamicUpdateSlice x (broadcastInDim S1x2x1024 ![1, 2] bcast_S2x1024_S1x2x1024_1_2 u) s updateFits_S2304x2x1024_S1x2x1024 = setRow x u k := by
  funext i
  idx_vars i
  pointwise
  simp only [starts s k h0 h1 h2, setRow]
  have e : (ix3 i0 i1 i2 : S2304x2x1024.Idx) 0 = i0 := rfl
  have e1 : (ix3 i0 i1 i2 : S2304x2x1024.Idx) 1 = i1 := rfl
  have e2 : (ix3 i0 i1 i2 : S2304x2x1024.Idx) 2 = i2 := rfl
  rw [e, e1, e2]
  by_cases hk : i0.val = k.val
  · rw [if_pos hk, dif_pos (by simp; omega)]
    congr 1
  · rw [if_neg hk, dif_neg (by simp; omega)]

theorem cond_keeps (X : Valuation τ sig (Elt F)) (b : Ref sig .tc) (h : b ∉ fwdCond_W) :
    after fwdCond X (Proc.devRef .tc b) = X (Proc.devRef .tc b) :=
  after_of_writes_sub fwdCond X fwdCond_writes h

/-! ## The called functions of the two bodies -/

/-! ## The called functions of the two bodies -/

theorem fwd_read_a (X : Valuation τ sig (Elt F)) (k : Fin 2304) (w : BitVec 32) (hw : w.toInt = k.val) (h : X (Proc.devRef .tc main_v11_2) = fun _ => w) :
    after fwdOps0 X (Proc.devRef .tc main_while0b_v21) = rowAt (X (Proc.devRef .tc main_v11_0)) k := by
  after_results
  refine read_row _ _ k ?_ ?_ ?_
  · show BitVec.toInt (after (fwdOps0.take 2) X (Proc.devRef .tc main_v11_2) (Shape.Idx.first h_S_)) = _
    simp only [List.take_succ_cons, List.take_zero]
    after_results
    rw [h]; exact hw
  · rfl
  · rfl
theorem fwd_read_x (X : Valuation τ sig (Elt F)) (k : Fin 2304) (w : BitVec 32) (hw : w.toInt = k.val) (h : X (Proc.devRef .tc main_v11_2) = fun _ => w) :
    after fwdOps1 X (Proc.devRef .tc main_while0b_v22) = rowAt (X (Proc.devRef .tc main_v11_1)) k := by
  after_results
  refine read_row _ _ k ?_ ?_ ?_
  · show BitVec.toInt (after (fwdOps1.take 2) X (Proc.devRef .tc main_v11_2) (Shape.Idx.first h_S_)) = _
    simp only [List.take_succ_cons, List.take_zero]
    after_results
    rw [h]; exact hw
  · rfl
  · rfl
theorem fwd_write_h (X : Valuation τ sig (Elt F)) (k : Fin 2304) (w : BitVec 32) (hw : w.toInt = k.val) (h : X (Proc.devRef .tc main_v11_2) = fun _ => w) :
    after fwdOps3 X (Proc.devRef .tc main_while0b_v25) = setRow (X (Proc.devRef .tc main_v11_4)) (X (Proc.devRef .tc main_while0b_v24)) k := by
  after_results
  refine write_row _ _ _ k ?_ ?_ ?_
  · show BitVec.toInt (after (fwdOps3.take 3) X (Proc.devRef .tc main_v11_2) (Shape.Idx.first h_S_)) = _
    simp only [List.take_succ_cons, List.take_zero]
    after_results
    rw [h]; exact hw
  · rfl
  · rfl
theorem fwd_write_p (X : Valuation τ sig (Elt F)) (k : Fin 2304) (w : BitVec 32) (hw : w.toInt = k.val) (h : X (Proc.devRef .tc main_v11_2) = fun _ => w) :
    after fwdOps4 X (Proc.devRef .tc main_while0b_v26) = setRow (X (Proc.devRef .tc main_v11_5)) (X (Proc.devRef .tc main_v11_3)) k := by
  after_results
  refine write_row _ _ _ k ?_ ?_ ?_
  · show BitVec.toInt (after (fwdOps4.take 3) X (Proc.devRef .tc main_v11_2) (Shape.Idx.first h_S_)) = _
    simp only [List.take_succ_cons, List.take_zero]
    after_results
    rw [h]; exact hw
  · rfl
  · rfl
theorem bwd_read_d (X : Valuation τ sig (Elt F)) (k : Fin 2304) (w : BitVec 32) (hw : w.toInt = k.val) (h : X (Proc.devRef .tc main_while1b_v22) = fun _ => w) :
    after bwdOps1 X (Proc.devRef .tc main_while1b_v23) = rowAt (X (Proc.devRef .tc main_v18_0)) k := by
  after_results
  refine read_row _ _ k ?_ ?_ ?_
  · show BitVec.toInt (after (bwdOps1.take 2) X (Proc.devRef .tc main_while1b_v22) (Shape.Idx.first h_S_)) = _
    simp only [List.take_succ_cons, List.take_zero]
    after_results
    rw [h]; exact hw
  · rfl
  · rfl
theorem bwd_read_p (X : Valuation τ sig (Elt F)) (k : Fin 2304) (w : BitVec 32) (hw : w.toInt = k.val) (h : X (Proc.devRef .tc main_while1b_v22) = fun _ => w) :
    after bwdOps2 X (Proc.devRef .tc main_while1b_v24) = rowAt (X (Proc.devRef .tc main_v18_1)) k := by
  after_results
  refine read_row _ _ k ?_ ?_ ?_
  · show BitVec.toInt (after (bwdOps2.take 2) X (Proc.devRef .tc main_while1b_v22) (Shape.Idx.first h_S_)) = _
    simp only [List.take_succ_cons, List.take_zero]
    after_results
    rw [h]; exact hw
  · rfl
  · rfl
theorem bwd_read_a (X : Valuation τ sig (Elt F)) (k : Fin 2304) (w : BitVec 32) (hw : w.toInt = k.val) (h : X (Proc.devRef .tc main_while1b_v22) = fun _ => w) :
    after bwdOps3 X (Proc.devRef .tc main_while1b_v25) = rowAt (X (Proc.devRef .tc main_v18_2)) k := by
  after_results
  refine read_row _ _ k ?_ ?_ ?_
  · show BitVec.toInt (after (bwdOps3.take 2) X (Proc.devRef .tc main_while1b_v22) (Shape.Idx.first h_S_)) = _
    simp only [List.take_succ_cons, List.take_zero]
    after_results
    rw [h]; exact hw
  · rfl
  · rfl
theorem bwd_write_q (X : Valuation τ sig (Elt F)) (k : Fin 2304) (w : BitVec 32) (hw : w.toInt = k.val) (h : X (Proc.devRef .tc main_while1b_v22) = fun _ => w) :
    after bwdOps5 X (Proc.devRef .tc main_while1b_v29) = setRow (X (Proc.devRef .tc main_v18_5)) (X (Proc.devRef .tc main_while1b_v28)) k := by
  after_results
  refine write_row _ _ _ k ?_ ?_ ?_
  · show BitVec.toInt (after (bwdOps5.take 3) X (Proc.devRef .tc main_while1b_v22) (Shape.Idx.first h_S_)) = _
    simp only [List.take_succ_cons, List.take_zero]
    after_results
    rw [h]; exact hw
  · rfl
  · rfl
theorem bwd_write_l (X : Valuation τ sig (Elt F)) (k : Fin 2304) (w : BitVec 32) (hw : w.toInt = k.val) (h : X (Proc.devRef .tc main_while1b_v22) = fun _ => w) :
    after bwdOps6 X (Proc.devRef .tc main_while1b_v30) = setRow (X (Proc.devRef .tc main_v18_6)) (X (Proc.devRef .tc main_while1b_v26)) k := by
  after_results
  refine write_row _ _ _ k ?_ ?_ ?_
  · show BitVec.toInt (after (bwdOps6.take 3) X (Proc.devRef .tc main_while1b_v22) (Shape.Idx.first h_S_)) = _
    simp only [List.take_succ_cons, List.take_zero]
    after_results
    rw [h]; exact hw
  · rfl
  · rfl

/-! ## The first loop's trip -/

theorem fwd_kc (X : Valuation τ sig (Elt F)) (b : Ref sig .tc) (h : b ∉ fwdCond_W) : after fwdCond X (Proc.devRef .tc b) = X (Proc.devRef .tc b) :=
  after_of_writes_sub fwdCond X fwdCond_writes h
theorem fwd_k0 (X : Valuation τ sig (Elt F)) (b : Ref sig .tc) (h : b ∉ fwdOps0_W) : after fwdOps0 X (Proc.devRef .tc b) = X (Proc.devRef .tc b) :=
  after_of_writes_sub fwdOps0 X fwdOps0_writes h
theorem fwd_k1 (X : Valuation τ sig (Elt F)) (b : Ref sig .tc) (h : b ∉ fwdOps1_W) : after fwdOps1 X (Proc.devRef .tc b) = X (Proc.devRef .tc b) :=
  after_of_writes_sub fwdOps1 X fwdOps1_writes h
theorem fwd_k2 (X : Valuation τ sig (Elt F)) (b : Ref sig .tc) (h : b ∉ fwdOps2_W) : after fwdOps2 X (Proc.devRef .tc b) = X (Proc.devRef .tc b) :=
  after_of_writes_sub fwdOps2 X fwdOps2_writes h
theorem fwd_k3 (X : Valuation τ sig (Elt F)) (b : Ref sig .tc) (h : b ∉ fwdOps3_W) : after fwdOps3 X (Proc.devRef .tc b) = X (Proc.devRef .tc b) :=
  after_of_writes_sub fwdOps3 X fwdOps3_writes h
theorem fwd_k4 (X : Valuation τ sig (Elt F)) (b : Ref sig .tc) (h : b ∉ fwdOps4_W) : after fwdOps4 X (Proc.devRef .tc b) = X (Proc.devRef .tc b) :=
  after_of_writes_sub fwdOps4 X fwdOps4_writes h
theorem fwd_k5 (X : Valuation τ sig (Elt F)) (b : Ref sig .tc) (h : b ∉ fwdOps5_W) : after fwdOps5 X (Proc.devRef .tc b) = X (Proc.devRef .tc b) :=
  after_of_writes_sub fwdOps5 X fwdOps5_writes h

/-- A buffer the first loop does not write is kept by a trip. -/
theorem fwd_keeps (X : Valuation τ sig (Elt F)) (b : Ref sig .tc) (hc : b ∉ fwdCond_W) (h0 : b ∉ fwdOps0_W) (h1 : b ∉ fwdOps1_W) (h2 : b ∉ fwdOps2_W) (h3 : b ∉ fwdOps3_W) (h4 : b ∉ fwdOps4_W) (h5 : b ∉ fwdOps5_W) :
    afterL fwdI (after fwdCond X) (Proc.devRef .tc b) = X (Proc.devRef .tc b) := by
  simp only [afterL_cons, afterL_nil]
  rw [fwd_k5 _ b h5, fwd_k4 _ b h4, fwd_k3 _ b h3, fwd_k2 _ b h2, fwd_k1 _ b h1, fwd_k0 _ b h0, fwd_kc _ b hc]

/-- The row a trip of the first loop computes. -/
abbrev fwdNew (X : Valuation τ sig (Elt F)) (k : Fin 2304) : Vec F S2x1024 .f32 :=
  addf (mulf (rowAt (X (Proc.devRef .tc main_v11_0)) k) (X (Proc.devRef .tc main_v11_3))) (rowAt (X (Proc.devRef .tc main_v11_1)) k)

section
variable (X : Valuation τ sig (Elt F)) (k : Fin 2304) (w : BitVec 32) (hw : w.toInt = k.val) (h : X (Proc.devRef .tc main_v11_2) = fun _ => w)
include hw h

theorem fwd_new : after fwdOps2 (after fwdOps1 (after fwdOps0 (after fwdCond X))) (Proc.devRef .tc main_while0b_v24) = fwdNew X k := by
  have e : ∀ Y : Valuation τ sig (Elt F), after fwdOps2 Y (Proc.devRef .tc main_while0b_v24)
      = addf (mulf (Y (Proc.devRef .tc main_while0b_v21)) (Y (Proc.devRef .tc main_v11_3))) (Y (Proc.devRef .tc main_while0b_v22)) := fun Y => by
    after_results
  have e0 := fwd_read_a (after fwdCond X) k w hw (by rw [fwd_kc _ main_v11_2 (by decide +kernel), h])
  have e1 := fwd_read_x (after fwdOps0 (after fwdCond X)) k w hw (by rw [fwd_k0 _ main_v11_2 (by decide +kernel), fwd_kc _ main_v11_2 (by decide +kernel), h])
  rw [e, e1, fwd_k1 _ main_while0b_v21 (by decide +kernel), e0, fwd_k1 _ main_v11_3 (by decide +kernel), fwd_k0 _ main_v11_3 (by decide +kernel), fwd_kc _ main_v11_3 (by decide +kernel), fwd_kc _ main_v11_0 (by decide +kernel), fwd_k0 _ main_v11_1 (by decide +kernel), fwd_kc _ main_v11_1 (by decide +kernel)]

theorem fwd_trip_carry : afterL fwdI (after fwdCond X) (Proc.devRef .tc main_v11_3) = fwdNew X k := by
  have e : ∀ Y : Valuation τ sig (Elt F), after fwdOps5 Y (Proc.devRef .tc main_v11_3) = Y (Proc.devRef .tc main_while0b_v24) := fun Y => by
    after_results
    rfl
  simp only [afterL_cons, afterL_nil]
  rw [e, fwd_k4 _ main_while0b_v24 (by decide +kernel), fwd_k3 _ main_while0b_v24 (by decide +kernel), fwd_new X k w hw h]

theorem fwd_trip_h : afterL fwdI (after fwdCond X) (Proc.devRef .tc main_v11_4) = setRow (X (Proc.devRef .tc main_v11_4)) (fwdNew X k) k := by
  have e : ∀ Y : Valuation τ sig (Elt F), after fwdOps5 Y (Proc.devRef .tc main_v11_4) = Y (Proc.devRef .tc main_while0b_v25) := fun Y => by
    after_results
    rfl
  have e3 := fwd_write_h (after fwdOps2 (after fwdOps1 (after fwdOps0 (after fwdCond X)))) k w hw (by rw [fwd_k2 _ main_v11_2 (by decide +kernel), fwd_k1 _ main_v11_2 (by decide +kernel), fwd_k0 _ main_v11_2 (by decide +kernel), fwd_kc _ main_v11_2 (by decide +kernel), h])
  simp only [afterL_cons, afterL_nil]
  rw [e, fwd_k4 _ main_while0b_v25 (by decide +kernel), e3, fwd_new X k w hw h, fwd_k2 _ main_v11_4 (by decide +kernel), fwd_k1 _ main_v11_4 (by decide +kernel), fwd_k0 _ main_v11_4 (by decide +kernel), fwd_kc _ main_v11_4 (by decide +kernel)]

theorem fwd_trip_p : afterL fwdI (after fwdCond X) (Proc.devRef .tc main_v11_5) = setRow (X (Proc.devRef .tc main_v11_5)) (X (Proc.devRef .tc main_v11_3)) k := by
  have e : ∀ Y : Valuation τ sig (Elt F), after fwdOps5 Y (Proc.devRef .tc main_v11_5) = Y (Proc.devRef .tc main_while0b_v26) := fun Y => by
    after_results
    rfl
  have e4 := fwd_write_p (after fwdOps3 (after fwdOps2 (after fwdOps1 (after fwdOps0 (after fwdCond X))))) k w hw (by rw [fwd_k3 _ main_v11_2 (by decide +kernel), fwd_k2 _ main_v11_2 (by decide +kernel), fwd_k1 _ main_v11_2 (by decide +kernel), fwd_k0 _ main_v11_2 (by decide +kernel), fwd_kc _ main_v11_2 (by decide +kernel), h])
  simp only [afterL_cons, afterL_nil]
  rw [e, e4, fwd_k3 _ main_v11_5 (by decide +kernel), fwd_k2 _ main_v11_5 (by decide +kernel), fwd_k1 _ main_v11_5 (by decide +kernel), fwd_k0 _ main_v11_5 (by decide +kernel), fwd_kc _ main_v11_5 (by decide +kernel), fwd_k3 _ main_v11_3 (by decide +kernel), fwd_k2 _ main_v11_3 (by decide +kernel), fwd_k1 _ main_v11_3 (by decide +kernel), fwd_k0 _ main_v11_3 (by decide +kernel), fwd_kc _ main_v11_3 (by decide +kernel)]

end

/-! ## The second loop's trip -/

theorem bwd_kc (X : Valuation τ sig (Elt F)) (b : Ref sig .tc) (h : b ∉ bwdCond_W) : after bwdCond X (Proc.devRef .tc b) = X (Proc.devRef .tc b) :=
  after_of_writes_sub bwdCond X bwdCond_writes h
theorem bwd_k0 (X : Valuation τ sig (Elt F)) (b : Ref sig .tc) (h : b ∉ bwdOps0_W) : after bwdOps0 X (Proc.devRef .tc b) = X (Proc.devRef .tc b) :=
  after_of_writes_sub bwdOps0 X bwdOps0_writes h
theorem bwd_k1 (X : Valuation τ sig (Elt F)) (b : Ref sig .tc) (h : b ∉ bwdOps1_W) : after bwdOps1 X (Proc.devRef .tc b) = X (Proc.devRef .tc b) :=
  after_of_writes_sub bwdOps1 X bwdOps1_writes h
theorem bwd_k2 (X : Valuation τ sig (Elt F)) (b : Ref sig .tc) (h : b ∉ bwdOps2_W) : after bwdOps2 X (Proc.devRef .tc b) = X (Proc.devRef .tc b) :=
  after_of_writes_sub bwdOps2 X bwdOps2_writes h
theorem bwd_k3 (X : Valuation τ sig (Elt F)) (b : Ref sig .tc) (h : b ∉ bwdOps3_W) : after bwdOps3 X (Proc.devRef .tc b) = X (Proc.devRef .tc b) :=
  after_of_writes_sub bwdOps3 X bwdOps3_writes h
theorem bwd_k4 (X : Valuation τ sig (Elt F)) (b : Ref sig .tc) (h : b ∉ bwdOps4_W) : after bwdOps4 X (Proc.devRef .tc b) = X (Proc.devRef .tc b) :=
  after_of_writes_sub bwdOps4 X bwdOps4_writes h
theorem bwd_k5 (X : Valuation τ sig (Elt F)) (b : Ref sig .tc) (h : b ∉ bwdOps5_W) : after bwdOps5 X (Proc.devRef .tc b) = X (Proc.devRef .tc b) :=
  after_of_writes_sub bwdOps5 X bwdOps5_writes h
theorem bwd_k6 (X : Valuation τ sig (Elt F)) (b : Ref sig .tc) (h : b ∉ bwdOps6_W) : after bwdOps6 X (Proc.devRef .tc b) = X (Proc.devRef .tc b) :=
  after_of_writes_sub bwdOps6 X bwdOps6_writes h
theorem bwd_k7 (X : Valuation τ sig (Elt F)) (b : Ref sig .tc) (h : b ∉ bwdOps7_W) : after bwdOps7 X (Proc.devRef .tc b) = X (Proc.devRef .tc b) :=
  after_of_writes_sub bwdOps7 X bwdOps7_writes h

/-- A buffer the second loop does not write is kept by a trip. -/
theorem bwd_keeps (X : Valuation τ sig (Elt F)) (b : Ref sig .tc) (hc : b ∉ bwdCond_W) (h0 : b ∉ bwdOps0_W) (h1 : b ∉ bwdOps1_W) (h2 : b ∉ bwdOps2_W) (h3 : b ∉ bwdOps3_W) (h4 : b ∉ bwdOps4_W) (h5 : b ∉ bwdOps5_W) (h6 : b ∉ bwdOps6_W) (h7 : b ∉ bwdOps7_W) :
    afterL bwdI (after bwdCond X) (Proc.devRef .tc b) = X (Proc.devRef .tc b) := by
  simp only [afterL_cons, afterL_nil]
  rw [bwd_k7 _ b h7, bwd_k6 _ b h6, bwd_k5 _ b h5, bwd_k4 _ b h4, bwd_k3 _ b h3, bwd_k2 _ b h2, bwd_k1 _ b h1, bwd_k0 _ b h0, bwd_kc _ b hc]

/-- The cotangent row a trip of the second loop computes. -/
abbrev bwdNew (X : Valuation τ sig (Elt F)) (r : Fin 2304) : Vec F S2x1024 .f32 :=
  addf (X (Proc.devRef .tc main_v18_4)) (rowAt (X (Proc.devRef .tc main_v18_0)) r)

section
variable (X : Valuation τ sig (Elt F)) (r : Fin 2304) (w : BitVec 32) (hw : (2304#32 - w - 1#32).toInt = r.val) (h : X (Proc.devRef .tc main_v18_3) = fun _ => w)
include hw h

theorem bwd_row : after bwdOps0 (after bwdCond X) (Proc.devRef .tc main_while1b_v22) = fun _ => 2304#32 - w - 1#32 := by
  have e : ∀ Y : Valuation τ sig (Elt F), after bwdOps0 Y (Proc.devRef .tc main_while1b_v22)
      = subi (subi (constantI S_ 32 2304#32) (Y (Proc.devRef .tc main_v18_3))) (constantI S_ 32 1#32) := fun Y => by
    after_results
  rw [e, bwd_kc _ main_v18_3 (by decide +kernel), h]
  rfl

/-- The second loop's body up to the rows it reads. -/
theorem bwd_new : after bwdOps4 (after bwdOps3 (after bwdOps2 (after bwdOps1 (after bwdOps0 (after bwdCond X))))) (Proc.devRef .tc main_while1b_v26) = bwdNew X r := by
  have e : ∀ Y : Valuation τ sig (Elt F), after bwdOps4 Y (Proc.devRef .tc main_while1b_v26)
      = addf (Y (Proc.devRef .tc main_v18_4)) (Y (Proc.devRef .tc main_while1b_v23)) := fun Y => by
    after_results
  have e0 := bwd_read_d (after bwdOps0 (after bwdCond X)) r _ hw (bwd_row X r w hw h)
  rw [e, bwd_k3 _ main_while1b_v23 (by decide +kernel), bwd_k2 _ main_while1b_v23 (by decide +kernel), e0, bwd_k3 _ main_v18_4 (by decide +kernel), bwd_k2 _ main_v18_4 (by decide +kernel), bwd_k1 _ main_v18_4 (by decide +kernel), bwd_k0 _ main_v18_4 (by decide +kernel), bwd_kc _ main_v18_4 (by decide +kernel), bwd_k0 _ main_v18_0 (by decide +kernel), bwd_kc _ main_v18_0 (by decide +kernel)]

theorem bwd_carry : after bwdOps4 (after bwdOps3 (after bwdOps2 (after bwdOps1 (after bwdOps0 (after bwdCond X))))) (Proc.devRef .tc main_while1b_v27)
    = mulf (rowAt (X (Proc.devRef .tc main_v18_2)) r) (bwdNew X r) := by
  have e : ∀ Y : Valuation τ sig (Elt F), after bwdOps4 Y (Proc.devRef .tc main_while1b_v27)
      = mulf (Y (Proc.devRef .tc main_while1b_v25)) (after bwdOps4 Y (Proc.devRef .tc main_while1b_v26)) := fun Y => by
    after_results
  have e0 := bwd_read_a (after bwdOps2 (after bwdOps1 (after bwdOps0 (after bwdCond X)))) r _ hw (by rw [bwd_k2 _ main_while1b_v22 (by decide +kernel), bwd_k1 _ main_while1b_v22 (by decide +kernel), bwd_row X r w hw h])
  rw [e, bwd_new X r w hw h, e0, bwd_k2 _ main_v18_2 (by decide +kernel), bwd_k1 _ main_v18_2 (by decide +kernel), bwd_k0 _ main_v18_2 (by decide +kernel), bwd_kc _ main_v18_2 (by decide +kernel)]

theorem bwd_prod : after bwdOps4 (after bwdOps3 (after bwdOps2 (after bwdOps1 (after bwdOps0 (after bwdCond X))))) (Proc.devRef .tc main_while1b_v28)
    = mulf (bwdNew X r) (rowAt (X (Proc.devRef .tc main_v18_1)) r) := by
  have e : ∀ Y : Valuation τ sig (Elt F), after bwdOps4 Y (Proc.devRef .tc main_while1b_v28)
      = mulf (after bwdOps4 Y (Proc.devRef .tc main_while1b_v26)) (Y (Proc.devRef .tc main_while1b_v24)) := fun Y => by
    after_results
  have e0 := bwd_read_p (after bwdOps1 (after bwdOps0 (after bwdCond X))) r _ hw (by rw [bwd_k1 _ main_while1b_v22 (by decide +kernel), bwd_row X r w hw h])
  rw [e, bwd_new X r w hw h, bwd_k3 _ main_while1b_v24 (by decide +kernel), e0, bwd_k1 _ main_v18_1 (by decide +kernel), bwd_k0 _ main_v18_1 (by decide +kernel), bwd_kc _ main_v18_1 (by decide +kernel)]

theorem bwd_trip_carry : afterL bwdI (after bwdCond X) (Proc.devRef .tc main_v18_4) = mulf (rowAt (X (Proc.devRef .tc main_v18_2)) r) (bwdNew X r) := by
  have e : ∀ Y : Valuation τ sig (Elt F), after bwdOps7 Y (Proc.devRef .tc main_v18_4) = Y (Proc.devRef .tc main_while1b_v27) := fun Y => by
    after_results
    rfl
  simp only [afterL_cons, afterL_nil]
  rw [e, bwd_k6 _ main_while1b_v27 (by decide +kernel), bwd_k5 _ main_while1b_v27 (by decide +kernel), bwd_carry X r w hw h]

theorem bwd_trip_q : afterL bwdI (after bwdCond X) (Proc.devRef .tc main_v18_5)
    = setRow (X (Proc.devRef .tc main_v18_5)) (mulf (bwdNew X r) (rowAt (X (Proc.devRef .tc main_v18_1)) r)) r := by
  have e : ∀ Y : Valuation τ sig (Elt F), after bwdOps7 Y (Proc.devRef .tc main_v18_5) = Y (Proc.devRef .tc main_while1b_v29) := fun Y => by
    after_results
    rfl
  have e5 := bwd_write_q (after bwdOps4 (after bwdOps3 (after bwdOps2 (after bwdOps1 (after bwdOps0 (after bwdCond X)))))) r _ hw
    (by rw [bwd_k4 _ main_while1b_v22 (by decide +kernel), bwd_k3 _ main_while1b_v22 (by decide +kernel), bwd_k2 _ main_while1b_v22 (by decide +kernel), bwd_k1 _ main_while1b_v22 (by decide +kernel), bwd_row X r w hw h])
  simp only [afterL_cons, afterL_nil]
  rw [e, bwd_k6 _ main_while1b_v29 (by decide +kernel), e5, bwd_prod X r w hw h, bwd_k4 _ main_v18_5 (by decide +kernel), bwd_k3 _ main_v18_5 (by decide +kernel), bwd_k2 _ main_v18_5 (by decide +kernel), bwd_k1 _ main_v18_5 (by decide +kernel), bwd_k0 _ main_v18_5 (by decide +kernel), bwd_kc _ main_v18_5 (by decide +kernel)]

theorem bwd_trip_l : afterL bwdI (after bwdCond X) (Proc.devRef .tc main_v18_6) = setRow (X (Proc.devRef .tc main_v18_6)) (bwdNew X r) r := by
  have e : ∀ Y : Valuation τ sig (Elt F), after bwdOps7 Y (Proc.devRef .tc main_v18_6) = Y (Proc.devRef .tc main_while1b_v30) := fun Y => by
    after_results
    rfl
  have e6 := bwd_write_l (after bwdOps5 (after bwdOps4 (after bwdOps3 (after bwdOps2 (after bwdOps1 (after bwdOps0 (after bwdCond X))))))) r _ hw
    (by rw [bwd_k5 _ main_while1b_v22 (by decide +kernel), bwd_k4 _ main_while1b_v22 (by decide +kernel), bwd_k3 _ main_while1b_v22 (by decide +kernel), bwd_k2 _ main_while1b_v22 (by decide +kernel), bwd_k1 _ main_while1b_v22 (by decide +kernel), bwd_row X r w hw h])
  simp only [afterL_cons, afterL_nil]
  rw [e, e6, bwd_k5 _ main_while1b_v26 (by decide +kernel), bwd_new X r w hw h, bwd_k5 _ main_v18_6 (by decide +kernel), bwd_k4 _ main_v18_6 (by decide +kernel), bwd_k3 _ main_v18_6 (by decide +kernel), bwd_k2 _ main_v18_6 (by decide +kernel), bwd_k1 _ main_v18_6 (by decide +kernel), bwd_k0 _ main_v18_6 (by decide +kernel), bwd_kc _ main_v18_6 (by decide +kernel)]

end

end Cert.Scan.Ref

end
-- ==== Proof.RefValue.lean ====
module

public import proofs.«01_k».proof.Proof.RefTrip
public import proofs.«01_k».proof.Proof.ScanSeq
public import Idealize.ShloMosaic.Lib.IdealHost

/-! What the reference's two loops leave: the states, the cotangents, and the products, element by element. -/

@[expose] public section

set_option maxRecDepth 16384

noncomputable section

namespace Cert.Scan.Ref

open Cert.ReferenceIdeal Cert.ReferenceIdeal.Gen
open Idealize.ShloMosaic Idealize.ShloMosaic.TcCoe Idealize.ShloMosaic.Tactic
open Idealize.ShloMosaic.StableHlo

/-- A channel of a time-major array as a sequence, zero past its end. -/
def col (A : Vec Ideal S2304x2x1024 .f32) (b : Fin 2) (w : Fin 1024) (t : ℕ) : EReal := if h : t < 2304 then A (ix3 ⟨t, h⟩ b w) else 0

theorem rowAt_apply (A : Vec Ideal S2304x2x1024 .f32) (k : Fin 2304) (b : Fin 2) (w : Fin 1024) : rowAt A k (ix2 b w) = col A b w k.val := by
  unfold col; rw [dif_pos k.isLt]; rfl

theorem setRow_apply (A : Vec Ideal S2304x2x1024 .f32) (u : Vec Ideal S2x1024 .f32) (k t : Fin 2304) (b : Fin 2) (w : Fin 1024) :
    setRow A u k (ix3 t b w) = if t.val = k.val then u (ix2 b w) else A (ix3 t b w) := rfl

theorem iv_toInt (k : ℕ) (hk : k < 2304) : (Scf.iv 0#32 1#32 k).toInt = k := by
  rw [Scf.toInt_iv (lb := 0#32) (ub := 2304#32) (st := 1#32) (by decide) (show k ≤ Scf.trips 0#32 2304#32 1#32 from hk.le)]
  simp

theorem iv_eq (k : ℕ) : Scf.iv 0#32 1#32 k = BitVec.ofNat 32 k := by
  induction k with
  | zero => rfl
  | succ k ih => rw [Scf.iv_succ, ih]; simp [BitVec.ofNat_add]

theorem iv_back (k : ℕ) (hk : k < 2304) : (2304#32 - Scf.iv 0#32 1#32 k - 1#32).toInt = (2303 - k : ℕ) := by
  rw [iv_eq]
  have : (2304#32 - BitVec.ofNat 32 k - 1#32) = BitVec.ofNat 32 (2303 - k) := by
    apply BitVec.eq_of_toNat_eq
    simp only [BitVec.toNat_sub, BitVec.toNat_ofNat]
    omega
  rw [this, BitVec.toInt_eq_toNat_cond, BitVec.toNat_ofNat]
  split <;> omega

variable (m : (ℓ : Loc nD τ sig) → Buf (Elt Ideal) ℓ) (c : Dev nD)

theorem fwdAt_succ (k : ℕ) : fwdAt m (k + 1) c = afterL fwdI (after fwdCond (fwdAt m k c)) := rfl
theorem bwdAt_succ (k : ℕ) : bwdAt m (k + 1) c = afterL bwdI (after bwdCond (bwdAt m k c)) := rfl

/-! ## The first loop -/

theorem fwdAt_keeps (b : Ref sig .tc) (hc : b ∉ fwdCond_W) (h0 : b ∉ fwdOps0_W) (h1 : b ∉ fwdOps1_W) (h2 : b ∉ fwdOps2_W)
    (h3 : b ∉ fwdOps3_W) (h4 : b ∉ fwdOps4_W) (h5 : b ∉ fwdOps5_W) : ∀ k, fwdAt m k c (Proc.devRef .tc b) = entry0 m c (Proc.devRef .tc b)
  | 0 => rfl
  | k + 1 => by rw [fwdAt_succ, fwd_keeps _ b hc h0 h1 h2 h3 h4 h5]; exact fwdAt_keeps b hc h0 h1 h2 h3 h4 h5 k

/-- The decays and the inputs the first loop runs over, time first. -/
abbrev Aent : Vec Ideal S2304x2x1024 .f32 := entry0 m c (Proc.devRef .tc main_v11_0)
abbrev Xent : Vec Ideal S2304x2x1024 .f32 := entry0 m c (Proc.devRef .tc main_v11_1)

theorem fwdAt_a (k : ℕ) : fwdAt m k c (Proc.devRef .tc main_v11_0) = Aent m c := by
  apply fwdAt_keeps <;> decide +kernel
theorem fwdAt_x (k : ℕ) : fwdAt m k c (Proc.devRef .tc main_v11_1) = Xent m c := by
  apply fwdAt_keeps <;> decide +kernel

theorem carry_entry : entry0 m c (Proc.devRef .tc main_v11_3) = fun _ => (0 : EReal) := by
  simp only [entry0, entryContents, afterL_cons, afterL_nil]
  after_reads_simp
  funext j
  exact Idealize.ShloMosaic.Ideal.ofBits_zero_f32

theorem fwd_carry (b : Fin 2) (w : Fin 1024) : ∀ k, k ≤ 2304 →
    fwdAt m k c (Proc.devRef .tc main_v11_3) (ix2 b w) = hs (col (Aent m c) b w) (col (Xent m c) b w) k
  | 0, _ => by rw [show fwdAt m 0 c = entry0 m c from rfl, carry_entry]; rfl
  | k + 1, hk => by
    have ih := fwd_carry b w k (by omega)
    rw [fwdAt_succ, fwd_trip_carry _ ⟨k, by omega⟩ _ (iv_toInt k (by omega)) (fwd_ctr m c k), fwdNew, fwdAt_a, fwdAt_x]
    show rowAt (Aent m c) ⟨k, _⟩ (ix2 b w) * (fwdAt m k c (Proc.devRef .tc main_v11_3) (ix2 b w) : EReal) + rowAt (Xent m c) ⟨k, _⟩ (ix2 b w) = _
    rw [ih, rowAt_apply, rowAt_apply]; rfl

theorem fwd_h (b : Fin 2) (w : Fin 1024) (t : Fin 2304) : ∀ k, k ≤ 2304 → t.val < k →
    fwdAt m k c (Proc.devRef .tc main_v11_4) (ix3 t b w) = hs (col (Aent m c) b w) (col (Xent m c) b w) (t.val + 1)
  | 0, _, h => absurd h (Nat.not_lt_zero _)
  | k + 1, hk, ht => by
    rw [fwdAt_succ, fwd_trip_h _ ⟨k, by omega⟩ _ (iv_toInt k (by omega)) (fwd_ctr m c k), setRow_apply]
    by_cases e : t.val = k
    · rw [if_pos e, ← fwd_trip_carry _ ⟨k, by omega⟩ _ (iv_toInt k (by omega)) (fwd_ctr m c k), ← fwdAt_succ, fwd_carry m c b w (k + 1) hk, e]
    · rw [if_neg e]; exact fwd_h b w t k (by omega) (by omega)

theorem fwd_p (b : Fin 2) (w : Fin 1024) (t : Fin 2304) : ∀ k, k ≤ 2304 → t.val < k →
    fwdAt m k c (Proc.devRef .tc main_v11_5) (ix3 t b w) = hs (col (Aent m c) b w) (col (Xent m c) b w) t.val
  | 0, _, h => absurd h (Nat.not_lt_zero _)
  | k + 1, hk, ht => by
    rw [fwdAt_succ, fwd_trip_p _ ⟨k, by omega⟩ _ (iv_toInt k (by omega)) (fwd_ctr m c k), setRow_apply]
    by_cases e : t.val = k
    · rw [if_pos e, fwd_carry m c b w k (by omega), e]
    · rw [if_neg e]; exact fwd_p b w t k (by omega) (by omega)

/-! ## The second loop -/

theorem bwdAt_keeps (b : Ref sig .tc) (hc : b ∉ bwdCond_W) (h0 : b ∉ bwdOps0_W) (h1 : b ∉ bwdOps1_W) (h2 : b ∉ bwdOps2_W)
    (h3 : b ∉ bwdOps3_W) (h4 : b ∉ bwdOps4_W) (h5 : b ∉ bwdOps5_W) (h6 : b ∉ bwdOps6_W) (h7 : b ∉ bwdOps7_W) :
    ∀ k, bwdAt m k c (Proc.devRef .tc b) = entry1 m c (Proc.devRef .tc b)
  | 0 => rfl
  | k + 1 => by rw [bwdAt_succ, bwd_keeps _ b hc h0 h1 h2 h3 h4 h5 h6 h7]; exact bwdAt_keeps b hc h0 h1 h2 h3 h4 h5 h6 h7 k

/-- What the second loop runs over, time first: the cotangents, the states before each step, the decays. -/
abbrev Dent : Vec Ideal S2304x2x1024 .f32 := entry1 m c (Proc.devRef .tc main_v18_0)
abbrev Pent : Vec Ideal S2304x2x1024 .f32 := entry1 m c (Proc.devRef .tc main_v18_1)
abbrev Bent : Vec Ideal S2304x2x1024 .f32 := entry1 m c (Proc.devRef .tc main_v18_2)

theorem bwdAt_d (k : ℕ) : bwdAt m k c (Proc.devRef .tc main_v18_0) = Dent m c := by
  apply bwdAt_keeps <;> decide +kernel
theorem bwdAt_p (k : ℕ) : bwdAt m k c (Proc.devRef .tc main_v18_1) = Pent m c := by
  apply bwdAt_keeps <;> decide +kernel
theorem bwdAt_b (k : ℕ) : bwdAt m k c (Proc.devRef .tc main_v18_2) = Bent m c := by
  apply bwdAt_keeps <;> decide +kernel

theorem back_entry_mid (X : Valuation τ sig (Elt Ideal)) : afterL midI X (Proc.devRef .tc main_v18_4) = fun _ => (0 : EReal) := by
  simp only [afterL_cons, afterL_nil]
  after_reads_simp
  funext j
  exact Idealize.ShloMosaic.Ideal.ofBits_zero_f32

theorem bwd_carry_eq (b : Fin 2) (w : Fin 1024) : ∀ k, k ≤ 2304 →
    bwdAt m k c (Proc.devRef .tc main_v18_4) (ix2 b w) = ls (col (Bent m c) b w) (col (Dent m c) b w) k
  | 0, _ => by rw [show bwdAt m 0 c = entry1 m c from rfl, entry1, back_entry_mid]; rfl
  | k + 1, hk => by
    have ih := bwd_carry_eq b w k (by omega)
    rw [bwdAt_succ, bwd_trip_carry _ ⟨2303 - k, by omega⟩ _ (iv_back k (by omega)) (bwd_ctr m c k), bwdAt_b, bwdNew, bwdAt_d]
    show rowAt (Bent m c) ⟨2303 - k, _⟩ (ix2 b w) * @HAdd.hAdd EReal EReal EReal _ (bwdAt m k c (Proc.devRef .tc main_v18_4) (ix2 b w)) (rowAt (Dent m c) ⟨2303 - k, _⟩ (ix2 b w)) = _
    rw [ih, rowAt_apply, rowAt_apply]; rfl

theorem bwdNew_eq (b : Fin 2) (w : Fin 1024) (k : ℕ) (hk : k < 2304) :
    bwdNew (bwdAt m k c) ⟨2303 - k, by omega⟩ (ix2 b w) = ls (col (Bent m c) b w) (col (Dent m c) b w) k + col (Dent m c) b w (2303 - k) := by
  rw [bwdNew, bwdAt_d]
  show @HAdd.hAdd EReal EReal EReal _ (bwdAt m k c (Proc.devRef .tc main_v18_4) (ix2 b w)) (rowAt (Dent m c) ⟨2303 - k, _⟩ (ix2 b w)) = _
  rw [bwd_carry_eq m c b w k hk.le, rowAt_apply]

theorem bwd_l (b : Fin 2) (w : Fin 1024) (t : Fin 2304) : ∀ k, k ≤ 2304 → 2304 - k ≤ t.val →
    bwdAt m k c (Proc.devRef .tc main_v18_6) (ix3 t b w) = ls (col (Bent m c) b w) (col (Dent m c) b w) (2303 - t.val) + col (Dent m c) b w t.val
  | 0, _, h => absurd h (by have := t.isLt; omega)
  | k + 1, hk, ht => by
    rw [bwdAt_succ, bwd_trip_l _ ⟨2303 - k, by omega⟩ _ (iv_back k (by omega)) (bwd_ctr m c k), setRow_apply]
    by_cases e : t.val = 2303 - k
    · rw [if_pos e, bwdNew_eq m c b w k (by omega), e, show 2303 - (2303 - k) = k by omega]
    · rw [if_neg e]; exact bwd_l b w t k (by omega) (by omega)

theorem bwd_q (b : Fin 2) (w : Fin 1024) (t : Fin 2304) : ∀ k, k ≤ 2304 → 2304 - k ≤ t.val →
    bwdAt m k c (Proc.devRef .tc main_v18_5) (ix3 t b w)
      = (ls (col (Bent m c) b w) (col (Dent m c) b w) (2303 - t.val) + col (Dent m c) b w t.val) * col (Pent m c) b w t.val
  | 0, _, h => absurd h (by have := t.isLt; omega)
  | k + 1, hk, ht => by
    rw [bwdAt_succ, bwd_trip_q _ ⟨2303 - k, by omega⟩ _ (iv_back k (by omega)) (bwd_ctr m c k), setRow_apply]
    by_cases e : t.val = 2303 - k
    · rw [if_pos e, bwdAt_p]
      show bwdNew (bwdAt m k c) ⟨2303 - k, _⟩ (ix2 b w) * rowAt (Pent m c) ⟨2303 - k, _⟩ (ix2 b w) = _
      rw [bwdNew_eq m c b w k (by omega), rowAt_apply, e, show 2303 - (2303 - k) = k by omega]
    · rw [if_neg e]; exact bwd_q b w t k (by omega) (by omega)

/-! ## In terms of the arguments -/

/-- A channel of the decays (the first direction's), of the inputs, and of the cotangents, zero past the end. -/
abbrev decayAt (b : Fin 2) (w : Fin 1024) (t : ℕ) : EReal := if h : t < 2304 then m ((c.tc : Thread nD τ).loc main_arg0) (ix4 (0 : Fin 2) b ⟨t, h⟩ w) else 0
abbrev inputAt (b : Fin 2) (w : Fin 1024) (t : ℕ) : EReal := if h : t < 2304 then m ((c.tc : Thread nD τ).loc main_arg1) (ix4 (0 : Fin 2) b ⟨t, h⟩ w) else 0
abbrev cotAt (b : Fin 2) (w : Fin 1024) (t : ℕ) : EReal := if h : t < 2304 then m ((c.tc : Thread nD τ).loc main_arg2) (ix3 b ⟨t, h⟩ w) else 0

theorem Aent_apply (t : Fin 2304) (b : Fin 2) (w : Fin 1024) : Aent m c (ix3 t b w) = m ((c.tc : Thread nD τ).loc main_arg0) (ix4 (0 : Fin 2) b t w) := by
  simp only [Aent, entry0, entryContents, afterL_cons, afterL_nil]
  after_reads_at
  simp only [id]
  pointwise
theorem Xent_apply (t : Fin 2304) (b : Fin 2) (w : Fin 1024) : Xent m c (ix3 t b w) = m ((c.tc : Thread nD τ).loc main_arg1) (ix4 (0 : Fin 2) b t w) := by
  simp only [Xent, entry0, entryContents, afterL_cons, afterL_nil]
  after_reads_at
  simp only [id]
  pointwise

theorem col_A (b : Fin 2) (w : Fin 1024) : col (Aent m c) b w = decayAt m c b w := by
  funext t; unfold col decayAt; split
  · exact Aent_apply m c _ b w
  · rfl
theorem col_X (b : Fin 2) (w : Fin 1024) : col (Xent m c) b w = inputAt m c b w := by
  funext t; unfold col inputAt; split
  · exact Xent_apply m c _ b w
  · rfl

theorem exit0_keeps (b : Ref sig .tc) (hc : b ∉ fwdCond_W) : exit0 m c (Proc.devRef .tc b) = fwdAt m 2304 c (Proc.devRef .tc b) := fwd_kc _ b hc
theorem exit1_keeps (b : Ref sig .tc) (hc : b ∉ bwdCond_W) : exit1 m c (Proc.devRef .tc b) = bwdAt m 2304 c (Proc.devRef .tc b) := bwd_kc _ b hc

theorem mid_keeps (X : Valuation τ sig (Elt Ideal)) (b : Ref sig .tc) (h : b ∉ mainOps1_W) : afterL midI X (Proc.devRef .tc b) = X (Proc.devRef .tc b) :=
  after_of_writes_sub mainOps1 X mainOps1_writes h
theorem post_keeps (X : Valuation τ sig (Elt Ideal)) (b : Ref sig .tc) (h : b ∉ mainOps2_W) : afterL postI X (Proc.devRef .tc b) = X (Proc.devRef .tc b) :=
  after_of_writes_sub mainOps2 X mainOps2_writes h
theorem pre_keeps (b : Ref sig .tc) (h : b ∉ mainOps0_W) : entry0 m c (Proc.devRef .tc b) = m ((c.tc : Thread nD τ).loc b) :=
  after_of_writes_sub mainOps0 _ mainOps0_writes h

/-- An argument ends as it was launched. -/
theorem final_arg (b : Ref sig .tc) (hp : b ∉ mainOps0_W ++ mainOps1_W ++ mainOps2_W) (hc : b ∉ fwdCond_W ++ bwdCond_W)
    (hf : b ∉ fwdOps0_W ++ fwdOps1_W ++ fwdOps2_W ++ fwdOps3_W ++ fwdOps4_W ++ fwdOps5_W)
    (hb : b ∉ bwdOps0_W ++ bwdOps1_W ++ bwdOps2_W ++ bwdOps3_W ++ bwdOps4_W ++ bwdOps5_W ++ bwdOps6_W ++ bwdOps7_W) :
    final m c (Proc.devRef .tc b) = m ((c.tc : Thread nD τ).loc b) := by
  simp only [List.mem_append, not_or] at hp hc hf hb
  rw [final, post_keeps _ b hp.2, exit1_keeps m c b hc.2, bwdAt_keeps m c b hc.2 (by tauto) (by tauto) (by tauto) (by tauto) (by tauto) (by tauto) (by tauto) (by tauto),
    entry1, mid_keeps _ b hp.1.2, exit0_keeps m c b hc.1, fwdAt_keeps m c b hc.1 (by tauto) (by tauto) (by tauto) (by tauto) (by tauto) (by tauto),
    pre_keeps m c b hp.1.1]

theorem Dent_mid (X : Valuation τ sig (Elt Ideal)) (t : Fin 2304) (b : Fin 2) (w : Fin 1024) :
    afterL midI X (Proc.devRef .tc main_v18_0) (ix3 t b w) = X (Proc.devRef .tc main_arg2) (ix3 b t w) := by
  simp only [afterL_cons, afterL_nil]
  after_reads_at
  simp only [id]
  pointwise
theorem Pent_mid (X : Valuation τ sig (Elt Ideal)) : afterL midI X (Proc.devRef .tc main_v18_1) = X (Proc.devRef .tc main_v11_5) := by
  simp only [afterL_cons, afterL_nil]
  after_reads_simp
  rfl
theorem Bent_mid (X : Valuation τ sig (Elt Ideal)) : afterL midI X (Proc.devRef .tc main_v18_2) = X (Proc.devRef .tc main_v7) := by
  simp only [afterL_cons, afterL_nil]
  after_reads_simp
  rfl

theorem exit0_arg2 : exit0 m c (Proc.devRef .tc main_arg2) = m ((c.tc : Thread nD τ).loc main_arg2) := by
  rw [exit0_keeps m c _ (by decide +kernel), fwdAt_keeps m c main_arg2 (by decide +kernel) (by decide +kernel) (by decide +kernel) (by decide +kernel)
    (by decide +kernel) (by decide +kernel) (by decide +kernel), pre_keeps m c _ (by decide +kernel)]

theorem col_D (b : Fin 2) (w : Fin 1024) : col (Dent m c) b w = cotAt m c b w := by
  funext t; unfold col cotAt; split
  · rw [Dent, entry1, Dent_mid, exit0_arg2]
  · rfl

theorem pre_v7 (t : Fin 2304) (b : Fin 2) (w : Fin 1024) :
    entry0 m c (Proc.devRef .tc main_v7) (ix3 t b w) = m ((c.tc : Thread nD τ).loc main_arg0) (ix4 (0 : Fin 2) b t w) := by
  simp only [entry0, entryContents, afterL_cons, afterL_nil]
  after_reads_at

theorem col_B (b : Fin 2) (w : Fin 1024) : col (Bent m c) b w = decayAt m c b w := by
  funext t; unfold col decayAt; split
  · rw [Bent, entry1, Bent_mid, exit0_keeps m c _ (by decide +kernel), fwdAt_keeps m c main_v7 (by decide +kernel) (by decide +kernel) (by decide +kernel) (by decide +kernel)
      (by decide +kernel) (by decide +kernel) (by decide +kernel)]
    exact pre_v7 m c _ b w
  · rfl

theorem col_P (b : Fin 2) (w : Fin 1024) (t : Fin 2304) : col (Pent m c) b w t.val = hs (decayAt m c b w) (inputAt m c b w) t.val := by
  unfold col
  rw [dif_pos t.isLt, Pent, entry1, Pent_mid, exit0_keeps m c _ (by decide +kernel)]
  rw [fwd_p m c b w t 2304 le_rfl t.isLt, col_A, col_X]

theorem post_h (X : Valuation τ sig (Elt Ideal)) (t : Fin 2304) (b : Fin 2) (w : Fin 1024) :
    afterL midI X (Proc.devRef .tc main_v12) (ix3 b t w) = X (Proc.devRef .tc main_v11_4) (ix3 t b w) := by
  simp only [afterL_cons, afterL_nil]
  after_reads_at
theorem post_l (X : Valuation τ sig (Elt Ideal)) (t : Fin 2304) (b : Fin 2) (w : Fin 1024) :
    afterL postI X (Proc.devRef .tc main_v19) (ix3 b t w) = X (Proc.devRef .tc main_v18_6) (ix3 t b w) := by
  simp only [afterL_cons, afterL_nil]
  after_reads_at
theorem post_q (X : Valuation τ sig (Elt Ideal)) (t : Fin 2304) (b : Fin 2) (w : Fin 1024) :
    afterL postI X (Proc.devRef .tc main_v20) (ix3 b t w) = X (Proc.devRef .tc main_v18_5) (ix3 t b w) := by
  simp only [afterL_cons, afterL_nil]
  after_reads_at

/-- The states the reference returns. -/
theorem final_h (b : Fin 2) (t : Fin 2304) (w : Fin 1024) :
    final m c (Proc.devRef .tc main_v12) (ix3 b t w) = hs (decayAt m c b w) (inputAt m c b w) (t.val + 1) := by
  rw [final, post_keeps _ main_v12 (by decide +kernel), exit1_keeps m c _ (by decide +kernel), bwdAt_keeps m c main_v12 (by decide +kernel) (by decide +kernel)
    (by decide +kernel) (by decide +kernel) (by decide +kernel) (by decide +kernel) (by decide +kernel) (by decide +kernel) (by decide +kernel),
    entry1, post_h, exit0_keeps m c _ (by decide +kernel), fwd_h m c b w t 2304 le_rfl t.isLt, col_A, col_X]

/-- The gradient of the inputs the reference returns. -/
theorem final_l (b : Fin 2) (t : Fin 2304) (w : Fin 1024) :
    final m c (Proc.devRef .tc main_v19) (ix3 b t w) = ls (decayAt m c b w) (cotAt m c b w) (2303 - t.val) + cotAt m c b w t.val := by
  rw [final, post_l, exit1_keeps m c _ (by decide +kernel), bwd_l m c b w t 2304 le_rfl (by omega), col_B, col_D]

/-- The gradient of the decays the reference returns. -/
theorem final_q (b : Fin 2) (t : Fin 2304) (w : Fin 1024) :
    final m c (Proc.devRef .tc main_v20) (ix3 b t w)
      = (ls (decayAt m c b w) (cotAt m c b w) (2303 - t.val) + cotAt m c b w t.val) * hs (decayAt m c b w) (inputAt m c b w) t.val := by
  rw [final, post_q, exit1_keeps m c _ (by decide +kernel), bwd_q m c b w t 2304 le_rfl (by omega), col_B, col_D, col_P]

end Cert.Scan.Ref

end
-- ==== Proof.Values.lean ====
module

public import proofs.«01_k».proof.Proof.KernelRun
public import proofs.«01_k».proof.Proof.BwdValue
public import proofs.«01_k».proof.Proof.Decays
public import proofs.«01_k».proof.Proof.RefValue

/-! The two programs side by side: what the kernel leaves in its three results is what the reference leaves. -/

@[expose] public section

set_option maxRecDepth 16384

noncomputable section

namespace Cert.Scan

open Idealize.ShloMosaic Idealize.ShloMosaic.TcCoe Idealize.ShloMosaic.Tactic Idealize.SL.Sem

/-! The kernel's arguments and results, channel by channel. -/
section
open Cert.KernelIdeal Cert.KernelIdeal.Gen

variable (m : (ℓ : Loc nD τ sig) → Buf (Elt Ideal) ℓ) (c : Dev nD)

abbrev kA : Vec Ideal S2x2x2304x1024 .f32 := m ((c : Thread nD τ).loc main_arg0)
abbrev kX : Vec Ideal S2x2x2304x1024 .f32 := m ((c : Thread nD τ).loc main_arg1)
abbrev kD : Vec Ideal S2x2304x1024 .f32 := m ((c : Thread nD τ).loc main_arg2)

theorem V1_A : V1 m c main_arg0 = kA m c := W1_args m c main_arg0 (by decide)
theorem V1_D : V1 m c main_arg2 = kD m c := W1_args m c main_arg2 (by decide)

variable (hpos : ∀ (c : Dev nD) (b : Fin 2) (w : Fin 1024) (t : ℕ), 0 ≤ chan4 (kA m c) b w t ∧ chan4 (kA m c) b w t ≠ ⊤)

include hpos in
theorem W1_states : W1 m c (Proc.devRef .tc main_v0) = statesOf (V0 m) c := (W1_arr m c 2).trans (states_arr (V0 m) hpos c)

include hpos in
theorem kernel_h (b : Fin 2) (t : Fin 2304) (w : Fin 1024) :
    W2 m c (Proc.devRef .tc main_v0) (ix3 b t w) = hs (chan4 (kA m c) b w) (chan4 (kX m c) b w) (t.val + 1) := by
  rw [W2_of m c main_v0 (by decide +kernel), W1_states m c hpos]
  rfl

include hpos in
theorem pos1 : ∀ (c : Dev nD) (b : Fin 2) (w : Fin 1024) (t : ℕ), 0 ≤ chan4 (V1 m c main_arg0) b w t ∧ chan4 (V1 m c main_arg0) b w t ≠ ⊤ :=
  fun c b w t => by rw [V1_A]; exact hpos c b w t

include hpos in
theorem kernel_l (b : Fin 2) (t : Fin 2304) (w : Fin 1024) :
    W2 m c (Proc.devRef .tc main_v1_0) (ix3 b t w) = lam (chan4 (kA m c) b w) (chan3 (kD m c) b w) t.val := by
  have e : W2 m c (Proc.devRef .tc main_v1_0) = lamsOf (V1 m) c := (W2_arr m c 4).trans (lams_arr (V1 m) (pos1 m hpos) c)
  rw [e, ← V1_A, ← V1_D]
  rfl

include hpos in
theorem kernel_q (b : Fin 2) (t : Fin 2304) (w : Fin 1024) :
    W2 m c (Proc.devRef .tc main_v1_1) (ix3 b t w) = lam (chan4 (kA m c) b w) (chan3 (kD m c) b w) t.val * hs (chan4 (kA m c) b w) (chan4 (kX m c) b w) t.val := by
  have e : W2 m c (Proc.devRef .tc main_v1_1) = dasOf (V1 m) (st (V0 m)) c :=
    (W2_arr m c 5).trans (das_arr (V1 m) (pos1 m hpos) (st (V0 m)) (fun c b w t h => by
      unfold chan3
      rw [dif_pos h]
      exact congrFun (W1_states m c hpos) (ix3 b ⟨t, h⟩ w)) (fun _ _ _ => rfl) c)
  rw [e, ← V1_A, ← V1_D]
  rw [V1_A]
  show lm (V1 m) c b w t.val * _ = _
  unfold lm
  rw [V1_A]
  rfl
end

/-- The results agree, from arguments that agree. -/
theorem agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpos : ∀ (c : Dev Cert.KernelIdeal.nD) (b : Fin 2) (w : Fin 1024) (t : ℕ), 0 ≤ chan4 (kA m c) b w t ∧ chan4 (kA m c) b w t ≠ ⊤) (c : Dev Cert.KernelIdeal.nD)
    (h0 : m' ((c.tc : Thread Cert.ReferenceIdeal.nD Cert.ReferenceIdeal.τ).loc Cert.ReferenceIdeal.main_arg0) = kA m c)
    (h1 : m' ((c.tc : Thread Cert.ReferenceIdeal.nD Cert.ReferenceIdeal.τ).loc Cert.ReferenceIdeal.main_arg1) = kX m c)
    (h2 : m' ((c.tc : Thread Cert.ReferenceIdeal.nD Cert.ReferenceIdeal.τ).loc Cert.ReferenceIdeal.main_arg2) = kD m c) :
    Ref.final m' c (Proc.devRef .tc Cert.ReferenceIdeal.main_v12) = W2 m c (Proc.devRef .tc Cert.KernelIdeal.main_v0) ∧
    Ref.final m' c (Proc.devRef .tc Cert.ReferenceIdeal.main_v19) = W2 m c (Proc.devRef .tc Cert.KernelIdeal.main_v1_0) ∧
    Ref.final m' c (Proc.devRef .tc Cert.ReferenceIdeal.main_v20) = W2 m c (Proc.devRef .tc Cert.KernelIdeal.main_v1_1) := by
  have ea : ∀ b w, Ref.decayAt m' c b w = chan4 (kA m c) b w := fun b w => by rw [← h0]; rfl
  have ex : ∀ b w, Ref.inputAt m' c b w = chan4 (kX m c) b w := fun b w => by rw [← h1]; rfl
  have ed : ∀ b w, Ref.cotAt m' c b w = chan3 (kD m c) b w := fun b w => by rw [← h2]; rfl
  refine ⟨funext fun j => ?_, funext fun j => ?_, funext fun j => ?_⟩
  all_goals
    idx_vars j
  · rw [kernel_h m c hpos, Ref.final_h, ea, ex]
  · rw [kernel_l m c hpos, Ref.final_l, ea, ed]; rfl
  · rw [kernel_q m c hpos, Ref.final_q, ea, ed, ex]; rfl

end Cert.Scan

end
-- ==== Proof.SameText.lean ====
module

public import proofs.«01_k».proof.Proof.Gen.Kernel
public import proofs.«01_k».proof.Proof.Gen.KernelIdeal

/-! The kernel and its ideal reading are printed alike: their tables of bodies are equal at every reading of the numbers. -/

@[expose] public section

set_option maxRecDepth 16384

noncomputable section

namespace Cert.Scan

open Idealize.ShloMosaic Idealize.SL.Sem

attribute [local instance] Cert.Kernel.Gen.facts Cert.KernelIdeal.Gen.facts

variable {F : FTy → Type} [FloatOps F]

theorem same_bodies : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun a => rfl
  | ⟨1, _⟩ => exact funext fun a => rfl
  | ⟨_ + 2, h⟩ => exact absurd h (Nat.not_lt.2 (Nat.le_add_left _ _))

theorem same_defs : Cert.Kernel.defs (F := F) = Cert.KernelIdeal.defs (F := F) := by
  unfold Cert.Kernel.defs Cert.KernelIdeal.defs
  exact congrArg (Pipeline.defs Cert.KernelIdeal.pcfgs) same_bodies

end Cert.Scan

end
-- ==== Proof.UpDx.lean ====
module
public import proofs.«01_k».proof.Proof.Gen.Kernel2Ideal.Value
public import proofs.«01_k».proof.Proof.Gen.Reference2Ideal.Run
public import proofs.«01_k».proof.Defs
public import proofs.«01_k».proof.Proof.Split
public import Idealize.ShloMosaic.Lib.Pipeline.ValueKit
public import Idealize.ShloMosaic.Lib.Pipeline.ReadBack

@[expose] public section

set_option maxRecDepth 16384

noncomputable section

namespace Cert.Products.UpDx

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1x1024x1024 .bf16) (j : S1024x1024.Idx) :
    k0_pay2 acc x y j = acc j + ∑ k : Fin 1024, x (ix2 (j 0) k) * y (ix3 0 (j 1) k) := by
  unfold k0_pay2
  pointwise

theorem zero (j : S1024x1024.Idx) : k0_pay1 (F := Ideal) j = 0 := by
  unfold k0_pay1
  pointwise

theorem idx : ∀ t : Fin cfg0.N, win0_0.index t 0 = t.val / 8 ∧ win0_0.index t 1 = t.val % 8 ∧ win0_1.index t 0 = t.val % 8
  ∧ win0_1.index t 1 = 0 ∧ win0_1.index t 2 = 0 ∧ win0_2.index t 0 = t.val / 8 ∧ win0_2.index t 1 = 0 :=
 (by decide +kernel : ∀ t : Fin grid0.N, _)

def G (X : S4096x8192.Idx → EReal) (W : S8x1024x1024.Idx → EReal) (i : S4096x1024.Idx) : EReal :=
  ∑ l : Fin 8192, X (ix2 (i 0) l) * W (ix3 (hi 8 1024 rfl l) (i 1) (lo 8 1024 rfl l))

theorem blkA (c : Dev nD) (t : Fin cfg0.N) (i : S1024x1024.Idx) (j : S4096x8192.Idx) (h0 : (j 0).val = t.val / 8 * 1024 + (i 0).val)
    (h1 : (j 1).val = t.val % 8 * 1024 + (i 1).val) : iblk m c 0 t i = V m c main_v1 j := by
  blk_ext [iblk, idx t]

theorem blkB (c : Dev nD) (t : Fin cfg0.N) (i : S1x1024x1024.Idx) (j : S8x1024x1024.Idx) (h0 : (j 0).val = t.val % 8)
    (h1 : (j 1).val = (i 1).val) (h2 : (j 2).val = (i 2).val) : iblk m c 1 t i = V m c main_v0 j := by
  blk_ext [iblk, idx t]

theorem arr (c : Dev nD) : (dats m 0 c).arrAt 2 cfg0.N = G (V m c main_v1) (V m c main_v0) := by
  refine (dats m 0 c).arrAt_eq_of_covers 2 _ (by decide +kernel) fun t hf y => ?_
  blk_simp
  have ht := (flush0_2 t).mp hf
  rw [after0_2, show (outsAt0 m c t.val t.isLt).1 = (outsAt0 m c t.val t.isLt).2 from by
      rw [outsAt0_C m c t (by omega) ht]; frame_out]
  rw [Pipeline.eq_sum_fin_of_reset_step_apply_of_flush (fun n h => (outsAt0 m c n h).2) 8 (fun _ => 0) _
   (fun t h j => by rw [outsAt0_A m c t h (by omega)]; frame_out; rw [pay, zero])
   (fun t h j => by
      by_cases h1 : t.val % 8 = 7
      · rw [outsAt0_C m c t h h1]; frame_out; simp only [read_unread_whole]; rw [pay]
      · rw [outsAt0_B m c t h h1]; frame_out; simp only [read_unread_whole]; rw [pay]) t ht y, zero_add]
  have e := idx t
  have e0 : ((win0_2.blk t).view.emb y 0).val = t.val / 8 * 1024 + (y 0).val := by blk_simp [e]
  have e1 : ((win0_2.blk t).view.emb y 1).val = (y 1).val := by blk_simp [e]
  refine Fin.sum_mul_add_congr fun s k hl => congrArg₂ (· * ·) (blkA m c _ _ _ ?_ ?_) (blkB m c _ _ _ ?_ ?_ ?_)
  · refine e0.trans ?_
    show _ = (8 * (t.val / 8) + s.val) / 8 * 1024 + (y 0).val
    omega
  · show s.val * 1024 + k.val = (8 * (t.val / 8) + s.val) % 8 * 1024 + k.val
    omega
  · show (s.val * 1024 + k.val) / 1024 = (8 * (t.val / 8) + s.val) % 8
    omega
  · exact e1
  · show (s.val * 1024 + k.val) % 1024 = k.val
    omega

/-- The gradient of `u @ w_up` in `u`. -/
def grad (D : S2x2048x8192.Idx → EReal) (W : S8x1024x1024.Idx → EReal) (i : S4096x1024.Idx) : EReal :=
  ∑ l : Fin 8192, D (ix3 (hi 2 2048 rfl (i 0)) (lo 2 2048 rfl (i 0)) l) * W (ix3 (hi 8 1024 rfl l) (i 1) (lo 8 1024 rfl l))

theorem entry (c : Dev nD) : G (V m c main_v1) (V m c main_v0) = grad (m ((c : Thread nD τ).loc main_arg2)) (m ((c : Thread nD τ).loc main_arg1)) := by
  funext i
  refine Finset.sum_congr rfl fun l _ => congrArg₂ (· * ·) ?_ ?_
  · entry_read
    pointwise
  · entry_read
    pointwise

theorem values : algebraic_Kernel2Ideal_Reference2Ideal := by
  intro m g m' g' _ hagree
  refine ⟨fun c => grad (m ((c : Thread nD τ).loc main_arg2)) (m ((c : Thread nD τ).loc main_arg1)),
    (θ_run _ _ _).mono (fun r h c => ⟨(h c).1.trans ((arr m c).trans (entry m c)), (h c).2⟩) (Kernel2Ideal.Value.run_blocks m g),
    (θ_run _ _ _).mono (fun r h c => ⟨(h c).1.trans (funext fun i => ?_), (h c).2⟩) (Reference2Ideal.Value.run m' g')⟩
  refine Eq.trans ?_ (congrFun (congrArg₂ grad (hagree c).2.2 (hagree c).2.1) i)
  unfold grad
  pointwise

end Cert.Products.UpDx

end
-- ==== Proof.UpDw.lean ====
module

public import proofs.«01_k».proof.Defs
public import proofs.«01_k».proof.Proof.Split
public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack

/-! The gradient of `u @ w_up` in `w_up`: a sum over the rows, four blocks of them added one after another. -/

@[expose] public section

set_option maxRecDepth 16384

noncomputable section

namespace Cert.Products.UpDw

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1024x1024 .bf16) (j : S1024x1024.Idx) :
    k0_pay2 acc x y j = acc j + ∑ k : Fin 1024, x (ix2 k (j 0)) * y (ix2 k (j 1)) := by
  unfold k0_pay2
  pointwise

theorem zero (j : S1024x1024.Idx) : k0_pay1 (F := Ideal) j = 0 := by
  unfold k0_pay1
  pointwise

theorem idx : ∀ t : Fin cfg0.N, win0_0.index t 0 = t.val % 4 ∧ win0_0.index t 1 = 0 ∧ win0_1.index t 0 = t.val % 4
    ∧ win0_1.index t 1 = t.val / 4 ∧ win0_2.index t 0 = t.val / 4 ∧ win0_2.index t 1 = 0 ∧ win0_2.index t 2 = 0 :=
  (by decide +kernel : ∀ t : Fin grid0.N, _)

theorem blkA (c : Dev nD) (t : Fin cfg0.N) (i : S1024x1024.Idx) (j : S4096x1024.Idx) (h0 : (j 0).val = t.val % 4 * 1024 + (i 0).val)
    (h1 : (j 1).val = (i 1).val) : iblk m c 0 t i = V m c main_v0 j := by
  blk_ext [iblk, idx t]

theorem blkB (c : Dev nD) (t : Fin cfg0.N) (i : S1024x1024.Idx) (j : S4096x8192.Idx) (h0 : (j 0).val = t.val % 4 * 1024 + (i 0).val)
    (h1 : (j 1).val = t.val / 4 * 1024 + (i 1).val) : iblk m c 1 t i = V m c main_v1 j := by
  blk_ext [iblk, idx t]

/-- The product of the two arrays the region reads. -/
def G (X : S4096x1024.Idx → EReal) (Y : S4096x8192.Idx → EReal) (i : S8x1024x1024.Idx) : EReal :=
  ∑ l : Fin 4096, X (ix2 l (i 1)) * Y (ix2 l (pair 8 1024 rfl (i 0) (i 2)))

theorem arr (c : Dev nD) : (dats m 0 c).arrAt 2 cfg0.N = G (V m c main_v0) (V m c main_v1) := by
  refine (dats m 0 c).arrAt_eq_of_covers 2 _ (by decide +kernel) fun t hf y => ?_
  blk_simp
  have ht := (flush0_2 t).mp hf
  rw [after0_2, show (outsAt0 m c t.val t.isLt).1 = k0_pay3 (outsAt0 m c t.val t.isLt).2 from by
      rw [outsAt0_C m c t (by omega) ht]; frame_out]
  rw [show k0_pay3 (outsAt0 m c t.val t.isLt).2 y = (outsAt0 m c t.val t.isLt).2 (ix2 (y 1) (y 2)) from by unfold k0_pay3; pointwise]
  rw [Pipeline.eq_sum_fin_of_reset_step_apply_of_flush (fun n h => (outsAt0 m c n h).2) 4 (fun _ => 0) _
    (fun t h j => by rw [outsAt0_A m c t h (by omega)]; frame_out; rw [pay, zero])
    (fun t h j => by
      by_cases h1 : t.val % 4 = 3
      · rw [outsAt0_C m c t h h1]; frame_out; simp only [read_unread_whole]; rw [pay]
      · rw [outsAt0_B m c t h h1]; frame_out; simp only [read_unread_whole]; rw [pay]) t ht (ix2 (y 1) (y 2)), zero_add]
  have e := idx t
  have e0 : ((win0_2.blk t).view.emb y 0).val = t.val / 4 + (y 0).val := by blk_simp [e]
  have e1 : ((win0_2.blk t).view.emb y 1).val = (y 1).val := by blk_simp [e]
  have e2 : ((win0_2.blk t).view.emb y 2).val = (y 2).val := by blk_simp [e]
  have y0 : (y 0).val < 1 := (y 0).isLt
  refine Fin.sum_mul_add_congr fun s k hl => congrArg₂ (· * ·) (blkA m c _ _ _ ?_ ?_) (blkB m c _ _ _ ?_ ?_)
  · show s.val * 1024 + k.val = (4 * (t.val / 4) + s.val) % 4 * 1024 + k.val
    omega
  · exact e1
  · show s.val * 1024 + k.val = (4 * (t.val / 4) + s.val) % 4 * 1024 + k.val
    omega
  · show ((win0_2.blk t).view.emb y 0).val * 1024 + ((win0_2.blk t).view.emb y 2).val = (4 * (t.val / 4) + s.val) / 4 * 1024 + (y 2).val
    rw [e0, e2]
    omega

/-- The gradient of `u @ w_up` in `w_up`. -/
def grad (X : S2x2048x1024.Idx → EReal) (D : S2x2048x8192.Idx → EReal) (i : S8x1024x1024.Idx) : EReal :=
  ∑ b : Fin 2, ∑ n : Fin 2048, D (ix3 b n (pair 8 1024 rfl (i 0) (i 2))) * X (ix3 b n (i 1))

theorem entry (c : Dev nD) : G (V m c main_v0) (V m c main_v1) = grad (m ((c : Thread nD τ).loc main_arg0)) (m ((c : Thread nD τ).loc main_arg2)) := by
  funext i
  refine (Fin.sum_mul_add_congr fun b n hl => ?_).symm
  refine (mul_comm _ _).trans (congrArg₂ (· * ·) ?_ ?_)
  · entry_read
    pointwise
  · entry_read
    pointwise

theorem values : algebraic_Kernel3Ideal_Reference3Ideal := by
  intro m g m' g' _ hagree
  refine ⟨fun c => grad (m ((c : Thread nD τ).loc main_arg0)) (m ((c : Thread nD τ).loc main_arg2)),
    (θ_run _ _ _).mono (fun r h c => ⟨(h c).1.trans ((arr m c).trans (entry m c)), (h c).2⟩) (Kernel3Ideal.Value.run_blocks m g),
    (θ_run _ _ _).mono (fun r h c => ⟨(h c).1.trans (funext fun i => ?_), (h c).2⟩) (Reference3Ideal.Value.run m' g')⟩
  refine Eq.trans ?_ (congrFun (congrArg₂ grad (hagree c).1 (hagree c).2.2) i)
  unfold grad
  pointwise

end Cert.Products.UpDw

end
-- ==== Proof.DownDx.lean ====
module

public import proofs.«01_k».proof.Defs
public import proofs.«01_k».proof.Proof.Split
public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack

/-! The gradient of `f @ w_down` in `f`: every block of the kernel's result is one product. -/

@[expose] public section

set_option maxRecDepth 16384

noncomputable section

namespace Cert.Products.DownDx

section
open Cert.Reference4Ideal Cert.Reference4Ideal.Gen Idealize.ShloMosaic

theorem shards (W : FVec Ideal S8x512x1024 .f32) (i : S4096x1024.Idx) :
    shapeCast S4096x1024 W shapeCasts_S8x512x1024_S4096x1024 i = W (ix3 (hi 8 512 rfl (i 0)) (lo 8 512 rfl (i 0)) (i 1)) := by
  pointwise

theorem rows (W : FVec Ideal S2x2048x4096 .f32) (i : S4096x4096.Idx) :
    shapeCast S4096x4096 W shapeCasts_S2x2048x4096_S4096x4096 i = W (ix3 (hi 2 2048 rfl (i 0)) (lo 2 2048 rfl (i 0)) (i 1)) := by
  pointwise

theorem product (D : FVec Ideal S2x2048x1024 .f32) (W : FVec Ideal S4096x1024 .f32) (i : S2x2048x4096.Idx) :
    Host.dotGeneral (F := Ideal) dot_S2x2048x1024_S4096x1024_S2x2048x4096_2_1_01_0_n_n none D W i
      = ∑ l : Fin 1024, D (ix3 (i 0) (i 1) l) * W (ix2 (i 2) l) := by
  pointwise

end

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1024x1024 .bf16) (j : S1024x1024.Idx) :
    k0_pay2 acc x y j = acc j + ∑ k : Fin 1024, x (ix2 (j 0) k) * y (ix2 (j 1) k) := by
  unfold k0_pay2
  pointwise

theorem zero (j : S1024x1024.Idx) : k0_pay1 (F := Ideal) j = 0 := by
  unfold k0_pay1
  pointwise

theorem idx : ∀ t : Fin cfg0.N, win0_0.index t 0 = t.val / 4 ∧ win0_0.index t 1 = 0 ∧ win0_1.index t 0 = t.val % 4
    ∧ win0_1.index t 1 = 0 ∧ win0_2.index t 0 = t.val / 4 ∧ win0_2.index t 1 = t.val % 4 :=
  (by decide +kernel : ∀ t : Fin grid0.N, _)

theorem blkA (c : Dev nD) (t : Fin cfg0.N) (i : S1024x1024.Idx) (j : S4096x1024.Idx) (h0 : (j 0).val = t.val / 4 * 1024 + (i 0).val)
    (h1 : (j 1).val = (i 1).val) : iblk m c 0 t i = V m c main_v2 j := by
  blk_ext [iblk, idx t]

theorem blkB (c : Dev nD) (t : Fin cfg0.N) (i : S1024x1024.Idx) (j : S4096x1024.Idx) (h0 : (j 0).val = t.val % 4 * 1024 + (i 0).val)
    (h1 : (j 1).val = (i 1).val) : iblk m c 1 t i = V m c main_v1 j := by
  blk_ext [iblk, idx t]

/-- The product of the two arrays the region reads. -/
def G (X Y : S4096x1024.Idx → EReal) (i : S4096x4096.Idx) : EReal :=
  ∑ l : Fin 1024, X (ix2 (i 0) l) * Y (ix2 (i 1) l)

theorem arr (c : Dev nD) : (dats m 0 c).arrAt 2 cfg0.N = G (V m c main_v2) (V m c main_v1) := by
  refine (dats m 0 c).arrAt_eq_of_covers 2 _ (by decide +kernel) fun t hf y => ?_
  blk_simp
  have e := idx t
  have e0 : ((win0_2.blk t).view.emb y 0).val = t.val / 4 * 1024 + (y 0).val := by blk_simp [e]
  have e1 : ((win0_2.blk t).view.emb y 1).val = t.val % 4 * 1024 + (y 1).val := by blk_simp [e]
  rw [after0_2]
  unfold outsAt0
  frame_out
  refine (pay _ _ _ y).trans ?_
  rw [zero]
  refine (zero_add _).trans ?_
  exact Finset.sum_congr rfl fun l _ => congrArg₂ (· * ·) (blkA m c t _ _ e0 rfl) (blkB m c t _ _ e1 rfl)

/-- The gradient of `f @ w_down` in `f`. -/
def grad (D : S2x2048x1024.Idx → EReal) (W : S8x512x1024.Idx → EReal) (i : S4096x4096.Idx) : EReal :=
  ∑ l : Fin 1024, D (ix3 (hi 2 2048 rfl (i 0)) (lo 2 2048 rfl (i 0)) l) * W (ix3 (hi 8 512 rfl (i 1)) (lo 8 512 rfl (i 1)) l)

theorem entry (c : Dev nD) : G (V m c main_v2) (V m c main_v1) = grad (m ((c : Thread nD τ).loc main_arg2)) (m ((c : Thread nD τ).loc main_arg1)) := by
  funext i
  refine Finset.sum_congr rfl fun l _ => congrArg₂ (· * ·) ?_ ?_
  · entry_read
    pointwise
  · entry_read
    pointwise

theorem values : algebraic_Kernel4Ideal_Reference4Ideal := by
  intro m g m' g' _ hagree
  refine ⟨fun c => grad (m ((c : Thread nD τ).loc main_arg2)) (m ((c : Thread nD τ).loc main_arg1)),
    (θ_run _ _ _).mono (fun r h c => ⟨(h c).1.trans ((arr m c).trans (entry m c)), (h c).2⟩) (Kernel4Ideal.Value.run_blocks m g),
    (θ_run _ _ _).mono (fun r h c => ⟨(h c).1.trans (funext fun i => ?_), (h c).2⟩) (Reference4Ideal.Value.run m' g')⟩
  refine Eq.trans ?_ (congrFun (congrArg₂ grad (hagree c).2.2 (hagree c).2.1) i)
  unfold grad
  refine (rows _ i).trans ((product _ _ _).trans (Finset.sum_congr rfl fun l _ => congrArg₂ (· * ·) rfl (shards _ _)))

end Cert.Products.DownDx

end
-- ==== Proof.DownDw.lean ====
module

public import proofs.«01_k».proof.Defs
public import proofs.«01_k».proof.Proof.Split
public import proofs.«01_k».proof.Proof.Gen.Kernel5Ideal.Value
public import proofs.«01_k».proof.Proof.Gen.Reference5Ideal.Run
public import Idealize.ShloMosaic.Lib.Pipeline.ValueKit
public import Idealize.ShloMosaic.Lib.Pipeline.ReadBack

/-! The gradient of `f @ w_down` in `w_down`: a sum over the rows, four blocks of them added one after another. -/

@[expose] public section

set_option maxRecDepth 16384

noncomputable section

namespace Cert.Products.DownDw

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

theorem pay (acc : Vec Ideal S1024x1024 .f32) (x : Vec Ideal S1024x1024 .bf16) (y : Vec Ideal S1024x1024 .bf16) (j : S1024x1024.Idx) :
    k0_pay2 acc x y j = acc j + ∑ k : Fin 1024, x (ix2 k (j 0)) * y (ix2 k (j 1)) := by
  unfold k0_pay2
  pointwise

theorem zero (j : S1024x1024.Idx) : k0_pay1 (F := Ideal) j = 0 := by
  unfold k0_pay1
  pointwise

theorem idx : ∀ t : Fin cfg0.N, win0_0.index t 0 = t.val % 4 ∧ win0_0.index t 1 = t.val / 4 ∧ win0_1.index t 0 = t.val % 4
    ∧ win0_1.index t 1 = 0 ∧ win0_2.index t 0 = t.val / 4 ∧ win0_2.index t 1 = 0 :=
  (by decide +kernel : ∀ t : Fin grid0.N, _)

theorem blkA (c : Dev nD) (t : Fin cfg0.N) (i : S1024x1024.Idx) (j : S4096x4096.Idx) (h0 : (j 0).val = t.val % 4 * 1024 + (i 0).val)
    (h1 : (j 1).val = t.val / 4 * 1024 + (i 1).val) : iblk m c 0 t i = V m c main_v0 j := by
  blk_ext [iblk, idx t]

theorem blkB (c : Dev nD) (t : Fin cfg0.N) (i : S1024x1024.Idx) (j : S4096x1024.Idx) (h0 : (j 0).val = t.val % 4 * 1024 + (i 0).val)
    (h1 : (j 1).val = (i 1).val) : iblk m c 1 t i = V m c main_v1 j := by
  blk_ext [iblk, idx t]

/-- The product of the two arrays the region reads. -/
def G (X : S4096x4096.Idx → EReal) (Y : S4096x1024.Idx → EReal) (i : S4096x1024.Idx) : EReal :=
  ∑ l : Fin 4096, X (ix2 l (i 0)) * Y (ix2 l (i 1))

theorem arr (c : Dev nD) : (dats m 0 c).arrAt 2 cfg0.N = G (V m c main_v0) (V m c main_v1) := by
  refine (dats m 0 c).arrAt_eq_of_covers 2 _ (by decide +kernel) fun t hf y => ?_
  blk_simp
  have ht := (flush0_2 t).mp hf
  rw [after0_2, show (outsAt0 m c t.val t.isLt).1 = k0_pay3 (outsAt0 m c t.val t.isLt).2 from by
      rw [outsAt0_C m c t (by omega) ht]; frame_out]
  rw [show k0_pay3 (outsAt0 m c t.val t.isLt).2 y = (outsAt0 m c t.val t.isLt).2 y from by unfold k0_pay3; pointwise]
  rw [Pipeline.eq_sum_fin_of_reset_step_apply_of_flush (fun n h => (outsAt0 m c n h).2) 4 (fun _ => 0) _
    (fun t h j => by rw [outsAt0_A m c t h (by omega)]; frame_out; rw [pay, zero])
    (fun t h j => by
      by_cases h1 : t.val % 4 = 3
      · rw [outsAt0_C m c t h h1]; frame_out; simp only [read_unread_whole]; rw [pay]
      · rw [outsAt0_B m c t h h1]; frame_out; simp only [read_unread_whole]; rw [pay]) t ht y, zero_add]
  have e := idx t
  have e0 : ((win0_2.blk t).view.emb y 0).val = t.val / 4 * 1024 + (y 0).val := by blk_simp [e]
  have e1 : ((win0_2.blk t).view.emb y 1).val = (y 1).val := by blk_simp [e]
  refine Fin.sum_mul_add_congr fun s k hl => congrArg₂ (· * ·) (blkA m c _ _ _ ?_ ?_) (blkB m c _ _ _ ?_ ?_)
  · show s.val * 1024 + k.val = (4 * (t.val / 4) + s.val) % 4 * 1024 + k.val
    omega
  · refine e0.trans ?_
    show _ = (4 * (t.val / 4) + s.val) / 4 * 1024 + (y 0).val
    omega
  · show s.val * 1024 + k.val = (4 * (t.val / 4) + s.val) % 4 * 1024 + k.val
    omega
  · exact e1

/-- The gradient of `f @ w_down` in `w_down`. -/
def grad (X : S2x2048x4096.Idx → EReal) (D : S2x2048x1024.Idx → EReal) (i : S4096x1024.Idx) : EReal :=
  ∑ b : Fin 2, ∑ n : Fin 2048, D (ix3 b n (i 1)) * X (ix3 b n (i 0))

theorem entry (c : Dev nD) : G (V m c main_v0) (V m c main_v1) = grad (m ((c : Thread nD τ).loc main_arg0)) (m ((c : Thread nD τ).loc main_arg2)) := by
  funext i
  refine (Fin.sum_mul_add_congr fun b n hl => ?_).symm
  refine (mul_comm _ _).trans (congrArg₂ (· * ·) ?_ ?_)
  · entry_read
    pointwise
  · entry_read
    pointwise

theorem values : algebraic_Kernel5Ideal_Reference5Ideal := by
  intro m g m' g' _ hagree
  refine ⟨fun c => grad (m ((c : Thread nD τ).loc main_arg0)) (m ((c : Thread nD τ).loc main_arg2)),
    (θ_run _ _ _).mono (fun r h c => ⟨(h c).1.trans ((arr m c).trans (entry m c)), (h c).2⟩) (Kernel5Ideal.Value.run_blocks m g),
    (θ_run _ _ _).mono (fun r h c => ⟨(h c).1.trans (funext fun i => ?_), (h c).2⟩) (Reference5Ideal.Value.run m' g')⟩
  refine Eq.trans ?_ (congrFun (congrArg₂ grad (hagree c).1 (hagree c).2.2) i)
  unfold grad
  pointwise

end Cert.Products.DownDw

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel2Ideal.Value
public import proofs.«01_k».proof.Proof.Gen.Reference2Ideal.Run
public import proofs.«01_k».proof.Proof.Gen.Kernel3Ideal.Value
public import proofs.«01_k».proof.Proof.Gen.Reference3Ideal.Run
public import proofs.«01_k».proof.Proof.Gen.Kernel4Ideal.Value
public import proofs.«01_k».proof.Proof.Gen.Reference4Ideal.Run
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import proofs.«01_k».proof.Proof.InDwQkv
public import proofs.«01_k».proof.Proof.InDwMg
public import proofs.«01_k».proof.Proof.InDwZ
public import proofs.«01_k».proof.Proof.InDwAb
public import proofs.«01_k».proof.Proof.InDx
public import proofs.«01_k».proof.Proof.OutDx
public import proofs.«01_k».proof.Proof.OutDw
public import proofs.«01_k».proof.Proof.Out
public import proofs.«01_k».proof.Proof.Bdn
public import proofs.«01_k».proof.Proof.UpGate
public import proofs.«01_k».proof.Proof.UpVal
public import proofs.«01_k».proof.Proof.Down
public import proofs.«01_k».proof.Proof.InQkv
public import proofs.«01_k».proof.Proof.InXl
public import proofs.«01_k».proof.Proof.InZ
public import proofs.«01_k».proof.Proof.InMg
public import proofs.«01_k».proof.Proof.InAb
public import proofs.«01_k».proof.Proof.Gates
public import proofs.«01_k».proof.Proof.AdamUp
public import proofs.«01_k».proof.Proof.AdamDown
public import proofs.«01_k».proof.Proof.AdamSquare
public import proofs.«01_k».proof.Proof.AdamIn
public import proofs.«01_k».proof.Proof.AdamAda
public import proofs.«01_k».proof.Proof.Values
public import proofs.«01_k».proof.Proof.SameText
public import proofs.«01_k».proof.Proof.UpDx
public import proofs.«01_k».proof.Proof.UpDw
public import proofs.«01_k».proof.Proof.DownDx
public import proofs.«01_k».proof.Proof.DownDw
public import Idealize.ShloMosaic.Adequacy
public import Idealize.ShloMosaic.Init

@[expose] public section

set_option maxRecDepth 16384

noncomputable section

namespace Cert.Proof

open Idealize.ShloMosaic Idealize.SL.Sem Cert.Scan

/-- The kernel's run, read at any reading of the numbers: the arguments are kept and every counter ends at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0) :=
  (θ_run Cert.KernelIdeal.defs _ _).mono (fun _ h =>
    ⟨fun c => ⟨(h.1 c _ (mem_uc Cert.KernelIdeal.main_arg0 (by decide))).trans (W2_main_arg0 m c), (h.1 c _ (mem_uc Cert.KernelIdeal.main_arg1 (by decide))).trans (W2_main_arg1 m c),
      (h.1 c _ (mem_uc Cert.KernelIdeal.main_arg2 (by decide))).trans (W2_main_arg2 m c)⟩, h.2⟩) (run_main m ρ)

theorem frame_ideal : Cert.quiescent_KernelIdeal (hKernelIdeal := Cert.KernelIdeal.Gen.facts) := fun m ρ _ => frame_any (F := Ideal) m ρ

theorem frame_kernel : Cert.quiescent_Kernel (hKernel := Cert.Kernel.Gen.facts) := fun m ρ _ => by
  have e := frame_any (F := Bits) m ρ
  rw [← same_defs] at e
  exact e

theorem ref_arg0 (m : (ℓ : Loc Cert.ReferenceIdeal.nD Cert.ReferenceIdeal.τ Cert.ReferenceIdeal.sig) → Buf (Elt Ideal) ℓ) (c : Dev Cert.ReferenceIdeal.nD) :
    Ref.final m c (Proc.devRef .tc Cert.ReferenceIdeal.main_arg0) = m ((c.tc : Thread Cert.ReferenceIdeal.nD Cert.ReferenceIdeal.τ).loc Cert.ReferenceIdeal.main_arg0) :=
  Ref.final_arg m c _ (by decide +kernel) (by decide +kernel) (by decide +kernel) (by decide +kernel)
theorem ref_arg1 (m : (ℓ : Loc Cert.ReferenceIdeal.nD Cert.ReferenceIdeal.τ Cert.ReferenceIdeal.sig) → Buf (Elt Ideal) ℓ) (c : Dev Cert.ReferenceIdeal.nD) :
    Ref.final m c (Proc.devRef .tc Cert.ReferenceIdeal.main_arg1) = m ((c.tc : Thread Cert.ReferenceIdeal.nD Cert.ReferenceIdeal.τ).loc Cert.ReferenceIdeal.main_arg1) :=
  Ref.final_arg m c _ (by decide +kernel) (by decide +kernel) (by decide +kernel) (by decide +kernel)
theorem ref_arg2 (m : (ℓ : Loc Cert.ReferenceIdeal.nD Cert.ReferenceIdeal.τ Cert.ReferenceIdeal.sig) → Buf (Elt Ideal) ℓ) (c : Dev Cert.ReferenceIdeal.nD) :
    Ref.final m c (Proc.devRef .tc Cert.ReferenceIdeal.main_arg2) = m ((c.tc : Thread Cert.ReferenceIdeal.nD Cert.ReferenceIdeal.τ).loc Cert.ReferenceIdeal.main_arg2) :=
  Ref.final_arg m c _ (by decide +kernel) (by decide +kernel) (by decide +kernel) (by decide +kernel)

theorem frame_reference : Cert.quiescent_ReferenceIdeal (hReferenceIdeal := Cert.ReferenceIdeal.Gen.facts) := fun m ρ _ =>
  (θ_run Cert.ReferenceIdeal.defs _ _).mono (fun _ h =>
    ⟨fun c => ⟨(h.1 c Cert.ReferenceIdeal.main_arg0 (by decide)).trans (ref_arg0 m c), (h.1 c Cert.ReferenceIdeal.main_arg1 (by decide)).trans (ref_arg1 m c),
      (h.1 c Cert.ReferenceIdeal.main_arg2 (by decide)).trans (ref_arg2 m c)⟩, h.2⟩) (Ref.run_final m ρ)

/-- The kernel's states and gradients are the reference's, over the reals. -/
theorem values : Cert.algebraic_KernelIdeal_ReferenceIdeal_pre_decays (hKernelIdeal := Cert.KernelIdeal.Gen.facts) (hReferenceIdeal := Cert.ReferenceIdeal.Gen.facts)
    (hPre_decays := decays_facts) := fun m ρ m' ρ' hpre hargs => by
  have hpos : ∀ (c : Dev Cert.KernelIdeal.nD) (b : Fin 2) (w : Fin 1024) (t : ℕ), 0 ≤ chan4 (kA m c) b w t ∧ chan4 (kA m c) b w t ≠ ⊤ :=
    fun c b w t => haveI := decays_facts; decays_chan _ _ _ (hpre c) b w t
  refine ⟨fun c => W2 m c (Proc.devRef .tc Cert.KernelIdeal.main_v0), fun c => W2 m c (Proc.devRef .tc Cert.KernelIdeal.main_v1_0),
    fun c => W2 m c (Proc.devRef .tc Cert.KernelIdeal.main_v1_1), ?_, ?_⟩
  · exact (θ_run Cert.KernelIdeal.defs _ _).mono (fun _ h c =>
      ⟨h.1 c _ (mem_uc Cert.KernelIdeal.main_v0 (by decide)), h.1 c _ (mem_uc Cert.KernelIdeal.main_v1_0 (by decide)), h.1 c _ (mem_uc Cert.KernelIdeal.main_v1_1 (by decide)),
        (h.1 c _ (mem_uc Cert.KernelIdeal.main_arg0 (by decide))).trans (W2_main_arg0 m c), (h.1 c _ (mem_uc Cert.KernelIdeal.main_arg1 (by decide))).trans (W2_main_arg1 m c),
        (h.1 c _ (mem_uc Cert.KernelIdeal.main_arg2 (by decide))).trans (W2_main_arg2 m c)⟩) (run_main (F := Ideal) m ρ)
  · exact (θ_run Cert.ReferenceIdeal.defs _ _).mono (fun _ h c => by
      obtain ⟨a0, a1, a2⟩ := agree m m' hpos c (hargs c).1 (hargs c).2.1 (hargs c).2.2
      exact ⟨(h.1 c Cert.ReferenceIdeal.main_v12 (by decide)).trans a0, (h.1 c Cert.ReferenceIdeal.main_v19 (by decide)).trans a1, (h.1 c Cert.ReferenceIdeal.main_v20 (by decide)).trans a2,
        (h.1 c Cert.ReferenceIdeal.main_arg0 (by decide)).trans (ref_arg0 m' c), (h.1 c Cert.ReferenceIdeal.main_arg1 (by decide)).trans (ref_arg1 m' c),
        (h.1 c Cert.ReferenceIdeal.main_arg2 (by decide)).trans (ref_arg2 m' c)⟩) (Ref.run_final m' ρ')

theorem frame_reference2 : Cert.quiescent_Reference2Ideal := fun m ρ _ =>
  (θ_run _ _ _).mono (fun r h => ⟨fun c => (h c).2, sem_eq_zero_of_no_sems (by decide) r.2⟩) (Cert.Reference2Ideal.Value.run m ρ)
theorem frame_reference3 : Cert.quiescent_Reference3Ideal := fun m ρ _ =>
  (θ_run _ _ _).mono (fun r h => ⟨fun c => (h c).2, sem_eq_zero_of_no_sems (by decide) r.2⟩) (Cert.Reference3Ideal.Value.run m ρ)
theorem frame_reference4 : Cert.quiescent_Reference4Ideal := fun m ρ _ =>
  (θ_run _ _ _).mono (fun r h => ⟨fun c => (h c).2, sem_eq_zero_of_no_sems (by decide) r.2⟩) (Cert.Reference4Ideal.Value.run m ρ)
theorem frame_reference5 : Cert.quiescent_Reference5Ideal := fun m ρ _ =>
  (θ_run _ _ _).mono (fun r h => ⟨fun c => (h c).2, sem_eq_zero_of_no_sems (by decide) r.2⟩) (Cert.Reference5Ideal.Value.run m ρ)
theorem frame_reference6 : Cert.quiescent_Reference6Ideal := fun m ρ _ =>
  (θ_run _ _ _).mono (fun r h => ⟨fun c => (h c).2, sem_eq_zero_of_no_sems (by decide) r.2⟩) (Cert.Reference6Ideal.Value.run m ρ)
theorem frame_reference7 : Cert.quiescent_Reference7Ideal := fun m ρ _ =>
  (θ_run _ _ _).mono (fun r h => ⟨fun c => (h c).2, sem_eq_zero_of_no_sems (by decide) r.2⟩) (Cert.Reference7Ideal.Value.run m ρ)
theorem frame_reference8 : Cert.quiescent_Reference8Ideal := fun m ρ _ =>
  (θ_run _ _ _).mono (fun r h => ⟨fun c => (h c).2, sem_eq_zero_of_no_sems (by decide) r.2⟩) (Cert.Reference8Ideal.Value.run m ρ)
theorem frame_reference9 : Cert.quiescent_Reference9Ideal := fun m ρ _ =>
  (θ_run _ _ _).mono (fun r h => ⟨fun c => (h c).2, sem_eq_zero_of_no_sems (by decide) r.2⟩) (Cert.Reference9Ideal.Value.run m ρ)
theorem frame_reference10 : Cert.quiescent_Reference10Ideal := fun m ρ _ =>
  (θ_run _ _ _).mono (fun r h => ⟨fun c => (h c).2, sem_eq_zero_of_no_sems (by decide) r.2⟩) (Cert.Reference10Ideal.Value.run m ρ)
theorem frame_reference11 : Cert.quiescent_Reference11Ideal := fun m ρ _ =>
  (θ_run _ _ _).mono (fun r h => ⟨fun c => (h c).2, sem_eq_zero_of_no_sems (by decide) r.2⟩) (Cert.Reference11Ideal.Value.run m ρ)
theorem frame_reference12 : Cert.quiescent_Reference12Ideal := fun m ρ _ =>
  (θ_run _ _ _).mono (fun r h => ⟨fun c => (h c).2, sem_eq_zero_of_no_sems (by decide) r.2⟩) (Cert.Reference12Ideal.Value.run m ρ)
theorem frame_reference13 : Cert.quiescent_Reference13Ideal := fun m ρ _ =>
  (θ_run _ _ _).mono (fun r h => ⟨fun c => (h c).2, sem_eq_zero_of_no_sems (by decide) r.2⟩) (Cert.Reference13Ideal.Value.run m ρ)
theorem frame_reference14 : Cert.quiescent_Reference14Ideal := fun m ρ _ =>
  (θ_run _ _ _).mono (fun r h => ⟨fun c => (h c).2, sem_eq_zero_of_no_sems (by decide) r.2⟩) (Cert.Reference14Ideal.Value.run m ρ)
theorem frame_reference15 : Cert.quiescent_Reference15Ideal := fun m ρ _ =>
  (θ_run _ _ _).mono (fun r h => ⟨fun c => (h c).2, sem_eq_zero_of_no_sems (by decide) r.2⟩) (Cert.Reference15Ideal.Value.run m ρ)
theorem frame_reference16 : Cert.quiescent_Reference16Ideal := fun m ρ _ =>
  (θ_run _ _ _).mono (fun r h => ⟨fun c => (h c).2, sem_eq_zero_of_no_sems (by decide) r.2⟩) (Cert.Reference16Ideal.Value.run m ρ)
theorem frame_reference17 : Cert.quiescent_Reference17Ideal := fun m ρ _ =>
  (θ_run _ _ _).mono (fun r h => ⟨fun c => (h c).2, sem_eq_zero_of_no_sems (by decide) r.2⟩) (Cert.Reference17Ideal.Value.run m ρ)
theorem frame_reference18 : Cert.quiescent_Reference18Ideal := fun m ρ _ =>
  (θ_run _ _ _).mono (fun r h => ⟨fun c => (h c).2, sem_eq_zero_of_no_sems (by decide) r.2⟩) (Cert.Reference18Ideal.Value.run m ρ)
theorem frame_reference19 : Cert.quiescent_Reference19Ideal := fun m ρ _ =>
  (θ_run _ _ _).mono (fun r h => ⟨fun c => (h c).2, sem_eq_zero_of_no_sems (by decide) r.2⟩) (Cert.Reference19Ideal.Value.run m ρ)
theorem frame_reference20 : Cert.quiescent_Reference20Ideal := fun m ρ _ =>
  (θ_run _ _ _).mono (fun r h => ⟨fun c => (h c).2, sem_eq_zero_of_no_sems (by decide) r.2⟩) (Cert.Reference20Ideal.Value.run m ρ)
theorem frame_reference21 : Cert.quiescent_Reference21Ideal := fun m ρ _ =>
  (θ_run _ _ _).mono (fun r h => ⟨fun c => (h c).2, sem_eq_zero_of_no_sems (by decide) r.2⟩) (Cert.Reference21Ideal.Value.run m ρ)
theorem frame_reference22 : Cert.quiescent_Reference22Ideal := fun m ρ _ =>
  (θ_run _ _ _).mono (fun r h => ⟨fun c => (h c).2, sem_eq_zero_of_no_sems (by decide) r.2⟩) (Cert.Reference22Ideal.Value.run m ρ)
theorem frame_reference23 : Cert.quiescent_Reference23Ideal := fun m ρ _ =>
  (θ_run _ _ _).mono (fun r h => ⟨fun c => (h c).2.2, sem_eq_zero_of_no_sems (by decide) r.2⟩) (Cert.Reference23Ideal.Value.run m ρ)
theorem frame_reference24 : Cert.quiescent_Reference24Ideal := fun m ρ _ =>
  (θ_run _ _ _).mono (fun r h => ⟨fun c => (h c).2.2.2.2, sem_eq_zero_of_no_sems (by decide) r.2⟩) (Cert.Reference24Ideal.Value.run m ρ)
theorem frame_reference25 : Cert.quiescent_Reference25Ideal := fun m ρ _ =>
  (θ_run _ _ _).mono (fun r h => ⟨fun c => (h c).2.2.2.2, sem_eq_zero_of_no_sems (by decide) r.2⟩) (Cert.Reference25Ideal.Value.run m ρ)
theorem frame_reference26 : Cert.quiescent_Reference26Ideal := fun m ρ _ =>
  (θ_run _ _ _).mono (fun r h => ⟨fun c => (h c).2.2.2.2, sem_eq_zero_of_no_sems (by decide) r.2⟩) (Cert.Reference26Ideal.Value.run m ρ)
theorem frame_reference27 : Cert.quiescent_Reference27Ideal := fun m ρ _ =>
  (θ_run _ _ _).mono (fun r h => ⟨fun c => (h c).2.2.2.2, sem_eq_zero_of_no_sems (by decide) r.2⟩) (Cert.Reference27Ideal.Value.run m ρ)
theorem frame_reference28 : Cert.quiescent_Reference28Ideal := fun m ρ _ =>
  (θ_run _ _ _).mono (fun r h => ⟨fun c => (h c).2.2.2.2, sem_eq_zero_of_no_sems (by decide) r.2⟩) (Cert.Reference28Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  decays_facts,
  frame_kernel, frame_ideal, fun m ρ _ => frame_ideal m ρ trivial, frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel17.Gen.frame m ρ, fun m ρ _ => Cert.Kernel17Ideal.Gen.frame m ρ, frame_reference17,
  fun m ρ _ => Cert.Kernel18.Gen.frame m ρ, fun m ρ _ => Cert.Kernel18Ideal.Gen.frame m ρ, frame_reference18,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ, fun m ρ _ => Cert.Kernel27Ideal.Gen.frame m ρ, frame_reference27,
  fun m ρ _ => Cert.Kernel28.Gen.frame m ρ, fun m ρ _ => Cert.Kernel28Ideal.Gen.frame m ρ, frame_reference28,
  trivial, values, trivial, Cert.Products.UpDx.values, trivial, Cert.Products.UpDw.values, trivial, Cert.Products.DownDx.values, trivial, Cert.Products.DownDw.values,
  trivial, Cert.Products.InDwQkv.values, trivial, Cert.Products.InDwMg.values, trivial, Cert.Products.InDwZ.values,
  trivial, Cert.Products.InDwAb.values, trivial, Cert.Products.InDx.values, trivial, Cert.Products.OutDx.values,
  trivial, Cert.Products.OutDw.values, trivial, Cert.Products.Out.values, trivial, Cert.Products.Bdn.values,
  trivial, Cert.Products.UpGate.values, trivial, Cert.Products.UpVal.values, trivial, Cert.Products.Down.values,
  trivial, Cert.Products.InQkv.values, trivial, Cert.Products.InXl.values, trivial, Cert.Products.InZ.values,
  trivial, Cert.Products.InMg.values, trivial, Cert.Products.InAb.values, trivial, Cert.Products.Gates.values,
  trivial, Cert.Products.AdamUp.values, trivial, Cert.Products.AdamDown.values, trivial, Cert.Products.AdamSquare.values, trivial, Cert.Products.AdamIn.values, trivial, Cert.Products.AdamAda.values⟩

end Cert.Proof
